-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  shapeCasts_S1x1024x8x128_S1x1024x1024 : S1x1024x8x128.ShapeCasts S1x1024x1024
  bcast_S_S1x1024x1024 : S_.BroadcastsInDim S1x1024x1024 (![] : Fin 0 → Fin S1x1024x1024.rank)
  bcast_S1024x1024_S1x1024x1024_1_2 : S1024x1024.BroadcastsInDim S1x1024x1024 (![1, 2] : Fin 2 → Fin S1x1024x1024.rank)

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S1x1024x1024 1 :=
  let main_v0 : FVec F S1x1024x1024 .f32 := shapeCast S1x1024x1024 main_arg2 shapeCasts_S1x1024x8x128_S1x1024x1024
  let main_v1 : FVec F S1x1024x1024 .f32 := Host.absf main_arg0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x1024 .f32 := Host.absf main_arg1
  let main_v5 : FVec F S1x1024x1024 .f32 := broadcastInDim S1x1024x1024 ![1, 2] bcast_S1024x1024_S1x1024x1024_1_2 main_v4
  let main_cst_0 : FVec F S_ .f32 := constant S_ .f32 0x7F800000#32
  let main_v6 : FVec F S1x1024x1024 .f32 := broadcastInDim S1x1024x1024 ![] bcast_S_S1x1024x1024 main_cst_0
  let main_v7 : IVec S1x1024x1024 1 := cmpf .olt main_v5 main_v6
  let main_v8 : IVec S1x1024x1024 1 := andi main_v3 main_v7
  let main_v9 : FVec F S1x1024x1024 .f32 := Host.absf main_v0
  let main_cst_1 : FVec F S_ .f32 := constant S_ .f32 0x7F800000#32
  let main_v10 : FVec F S1x1024x1024 .f32 := broadcastInDim S1x1024x1024 ![] bcast_S_S1x1024x1024 main_cst_1
  let main_v11 : IVec S1x1024x1024 1 := cmpf .olt main_v9 main_v10
  let main_v12 : IVec S1x1024x1024 1 := andi main_v8 main_v11
  main_v12
-- ==== Pre_finite_scores_ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S4x1024x1024 : Shape := ⟨3, ![4, 1024, 1024]⟩
abbrev S_ : Shape := ⟨0, ![]⟩

class Facts : Prop where
  shapeCasts_S1x4096x8x128_S4x1024x1024 : S1x4096x8x128.ShapeCasts S4x1024x1024
  bcast_S_S1x1024x1024 : S_.BroadcastsInDim S1x1024x1024 (![] : Fin 0 → Fin S1x1024x1024.rank)
  bcast_S1024x1024_S1x1024x1024_1_2 : S1024x1024.BroadcastsInDim S1x1024x1024 (![1, 2] : Fin 2 → Fin S1x1024x1024.rank)
  bcast_S_S4x1024x1024 : S_.BroadcastsInDim S4x1024x1024 (![] : Fin 0 → Fin S4x1024x1024.rank)
  bcast_S1x1024x1024_S4x1024x1024_0_1_2 : S1x1024x1024.BroadcastsInDim S4x1024x1024 (![0, 1, 2] : Fin 3 → Fin S4x1024x1024.rank)

variable [Facts]

def fn {F : FTy → Type} [FloatOps F] (main_arg0 : FVec F S1x1024x1024 .f32) (main_arg1 : FVec F S1024x1024 .f32) (main_arg2 : FVec F S1x4096x8x128 .f32) (main_arg3 : FVec F S1x4096x8x128 .f32) (main_arg4 : FVec F S1024x1024 .f32) : IVec S4x1024x1024 1 :=
  let main_v0 : FVec F S4x1024x1024 .f32 := shapeCast S4x1024x1024 main_arg2 shapeCasts_S1x4096x8x128_S4x1024x1024
  let main_v1 : FVec F S1x1024x1024 .f32 := Host.absf main_arg0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x1024 .f32 := Host.absf main_arg1
  let main_v5 : FVec F S1x1024x1024 .f32 := broadcastInDim S1x1024x1024 ![1, 2] bcast_S1024x1024_S1x1024x1024_1_2 main_v4
  let main_cst_0 : FVec F S_ .f32 := constant S_ .f32 0x7F800000#32
  let main_v6 : FVec F S1x1024x1024 .f32 := broadcastInDim S1x1024x1024 ![] bcast_S_S1x1024x1024 main_cst_0
  let main_v7 : IVec S1x1024x1024 1 := cmpf .olt main_v5 main_v6
  let main_v8 : IVec S1x1024x1024 1 := andi main_v3 main_v7
  let main_v9 : FVec F S4x1024x1024 .f32 := Host.absf main_v0
  let main_cst_1 : FVec F S_ .f32 := constant S_ .f32 0x7F800000#32
  let main_v10 : FVec F S4x1024x1024 .f32 := broadcastInDim S4x1024x1024 ![] bcast_S_S4x1024x1024 main_cst_1
  let main_v11 : IVec S4x1024x1024 1 := cmpf .olt main_v9 main_v10
  let main_v12 : IVec S4x1024x1024 1 := broadcastInDim S4x1024x1024 ![0, 1, 2] bcast_S1x1024x1024_S4x1024x1024_0_1_2 main_v8
  let main_v13 : IVec S4x1024x1024 1 := andi main_v12 main_v11
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S8x128x1024 : Shape := ⟨3, ![8, 128, 1024]⟩
abbrev S8x128x1152 : Shape := ⟨3, ![8, 128, 1152]⟩
abbrev S1152x8x128 : Shape := ⟨3, ![1152, 8, 128]⟩
abbrev S1024x64 : Shape := ⟨2, ![1024, 64]⟩
abbrev S4x256x1024 : Shape := ⟨3, ![4, 256, 1024]⟩
abbrev S4x256x64 : Shape := ⟨3, ![4, 256, 64]⟩
abbrev S3x256x1024 : Shape := ⟨3, ![3, 256, 1024]⟩
abbrev S3x256x64 : Shape := ⟨3, ![3, 256, 64]⟩
abbrev S3 : Shape := ⟨1, ![3]⟩
abbrev S6 : Shape := ⟨1, ![6]⟩
abbrev S_ : Shape := ⟨0, ![]⟩
abbrev S1x1024x1x128 : Shape := ⟨4, ![1, 1024, 1, 128]⟩
abbrev S1024x128 : Shape := ⟨2, ![1024, 128]⟩
abbrev S128x1024 : Shape := ⟨2, ![128, 1024]⟩
abbrev S1x128x1024 : Shape := ⟨3, ![1, 128, 1024]⟩
abbrev S8x128x64 : Shape := ⟨3, ![8, 128, 64]⟩
abbrev S1x64x8x128 : Shape := ⟨4, ![1, 64, 8, 128]⟩
abbrev S64x8x128 : Shape := ⟨3, ![64, 8, 128]⟩
abbrev S64x1024 : Shape := ⟨2, ![64, 1024]⟩
abbrev S384x8 : Shape := ⟨2, ![384, 8]⟩
abbrev S1x384 : Shape := ⟨2, ![1, 384]⟩
abbrev S384x128 : Shape := ⟨2, ![384, 128]⟩
abbrev S1x128x384 : Shape := ⟨3, ![1, 128, 384]⟩
abbrev S128x384 : Shape := ⟨2, ![128, 384]⟩
abbrev S384x384 : Shape := ⟨2, ![384, 384]⟩
abbrev S384x1x128 : Shape := ⟨3, ![384, 1, 128]⟩
abbrev S320x128 : Shape := ⟨2, ![320, 128]⟩
abbrev S320x384 : Shape := ⟨2, ![320, 384]⟩
abbrev S320x8 : Shape := ⟨2, ![320, 8]⟩
abbrev S1x128x64 : Shape := ⟨3, ![1, 128, 64]⟩
abbrev S128x64 : Shape := ⟨2, ![128, 64]⟩
abbrev S64x1x128 : Shape := ⟨3, ![64, 1, 128]⟩
abbrev S64x128 : Shape := ⟨2, ![64, 128]⟩
abbrev S1x64x1024 : Shape := ⟨3, ![1, 64, 1024]⟩
abbrev S64x64 : Shape := ⟨2, ![64, 64]⟩
abbrev S1x64x64 : Shape := ⟨3, ![1, 64, 64]⟩
abbrev S1 : Shape := ⟨1, ![1]⟩
abbrev S1x256x1024 : Shape := ⟨3, ![1, 256, 1024]⟩
abbrev S256x1024 : Shape := ⟨2, ![256, 1024]⟩
abbrev S1x256x64 : Shape := ⟨3, ![1, 256, 64]⟩
abbrev S256x64 : Shape := ⟨2, ![256, 64]⟩
abbrev S256x1 : Shape := ⟨2, ![256, 1]⟩
abbrev S256x128 : Shape := ⟨2, ![256, 128]⟩

abbrev nBuf : Space → Nat
  | .hbm => 6
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S8x128x1024, .bf16⟩
  | .local _ .vmem, ⟨8, _⟩ => ⟨S8x128x1152, .bf16⟩
  | .local _ .vmem, ⟨9, _⟩ => ⟨S1152x8x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x64, .f32⟩
  | .local _ .vmem, ⟨13, _⟩ => ⟨S4x256x1024, .bf16⟩
  | .local _ .vmem, ⟨14, _⟩ => ⟨S4x256x64, .f32⟩
  | .local _ .vmem, ⟨15, _⟩ => ⟨S3x256x1024, .bf16⟩
  | .local _ .vmem, ⟨16, _⟩ => ⟨S3x256x64, .f32⟩
  | .local _ .vmem, ⟨17, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 2 → Bool
  | ⟨0, _⟩ => false
  | ⟨1, _⟩ => true
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 2 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_326 : BitVec 32) : Fin 3 → Nat :=
  let c0_345 : Index := 0#32
  let c0_346 : Index := 0#32
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32 : BitVec 32 := 384#32
  let v404 : BitVec 32 := Scalar.muli v367 c384_i32
  let v405 : Index := Scalar.indexCast v404
  ![0, 0, v405.toNat]
def k0_off2 (d0 : Dev nD) (c0_i32_326 : BitVec 32) : Fin 3 → Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_351 : BitVec 32 := 384#32
  let v417 : BitVec 32 := Scalar.muli v367 c384_i32_351
  let v418 : Index := Scalar.indexCast v417
  let c0_352 : Index := 0#32
  let c0_353 : Index := 0#32
  ![v418.toNat, 0, 0]
def k0_off3 (d0 : Dev nD) (c0_i32_326 : BitVec 32) : Fin 3 → Nat :=
  let c1_360 : Index := 1#32
  let c0_361 : Index := 0#32
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_359 : BitVec 32 := 384#32
  let v427 : BitVec 32 := Scalar.muli v367 c384_i32_359
  let v428 : Index := Scalar.indexCast v427
  ![1, 0, v428.toNat]
def k0_off4 (d0 : Dev nD) (c0_i32_326 : BitVec 32) : Fin 3 → Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_365 : BitVec 32 := 384#32
  let v440 : BitVec 32 := Scalar.muli v367 c384_i32_365
  let v441 : Index := Scalar.indexCast v440
  let c1_366 : Index := 1#32
  let c0_367 : Index := 0#32
  ![v441.toNat, 1, 0]
def k0_off5 (d0 : Dev nD) (c0_i32_326 : BitVec 32) : Fin 3 → Nat :=
  let c2_374 : Index := 2#32
  let c0_375 : Index := 0#32
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_373 : BitVec 32 := 384#32
  let v450 : BitVec 32 := Scalar.muli v367 c384_i32_373
  let v451 : Index := Scalar.indexCast v450
  ![2, 0, v451.toNat]
def k0_off6 (d0 : Dev nD) (c0_i32_326 : BitVec 32) : Fin 3 → Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_379 : BitVec 32 := 384#32
  let v463 : BitVec 32 := Scalar.muli v367 c384_i32_379
  let v464 : Index := Scalar.indexCast v463
  let c2_380 : Index := 2#32
  let c0_381 : Index := 0#32
  ![v464.toNat, 2, 0]
def k0_off7 (d0 : Dev nD) (c0_i32_326 : BitVec 32) : Fin 3 → Nat :=
  let c3_388 : Index := 3#32
  let c0_389 : Index := 0#32
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_387 : BitVec 32 := 384#32
  let v473 : BitVec 32 := Scalar.muli v367 c384_i32_387
  let v474 : Index := Scalar.indexCast v473
  ![3, 0, v474.toNat]
def k0_off8 (d0 : Dev nD) (c0_i32_326 : BitVec 32) : Fin 3 → Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_393 : BitVec 32 := 384#32
  let v486 : BitVec 32 := Scalar.muli v367 c384_i32_393
  let v487 : Index := Scalar.indexCast v486
  let c3_394 : Index := 3#32
  let c0_395 : Index := 0#32
  ![v487.toNat, 3, 0]
def k0_off9 (d0 : Dev nD) (c0_i32_326 : BitVec 32) : Fin 3 → Nat :=
  let c4_402 : Index := 4#32
  let c0_403 : Index := 0#32
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_401 : BitVec 32 := 384#32
  let v496 : BitVec 32 := Scalar.muli v367 c384_i32_401
  let v497 : Index := Scalar.indexCast v496
  ![4, 0, v497.toNat]
def k0_off10 (d0 : Dev nD) (c0_i32_326 : BitVec 32) : Fin 3 → Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_407 : BitVec 32 := 384#32
  let v509 : BitVec 32 := Scalar.muli v367 c384_i32_407
  let v510 : Index := Scalar.indexCast v509
  let c4_408 : Index := 4#32
  let c0_409 : Index := 0#32
  ![v510.toNat, 4, 0]
def k0_off11 (d0 : Dev nD) (c0_i32_326 : BitVec 32) : Fin 3 → Nat :=
  let c5_416 : Index := 5#32
  let c0_417 : Index := 0#32
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_415 : BitVec 32 := 384#32
  let v519 : BitVec 32 := Scalar.muli v367 c384_i32_415
  let v520 : Index := Scalar.indexCast v519
  ![5, 0, v520.toNat]
def k0_off12 (d0 : Dev nD) (c0_i32_326 : BitVec 32) : Fin 3 → Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_421 : BitVec 32 := 384#32
  let v532 : BitVec 32 := Scalar.muli v367 c384_i32_421
  let v533 : Index := Scalar.indexCast v532
  let c5_422 : Index := 5#32
  let c0_423 : Index := 0#32
  ![v533.toNat, 5, 0]
def k0_off13 (d0 : Dev nD) (c0_i32_326 : BitVec 32) : Fin 3 → Nat :=
  let c6_430 : Index := 6#32
  let c0_431 : Index := 0#32
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_429 : BitVec 32 := 384#32
  let v542 : BitVec 32 := Scalar.muli v367 c384_i32_429
  let v543 : Index := Scalar.indexCast v542
  ![6, 0, v543.toNat]
def k0_off14 (d0 : Dev nD) (c0_i32_326 : BitVec 32) : Fin 3 → Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_435 : BitVec 32 := 384#32
  let v555 : BitVec 32 := Scalar.muli v367 c384_i32_435
  let v556 : Index := Scalar.indexCast v555
  let c6_436 : Index := 6#32
  let c0_437 : Index := 0#32
  ![v556.toNat, 6, 0]
def k0_off15 (d0 : Dev nD) (c0_i32_326 : BitVec 32) : Fin 3 → Nat :=
  let c7_444 : Index := 7#32
  let c0_445 : Index := 0#32
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_443 : BitVec 32 := 384#32
  let v565 : BitVec 32 := Scalar.muli v367 c384_i32_443
  let v566 : Index := Scalar.indexCast v565
  ![7, 0, v566.toNat]
def k0_off16 (d0 : Dev nD) (c0_i32_326 : BitVec 32) : Fin 3 → Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v356 : BitVec 32 := Scalar.addi v2 c0_i32_326
  let v357 : BitVec 32 := Scalar.subi c0_i32_327 v356
  let c3_i32_328 : BitVec 32 := 3#32
  let c0_i32_329 : BitVec 32 := 0#32
  let v358 : BitVec 1 := Scalar.cmpi .eq c3_i32_328 c0_i32_329
  let c1_i32_330 : BitVec 32 := 1#32
  let v359 : BitVec 32 := Scalar.select v358 c1_i32_330 c3_i32_328
  let v360 : BitVec 32 := Scalar.remsi v357 v359
  let c0_i32_332 : BitVec 32 := 0#32
  let v362 : BitVec 1 := Scalar.cmpi .slt v360 c0_i32_332
  let c0_i32_333 : BitVec 32 := 0#32
  let v363 : BitVec 1 := Scalar.cmpi .slt v359 c0_i32_333
  let v364 : BitVec 1 := Scalar.xori v362 v363
  let c0_i32_331 : BitVec 32 := 0#32
  let v361 : BitVec 1 := Scalar.cmpi .ne v360 c0_i32_331
  let v365 : BitVec 1 := Scalar.andi v364 v361
  let v366 : BitVec 32 := Scalar.addi v360 v359
  let v367 : BitVec 32 := Scalar.select v365 v366 v360
  let c384_i32_449 : BitVec 32 := 384#32
  let v578 : BitVec 32 := Scalar.muli v367 c384_i32_449
  let v579 : Index := Scalar.indexCast v578
  let c7_450 : Index := 7#32
  let c0_451 : Index := 0#32
  ![v579.toNat, 7, 0]
def k0_off17 (d0 : Dev nD) (c1_i32_735 : BitVec 32) (c0_i32_743 : BitVec 32) : Fin 2 → Nat :=
  let c4_i32_742 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1052 : BitVec 32 := Scalar.addi v2 c1_i32_735
  let c4_i32_736 : BitVec 32 := 4#32
  let c0_i32_737 : BitVec 32 := 0#32
  let v1053 : BitVec 1 := Scalar.cmpi .eq c4_i32_736 c0_i32_737
  let c1_i32_738 : BitVec 32 := 1#32
  let v1054 : BitVec 32 := Scalar.select v1053 c1_i32_738 c4_i32_736
  let v1055 : BitVec 32 := Scalar.remsi v1052 v1054
  let c0_i32_740 : BitVec 32 := 0#32
  let v1057 : BitVec 1 := Scalar.cmpi .slt v1055 c0_i32_740
  let c0_i32_741 : BitVec 32 := 0#32
  let v1058 : BitVec 1 := Scalar.cmpi .slt v1054 c0_i32_741
  let v1059 : BitVec 1 := Scalar.xori v1057 v1058
  let c0_i32_739 : BitVec 32 := 0#32
  let v1056 : BitVec 1 := Scalar.cmpi .ne v1055 c0_i32_739
  let v1060 : BitVec 1 := Scalar.andi v1059 v1056
  let v1061 : BitVec 32 := Scalar.addi v1055 v1054
  let v1062 : BitVec 32 := Scalar.select v1060 v1061 v1055
  let v1063 : BitVec 32 := Scalar.muli c4_i32_742 v1062
  let v1064 : BitVec 32 := Scalar.addi v1063 c0_i32_743
  let c3_i32_744 : BitVec 32 := 3#32
  let c0_i32_745 : BitVec 32 := 0#32
  let v1065 : BitVec 1 := Scalar.cmpi .eq c3_i32_744 c0_i32_745
  let c1_i32_746 : BitVec 32 := 1#32
  let v1066 : BitVec 32 := Scalar.select v1065 c1_i32_746 c3_i32_744
  let v1067 : BitVec 32 := Scalar.remsi v1064 v1066
  let c0_i32_748 : BitVec 32 := 0#32
  let v1069 : BitVec 1 := Scalar.cmpi .slt v1067 c0_i32_748
  let c0_i32_749 : BitVec 32 := 0#32
  let v1070 : BitVec 1 := Scalar.cmpi .slt v1066 c0_i32_749
  let v1071 : BitVec 1 := Scalar.xori v1069 v1070
  let c0_i32_747 : BitVec 32 := 0#32
  let v1068 : BitVec 1 := Scalar.cmpi .ne v1067 c0_i32_747
  let v1072 : BitVec 1 := Scalar.andi v1071 v1068
  let v1073 : BitVec 32 := Scalar.addi v1067 v1066
  let v1074 : BitVec 32 := Scalar.select v1072 v1073 v1067
  let c0_i32_750 : BitVec 32 := 0#32
  let v1075 : BitVec 1 := Scalar.cmpi .eq v1074 c0_i32_750
  let c0_i32_753 : BitVec 32 := 0#32
  let c1_i32_751 : BitVec 32 := 1#32
  let v1076 : BitVec 1 := Scalar.cmpi .eq v1074 c1_i32_751
  let c384_i32_752 : BitVec 32 := 384#32
  let c704_i32 : BitVec 32 := 704#32
  let v1077 : BitVec 32 := Scalar.select v1076 c384_i32_752 c704_i32
  let v1078 : BitVec 32 := Scalar.select v1075 c0_i32_753 v1077
  let c64_i32_761 : BitVec 32 := 64#32
  let c0_i32_755 : BitVec 32 := 0#32
  let v1080 : BitVec 1 := Scalar.cmpi .sgt v1064 c0_i32_755
  let v1081 : BitVec 32 := Scalar.extui v1080
  let c0_i32_756 : BitVec 32 := 0#32
  let v1082 : BitVec 1 := Scalar.cmpi .slt v1064 c0_i32_756
  let v1083 : BitVec 32 := Scalar.extui v1082
  let v1084 : BitVec 32 := Scalar.subi v1081 v1083
  let c3_i32_754 : BitVec 32 := 3#32
  let c0_i32_757 : BitVec 32 := 0#32
  let v1085 : BitVec 1 := Scalar.cmpi .sgt c3_i32_754 c0_i32_757
  let v1086 : BitVec 32 := Scalar.extui v1085
  let c0_i32_758 : BitVec 32 := 0#32
  let v1087 : BitVec 1 := Scalar.cmpi .slt c3_i32_754 c0_i32_758
  let v1088 : BitVec 32 := Scalar.extui v1087
  let v1089 : BitVec 32 := Scalar.subi v1086 v1088
  let v1090 : BitVec 1 := Scalar.cmpi .ne v1084 v1089
  let v1091 : BitVec 32 := Scalar.remsi v1064 c3_i32_754
  let c0_i32_759 : BitVec 32 := 0#32
  let v1092 : BitVec 1 := Scalar.cmpi .ne v1091 c0_i32_759
  let v1093 : BitVec 1 := Scalar.andi v1090 v1092
  let v1079 : BitVec 32 := Scalar.divsi v1064 c3_i32_754
  let c1_i32_760 : BitVec 32 := 1#32
  let v1094 : BitVec 32 := Scalar.subi v1079 c1_i32_760
  let v1095 : BitVec 32 := Scalar.select v1093 v1094 v1079
  let v1096 : BitVec 32 := Scalar.muli c64_i32_761 v1095
  let v1097 : BitVec 32 := Scalar.addi v1078 v1096
  let v1098 : Index := Scalar.indexCast v1097
  let c0_762 : Index := 0#32
  ![v1098.toNat, 0]
def k0_off18 (d0 : Dev nD) (c1_i32_735 : BitVec 32) (c0_i32_743 : BitVec 32) : Fin 2 → Nat :=
  let c4_i32_742 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1052 : BitVec 32 := Scalar.addi v2 c1_i32_735
  let c4_i32_736 : BitVec 32 := 4#32
  let c0_i32_737 : BitVec 32 := 0#32
  let v1053 : BitVec 1 := Scalar.cmpi .eq c4_i32_736 c0_i32_737
  let c1_i32_738 : BitVec 32 := 1#32
  let v1054 : BitVec 32 := Scalar.select v1053 c1_i32_738 c4_i32_736
  let v1055 : BitVec 32 := Scalar.remsi v1052 v1054
  let c0_i32_740 : BitVec 32 := 0#32
  let v1057 : BitVec 1 := Scalar.cmpi .slt v1055 c0_i32_740
  let c0_i32_741 : BitVec 32 := 0#32
  let v1058 : BitVec 1 := Scalar.cmpi .slt v1054 c0_i32_741
  let v1059 : BitVec 1 := Scalar.xori v1057 v1058
  let c0_i32_739 : BitVec 32 := 0#32
  let v1056 : BitVec 1 := Scalar.cmpi .ne v1055 c0_i32_739
  let v1060 : BitVec 1 := Scalar.andi v1059 v1056
  let v1061 : BitVec 32 := Scalar.addi v1055 v1054
  let v1062 : BitVec 32 := Scalar.select v1060 v1061 v1055
  let v1063 : BitVec 32 := Scalar.muli c4_i32_742 v1062
  let v1064 : BitVec 32 := Scalar.addi v1063 c0_i32_743
  let c3_i32_744 : BitVec 32 := 3#32
  let c0_i32_745 : BitVec 32 := 0#32
  let v1065 : BitVec 1 := Scalar.cmpi .eq c3_i32_744 c0_i32_745
  let c1_i32_746 : BitVec 32 := 1#32
  let v1066 : BitVec 32 := Scalar.select v1065 c1_i32_746 c3_i32_744
  let v1067 : BitVec 32 := Scalar.remsi v1064 v1066
  let c0_i32_748 : BitVec 32 := 0#32
  let v1069 : BitVec 1 := Scalar.cmpi .slt v1067 c0_i32_748
  let c0_i32_749 : BitVec 32 := 0#32
  let v1070 : BitVec 1 := Scalar.cmpi .slt v1066 c0_i32_749
  let v1071 : BitVec 1 := Scalar.xori v1069 v1070
  let c0_i32_747 : BitVec 32 := 0#32
  let v1068 : BitVec 1 := Scalar.cmpi .ne v1067 c0_i32_747
  let v1072 : BitVec 1 := Scalar.andi v1071 v1068
  let v1073 : BitVec 32 := Scalar.addi v1067 v1066
  let v1074 : BitVec 32 := Scalar.select v1072 v1073 v1067
  let c0_i32_750 : BitVec 32 := 0#32
  let v1075 : BitVec 1 := Scalar.cmpi .eq v1074 c0_i32_750
  let c0_i32_753 : BitVec 32 := 0#32
  let c1_i32_751 : BitVec 32 := 1#32
  let v1076 : BitVec 1 := Scalar.cmpi .eq v1074 c1_i32_751
  let c384_i32_752 : BitVec 32 := 384#32
  let c704_i32 : BitVec 32 := 704#32
  let v1077 : BitVec 32 := Scalar.select v1076 c384_i32_752 c704_i32
  let v1078 : BitVec 32 := Scalar.select v1075 c0_i32_753 v1077
  let c64_i32_761 : BitVec 32 := 64#32
  let c0_i32_755 : BitVec 32 := 0#32
  let v1080 : BitVec 1 := Scalar.cmpi .sgt v1064 c0_i32_755
  let v1081 : BitVec 32 := Scalar.extui v1080
  let c0_i32_756 : BitVec 32 := 0#32
  let v1082 : BitVec 1 := Scalar.cmpi .slt v1064 c0_i32_756
  let v1083 : BitVec 32 := Scalar.extui v1082
  let v1084 : BitVec 32 := Scalar.subi v1081 v1083
  let c3_i32_754 : BitVec 32 := 3#32
  let c0_i32_757 : BitVec 32 := 0#32
  let v1085 : BitVec 1 := Scalar.cmpi .sgt c3_i32_754 c0_i32_757
  let v1086 : BitVec 32 := Scalar.extui v1085
  let c0_i32_758 : BitVec 32 := 0#32
  let v1087 : BitVec 1 := Scalar.cmpi .slt c3_i32_754 c0_i32_758
  let v1088 : BitVec 32 := Scalar.extui v1087
  let v1089 : BitVec 32 := Scalar.subi v1086 v1088
  let v1090 : BitVec 1 := Scalar.cmpi .ne v1084 v1089
  let v1091 : BitVec 32 := Scalar.remsi v1064 c3_i32_754
  let c0_i32_759 : BitVec 32 := 0#32
  let v1092 : BitVec 1 := Scalar.cmpi .ne v1091 c0_i32_759
  let v1093 : BitVec 1 := Scalar.andi v1090 v1092
  let v1079 : BitVec 32 := Scalar.divsi v1064 c3_i32_754
  let c1_i32_760 : BitVec 32 := 1#32
  let v1094 : BitVec 32 := Scalar.subi v1079 c1_i32_760
  let v1095 : BitVec 32 := Scalar.select v1093 v1094 v1079
  let v1096 : BitVec 32 := Scalar.muli c64_i32_761 v1095
  let v1097 : BitVec 32 := Scalar.addi v1078 v1096
  let v1103 : Index := Scalar.indexCast v1097
  let c0_766 : Index := 0#32
  ![v1103.toNat, 0]
def k0_dev4 (d0 : Dev nD) : Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_735 : BitVec 32 := 1#32
  let v1052 : BitVec 32 := Scalar.addi v2 c1_i32_735
  let c4_i32_736 : BitVec 32 := 4#32
  let c0_i32_737 : BitVec 32 := 0#32
  let v1053 : BitVec 1 := Scalar.cmpi .eq c4_i32_736 c0_i32_737
  let c1_i32_738 : BitVec 32 := 1#32
  let v1054 : BitVec 32 := Scalar.select v1053 c1_i32_738 c4_i32_736
  let v1055 : BitVec 32 := Scalar.remsi v1052 v1054
  let c0_i32_740 : BitVec 32 := 0#32
  let v1057 : BitVec 1 := Scalar.cmpi .slt v1055 c0_i32_740
  let c0_i32_741 : BitVec 32 := 0#32
  let v1058 : BitVec 1 := Scalar.cmpi .slt v1054 c0_i32_741
  let v1059 : BitVec 1 := Scalar.xori v1057 v1058
  let c0_i32_739 : BitVec 32 := 0#32
  let v1056 : BitVec 1 := Scalar.cmpi .ne v1055 c0_i32_739
  let v1060 : BitVec 1 := Scalar.andi v1059 v1056
  let v1061 : BitVec 32 := Scalar.addi v1055 v1054
  let v1062 : BitVec 32 := Scalar.select v1060 v1061 v1055
  let c1_i32_861 : BitVec 32 := 1#32
  let v1243 : BitVec 32 := Scalar.muli v1062 c1_i32_861
  let v1244 : BitVec 32 := Scalar.addi c0_i32_862 v1243
  v1244.toNat
def k0_dev5 (d0 : Dev nD) : Nat :=
  let c0_i32_872 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_735 : BitVec 32 := 1#32
  let v1052 : BitVec 32 := Scalar.addi v2 c1_i32_735
  let c4_i32_736 : BitVec 32 := 4#32
  let c0_i32_737 : BitVec 32 := 0#32
  let v1053 : BitVec 1 := Scalar.cmpi .eq c4_i32_736 c0_i32_737
  let c1_i32_738 : BitVec 32 := 1#32
  let v1054 : BitVec 32 := Scalar.select v1053 c1_i32_738 c4_i32_736
  let v1055 : BitVec 32 := Scalar.remsi v1052 v1054
  let c0_i32_740 : BitVec 32 := 0#32
  let v1057 : BitVec 1 := Scalar.cmpi .slt v1055 c0_i32_740
  let c0_i32_741 : BitVec 32 := 0#32
  let v1058 : BitVec 1 := Scalar.cmpi .slt v1054 c0_i32_741
  let v1059 : BitVec 1 := Scalar.xori v1057 v1058
  let c0_i32_739 : BitVec 32 := 0#32
  let v1056 : BitVec 1 := Scalar.cmpi .ne v1055 c0_i32_739
  let v1060 : BitVec 1 := Scalar.andi v1059 v1056
  let v1061 : BitVec 32 := Scalar.addi v1055 v1054
  let v1062 : BitVec 32 := Scalar.select v1060 v1061 v1055
  let c1_i32_871 : BitVec 32 := 1#32
  let v1253 : BitVec 32 := Scalar.muli v1062 c1_i32_871
  let v1254 : BitVec 32 := Scalar.addi c0_i32_872 v1253
  v1254.toNat
def k0_dev6 (d0 : Dev nD) : Nat :=
  let c0_i32_1005 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_877 : BitVec 32 := 2#32
  let v1263 : BitVec 32 := Scalar.addi v2 c2_i32_877
  let c4_i32_878 : BitVec 32 := 4#32
  let c0_i32_879 : BitVec 32 := 0#32
  let v1264 : BitVec 1 := Scalar.cmpi .eq c4_i32_878 c0_i32_879
  let c1_i32_880 : BitVec 32 := 1#32
  let v1265 : BitVec 32 := Scalar.select v1264 c1_i32_880 c4_i32_878
  let v1266 : BitVec 32 := Scalar.remsi v1263 v1265
  let c0_i32_882 : BitVec 32 := 0#32
  let v1268 : BitVec 1 := Scalar.cmpi .slt v1266 c0_i32_882
  let c0_i32_883 : BitVec 32 := 0#32
  let v1269 : BitVec 1 := Scalar.cmpi .slt v1265 c0_i32_883
  let v1270 : BitVec 1 := Scalar.xori v1268 v1269
  let c0_i32_881 : BitVec 32 := 0#32
  let v1267 : BitVec 1 := Scalar.cmpi .ne v1266 c0_i32_881
  let v1271 : BitVec 1 := Scalar.andi v1270 v1267
  let v1272 : BitVec 32 := Scalar.addi v1266 v1265
  let v1273 : BitVec 32 := Scalar.select v1271 v1272 v1266
  let c1_i32_1004 : BitVec 32 := 1#32
  let v1454 : BitVec 32 := Scalar.muli v1273 c1_i32_1004
  let v1455 : BitVec 32 := Scalar.addi c0_i32_1005 v1454
  v1455.toNat
def k0_dev7 (d0 : Dev nD) : Nat :=
  let c0_i32_1015 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_877 : BitVec 32 := 2#32
  let v1263 : BitVec 32 := Scalar.addi v2 c2_i32_877
  let c4_i32_878 : BitVec 32 := 4#32
  let c0_i32_879 : BitVec 32 := 0#32
  let v1264 : BitVec 1 := Scalar.cmpi .eq c4_i32_878 c0_i32_879
  let c1_i32_880 : BitVec 32 := 1#32
  let v1265 : BitVec 32 := Scalar.select v1264 c1_i32_880 c4_i32_878
  let v1266 : BitVec 32 := Scalar.remsi v1263 v1265
  let c0_i32_882 : BitVec 32 := 0#32
  let v1268 : BitVec 1 := Scalar.cmpi .slt v1266 c0_i32_882
  let c0_i32_883 : BitVec 32 := 0#32
  let v1269 : BitVec 1 := Scalar.cmpi .slt v1265 c0_i32_883
  let v1270 : BitVec 1 := Scalar.xori v1268 v1269
  let c0_i32_881 : BitVec 32 := 0#32
  let v1267 : BitVec 1 := Scalar.cmpi .ne v1266 c0_i32_881
  let v1271 : BitVec 1 := Scalar.andi v1270 v1267
  let v1272 : BitVec 32 := Scalar.addi v1266 v1265
  let v1273 : BitVec 32 := Scalar.select v1271 v1272 v1266
  let c1_i32_1014 : BitVec 32 := 1#32
  let v1464 : BitVec 32 := Scalar.muli v1273 c1_i32_1014
  let v1465 : BitVec 32 := Scalar.addi c0_i32_1015 v1464
  v1465.toNat
def k0_dev8 (d0 : Dev nD) : Nat :=
  let c0_i32_1148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1020 : BitVec 32 := 3#32
  let v1474 : BitVec 32 := Scalar.addi v2 c3_i32_1020
  let c4_i32_1021 : BitVec 32 := 4#32
  let c0_i32_1022 : BitVec 32 := 0#32
  let v1475 : BitVec 1 := Scalar.cmpi .eq c4_i32_1021 c0_i32_1022
  let c1_i32_1023 : BitVec 32 := 1#32
  let v1476 : BitVec 32 := Scalar.select v1475 c1_i32_1023 c4_i32_1021
  let v1477 : BitVec 32 := Scalar.remsi v1474 v1476
  let c0_i32_1025 : BitVec 32 := 0#32
  let v1479 : BitVec 1 := Scalar.cmpi .slt v1477 c0_i32_1025
  let c0_i32_1026 : BitVec 32 := 0#32
  let v1480 : BitVec 1 := Scalar.cmpi .slt v1476 c0_i32_1026
  let v1481 : BitVec 1 := Scalar.xori v1479 v1480
  let c0_i32_1024 : BitVec 32 := 0#32
  let v1478 : BitVec 1 := Scalar.cmpi .ne v1477 c0_i32_1024
  let v1482 : BitVec 1 := Scalar.andi v1481 v1478
  let v1483 : BitVec 32 := Scalar.addi v1477 v1476
  let v1484 : BitVec 32 := Scalar.select v1482 v1483 v1477
  let c1_i32_1147 : BitVec 32 := 1#32
  let v1665 : BitVec 32 := Scalar.muli v1484 c1_i32_1147
  let v1666 : BitVec 32 := Scalar.addi c0_i32_1148 v1665
  v1666.toNat
def k0_dev9 (d0 : Dev nD) : Nat :=
  let c0_i32_1158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1020 : BitVec 32 := 3#32
  let v1474 : BitVec 32 := Scalar.addi v2 c3_i32_1020
  let c4_i32_1021 : BitVec 32 := 4#32
  let c0_i32_1022 : BitVec 32 := 0#32
  let v1475 : BitVec 1 := Scalar.cmpi .eq c4_i32_1021 c0_i32_1022
  let c1_i32_1023 : BitVec 32 := 1#32
  let v1476 : BitVec 32 := Scalar.select v1475 c1_i32_1023 c4_i32_1021
  let v1477 : BitVec 32 := Scalar.remsi v1474 v1476
  let c0_i32_1025 : BitVec 32 := 0#32
  let v1479 : BitVec 1 := Scalar.cmpi .slt v1477 c0_i32_1025
  let c0_i32_1026 : BitVec 32 := 0#32
  let v1480 : BitVec 1 := Scalar.cmpi .slt v1476 c0_i32_1026
  let v1481 : BitVec 1 := Scalar.xori v1479 v1480
  let c0_i32_1024 : BitVec 32 := 0#32
  let v1478 : BitVec 1 := Scalar.cmpi .ne v1477 c0_i32_1024
  let v1482 : BitVec 1 := Scalar.andi v1481 v1478
  let v1483 : BitVec 32 := Scalar.addi v1477 v1476
  let v1484 : BitVec 32 := Scalar.select v1482 v1483 v1477
  let c1_i32_1157 : BitVec 32 := 1#32
  let v1675 : BitVec 32 := Scalar.muli v1484 c1_i32_1157
  let v1676 : BitVec 32 := Scalar.addi c0_i32_1158 v1675
  v1676.toNat
def k0_off19 (d0 : Dev nD) (c0_i32_1370 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v1983 : BitVec 32 := Scalar.muli v2 c256_i32
  let v1984 : BitVec 32 := Scalar.addi v1983 c0_i32_1370
  let v1990 : Index := Scalar.indexCast v1984
  let c0_1374 : Index := 0#32
  ![v1990.toNat, 0]
def k0_off20 (d0 : Dev nD) (c0_i32_1370 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v1983 : BitVec 32 := Scalar.muli v2 c256_i32
  let v1984 : BitVec 32 := Scalar.addi v1983 c0_i32_1370
  let c0_i32_1386 : BitVec 32 := 0#32
  ![v1984.toNat, 0]
def k0_dev10 (d0 : Dev nD) : Nat :=
  let c0_i32_1385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1375 : BitVec 32 := 1#32
  let v1994 : BitVec 32 := Scalar.addi v2 c1_i32_1375
  let c4_i32_1376 : BitVec 32 := 4#32
  let c0_i32_1377 : BitVec 32 := 0#32
  let v1995 : BitVec 1 := Scalar.cmpi .eq c4_i32_1376 c0_i32_1377
  let c1_i32_1378 : BitVec 32 := 1#32
  let v1996 : BitVec 32 := Scalar.select v1995 c1_i32_1378 c4_i32_1376
  let v1997 : BitVec 32 := Scalar.remsi v1994 v1996
  let c0_i32_1380 : BitVec 32 := 0#32
  let v1999 : BitVec 1 := Scalar.cmpi .slt v1997 c0_i32_1380
  let c0_i32_1381 : BitVec 32 := 0#32
  let v2000 : BitVec 1 := Scalar.cmpi .slt v1996 c0_i32_1381
  let v2001 : BitVec 1 := Scalar.xori v1999 v2000
  let c0_i32_1379 : BitVec 32 := 0#32
  let v1998 : BitVec 1 := Scalar.cmpi .ne v1997 c0_i32_1379
  let v2002 : BitVec 1 := Scalar.andi v2001 v1998
  let v2003 : BitVec 32 := Scalar.addi v1997 v1996
  let v2004 : BitVec 32 := Scalar.select v2002 v2003 v1997
  let c1_i32_1384 : BitVec 32 := 1#32
  let v2005 : BitVec 32 := Scalar.muli v2004 c1_i32_1384
  let v2006 : BitVec 32 := Scalar.addi c0_i32_1385 v2005
  v2006.toNat
def k0_dev11 (d0 : Dev nD) : Nat :=
  let c0_i32_1398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1388 : BitVec 32 := 2#32
  let v2013 : BitVec 32 := Scalar.addi v2 c2_i32_1388
  let c4_i32_1389 : BitVec 32 := 4#32
  let c0_i32_1390 : BitVec 32 := 0#32
  let v2014 : BitVec 1 := Scalar.cmpi .eq c4_i32_1389 c0_i32_1390
  let c1_i32_1391 : BitVec 32 := 1#32
  let v2015 : BitVec 32 := Scalar.select v2014 c1_i32_1391 c4_i32_1389
  let v2016 : BitVec 32 := Scalar.remsi v2013 v2015
  let c0_i32_1393 : BitVec 32 := 0#32
  let v2018 : BitVec 1 := Scalar.cmpi .slt v2016 c0_i32_1393
  let c0_i32_1394 : BitVec 32 := 0#32
  let v2019 : BitVec 1 := Scalar.cmpi .slt v2015 c0_i32_1394
  let v2020 : BitVec 1 := Scalar.xori v2018 v2019
  let c0_i32_1392 : BitVec 32 := 0#32
  let v2017 : BitVec 1 := Scalar.cmpi .ne v2016 c0_i32_1392
  let v2021 : BitVec 1 := Scalar.andi v2020 v2017
  let v2022 : BitVec 32 := Scalar.addi v2016 v2015
  let v2023 : BitVec 32 := Scalar.select v2021 v2022 v2016
  let c1_i32_1397 : BitVec 32 := 1#32
  let v2024 : BitVec 32 := Scalar.muli v2023 c1_i32_1397
  let v2025 : BitVec 32 := Scalar.addi c0_i32_1398 v2024
  v2025.toNat
def k0_dev12 (d0 : Dev nD) : Nat :=
  let c0_i32_1411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1401 : BitVec 32 := 3#32
  let v2032 : BitVec 32 := Scalar.addi v2 c3_i32_1401
  let c4_i32_1402 : BitVec 32 := 4#32
  let c0_i32_1403 : BitVec 32 := 0#32
  let v2033 : BitVec 1 := Scalar.cmpi .eq c4_i32_1402 c0_i32_1403
  let c1_i32_1404 : BitVec 32 := 1#32
  let v2034 : BitVec 32 := Scalar.select v2033 c1_i32_1404 c4_i32_1402
  let v2035 : BitVec 32 := Scalar.remsi v2032 v2034
  let c0_i32_1406 : BitVec 32 := 0#32
  let v2037 : BitVec 1 := Scalar.cmpi .slt v2035 c0_i32_1406
  let c0_i32_1407 : BitVec 32 := 0#32
  let v2038 : BitVec 1 := Scalar.cmpi .slt v2034 c0_i32_1407
  let v2039 : BitVec 1 := Scalar.xori v2037 v2038
  let c0_i32_1405 : BitVec 32 := 0#32
  let v2036 : BitVec 1 := Scalar.cmpi .ne v2035 c0_i32_1405
  let v2040 : BitVec 1 := Scalar.andi v2039 v2036
  let v2041 : BitVec 32 := Scalar.addi v2035 v2034
  let v2042 : BitVec 32 := Scalar.select v2040 v2041 v2035
  let c1_i32_1410 : BitVec 32 := 1#32
  let v2043 : BitVec 32 := Scalar.muli v2042 c1_i32_1410
  let v2044 : BitVec 32 := Scalar.addi c0_i32_1411 v2043
  v2044.toNat
def k0_dev13 (d0 : Dev nD) : Nat :=
  let c0_i32_1428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1419 : BitVec 32 := 1#32
  let v2062 : BitVec 32 := Scalar.addi v2 c1_i32_1419
  let c4_i32_1420 : BitVec 32 := 4#32
  let c0_i32_1421 : BitVec 32 := 0#32
  let v2063 : BitVec 1 := Scalar.cmpi .eq c4_i32_1420 c0_i32_1421
  let c1_i32_1422 : BitVec 32 := 1#32
  let v2064 : BitVec 32 := Scalar.select v2063 c1_i32_1422 c4_i32_1420
  let v2065 : BitVec 32 := Scalar.remsi v2062 v2064
  let c0_i32_1424 : BitVec 32 := 0#32
  let v2067 : BitVec 1 := Scalar.cmpi .slt v2065 c0_i32_1424
  let c0_i32_1425 : BitVec 32 := 0#32
  let v2068 : BitVec 1 := Scalar.cmpi .slt v2064 c0_i32_1425
  let v2069 : BitVec 1 := Scalar.xori v2067 v2068
  let c0_i32_1423 : BitVec 32 := 0#32
  let v2066 : BitVec 1 := Scalar.cmpi .ne v2065 c0_i32_1423
  let v2070 : BitVec 1 := Scalar.andi v2069 v2066
  let v2071 : BitVec 32 := Scalar.addi v2065 v2064
  let v2072 : BitVec 32 := Scalar.select v2070 v2071 v2065
  let c1_i32_1427 : BitVec 32 := 1#32
  let v2073 : BitVec 32 := Scalar.muli v2072 c1_i32_1427
  let v2074 : BitVec 32 := Scalar.addi c0_i32_1428 v2073
  v2074.toNat
def k0_dev14 (d0 : Dev nD) : Nat :=
  let c0_i32_1441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1431 : BitVec 32 := 2#32
  let v2081 : BitVec 32 := Scalar.addi v2 c2_i32_1431
  let c4_i32_1432 : BitVec 32 := 4#32
  let c0_i32_1433 : BitVec 32 := 0#32
  let v2082 : BitVec 1 := Scalar.cmpi .eq c4_i32_1432 c0_i32_1433
  let c1_i32_1434 : BitVec 32 := 1#32
  let v2083 : BitVec 32 := Scalar.select v2082 c1_i32_1434 c4_i32_1432
  let v2084 : BitVec 32 := Scalar.remsi v2081 v2083
  let c0_i32_1436 : BitVec 32 := 0#32
  let v2086 : BitVec 1 := Scalar.cmpi .slt v2084 c0_i32_1436
  let c0_i32_1437 : BitVec 32 := 0#32
  let v2087 : BitVec 1 := Scalar.cmpi .slt v2083 c0_i32_1437
  let v2088 : BitVec 1 := Scalar.xori v2086 v2087
  let c0_i32_1435 : BitVec 32 := 0#32
  let v2085 : BitVec 1 := Scalar.cmpi .ne v2084 c0_i32_1435
  let v2089 : BitVec 1 := Scalar.andi v2088 v2085
  let v2090 : BitVec 32 := Scalar.addi v2084 v2083
  let v2091 : BitVec 32 := Scalar.select v2089 v2090 v2084
  let c1_i32_1440 : BitVec 32 := 1#32
  let v2092 : BitVec 32 := Scalar.muli v2091 c1_i32_1440
  let v2093 : BitVec 32 := Scalar.addi c0_i32_1441 v2092
  v2093.toNat
def k0_dev15 (d0 : Dev nD) : Nat :=
  let c0_i32_1454 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1444 : BitVec 32 := 3#32
  let v2100 : BitVec 32 := Scalar.addi v2 c3_i32_1444
  let c4_i32_1445 : BitVec 32 := 4#32
  let c0_i32_1446 : BitVec 32 := 0#32
  let v2101 : BitVec 1 := Scalar.cmpi .eq c4_i32_1445 c0_i32_1446
  let c1_i32_1447 : BitVec 32 := 1#32
  let v2102 : BitVec 32 := Scalar.select v2101 c1_i32_1447 c4_i32_1445
  let v2103 : BitVec 32 := Scalar.remsi v2100 v2102
  let c0_i32_1449 : BitVec 32 := 0#32
  let v2105 : BitVec 1 := Scalar.cmpi .slt v2103 c0_i32_1449
  let c0_i32_1450 : BitVec 32 := 0#32
  let v2106 : BitVec 1 := Scalar.cmpi .slt v2102 c0_i32_1450
  let v2107 : BitVec 1 := Scalar.xori v2105 v2106
  let c0_i32_1448 : BitVec 32 := 0#32
  let v2104 : BitVec 1 := Scalar.cmpi .ne v2103 c0_i32_1448
  let v2108 : BitVec 1 := Scalar.andi v2107 v2104
  let v2109 : BitVec 32 := Scalar.addi v2103 v2102
  let v2110 : BitVec 32 := Scalar.select v2108 v2109 v2103
  let c1_i32_1453 : BitVec 32 := 1#32
  let v2111 : BitVec 32 := Scalar.muli v2110 c1_i32_1453
  let v2112 : BitVec 32 := Scalar.addi c0_i32_1454 v2111
  v2112.toNat
def k0_off21 (d0 : Dev nD) (c0_i32_1457 : BitVec 32) (c0_i32_1467 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2119 : BitVec 32 := Scalar.addi v2 c0_i32_1457
  let c1_i32_1458 : BitVec 32 := 1#32
  let v2120 : BitVec 32 := Scalar.addi v2119 c1_i32_1458
  let c4_i32_1459 : BitVec 32 := 4#32
  let c0_i32_1460 : BitVec 32 := 0#32
  let v2121 : BitVec 1 := Scalar.cmpi .eq c4_i32_1459 c0_i32_1460
  let c1_i32_1461 : BitVec 32 := 1#32
  let v2122 : BitVec 32 := Scalar.select v2121 c1_i32_1461 c4_i32_1459
  let v2123 : BitVec 32 := Scalar.remsi v2120 v2122
  let c0_i32_1463 : BitVec 32 := 0#32
  let v2125 : BitVec 1 := Scalar.cmpi .slt v2123 c0_i32_1463
  let c0_i32_1464 : BitVec 32 := 0#32
  let v2126 : BitVec 1 := Scalar.cmpi .slt v2122 c0_i32_1464
  let v2127 : BitVec 1 := Scalar.xori v2125 v2126
  let c0_i32_1462 : BitVec 32 := 0#32
  let v2124 : BitVec 1 := Scalar.cmpi .ne v2123 c0_i32_1462
  let v2128 : BitVec 1 := Scalar.andi v2127 v2124
  let v2129 : BitVec 32 := Scalar.addi v2123 v2122
  let v2130 : BitVec 32 := Scalar.select v2128 v2129 v2123
  let c256_i32_1466 : BitVec 32 := 256#32
  let v2132 : BitVec 32 := Scalar.muli v2130 c256_i32_1466
  let v2133 : BitVec 32 := Scalar.addi v2132 c0_i32_1467
  let c0_i32_1472 : BitVec 32 := 0#32
  ![v2133.toNat, 0]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1465 : BitVec 32 := 256#32
  let v2131 : BitVec 32 := Scalar.muli v2 c256_i32_1465
  let c0_i32_1473 : BitVec 32 := 0#32
  ![v2131.toNat, 0]
def k0_dev16 (d0 : Dev nD) : Nat :=
  let c0_i32_1633_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1624_r0 : BitVec 32 := 1#32
  let v2275_r0 : BitVec 32 := Scalar.addi v2 c1_i32_1624_r0
  let c4_i32_1625_r0 : BitVec 32 := 4#32
  let c0_i32_1626_r0 : BitVec 32 := 0#32
  let v2276_r0 : BitVec 1 := Scalar.cmpi .eq c4_i32_1625_r0 c0_i32_1626_r0
  let c1_i32_1627_r0 : BitVec 32 := 1#32
  let v2277_r0 : BitVec 32 := Scalar.select v2276_r0 c1_i32_1627_r0 c4_i32_1625_r0
  let v2278_r0 : BitVec 32 := Scalar.remsi v2275_r0 v2277_r0
  let c0_i32_1629_r0 : BitVec 32 := 0#32
  let v2280_r0 : BitVec 1 := Scalar.cmpi .slt v2278_r0 c0_i32_1629_r0
  let c0_i32_1630_r0 : BitVec 32 := 0#32
  let v2281_r0 : BitVec 1 := Scalar.cmpi .slt v2277_r0 c0_i32_1630_r0
  let v2282_r0 : BitVec 1 := Scalar.xori v2280_r0 v2281_r0
  let c0_i32_1628_r0 : BitVec 32 := 0#32
  let v2279_r0 : BitVec 1 := Scalar.cmpi .ne v2278_r0 c0_i32_1628_r0
  let v2283_r0 : BitVec 1 := Scalar.andi v2282_r0 v2279_r0
  let v2284_r0 : BitVec 32 := Scalar.addi v2278_r0 v2277_r0
  let v2285_r0 : BitVec 32 := Scalar.select v2283_r0 v2284_r0 v2278_r0
  let c1_i32_1632_r0 : BitVec 32 := 1#32
  let v2286_r0 : BitVec 32 := Scalar.muli v2285_r0 c1_i32_1632_r0
  let v2287_r0 : BitVec 32 := Scalar.addi c0_i32_1633_r0 v2286_r0
  v2287_r0.toNat
def k0_dev17 (d0 : Dev nD) : Nat :=
  let c0_i32_1643_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1634_r0 : BitVec 32 := 2#32
  let v2288_r0 : BitVec 32 := Scalar.addi v2 c2_i32_1634_r0
  let c4_i32_1635_r0 : BitVec 32 := 4#32
  let c0_i32_1636_r0 : BitVec 32 := 0#32
  let v2289_r0 : BitVec 1 := Scalar.cmpi .eq c4_i32_1635_r0 c0_i32_1636_r0
  let c1_i32_1637_r0 : BitVec 32 := 1#32
  let v2290_r0 : BitVec 32 := Scalar.select v2289_r0 c1_i32_1637_r0 c4_i32_1635_r0
  let v2291_r0 : BitVec 32 := Scalar.remsi v2288_r0 v2290_r0
  let c0_i32_1639_r0 : BitVec 32 := 0#32
  let v2293_r0 : BitVec 1 := Scalar.cmpi .slt v2291_r0 c0_i32_1639_r0
  let c0_i32_1640_r0 : BitVec 32 := 0#32
  let v2294_r0 : BitVec 1 := Scalar.cmpi .slt v2290_r0 c0_i32_1640_r0
  let v2295_r0 : BitVec 1 := Scalar.xori v2293_r0 v2294_r0
  let c0_i32_1638_r0 : BitVec 32 := 0#32
  let v2292_r0 : BitVec 1 := Scalar.cmpi .ne v2291_r0 c0_i32_1638_r0
  let v2296_r0 : BitVec 1 := Scalar.andi v2295_r0 v2292_r0
  let v2297_r0 : BitVec 32 := Scalar.addi v2291_r0 v2290_r0
  let v2298_r0 : BitVec 32 := Scalar.select v2296_r0 v2297_r0 v2291_r0
  let c1_i32_1642_r0 : BitVec 32 := 1#32
  let v2299_r0 : BitVec 32 := Scalar.muli v2298_r0 c1_i32_1642_r0
  let v2300_r0 : BitVec 32 := Scalar.addi c0_i32_1643_r0 v2299_r0
  v2300_r0.toNat
def k0_dev18 (d0 : Dev nD) : Nat :=
  let c0_i32_1653_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1644_r0 : BitVec 32 := 3#32
  let v2301_r0 : BitVec 32 := Scalar.addi v2 c3_i32_1644_r0
  let c4_i32_1645_r0 : BitVec 32 := 4#32
  let c0_i32_1646_r0 : BitVec 32 := 0#32
  let v2302_r0 : BitVec 1 := Scalar.cmpi .eq c4_i32_1645_r0 c0_i32_1646_r0
  let c1_i32_1647_r0 : BitVec 32 := 1#32
  let v2303_r0 : BitVec 32 := Scalar.select v2302_r0 c1_i32_1647_r0 c4_i32_1645_r0
  let v2304_r0 : BitVec 32 := Scalar.remsi v2301_r0 v2303_r0
  let c0_i32_1649_r0 : BitVec 32 := 0#32
  let v2306_r0 : BitVec 1 := Scalar.cmpi .slt v2304_r0 c0_i32_1649_r0
  let c0_i32_1650_r0 : BitVec 32 := 0#32
  let v2307_r0 : BitVec 1 := Scalar.cmpi .slt v2303_r0 c0_i32_1650_r0
  let v2308_r0 : BitVec 1 := Scalar.xori v2306_r0 v2307_r0
  let c0_i32_1648_r0 : BitVec 32 := 0#32
  let v2305_r0 : BitVec 1 := Scalar.cmpi .ne v2304_r0 c0_i32_1648_r0
  let v2309_r0 : BitVec 1 := Scalar.andi v2308_r0 v2305_r0
  let v2310_r0 : BitVec 32 := Scalar.addi v2304_r0 v2303_r0
  let v2311_r0 : BitVec 32 := Scalar.select v2309_r0 v2310_r0 v2304_r0
  let c1_i32_1652_r0 : BitVec 32 := 1#32
  let v2312_r0 : BitVec 32 := Scalar.muli v2311_r0 c1_i32_1652_r0
  let v2313_r0 : BitVec 32 := Scalar.addi c0_i32_1653_r0 v2312_r0
  v2313_r0.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x1024x1024, .f32⟩
  | .hbm, ⟨6, _⟩ => ⟨S1x1024x8x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S1024x4096, .i32⟩
  | .hbm, ⟨48, _⟩ => ⟨S1024x4096, .i32⟩
  | .hbm, ⟨49, _⟩ => ⟨S1024x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S1024x4096, .i1⟩
  | .hbm, ⟨54, _⟩ => ⟨S1024x4096, .i1⟩
  | .hbm, ⟨55, _⟩ => ⟨S1024x4096, .i32⟩
  | .hbm, ⟨56, _⟩ => ⟨S1024x4096, .i32⟩
  | .hbm, ⟨57, _⟩ => ⟨S1024x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x4096, .i32⟩
  | .hbm, ⟨65, _⟩ => ⟨S1024x4096, .i32⟩
  | .hbm, ⟨66, _⟩ => ⟨S_, .i32⟩
  | .hbm, ⟨67, _⟩ => ⟨S1024x4096, .i32⟩
  | .hbm, ⟨68, _⟩ => ⟨S1024x4096, .i1⟩
  | .hbm, ⟨69, _⟩ => ⟨S_, .i32⟩
  | .hbm, ⟨70, _⟩ => ⟨S1024x4096, .i32⟩
  | .hbm, ⟨71, _⟩ => ⟨S1024x4096, .i1⟩
  | .hbm, ⟨72, _⟩ => ⟨S_, .i32⟩
  | .hbm, ⟨73, _⟩ => ⟨S_, .i1⟩
  | .hbm, ⟨74, _⟩ => ⟨S1024x4096, .i1⟩
  | .hbm, ⟨75, _⟩ => ⟨S1024x4096, .i1⟩
  | .hbm, ⟨76, _⟩ => ⟨S1024x4096, .i1⟩
  | .hbm, ⟨77, _⟩ => ⟨S1024x4096, .i32⟩
  | .hbm, ⟨78, _⟩ => ⟨S1024x4096, .i32⟩
  | .hbm, ⟨79, _⟩ => ⟨S1024x4096, .i32⟩
  | .hbm, ⟨80, _⟩ => ⟨S_, .i32⟩
  | .hbm, ⟨81, _⟩ => ⟨S1024x4096, .i32⟩
  | .hbm, ⟨82, _⟩ => ⟨S1024x4096, .i1⟩
  | .hbm, ⟨83, _⟩ => ⟨S1024x4096, .i1⟩
  | .hbm, ⟨84, _⟩ => ⟨S1x8x1024x4096, .f32⟩
  | .hbm, ⟨85, _⟩ => ⟨S_, .f32⟩
  | .hbm, ⟨86, _⟩ => ⟨S1x8x1024x4096, .f32⟩
  | .hbm, ⟨87, _⟩ => ⟨S1x8x1024x4096, .f32⟩
  | .hbm, ⟨88, _⟩ => ⟨S1x1x1024x4096, .i1⟩
  | .hbm, ⟨89, _⟩ => ⟨S_, .f32⟩
  | .hbm, ⟨90, _⟩ => ⟨S_, .f32⟩
  | .hbm, ⟨91, _⟩ => ⟨S1x8x1024x4096, .i1⟩
  | .hbm, ⟨92, _⟩ => ⟨S1x8x1024x4096, .f32⟩
  | .hbm, ⟨93, _⟩ => ⟨S1x8x1024x4096, .f32⟩
  | .hbm, ⟨94, _⟩ => ⟨S_, .f32⟩
  | .hbm, ⟨95, _⟩ => ⟨S1x8x1024, .f32⟩
  | .hbm, ⟨96, _⟩ => ⟨S1x8x1024x1, .f32⟩
  | .hbm, ⟨97, _⟩ => ⟨S1x8x1024x4096, .f32⟩
  | .hbm, ⟨98, _⟩ => ⟨S1x8x1024x4096, .f32⟩
  | .hbm, ⟨99, _⟩ => ⟨S1x8x1024x4096, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x8x1024, .f32⟩
  | .hbm, ⟨105, _⟩ => ⟨S1x8x1024x1, .f32⟩
  | .hbm, ⟨106, _⟩ => ⟨S_, .f32⟩
  | .hbm, ⟨107, _⟩ => ⟨S_, .f32⟩
  | .hbm, ⟨108, _⟩ => ⟨S1x8x1024x1, .i1⟩
  | .hbm, ⟨109, _⟩ => ⟨S1x8x1024x1, .f32⟩
  | .hbm, ⟨110, _⟩ => ⟨S1x8x1024x1, .f32⟩
  | .hbm, ⟨111, _⟩ => ⟨S1x8x1024x4096, .f32⟩
  | .hbm, ⟨112, _⟩ => ⟨S1x8x1024x4096, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x8x1024x4096, .i1⟩
  | .hbm, ⟨117, _⟩ => ⟨S1x8x1024x4096, .f32⟩
  | .hbm, ⟨118, _⟩ => ⟨S1x8x1024x4096, .f32⟩
  | .hbm, ⟨119, _⟩ => ⟨S1x8x128x1024, .f32⟩
  | .hbm, ⟨120, _⟩ => ⟨S1x1024x8x128, .f32⟩
  | .hbm, ⟨121, _⟩ => ⟨S1x1024x1024, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Base.lean ====
/-
  The setting of the launch: the resource algebra (the pipeline's own cells and the exchange's), and the memrefs the
  kernel's body is run on.
-/
module

public import proofs.«01_k».proof.Proof.Gen.KernelIdeal.Frame
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The duties' names of a cell: up to three payers. -/
abbrev Dy : Type := Fin 3
abbrev UB : Type := URounds (GSem nD τ sig) Dy
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The kernel's programs. -/
abbrev PR (F : FTy → Type) (α : Type) : Type 1 := Prog (TpuEff nD τ sig (Elt F) Λ₀ .tc) α

/-! ## The memrefs of the body -/

abbrev A0 : Memref sig .tc .vmem S1x1024x1024 .f32 := Memref.whole cc0_stg0_0
abbrev A1 : Memref sig .tc .vmem S1024x1024 .f32 := Memref.whole cc0_stg1_0
abbrev A2 : Memref sig .tc .vmem S1x1024x8x128 .f32 := Memref.whole cc0_stg2_0
abbrev A3 : Memref sig .tc .vmem S1x1024x8x128 .f32 := Memref.whole cc0_stg3_0
abbrev A4 : Memref sig .tc .vmem S1024x1024 .f32 := Memref.whole cc0_stg4_0
abbrev A5 : Memref sig .tc .vmem S1x1024x1024 .f32 := Memref.whole cc0_stg5_0
abbrev A6 : Memref sig .tc .vmem S1024x1024 .bf16 := Memref.whole cc0_scratch0
abbrev A7 : Memref sig .tc .vmem S8x128x1024 .bf16 := Memref.whole cc0_scratch1
abbrev A8 : Memref sig .tc .vmem S8x128x1152 .bf16 := Memref.whole cc0_scratch2
abbrev A9 : Memref sig .tc .vmem S1152x8x128 .bf16 := Memref.whole cc0_scratch3
abbrev A10 : Memref sig .tc .vmem S1024x1024 .bf16 := Memref.whole cc0_scratch4
abbrev A11 : Memref sig .tc .vmem S1024x1024 .bf16 := Memref.whole cc0_scratch5
abbrev A12 : Memref sig .tc .vmem S1024x64 .f32 := Memref.whole cc0_scratch6
abbrev A13 : Memref sig .tc .vmem S4x256x1024 .bf16 := Memref.whole cc0_scratch7
abbrev A14 : Memref sig .tc .vmem S4x256x64 .f32 := Memref.whole cc0_scratch8
abbrev A15 : Memref sig .tc .vmem S3x256x1024 .bf16 := Memref.whole cc0_scratch9
abbrev A16 : Memref sig .tc .vmem S3x256x64 .f32 := Memref.whole cc0_scratch10
abbrev A17 : Memref sig .tc .vmem S1024x1024 .bf16 := Memref.whole cc0_scratch11

theorem hw {b : Ref sig .tc} : (Memref.whole b).IsWhole := Memref.isWhole_whole b

/-- A whole memref's buffer on core `c`: its contents, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

theorem bodyAt0_eq (t : Fin cfg0.N) : bodyAt0 (F := F) t =
    cc0_body A0 hw A1 hw A2 hw A3 hw A4 hw A5 hw A6 hw A7 hw A8 hw A9 hw A10 hw A11 hw A12 hw A13 hw A14 hw A15 hw A16 hw A17 hw
      cc0_scratch12 cc0_scratch13 cc0_scratch14 cc0_scratch15 cc0_scratch16 cc0_scratch17 cc0_scoped0 := rfl

end Cert.KP

end
-- ==== Proof.Progs.lean ====
/-
  The body's local stages as programs over what follows them: `progA` builds the permuted queries, keys, values and the
  output weight; `progB` the three groups' contexts and weight sums.
-/
module

public import proofs.«01_k».proof.Proof.Base

@[expose] public section

noncomputable section

namespace Cert.KP

open Cert.KernelIdeal Cert.KernelIdeal.Gen
open Idealize.ShloMosaic Idealize.ShloMosaic.TcCoe
open Idealize.SL Idealize.SL.Sem

variable {F : FTy → Type} [FloatOps F] [Named F] {α : Type}

/-- What is left of the first part after the entry barrier. -/
def tail31 : PR F (FVec F S128x1024 .bf16) := do
  let v43 : Vec F S1x1024x1x128 .f32 ← Prog.lift (.load A2 (Rect.unit (s := S1x1024x8x128) ![0, 0, 0, 0] S1x1024x1x128.size inb_S1x1024x8x128_S1x1024x1x128_0_0_0_0).toLoadRect (View.loadsAt_vmem h_S1x1024x1x128))
  let v47 : Vec F S1x128x1024 .bf16 ← Prog.lift (.load A7 (Rect.unit (s := S8x128x1024) ![0, 0, 0] S1x128x1024.size inb_S8x128x1024_S1x128x1024_0_0_0).toLoadRect (View.loadsAt_vmem h_S1x128x1024))
  Prog.lift (.store A7 (Rect.unit (s := S8x128x1024) ![0, 0, 0] S1x128x1024.size inb_S8x128x1024_S1x128x1024_0_0_0) (k0_pay122 v43) Finset.univ (View.stores_vmem h_S1x128x1024 ((hw (b := cc0_scratch1)).storeExact_slice rfl _ packedbf16_S8x128x1024_S1x128x1024_0_0_0) (fun _ => rfl)) (.inl rfl))
  let v50 : Vec F S1x1024x1x128 .f32 ← Prog.lift (.load A2 (Rect.unit (s := S1x1024x8x128) ![0, 0, 1, 0] S1x1024x1x128.size inb_S1x1024x8x128_S1x1024x1x128_0_0_1_0).toLoadRect (View.loadsAt_vmem h_S1x1024x1x128))
  let v54 : Vec F S1x128x1024 .bf16 ← Prog.lift (.load A7 (Rect.unit (s := S8x128x1024) ![1, 0, 0] S1x128x1024.size inb_S8x128x1024_S1x128x1024_1_0_0).toLoadRect (View.loadsAt_vmem h_S1x128x1024))
  Prog.lift (.store A7 (Rect.unit (s := S8x128x1024) ![1, 0, 0] S1x128x1024.size inb_S8x128x1024_S1x128x1024_1_0_0) (k0_pay123 v50) Finset.univ (View.stores_vmem h_S1x128x1024 ((hw (b := cc0_scratch1)).storeExact_slice rfl _ packedbf16_S8x128x1024_S1x128x1024_1_0_0) (fun _ => rfl)) (.inl rfl))
  let v57 : Vec F S1x1024x1x128 .f32 ← Prog.lift (.load A2 (Rect.unit (s := S1x1024x8x128) ![0, 0, 2, 0] S1x1024x1x128.size inb_S1x1024x8x128_S1x1024x1x128_0_0_2_0).toLoadRect (View.loadsAt_vmem h_S1x1024x1x128))
  pure (k0_pay124 v57)

/-- What builds the permuted queries, keys and values, then `k`. -/
def progA (v60 : FVec F S128x1024 .bf16) (k : FVec F S384x8 .bf16 → PR F α) : PR F α := do
  let v88 : FVec F S128x1024 .bf16 ← k0_part32 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v60
  k0_part33 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v88
  let v135 : FVec F S64x8x128 .bf16 ← k0_part34 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0
  let ⟨v159, v160⟩ : Σ' (v159 : Vec F S8x128x64 .bf16), Vec F S8x128x64 .bf16 ← k0_part35 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v135
  let v185 : FVec F S64x8x128 .bf16 ← k0_part36 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v159 v160
  k0_part37 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v185
  k0_part38 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0
  let v255 : FVec F S64x8x128 .bf16 ← k0_part39 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0
  let ⟨v283, v286⟩ : Σ' (v283 : FVec F S1024x1024 .bf16), FVec F S1024x1024 .bf16 ← k0_part40 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v255
  let ⟨v290, v319⟩ : Σ' (v290 : FVec F S1024x1024 .bf16), FVec F S64x1024 .bf16 ← k0_part41 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v283 v286
  let v355 : FVec F S384x8 .bf16 ← k0_part42 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v290 v319
  k v355

/-- What computes the contexts and the weight sums of the three groups, then `k`. -/
def progB (d0 : Dev nD) (v2 : BitVec 32) (v355 : FVec F S384x8 .bf16) (k : BitVec 32 → BitVec 32 → BitVec 32 → BitVec 32 → BitVec 1 → PR F α) : PR F α := do
  let ⟨v367, v398⟩ : Σ' (v367 : BitVec 32), IVec S1x384 1 ← k0_part43 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v2
  let ⟨v402, v432, v433⟩ : Σ' (v402 : FVec F S1x384 .bf16) (v432 : FVec F S384x384 .bf16), FVec F S384x384 .bf16 ← k0_part44 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v367 v398
  let v468 : FVec F S384x128 .bf16 ← k0_part45 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v367 v402 v432 v433
  let ⟨v501, v502⟩ : Σ' (v501 : FVec F S384x384 .bf16), FVec F S384x384 .bf16 ← k0_part46 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v367 v402 v468
  let v537 : FVec F S384x128 .bf16 ← k0_part47 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v367 v402 v501 v502
  let ⟨v570, v571⟩ : Σ' (v570 : FVec F S384x384 .bf16), FVec F S384x384 .bf16 ← k0_part48 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v367 v402 v537
  let ⟨v598, v599, c64_i32_463, v601, v608, c0_i32_466⟩ : Σ' (v598 : BitVec 32) (v599 : IVec S1x384 32) (c64_i32_463 : BitVec 32) (v601 : IVec S1x384 32) (v608 : IVec S1x384 32), BitVec 32 ← k0_part49 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v355 v367 v570 v571
  let ⟨v633, v643⟩ : Σ' (v633 : FVec F S1x384 .bf16), FVec F S320x384 .bf16 ← k0_part50 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v598 v599 c64_i32_463 v601 v608 c0_i32_466
  let v680 : Vec F S320x128 .bf16 ← k0_part51 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v598 v633 v643
  let v712 : FVec F S320x384 .bf16 ← k0_part52 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v598 v633 v680
  let v749 : Vec F S320x128 .bf16 ← k0_part53 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v598 v633 v712
  let v781 : FVec F S320x384 .bf16 ← k0_part54 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v598 v633 v749
  let ⟨v819, c3_i32_596, v820, c1_i32_598⟩ : Σ' (v819 : BitVec 32) (c3_i32_596 : BitVec 32) (v820 : BitVec 1), BitVec 32 ← k0_part55 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v355 v598 v633 v781
  let ⟨v829, v864⟩ : Σ' (v829 : BitVec 32), FVec F S1x384 .bf16 ← k0_part56 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v819 c3_i32_596 v820 c1_i32_598
  let ⟨v897, v898⟩ : Σ' (v897 : FVec F S320x384 .bf16), FVec F S320x8 .f32 ← k0_part57 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v829 v864
  k0_part58 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v829 v864 v897 v898
  let ⟨v966, v967⟩ : Σ' (v966 : FVec F S320x384 .bf16), FVec F S320x8 .f32 ← k0_part59 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v829 v864
  k0_part60 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v829 v864 v966 v967
  let ⟨v1035, v1036⟩ : Σ' (v1035 : FVec F S320x384 .bf16), FVec F S320x8 .f32 ← k0_part61 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v355 v829 v864
  let ⟨v1062, v1064, v1066, v1067, v1072⟩ : Σ' (v1062 : BitVec 32) (v1064 : BitVec 32) (v1066 : BitVec 32) (v1067 : BitVec 32), BitVec 1 ← k0_part62 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v355 v829 v1035 v1036
  k v1062 v1064 v1066 v1067 v1072

end Cert.KP

end
-- ==== Proof.Norm.lean ====
/-
  The stages after the contexts are computed, as the kernel's own parts chain them (`rawC1`, `rawC2`) and as one
  list of effects, uniform in the block, the offset and the slot (`copyBlk`, `sendCtx`, …); the two are equal by computation.
-/
module

public import proofs.«01_k».proof.Proof.Progs

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

def rawC1 (d0 : Dev nD) (v1062 v1064 v1066 v1067 : BitVec 32) (v1072 : BitVec 1) (v2 : BitVec 32) (k : FVec F S256x1024 .f32 → PR F α) : PR F α := do
  let v1108 : BitVec 32 ← k0_part63 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1062 v1064 v1066 v1067 v1072
  let ⟨v1142, v1144⟩ : Σ' (v1142 : BitVec 32), Vec F S64x1024 .bf16 ← k0_part64 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1108
  let ⟨v1154, v1168, c3_i32_812, v1169, v1180⟩ : Σ' (v1154 : BitVec 32) (v1168 : BitVec 32) (c3_i32_812 : BitVec 32) (v1169 : BitVec 32), BitVec 1 ← k0_part65 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1062 v1142 v1144
  let ⟨v1199, v1213, c3_i32_841⟩ : Σ' (v1199 : BitVec 32) (v1213 : BitVec 32), BitVec 32 ← k0_part66 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1062 v1154 v1168 c3_i32_812 v1169 v1180
  k0_part67 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1062 v1199 v1213 c3_i32_841
  let ⟨v1273, v1275, v1277, v1278, v1279, v1280⟩ : Σ' (v1273 : BitVec 32) (v1275 : BitVec 32) (v1277 : BitVec 32) (v1278 : BitVec 32) (v1279 : BitVec 1), BitVec 1 ← k0_part68 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v1062
  let v1315 : Vec F S64x64 .f32 ← k0_part69 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1275 v1277 v1278 v1279 v1280
  let v1353 : BitVec 32 ← k0_part70 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v1273 v1315
  let ⟨v1365, v1379, c3_i32_955, v1380, v1385, v1387, c0_i32_959⟩ : Σ' (v1365 : BitVec 32) (v1379 : BitVec 32) (c3_i32_955 : BitVec 32) (v1380 : BitVec 32) (v1385 : BitVec 32) (v1387 : BitVec 32), BitVec 32 ← k0_part71 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1273 v1353
  let ⟨v1410, v1421, v1422, c384_i32_981, c704_i32_982⟩ : Σ' (v1410 : BitVec 32) (v1421 : BitVec 1) (v1422 : BitVec 1) (c384_i32_981 : BitVec 32), BitVec 32 ← k0_part72 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1273 v1365 v1379 c3_i32_955 v1380 v1385 v1387 c0_i32_959
  k0_part73 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1273 v1410 v1421 v1422 c384_i32_981 c704_i32_982
  let ⟨v1484, v1486, v1488, v1489⟩ : Σ' (v1484 : BitVec 32) (v1486 : BitVec 32) (v1488 : BitVec 32), BitVec 32 ← k0_part74 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v1273
  let v1526 : Vec F S64x64 .f32 ← k0_part75 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1486 v1488 v1489
  let ⟨v1545, v1562, c64_i32_1076⟩ : Σ' (v1545 : BitVec 32) (v1562 : BitVec 32), BitVec 32 ← k0_part76 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v1484 v1526
  let ⟨v1576, v1590, c3_i32_1098, v1591, v1596⟩ : Σ' (v1576 : BitVec 32) (v1590 : BitVec 32) (c3_i32_1098 : BitVec 32) (v1591 : BitVec 32), BitVec 32 ← k0_part77 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1484 v1545 v1562 c64_i32_1076
  let ⟨v1621, v1631, v1632⟩ : Σ' (v1621 : BitVec 32) (v1631 : BitVec 32), BitVec 1 ← k0_part78 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1484 v1576 v1590 c3_i32_1098 v1591 v1596
  let v1665 : BitVec 32 ← k0_part79 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1484 v1621 v1631 v1632
  let ⟨v1695, v1697, c3_i32_1172, c0_i32_1173⟩ : Σ' (v1695 : BitVec 32) (v1697 : BitVec 32) (c3_i32_1172 : BitVec 32), BitVec 32 ← k0_part80 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v1484 v1665
  let v1730 : BitVec 32 ← k0_part81 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1697 c3_i32_1172 c0_i32_1173
  let ⟨v1756, v1757, v1771⟩ : Σ' (v1756 : BitVec 32) (v1757 : BitVec 32), BitVec 1 ← k0_part82 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1695 v1730
  let ⟨v1787, v1801, c3_i32_1241, v1802, v1804⟩ : Σ' (v1787 : BitVec 32) (v1801 : BitVec 32) (c3_i32_1241 : BitVec 32) (v1802 : BitVec 32), BitVec 32 ← k0_part83 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1695 v1756 v1757 v1771
  let ⟨v1832, v1834, v1835, v1840⟩ : Σ' (v1832 : BitVec 32) (v1834 : BitVec 32) (v1835 : BitVec 32), BitVec 1 ← k0_part84 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1695 v1787 v1801 c3_i32_1241 v1802 v1804
  k0_part85 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v1832 v1834 v1835 v1840
  let c1_i32_1320 : BitVec 32 ← k0_part86 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v1062 v1273
  let v1926 : FVec F S256x1024 .f32 ← k0_part87 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v1273 v1484 c1_i32_1320
  let ⟨v1938, v1949, v1953, v1957, v1961, v1965, v1966, v1967⟩ : Σ' (v1938 : FVec F S256x1024 .f32) (v1949 : FVec F S256x64 .f32) (v1953 : FVec F S256x128 .f32) (v1957 : FVec F S256x128 .f32) (v1961 : FVec F S256x128 .f32) (v1965 : FVec F S256x128 .f32) (v1966 : FVec F S256x1 .f32), FVec F S256x128 .f32 ← k0_part88 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 v1926
  let v1982 : FVec F S256x1024 .f32 ← k0_part89 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v1938 v1949 v1953 v1957 v1961 v1965 v1966 v1967
  k v1982

def rawC2 (d0 : Dev nD) (v2 : BitVec 32) (v1982 : FVec F S256x1024 .f32) : PR F PUnit := do
  let ⟨v2042, c1_i32_1410⟩ : Σ' (v2042 : BitVec 32), BitVec 32 ← k0_part90 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2
  k0_part91 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v1982 v2042 c1_i32_1410
  k0_part92 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2
  k0_part93 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2
  k0_part94 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2
  k0_part95 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2
  k0_part96 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0
  k0_part97 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0
  let ⟨v2277_r0, v2278_r0, v2279_r0⟩ : Σ' (v2277_r0 : BitVec 32) (v2278_r0 : BitVec 32), BitVec 1 ← k0_part98 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2
  let ⟨v2312_r0, c0_i32_1653_r0⟩ : Σ' (v2312_r0 : BitVec 32), BitVec 32 ← k0_part99 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v2 v2277_r0 v2278_r0 v2279_r0
  semSignalWord (⟨k0_dev18 d0, k0_dev18_lt d0⟩ : Dev nD) cc0_scoped0.sem 1#32
  semWaitWord cc0_scoped0.sem 3#32
  pure ⟨⟩

/-! ## Windows and semaphores -/

theorem inbB13 : ∀ (o i : Fin 4) a, (![o.val, 64 * i.val, 0] : Fin 3 → Nat) a + S1x64x1024.size a ≤ S4x256x1024.size a := by decide
theorem inbB14 : ∀ (o i : Fin 4) a, (![o.val, 64 * i.val, 0] : Fin 3 → Nat) a + S1x64x64.size a ≤ S4x256x64.size a := by decide
theorem pkB13 : ∀ (o i : Fin 4), (Rect.unit (s := S4x256x1024) ![o.val, 64 * i.val, 0] S1x64x1024.size (inbB13 o i)).PackedRows (EltTy.packing .bf16) := by
  decide +kernel
theorem inbW13 : ∀ (o : Fin 4) a, (![o.val, 0, 0] : Fin 3 → Nat) a + S1x256x1024.size a ≤ S4x256x1024.size a := by decide
theorem inbW14 : ∀ (o : Fin 4) a, (![o.val, 0, 0] : Fin 3 → Nat) a + S1x256x64.size a ≤ S4x256x64.size a := by decide
theorem inbW15 : ∀ (o : Fin 3) a, (![o.val, 0, 0] : Fin 3 → Nat) a + S1x256x1024.size a ≤ S3x256x1024.size a := by decide
theorem inbW16 : ∀ (o : Fin 3) a, (![o.val, 0, 0] : Fin 3 → Nat) a + S1x256x64.size a ≤ S3x256x64.size a := by decide
theorem wwW13 : ∀ (o : Fin 4), (Rect.unit (s := S4x256x1024) ![o.val, 0, 0] S1x256x1024.size (inbW13 o)).WholeWords (EltTy.packing .bf16) := by decide +kernel
theorem wwW15 : ∀ (o : Fin 3), (Rect.unit (s := S3x256x1024) ![o.val, 0, 0] S1x256x1024.size (inbW15 o)).WholeWords (EltTy.packing .bf16) := by decide +kernel

/-- The part of the contexts meant for the device `o` after this one. -/
abbrev cpW (o : Fin 4) : Memref sig .tc .vmem S256x1024 .bf16 :=
  (A13.slice (Rect.unit (s := S4x256x1024) ![o.val, 0, 0] S1x256x1024.size (inbW13 o)) (fun _ => rfl)).squeeze S256x1024 squeezes_S1x256x1024_S256x1024
/-- The part of the weight sums meant for the device `o` after this one. -/
abbrev lpW (o : Fin 4) : Memref sig .tc .vmem S256x64 .f32 :=
  (A14.slice (Rect.unit (s := S4x256x64) ![o.val, 0, 0] S1x256x64.size (inbW14 o)) (fun _ => rfl)).squeeze S256x64 squeezes_S1x256x64_S256x64
/-- A landing slot of the contexts. -/
abbrev ccW (s : Fin 3) : Memref sig .tc .vmem S256x1024 .bf16 :=
  (A15.slice (Rect.unit (s := S3x256x1024) ![s.val, 0, 0] S1x256x1024.size (inbW15 s)) (fun _ => rfl)).squeeze S256x1024 squeezes_S1x256x1024_S256x1024
/-- A landing slot of the weight sums. -/
abbrev clW (s : Fin 3) : Memref sig .tc .vmem S256x64 .f32 :=
  (A16.slice (Rect.unit (s := S3x256x64) ![s.val, 0, 0] S1x256x64.size (inbW16 s)) (fun _ => rfl)).squeeze S256x64 squeezes_S1x256x64_S256x64
/-- A device's own half window of the output rows, at the kernel's own offset. -/
abbrev obW (d0 : Dev nD) (h : Fin 2) : Memref sig .tc .vmem S128x1024 .bf16 :=
  A17.slice (Rect.unit (s := S1024x1024) (k0_off20 d0 (BitVec.ofNat 32 (128 * h.val))) S128x1024.size (k0_off20_inb d0 h)) (fun _ => rfl)
/-- The half window the device `j + 1` after this one sends. -/
abbrev orW (d0 : Dev nD) (j : Fin 3) (h : Fin 2) : Memref sig .tc .vmem S128x1024 .bf16 :=
  A17.slice (Rect.unit (s := S1024x1024) (k0_off21 d0 (BitVec.ofNat 32 j.val) (BitVec.ofNat 32 (128 * h.val))) S128x1024.size (k0_off21_inb d0 j h)) (fun _ => rfl)
abbrev osW (d0 : Dev nD) : Memref sig .tc .vmem S128x1024 .bf16 :=
  A17.slice (Rect.unit (s := S1024x1024) (k0_off22 d0) S128x1024.size (k0_off22_inb d0)) (fun _ => rfl)

/-- The copies' semaphores, by number. -/
abbrev qS (n : Nat) (h : n < 24) : DmaSem sig := ⟨6 + n, Nat.lt_of_lt_of_le (Nat.add_lt_add_left h 6) (by decide)⟩
abbrev qCS (o : Fin 3) : DmaSem sig := qS o.val (by omega)
abbrev qCR (s : Fin 3) : DmaSem sig := qS (3 + s.val) (by omega)
abbrev qLS (o : Fin 3) : DmaSem sig := qS (6 + o.val) (by omega)
abbrev qLR (s : Fin 3) : DmaSem sig := qS (9 + s.val) (by omega)
abbrev qOS (j : Fin 3) (h : Fin 2) : DmaSem sig := qS (12 + (2 * j.val + h.val)) (by omega)
abbrev qOR (j : Fin 3) (h : Fin 2) : DmaSem sig := qS (18 + (2 * j.val + h.val)) (by omega)
/-- The barrier's semaphore and the closing handshake's. -/
abbrev qBar : Sem sig := (SemArray.scalar (sig.barrier 0 rfl) : Sems sig S_).sem
abbrev qEx : Sem sig := cc0_scoped0.sem

/-! ## The effects -/

/-- One block of 64 rows of both results copied to the part for the device `o` after this one. -/
def copyBlk (d0 : Dev nD) (o i : Fin 4) (k : PR F α) : PR F α :=
  .op (.load A11 (Rect.unit (s := S1024x1024) (k0_off17 d0 (BitVec.ofNat 32 o.val) (BitVec.ofNat 32 i.val)) S64x1024.size (k0_off17_inb d0 o i)).toLoadRect
    (View.loadsAt_vmem h_S64x1024)) fun v =>
  .op (.load A13 (Rect.unit (s := S4x256x1024) ![o.val, 64 * i.val, 0] S1x64x1024.size (inbB13 o i)).toLoadRect (View.loadsAt_vmem h_S1x64x1024)) fun _ =>
  .op (.store A13 (Rect.unit (s := S4x256x1024) ![o.val, 64 * i.val, 0] S1x64x1024.size (inbB13 o i)) (k0_pay284 v) Finset.univ
    (View.stores_vmem h_S1x64x1024 ((hw (b := cc0_scratch7)).storeExact_slice rfl _ (pkB13 o i)) (fun _ => rfl)) (.inl rfl)) fun _ =>
  .op (.load A12 (Rect.unit (s := S1024x64) (k0_off18 d0 (BitVec.ofNat 32 o.val) (BitVec.ofNat 32 i.val)) S64x64.size (k0_off18_inb d0 o i)).toLoadRect
    (View.loadsAt_vmem h_S64x64)) fun v =>
  .op (.load A14 (Rect.unit (s := S4x256x64) ![o.val, 64 * i.val, 0] S1x64x64.size (inbB14 o i)).toLoadRect (View.loadsAt_vmem h_S1x64x64)) fun _ =>
  .op (.store A14 (Rect.unit (s := S4x256x64) ![o.val, 64 * i.val, 0] S1x64x64.size (inbB14 o i)) (k0_pay285 v) Finset.univ
    (View.stores_vmem_bits_univ h_S1x64x64 rfl) (.inl rfl)) fun _ => k

def copyPart (d0 : Dev nD) (o : Fin 4) (k : PR F α) : PR F α :=
  copyBlk d0 o 0 (copyBlk d0 o 1 (copyBlk d0 o 2 (copyBlk d0 o 3 k)))

/-- Both parts for the device `o` after this one, sent to it into its slot `s`. -/
def sendPart (n n' : Dev nD) (o : Fin 4) (o' : Fin 3) (s : Fin 3) (k : PR F α) : PR F α :=
  .op (.enqueueDma (cpW o) (.remote (Dev.tc n) (ccW s) (.dma (qCS o'))) (.dma (qCR s))
    (((hw (b := cc0_scratch7)).wordExact_slice rfl _ (wwW13 o)).reshape _ _) (((hw (b := cc0_scratch9)).wordExact_slice rfl _ (wwW15 s)).reshape _ _)
    ⟨⟨rfl, Or.inl rfl⟩, trivial⟩) fun _ =>
  .op (.enqueueDma (lpW o) (.remote (Dev.tc n') (clW s) (.dma (qLS o'))) (.dma (qLR s))
    ((View.wordExact_bits rfl).reshape _ _) ((View.wordExact_bits rfl).reshape _ _)
    ⟨⟨rfl, Or.inl rfl⟩, trivial⟩) fun _ => k

/-- Both waits for what lands in the slot `s`. -/
def recvPart (o : Fin 4) (s : Fin 3) (k : PR F α) : PR F α :=
  .op (.waitDma2 (qCR s) (cpW o) (ccW s) (((hw (b := cc0_scratch7)).wordExact_slice rfl _ (wwW13 o)).reshape _ _)
    (((hw (b := cc0_scratch9)).wordExact_slice rfl _ (wwW15 s)).reshape _ _)) fun _ =>
  .op (.waitDma2 (qLR s) (lpW o) (clW s) ((View.wordExact_bits rfl).reshape _ _) ((View.wordExact_bits rfl).reshape _ _)) fun _ => k

/-- Both waits for the departure of the parts for the device `o` after this one. -/
def sentPart (o : Fin 4) (o' : Fin 3) (s : Fin 3) (k : PR F α) : PR F α :=
  .op (.waitDma2 (qCS o') (ccW s) (cpW o) (((hw (b := cc0_scratch9)).wordExact_slice rfl _ (wwW15 s)).reshape _ _)
    (((hw (b := cc0_scratch7)).wordExact_slice rfl _ (wwW13 o)).reshape _ _)) fun _ =>
  .op (.waitDma2 (qLS o') (clW s) (lpW o) ((View.wordExact_bits rfl).reshape _ _) ((View.wordExact_bits rfl).reshape _ _)) fun _ => k

abbrev ld13 (F : FTy → Type) [FloatOps F] (o : Fin 4) (k : Vec F S1x256x1024 .bf16 → PR F α) : PR F α :=
  .op (.load A13 (Rect.unit (s := S4x256x1024) ![o.val, 0, 0] S1x256x1024.size (inbW13 o)).toLoadRect (View.loadsAt_vmem h_S1x256x1024)) k
abbrev ld14 (F : FTy → Type) [FloatOps F] (o : Fin 4) (k : Vec F S1x256x64 .f32 → PR F α) : PR F α :=
  .op (.load A14 (Rect.unit (s := S4x256x64) ![o.val, 0, 0] S1x256x64.size (inbW14 o)).toLoadRect (View.loadsAt_vmem h_S1x256x64)) k
abbrev ld15 (F : FTy → Type) [FloatOps F] (o : Fin 3) (k : Vec F S1x256x1024 .bf16 → PR F α) : PR F α :=
  .op (.load A15 (Rect.unit (s := S3x256x1024) ![o.val, 0, 0] S1x256x1024.size (inbW15 o)).toLoadRect (View.loadsAt_vmem h_S1x256x1024)) k
abbrev ld16 (F : FTy → Type) [FloatOps F] (o : Fin 3) (k : Vec F S1x256x64 .f32 → PR F α) : PR F α :=
  .op (.load A16 (Rect.unit (s := S3x256x64) ![o.val, 0, 0] S1x256x64.size (inbW16 o)).toLoadRect (View.loadsAt_vmem h_S1x256x64)) k

/-- The normalised contexts of this device's rows, from the four contexts and the four weight sums. -/
def attnOf (x0 x1 x2 x3 : Vec F S1x256x1024 .bf16) (y0 y1 y2 y3 : Vec F S1x256x64 .f32) : FVec F S256x1024 .f32 :=
  k0_pay325 (k0_pay317 (k0_pay316 x0) x1 x2 x3) (k0_pay318 y0 y1 y2 y3) (k0_pay319 (k0_pay316 x0) x1 x2 x3 y0 y1 y2 y3)
    (k0_pay320 (k0_pay316 x0) x1 x2 x3 y0 y1 y2 y3) (k0_pay321 (k0_pay316 x0) x1 x2 x3 y0 y1 y2 y3)
    (k0_pay322 (k0_pay316 x0) x1 x2 x3 y0 y1 y2 y3) (k0_pay323 y0 y1 y2 y3) (k0_pay324 (k0_pay316 x0) x1 x2 x3)
/-- The first half of this device's rows of the result, from the same and the output weight. -/
def outOf0 (x0 x1 x2 x3 : Vec F S1x256x1024 .bf16) (y0 y1 y2 y3 : Vec F S1x256x64 .f32) (w : Vec F S1024x1024 .bf16) : FVec F S128x1024 .bf16 :=
  k0_pay326 (k0_pay317 (k0_pay316 x0) x1 x2 x3) (k0_pay318 y0 y1 y2 y3) (k0_pay319 (k0_pay316 x0) x1 x2 x3 y0 y1 y2 y3)
    (k0_pay320 (k0_pay316 x0) x1 x2 x3 y0 y1 y2 y3) (k0_pay321 (k0_pay316 x0) x1 x2 x3 y0 y1 y2 y3)
    (k0_pay322 (k0_pay316 x0) x1 x2 x3 y0 y1 y2 y3) (k0_pay323 y0 y1 y2 y3) (k0_pay324 (k0_pay316 x0) x1 x2 x3) w

/-- A half of this device's rows of the result stored. -/
def storeOut (d0 : Dev nD) (h : Fin 2) (v : Vec F S1024x1024 .bf16 → FVec F S128x1024 .bf16) (k : PR F α) : PR F α :=
  .op (.load A10 (Rect.unit (s := S1024x1024) ![0, 0] S1024x1024.size inb_S1024x1024_S1024x1024_0_0).toLoadRect (View.loadsAt_vmem h_S1024x1024)) fun w =>
  .op (.load A17 (Rect.unit (s := S1024x1024) (k0_off19 d0 (BitVec.ofNat 32 (128 * h.val))) S128x1024.size (k0_off19_inb d0 h)).toLoadRect
    (View.loadsAt_vmem h_S128x1024)) fun _ =>
  .op (.store A17 (Rect.unit (s := S1024x1024) (k0_off19 d0 (BitVec.ofNat 32 (128 * h.val))) S128x1024.size (k0_off19_inb d0 h)) (v w) Finset.univ
    (View.stores_vmem h_S128x1024 ((hw (b := cc0_scratch11)).storeExact_slice rfl _ (k0_off19_packedbf16 d0 h)) (fun _ => rfl)) (.inl rfl)) fun _ => k

/-- A half sent to the device `n`. -/
def sendOut (d0 n : Dev nD) (h : Fin 2) (j j' : Fin 3) (k : PR F α) : PR F α :=
  .op (.enqueueDma (obW d0 h) (.remote (Dev.tc n) (obW d0 h) (.dma (qOS j h))) (.dma (qOR j' h))
    ((hw (b := cc0_scratch11)).wordExact_slice rfl _ (k0_off20_wordsbf16 d0 h)) ((hw (b := cc0_scratch11)).wordExact_slice rfl _ (k0_off20_wordsbf16 d0 h))
    ⟨⟨rfl, Or.inl rfl⟩, trivial⟩) fun _ => k

def recvOut (d0 : Dev nD) (j : Fin 3) (h : Fin 2) (k : PR F α) : PR F α :=
  .op (.waitDma2 (qOR j h) (osW d0) (orW d0 j h) ((hw (b := cc0_scratch11)).wordExact_slice rfl _ (k0_off22_wordsbf16 d0))
    ((hw (b := cc0_scratch11)).wordExact_slice rfl _ (k0_off21_wordsbf16 d0 j h))) fun _ => k

def sentOut (d0 : Dev nD) (j : Fin 3) (h : Fin 2) (k : PR F α) : PR F α :=
  .op (.waitDma2 (qOS j h) (obW d0 h) (obW d0 h) ((hw (b := cc0_scratch11)).wordExact_slice rfl _ (k0_off20_wordsbf16 d0 h))
    ((hw (b := cc0_scratch11)).wordExact_slice rfl _ (k0_off20_wordsbf16 d0 h))) fun _ => k

/-- The whole of the result's rows read and stored out. -/
def storeRes (k : PR F α) : PR F α :=
  .op (.load A17 (Rect.unit (s := S1024x1024) ![0, 0] S1024x1024.size inb_S1024x1024_S1024x1024_0_0).toLoadRect (View.loadsAt_vmem h_S1024x1024)) fun v =>
  .op (.load A5 (Rect.unit (s := S1x1024x1024) ![0, 0, 0] S1x1024x1024.size inb_S1x1024x1024_S1x1024x1024_0_0_0).toLoadRect (View.loadsAt_vmem h_S1x1024x1024)) fun _ =>
  .op (.store A5 (Rect.unit (s := S1x1024x1024) ![0, 0, 0] S1x1024x1024.size inb_S1x1024x1024_S1x1024x1024_0_0_0) (k0_pay328 v) Finset.univ
    (View.stores_vmem_bits_univ h_S1x1024x1024 rfl) (.inl rfl)) fun _ => k

def normC2 (d0 : Dev nD) (v1982 : FVec F S256x1024 .f32) : PR F PUnit :=
  sendOut d0 ⟨k0_dev10 d0, k0_dev10_lt d0⟩ 0 0 2 <| sendOut d0 ⟨k0_dev11 d0, k0_dev11_lt d0⟩ 0 1 1 <| sendOut d0 ⟨k0_dev12 d0, k0_dev12_lt d0⟩ 0 2 0 <|
  storeOut d0 1 (fun w => k0_pay327 v1982 w) <|
  sendOut d0 ⟨k0_dev13 d0, k0_dev13_lt d0⟩ 1 0 2 <| sendOut d0 ⟨k0_dev14 d0, k0_dev14_lt d0⟩ 1 1 1 <| sendOut d0 ⟨k0_dev15 d0, k0_dev15_lt d0⟩ 1 2 0 <|
  recvOut d0 0 0 <| recvOut d0 0 1 <| recvOut d0 1 0 <| recvOut d0 1 1 <| recvOut d0 2 0 <| recvOut d0 2 1 <|
  storeRes <|
  sentPart 1 0 2 <| sentPart 2 1 1 <| sentPart 3 2 0 <|
  sentOut d0 0 0 <| sentOut d0 1 0 <| sentOut d0 2 0 <| sentOut d0 0 1 <| sentOut d0 1 1 <| sentOut d0 2 1 <| do
    semSignalWord (⟨k0_dev16 d0, k0_dev16_lt d0⟩ : Dev nD) qEx 1#32
    semSignalWord (⟨k0_dev17 d0, k0_dev17_lt d0⟩ : Dev nD) qEx 1#32
    semSignalWord (⟨k0_dev18 d0, k0_dev18_lt d0⟩ : Dev nD) qEx 1#32
    semWaitWord qEx 3#32
    pure ⟨⟩

def normC1 (d0 : Dev nD) (k : FVec F S256x1024 .f32 → PR F α) : PR F α :=
  copyPart d0 1 <| sendPart ⟨k0_dev4 d0, k0_dev4_lt d0⟩ ⟨k0_dev5 d0, k0_dev5_lt d0⟩ 1 0 2 <|
  copyPart d0 2 <| sendPart ⟨k0_dev6 d0, k0_dev6_lt d0⟩ ⟨k0_dev7 d0, k0_dev7_lt d0⟩ 2 1 1 <|
  copyPart d0 3 <| sendPart ⟨k0_dev8 d0, k0_dev8_lt d0⟩ ⟨k0_dev9 d0, k0_dev9_lt d0⟩ 3 2 0 <|
  copyPart d0 0 <| recvPart 1 2 <| recvPart 2 1 <| recvPart 3 0 <|
  ld13 F 0 fun x0 => ld15 F 0 fun x1 => ld15 F 1 fun x2 => ld15 F 2 fun x3 =>
  ld14 F 0 fun y0 => ld16 F 0 fun y1 => ld16 F 1 fun y2 => ld16 F 2 fun y3 =>
  storeOut d0 0 (fun w => outOf0 x0 x1 x2 x3 y0 y1 y2 y3 w) <| k (attnOf x0 x1 x2 x3 y0 y1 y2 y3)

set_option maxRecDepth 100000 in
theorem rawC1_eq (d0 : Dev nD) (v1062 v1064 v1066 v1067 : BitVec 32) (v1072 : BitVec 1) (v2 : BitVec 32) (k : FVec F S256x1024 .f32 → PR F α) :
    rawC1 d0 v1062 v1064 v1066 v1067 v1072 v2 k = normC1 d0 k := rfl

set_option maxRecDepth 100000 in
theorem rawC2_eq (d0 : Dev nD) (v2 : BitVec 32) (v1982 : FVec F S256x1024 .f32) : rawC2 d0 v2 v1982 = normC2 d0 v1982 := rfl

/-- The word the kernel computes for this device's place. -/
abbrev v2Of (d0 : Dev nD) : BitVec 32 := Scalar.remsi (Scalar.divsi (Dev.word d0) 1#32) 4#32

/-- The entry handshake, then `f`. -/
def normHead (f : Dev nD → FVec F S128x1024 .bf16 → PR F α) : PR F α := do
  let d0 : Dev nD ← Prog.lift .deviceId
  semSignalWord (⟨k0_dev1 d0, k0_dev1_lt d0⟩ : Dev nD) qBar 1#32
  semSignalWord (⟨k0_dev2 d0, k0_dev2_lt d0⟩ : Dev nD) qBar 1#32
  semSignalWord (⟨k0_dev3 d0, k0_dev3_lt d0⟩ : Dev nD) qBar 1#32
  semWaitWord qBar 3#32
  let v60 ← tail31
  f d0 v60

/-- The body up to this device's normalised contexts. -/
def normBody : PR F (Σ' (d0 : Dev nD) (v2 : BitVec 32), FVec F S256x1024 .f32) :=
  normHead fun d0 v60 => progA v60 fun v355 => progB d0 (v2Of d0) v355 fun _ _ _ _ _ => normC1 d0 fun v => pure ⟨d0, v2Of d0, v⟩

/-- The same as the parts state it. -/
def rawHead (f : Dev nD → BitVec 32 → FVec F S128x1024 .bf16 → PR F α) : PR F α := do
  let ⟨d0, v2, v3, v30, c4_i32_18, v31⟩ : Σ' (d0 : Dev nD) (v2 : BitVec 32) (v3 : Sems sig S_) (v30 : BitVec 32) (c4_i32_18 : BitVec 32), BitVec 1 ← k0_part30 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0
  let v60 : FVec F S128x1024 .bf16 ← k0_part31 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 d0 v3 v30 c4_i32_18 v31
  f d0 v2 v60

theorem head_eq (f : Dev nD → BitVec 32 → FVec F S128x1024 .bf16 → PR F α) : rawHead f = normHead fun d0 v60 => f d0 (v2Of d0) v60 := rfl

/-- The stages after the handshake, as the parts state them. -/
def fRaw (d0 : Dev nD) (v2 : BitVec 32) (v60 : FVec F S128x1024 .bf16) : PR F (Σ' (d0 : Dev nD) (v2 : BitVec 32), FVec F S256x1024 .f32) :=
  progA v60 fun v355 => progB d0 v2 v355 fun w1 w2 w3 w4 w5 => rawC1 d0 w1 w2 w3 w4 w5 v2 fun v => pure ⟨d0, v2, v⟩

theorem part100_raw : (k0_part100 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 : PR F (Σ' (d0 : Dev nD) (v2 : BitVec 32), FVec F S256x1024 .f32)) = rawHead fRaw := by
  rw [k0_part100_eq_skeleton]
  unfold k0_part100_skel rawHead fRaw progA progB rawC1
  rfl

theorem part100_eq : (k0_part100 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 : PR F (Σ' (d0 : Dev nD) (v2 : BitVec 32), FVec F S256x1024 .f32)) = normBody := by
  refine part100_raw.trans ((head_eq fRaw).trans ?_)
  unfold normBody fRaw
  refine congrArg normHead (funext fun d0 => funext fun v60 => congrArg (progA v60) (funext fun v355 => congrArg (progB d0 (v2Of d0) v355) ?_))
  funext w1 w2 w3 w4 w5
  exact rawC1_eq d0 w1 w2 w3 w4 w5 (v2Of d0) _

theorem body_raw : (cc0_body A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 : PR F PUnit)
    = (do
      let ⟨d0, v2, v1982⟩ : Σ' (d0 : Dev nD) (v2 : BitVec 32), FVec F S256x1024 .f32 ← k0_part100 A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0
      rawC2 d0 v2 v1982) := by
  rw [cc0_body_eq_skeleton]
  unfold cc0_body_skel rawC2
  rfl

theorem body_eq : (cc0_body A0 hw A1 hw A2 hw A3 hw A4 hw A5 hw A6 hw A7 hw A8 hw A9 hw A10 hw A11 hw A12 hw A13 hw A14 hw A15 hw A16 hw A17 hw cc0_scratch12 cc0_scratch13 cc0_scratch14 cc0_scratch15 cc0_scratch16 cc0_scratch17 cc0_scoped0 : PR F PUnit) = (normBody >>= fun r => normC2 r.1 r.2.2) := by
  rw [body_raw, part100_eq]
  refine congrArg (fun g => (normBody : PR F _) >>= g) (funext fun r => ?_)
  exact rawC2_eq r.1 r.2.1 r.2.2

end Cert.KP

end
-- ==== Proof.Geo.lean ====
module

public import proofs.«01_k».proof.Proof.Norm
public import Idealize.ShloMosaic.Lib.ValueLayout
public import Idealize.ShloMosaic.Lib.Pointwise.Index
public import Idealize.ShloMosaic.Lib.Pipeline.Value
public import Idealize.ShloMosaic.Lib.Ring

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

/-! ## The devices and the kernel's offsets -/

/-- The device `k` after `c`. -/
def pr (c : Dev nD) (k : Nat) : Dev nD := ⟨(c.val + k) % 4, Nat.mod_lt _ (by decide)⟩

theorem dev1_eq (c : Dev nD) : (⟨k0_dev1 c, k0_dev1_lt c⟩ : Dev nD) = pr c 1 := by revert c; decide +kernel
theorem dev2_eq (c : Dev nD) : (⟨k0_dev2 c, k0_dev2_lt c⟩ : Dev nD) = pr c 2 := by revert c; decide +kernel
theorem dev3_eq (c : Dev nD) : (⟨k0_dev3 c, k0_dev3_lt c⟩ : Dev nD) = pr c 3 := by revert c; decide +kernel
theorem dev4_eq (c : Dev nD) : (⟨k0_dev4 c, k0_dev4_lt c⟩ : Dev nD) = pr c 1 := by revert c; decide +kernel
theorem dev5_eq (c : Dev nD) : (⟨k0_dev5 c, k0_dev5_lt c⟩ : Dev nD) = pr c 1 := by revert c; decide +kernel
theorem dev6_eq (c : Dev nD) : (⟨k0_dev6 c, k0_dev6_lt c⟩ : Dev nD) = pr c 2 := by revert c; decide +kernel
theorem dev7_eq (c : Dev nD) : (⟨k0_dev7 c, k0_dev7_lt c⟩ : Dev nD) = pr c 2 := by revert c; decide +kernel
theorem dev8_eq (c : Dev nD) : (⟨k0_dev8 c, k0_dev8_lt c⟩ : Dev nD) = pr c 3 := by revert c; decide +kernel
theorem dev9_eq (c : Dev nD) : (⟨k0_dev9 c, k0_dev9_lt c⟩ : Dev nD) = pr c 3 := by revert c; decide +kernel
theorem dev10_eq (c : Dev nD) : (⟨k0_dev10 c, k0_dev10_lt c⟩ : Dev nD) = pr c 1 := by revert c; decide +kernel
theorem dev11_eq (c : Dev nD) : (⟨k0_dev11 c, k0_dev11_lt c⟩ : Dev nD) = pr c 2 := by revert c; decide +kernel
theorem dev12_eq (c : Dev nD) : (⟨k0_dev12 c, k0_dev12_lt c⟩ : Dev nD) = pr c 3 := by revert c; decide +kernel
theorem dev13_eq (c : Dev nD) : (⟨k0_dev13 c, k0_dev13_lt c⟩ : Dev nD) = pr c 1 := by revert c; decide +kernel
theorem dev14_eq (c : Dev nD) : (⟨k0_dev14 c, k0_dev14_lt c⟩ : Dev nD) = pr c 2 := by revert c; decide +kernel
theorem dev15_eq (c : Dev nD) : (⟨k0_dev15 c, k0_dev15_lt c⟩ : Dev nD) = pr c 3 := by revert c; decide +kernel
theorem dev16_eq (c : Dev nD) : (⟨k0_dev16 c, k0_dev16_lt c⟩ : Dev nD) = pr c 1 := by revert c; decide +kernel
theorem dev17_eq (c : Dev nD) : (⟨k0_dev17 c, k0_dev17_lt c⟩ : Dev nD) = pr c 2 := by revert c; decide +kernel
theorem dev18_eq (c : Dev nD) : (⟨k0_dev18 c, k0_dev18_lt c⟩ : Dev nD) = pr c 3 := by revert c; decide +kernel

/-- Where the block `qb` of 64 rows stands among the rows grouped by `qb` modulo 3. -/
def gpos (qb : Nat) : Nat := (if qb % 3 = 0 then 0 else if qb % 3 = 1 then 384 else 704) + 64 * (qb / 3)

theorem off17_eq (c : Dev nD) (o i : Fin 4) :
    k0_off17 c (BitVec.ofNat 32 o.val) (BitVec.ofNat 32 i.val) = ![gpos (4 * (pr c o.val).val + i.val), 0] := by
  revert c o i; decide +kernel
theorem off18_eq (c : Dev nD) (o i : Fin 4) :
    k0_off18 c (BitVec.ofNat 32 o.val) (BitVec.ofNat 32 i.val) = ![gpos (4 * (pr c o.val).val + i.val), 0] := by
  revert c o i; decide +kernel
theorem off19_eq (c : Dev nD) (h : Fin 2) : k0_off19 c (BitVec.ofNat 32 (128 * h.val)) = ![256 * c.val + 128 * h.val, 0] := by
  revert c h; decide +kernel
theorem off20_eq (c : Dev nD) (h : Fin 2) : k0_off20 c (BitVec.ofNat 32 (128 * h.val)) = ![256 * c.val + 128 * h.val, 0] := by
  revert c h; decide +kernel

theorem gpos_lt {qb : Nat} (h : qb < 16) (r : Nat) (hr : r < 64) : gpos qb + r < 1024 := by
  unfold gpos; split
  · omega
  · split <;> omega

/-! ## The windows' elements -/

theorem set_cpW (o : Fin 4) : (cpW o).view.set = (Rect.unit (s := S4x256x1024) ![o.val, 0, 0] S1x256x1024.size (inbW13 o)).set :=
  (View.set_reshape _ _).trans (View.set_slice_whole _ _)
theorem set_lpW (o : Fin 4) : (lpW o).view.set = (Rect.unit (s := S4x256x64) ![o.val, 0, 0] S1x256x64.size (inbW14 o)).set :=
  (View.set_reshape _ _).trans (View.set_slice_whole _ _)
theorem set_ccW (o : Fin 3) : (ccW o).view.set = (Rect.unit (s := S3x256x1024) ![o.val, 0, 0] S1x256x1024.size (inbW15 o)).set :=
  (View.set_reshape _ _).trans (View.set_slice_whole _ _)
theorem set_clW (o : Fin 3) : (clW o).view.set = (Rect.unit (s := S3x256x64) ![o.val, 0, 0] S1x256x64.size (inbW16 o)).set :=
  (View.set_reshape _ _).trans (View.set_slice_whole _ _)

theorem mem_cpW (o : Fin 4) (i : S4x256x1024.Idx) : i ∈ ((cpW o).view.set : Finset S4x256x1024.Idx) ↔ (i 0).val = o.val := by
  rw [show ((cpW o).view.set : Finset S4x256x1024.Idx) = _ from set_cpW o, Rect.mem_set_unit]
  constructor
  · intro h; have := h 0; change o.val ≤ _ ∧ _ < o.val + 1 at this; omega
  · intro h a
    match a with
    | ⟨0, _⟩ => change o.val ≤ (i 0).val ∧ (i 0).val < o.val + 1; omega
    | ⟨1, _⟩ => exact ⟨Nat.zero_le _, by have := (i 1).isLt; change _ < 256 at this; change (i 1).val < 0 + 256; omega⟩
    | ⟨2, _⟩ => exact ⟨Nat.zero_le _, by have := (i 2).isLt; change _ < 1024 at this; change (i 2).val < 0 + 1024; omega⟩
theorem mem_lpW (o : Fin 4) (i : S4x256x64.Idx) : i ∈ ((lpW o).view.set : Finset S4x256x64.Idx) ↔ (i 0).val = o.val := by
  rw [show ((lpW o).view.set : Finset S4x256x64.Idx) = _ from set_lpW o, Rect.mem_set_unit]
  constructor
  · intro h; have := h 0; change o.val ≤ _ ∧ _ < o.val + 1 at this; omega
  · intro h a
    match a with
    | ⟨0, _⟩ => change o.val ≤ (i 0).val ∧ (i 0).val < o.val + 1; omega
    | ⟨1, _⟩ => exact ⟨Nat.zero_le _, by have := (i 1).isLt; change _ < 256 at this; change (i 1).val < 0 + 256; omega⟩
    | ⟨2, _⟩ => exact ⟨Nat.zero_le _, by have := (i 2).isLt; change _ < 64 at this; change (i 2).val < 0 + 64; omega⟩
theorem mem_ccW (o : Fin 3) (i : S3x256x1024.Idx) : i ∈ ((ccW o).view.set : Finset S3x256x1024.Idx) ↔ (i 0).val = o.val := by
  rw [show ((ccW o).view.set : Finset S3x256x1024.Idx) = _ from set_ccW o, Rect.mem_set_unit]
  constructor
  · intro h; have := h 0; change o.val ≤ _ ∧ _ < o.val + 1 at this; omega
  · intro h a
    match a with
    | ⟨0, _⟩ => change o.val ≤ (i 0).val ∧ (i 0).val < o.val + 1; omega
    | ⟨1, _⟩ => exact ⟨Nat.zero_le _, by have := (i 1).isLt; change _ < 256 at this; change (i 1).val < 0 + 256; omega⟩
    | ⟨2, _⟩ => exact ⟨Nat.zero_le _, by have := (i 2).isLt; change _ < 1024 at this; change (i 2).val < 0 + 1024; omega⟩
theorem mem_clW (o : Fin 3) (i : S3x256x64.Idx) : i ∈ ((clW o).view.set : Finset S3x256x64.Idx) ↔ (i 0).val = o.val := by
  rw [show ((clW o).view.set : Finset S3x256x64.Idx) = _ from set_clW o, Rect.mem_set_unit]
  constructor
  · intro h; have := h 0; change o.val ≤ _ ∧ _ < o.val + 1 at this; omega
  · intro h a
    match a with
    | ⟨0, _⟩ => change o.val ≤ (i 0).val ∧ (i 0).val < o.val + 1; omega
    | ⟨1, _⟩ => exact ⟨Nat.zero_le _, by have := (i 1).isLt; change _ < 256 at this; change (i 1).val < 0 + 256; omega⟩
    | ⟨2, _⟩ => exact ⟨Nat.zero_le _, by have := (i 2).isLt; change _ < 64 at this; change (i 2).val < 0 + 64; omega⟩

theorem set_obW (c : Dev nD) (h : Fin 2) : (obW c h).view.set
    = (Rect.unit (s := S1024x1024) (k0_off20 c (BitVec.ofNat 32 (128 * h.val))) S128x1024.size (k0_off20_inb c h)).set :=
  View.set_slice_whole _ _
theorem mem_obW (c : Dev nD) (h : Fin 2) (i : S1024x1024.Idx) :
    i ∈ ((obW c h).view.set : Finset S1024x1024.Idx) ↔ (i 0).val / 128 = 2 * c.val + h.val := by
  rw [show ((obW c h).view.set : Finset S1024x1024.Idx) = _ from set_obW c h, Rect.mem_set_unit, off20_eq]
  constructor
  · intro h'; have := h' 0; change 256 * c.val + 128 * h.val ≤ (i 0).val ∧ (i 0).val < 256 * c.val + 128 * h.val + 128 at this; omega
  · intro h' a
    match a with
    | ⟨0, _⟩ => change 256 * c.val + 128 * h.val ≤ (i 0).val ∧ (i 0).val < 256 * c.val + 128 * h.val + 128; omega
    | ⟨1, _⟩ => exact ⟨Nat.zero_le _, by have := (i 1).isLt; change _ < 1024 at this; change (i 1).val < 0 + 1024; omega⟩

/-! The windows of each buffer, disjoint and covering. -/

theorem dj_cpW (o o' : Fin 4) (h : o ≠ o') : Disjoint ((cpW o).view.set : Finset S4x256x1024.Idx) ((cpW o').view.set) :=
  Finset.disjoint_left.mpr fun i hi hi' => h (Fin.ext (((mem_cpW o i).mp hi).symm.trans ((mem_cpW o' i).mp hi')))
theorem dj_lpW (o o' : Fin 4) (h : o ≠ o') : Disjoint ((lpW o).view.set : Finset S4x256x64.Idx) ((lpW o').view.set) :=
  Finset.disjoint_left.mpr fun i hi hi' => h (Fin.ext (((mem_lpW o i).mp hi).symm.trans ((mem_lpW o' i).mp hi')))
theorem dj_ccW (o o' : Fin 3) (h : o ≠ o') : Disjoint ((ccW o).view.set : Finset S3x256x1024.Idx) ((ccW o').view.set) :=
  Finset.disjoint_left.mpr fun i hi hi' => h (Fin.ext (((mem_ccW o i).mp hi).symm.trans ((mem_ccW o' i).mp hi')))
theorem dj_clW (o o' : Fin 3) (h : o ≠ o') : Disjoint ((clW o).view.set : Finset S3x256x64.Idx) ((clW o').view.set) :=
  Finset.disjoint_left.mpr fun i hi hi' => h (Fin.ext (((mem_clW o i).mp hi).symm.trans ((mem_clW o' i).mp hi')))
theorem dj_obW (p p' : Dev nD × Fin 2) (h : p ≠ p') :
    Disjoint ((obW p.1 p.2).view.set : Finset S1024x1024.Idx) ((obW p'.1 p'.2).view.set) :=
  Finset.disjoint_left.mpr fun i hi hi' => h (by
    have h1 := (mem_obW p.1 p.2 i).mp hi
    have h2 := (mem_obW p'.1 p'.2 i).mp hi'
    have := p.2.isLt; have := p'.2.isLt
    exact Prod.ext (Fin.ext (by omega)) (Fin.ext (by omega)))

theorem cov_cpW : (Finset.univ : Finset (Fin 4)).biUnion (β := S4x256x1024.Idx) (fun o => (cpW o).view.set) = Finset.univ :=
  Finset.eq_univ_of_forall fun i => Finset.mem_biUnion.mpr ⟨⟨(i 0).val, (i 0).isLt⟩, Finset.mem_univ _, (mem_cpW _ i).mpr rfl⟩
theorem cov_lpW : (Finset.univ : Finset (Fin 4)).biUnion (β := S4x256x64.Idx) (fun o => (lpW o).view.set) = Finset.univ :=
  Finset.eq_univ_of_forall fun i => Finset.mem_biUnion.mpr ⟨⟨(i 0).val, (i 0).isLt⟩, Finset.mem_univ _, (mem_lpW _ i).mpr rfl⟩
theorem cov_ccW : (Finset.univ : Finset (Fin 3)).biUnion (β := S3x256x1024.Idx) (fun o => (ccW o).view.set) = Finset.univ :=
  Finset.eq_univ_of_forall fun i => Finset.mem_biUnion.mpr ⟨⟨(i 0).val, (i 0).isLt⟩, Finset.mem_univ _, (mem_ccW _ i).mpr rfl⟩
theorem cov_clW : (Finset.univ : Finset (Fin 3)).biUnion (β := S3x256x64.Idx) (fun o => (clW o).view.set) = Finset.univ :=
  Finset.eq_univ_of_forall fun i => Finset.mem_biUnion.mpr ⟨⟨(i 0).val, (i 0).isLt⟩, Finset.mem_univ _, (mem_clW _ i).mpr rfl⟩
theorem cov_obW : (Finset.univ : Finset (Dev nD × Fin 2)).biUnion (β := S1024x1024.Idx) (fun p => (obW p.1 p.2).view.set) = Finset.univ :=
  Finset.eq_univ_of_forall fun i => by
    have h0 : (i 0).val < 1024 := (i 0).isLt
    have hm := (mem_obW ⟨(i 0).val / 256, show _ < 4 by omega⟩ ⟨(i 0).val / 128 % 2, Nat.mod_lt _ (by decide)⟩ i).mpr (by
        change (i 0).val / 128 = 2 * ((i 0).val / 256) + (i 0).val / 128 % 2; omega)
    exact Finset.mem_biUnion.mpr ⟨(⟨(i 0).val / 256, show _ < 4 by omega⟩, ⟨(i 0).val / 128 % 2, Nat.mod_lt _ (by decide)⟩), Finset.mem_univ _, hm⟩

/-! ## The contents -/

/-- What the two results and the rounded output weight hold on each device. -/
structure Cn (F : FTy → Type) where
  w10 : Dev nD → S1024x1024.Idx → Elt F .bf16
  w11 : Dev nD → S1024x1024.Idx → Elt F .bf16
  w12 : Dev nD → S1024x64.Idx → Elt F .f32

theorem qrow_lt (c : Dev nD) (o : Fin 4) (row : Fin 256) : gpos (4 * (pr c o.val).val + row.val / 64) + row.val % 64 < 1024 :=
  gpos_lt (by have := (pr c o.val).isLt; have := row.isLt; change _ < 4 at *; omega) _ (Nat.mod_lt _ (by decide))

/-- The grouped row which the row `row` of the part for the device `o` after `c` comes from. -/
def qrow (c : Dev nD) (o : Fin 4) (row : Fin 256) : Fin 1024 := ⟨gpos (4 * (pr c o.val).val + row.val / 64) + row.val % 64, qrow_lt c o row⟩

variable (X : Cn F)

/-- The parts' contents; -/
def p13 (c : Dev nD) : S4x256x1024.Idx → Elt F .bf16 := fun i => X.w11 c (ix2 (qrow c (i 0) (i 1)) (i 2))
def p14 (c : Dev nD) : S4x256x64.Idx → Elt F .f32 := fun i => X.w12 c (ix2 (qrow c (i 0) (i 1)) (i 2))
/-- the slots'. -/
def g15 (c : Dev nD) : S3x256x1024.Idx → Elt F .bf16 := fun i =>
  p13 X (pr c ((i 0).val + 1)) (ix3 (⟨3 - (i 0).val, by omega⟩ : Fin 4) (i 1) (i 2))
def g16 (c : Dev nD) : S3x256x64.Idx → Elt F .f32 := fun i =>
  p14 X (pr c ((i 0).val + 1)) (ix3 (⟨3 - (i 0).val, by omega⟩ : Fin 4) (i 1) (i 2))

/-- The loads of a part and of a slot. -/
def r13 (c : Dev nD) (o : Fin 4) : Vec F S1x256x1024 .bf16 :=
  A13.view.readAt (Elt F) (Rect.unit (s := S4x256x1024) ![o.val, 0, 0] S1x256x1024.size (inbW13 o)).toLoadRect (p13 X c)
def r14 (c : Dev nD) (o : Fin 4) : Vec F S1x256x64 .f32 :=
  A14.view.readAt (Elt F) (Rect.unit (s := S4x256x64) ![o.val, 0, 0] S1x256x64.size (inbW14 o)).toLoadRect (p14 X c)
def r15 (c : Dev nD) (o : Fin 3) : Vec F S1x256x1024 .bf16 :=
  A15.view.readAt (Elt F) (Rect.unit (s := S3x256x1024) ![o.val, 0, 0] S1x256x1024.size (inbW15 o)).toLoadRect (g15 X c)
def r16 (c : Dev nD) (o : Fin 3) : Vec F S1x256x64 .f32 :=
  A16.view.readAt (Elt F) (Rect.unit (s := S3x256x64) ![o.val, 0, 0] S1x256x64.size (inbW16 o)).toLoadRect (g16 X c)

/-- A device's normalised contexts and the two halves of its rows of the result. -/
def att (c : Dev nD) : FVec F S256x1024 .f32 :=
  attnOf (r13 X c 0) (r15 X c 0) (r15 X c 1) (r15 X c 2) (r14 X c 0) (r16 X c 0) (r16 X c 1) (r16 X c 2)
def out0 (c : Dev nD) : FVec F S128x1024 .bf16 :=
  outOf0 (r13 X c 0) (r15 X c 0) (r15 X c 1) (r15 X c 2) (r14 X c 0) (r16 X c 0) (r16 X c 1) (r16 X c 2) (X.w10 c)
def out1 (c : Dev nD) : FVec F S128x1024 .bf16 := k0_pay327 (att X c) (X.w10 c)
def outH (c : Dev nD) (h : Fin 2) : FVec F S128x1024 .bf16 := if h = 0 then out0 X c else out1 X c

/-- The result's rows, the same on every device. -/
def o17 : S1024x1024.Idx → Elt F .bf16 := fun i =>
  outH X ⟨(i 0).val / 256, by have := (i 0).isLt; change _ < 1024 at this; change _ < 4; omega⟩ ⟨(i 0).val / 128 % 2, Nat.mod_lt _ (by decide)⟩
    (ix2 (⟨(i 0).val % 128, Nat.mod_lt _ (by decide)⟩ : Fin 128) (i 1))

/-! ## What lands and what is stored -/

theorem emb13 (o : Fin 4) (u : S1x256x1024.Idx) :
    ((Rect.unit (s := S4x256x1024) ![o.val, 0, 0] S1x256x1024.size (inbW13 o)).emb u : S4x256x1024.Idx) = ix3 o (u 1) (u 2) := by
  have h0 : (u 0).val < 1 := (u 0).isLt
  funext a
  match a with
  | ⟨0, _⟩ => exact Fin.ext (by change o.val + 1 * (u 0).val = o.val; omega)
  | ⟨1, _⟩ => exact Fin.ext (by change 0 + 1 * (u 1).val = (u 1).val; omega)
  | ⟨2, _⟩ => exact Fin.ext (by change 0 + 1 * (u 2).val = (u 2).val; omega)
theorem emb14 (o : Fin 4) (u : S1x256x64.Idx) :
    ((Rect.unit (s := S4x256x64) ![o.val, 0, 0] S1x256x64.size (inbW14 o)).emb u : S4x256x64.Idx) = ix3 o (u 1) (u 2) := by
  have h0 : (u 0).val < 1 := (u 0).isLt
  funext a
  match a with
  | ⟨0, _⟩ => exact Fin.ext (by change o.val + 1 * (u 0).val = o.val; omega)
  | ⟨1, _⟩ => exact Fin.ext (by change 0 + 1 * (u 1).val = (u 1).val; omega)
  | ⟨2, _⟩ => exact Fin.ext (by change 0 + 1 * (u 2).val = (u 2).val; omega)
theorem emb15 (o : Fin 3) (u : S1x256x1024.Idx) :
    ((Rect.unit (s := S3x256x1024) ![o.val, 0, 0] S1x256x1024.size (inbW15 o)).emb u : S3x256x1024.Idx) = ix3 o (u 1) (u 2) := by
  have h0 : (u 0).val < 1 := (u 0).isLt
  funext a
  match a with
  | ⟨0, _⟩ => exact Fin.ext (by change o.val + 1 * (u 0).val = o.val; omega)
  | ⟨1, _⟩ => exact Fin.ext (by change 0 + 1 * (u 1).val = (u 1).val; omega)
  | ⟨2, _⟩ => exact Fin.ext (by change 0 + 1 * (u 2).val = (u 2).val; omega)
theorem emb16 (o : Fin 3) (u : S1x256x64.Idx) :
    ((Rect.unit (s := S3x256x64) ![o.val, 0, 0] S1x256x64.size (inbW16 o)).emb u : S3x256x64.Idx) = ix3 o (u 1) (u 2) := by
  have h0 : (u 0).val < 1 := (u 0).isLt
  funext a
  match a with
  | ⟨0, _⟩ => exact Fin.ext (by change o.val + 1 * (u 0).val = o.val; omega)
  | ⟨1, _⟩ => exact Fin.ext (by change 0 + 1 * (u 1).val = (u 1).val; omega)
  | ⟨2, _⟩ => exact Fin.ext (by change 0 + 1 * (u 2).val = (u 2).val; omega)

theorem land15 (c : Dev nD) (o : Fin 4) (s : Fin 3) (ho : o = ⟨3 - s.val, by omega⟩) (fd : S3x256x1024.Idx → Elt F .bf16) :
    ∀ i ∈ ((ccW s).view.set : Finset S3x256x1024.Idx),
      ((ccW s).view.write (Elt F) fd ((cpW o).view.read (Elt F) (p13 X (pr c (s.val + 1)))) Finset.univ : S3x256x1024.Idx → Elt F .bf16) i = g15 X c i := by
  intro i hi
  obtain ⟨j, -, rfl⟩ := Finset.mem_map.mp hi
  refine (View.write_emb_of_mem _ _ (Finset.mem_univ j)).trans ?_
  rw [ho]
  have key : ∀ u : S1x256x1024.Idx, p13 X (pr c (s.val + 1)) ((Rect.unit (s := S4x256x1024) ![3 - s.val, 0, 0] S1x256x1024.size (inbW13 ⟨3 - s.val, by omega⟩)).emb u)
      = g15 X c ((Rect.unit (s := S3x256x1024) ![s.val, 0, 0] S1x256x1024.size (inbW15 s)).emb u) := fun u => by
    rw [emb15, emb13 ⟨3 - s.val, by omega⟩]; rfl
  exact key _
theorem land16 (c : Dev nD) (o : Fin 4) (s : Fin 3) (ho : o = ⟨3 - s.val, by omega⟩) (fd : S3x256x64.Idx → Elt F .f32) :
    ∀ i ∈ ((clW s).view.set : Finset S3x256x64.Idx),
      ((clW s).view.write (Elt F) fd ((lpW o).view.read (Elt F) (p14 X (pr c (s.val + 1)))) Finset.univ : S3x256x64.Idx → Elt F .f32) i = g16 X c i := by
  intro i hi
  obtain ⟨j, -, rfl⟩ := Finset.mem_map.mp hi
  refine (View.write_emb_of_mem _ _ (Finset.mem_univ j)).trans ?_
  rw [ho]
  have key : ∀ u : S1x256x64.Idx, p14 X (pr c (s.val + 1)) ((Rect.unit (s := S4x256x64) ![3 - s.val, 0, 0] S1x256x64.size (inbW14 ⟨3 - s.val, by omega⟩)).emb u)
      = g16 X c ((Rect.unit (s := S3x256x64) ![s.val, 0, 0] S1x256x64.size (inbW16 s)).emb u) := fun u => by
    rw [emb16, emb14 ⟨3 - s.val, by omega⟩]; rfl
  exact key _
theorem land17 (c : Dev nD) (h : Fin 2) (fd f : S1024x1024.Idx → Elt F .bf16) :
    ∀ i ∈ ((obW c h).view.set : Finset S1024x1024.Idx),
      ((obW c h).view.write (Elt F) fd ((obW c h).view.read (Elt F) f) Finset.univ : S1024x1024.Idx → Elt F .bf16) i = f i := by
  intro i hi
  obtain ⟨j, -, rfl⟩ := Finset.mem_map.mp hi
  exact (View.write_emb_of_mem _ _ (Finset.mem_univ j)).trans rfl

/-- The row of the grouped result which an element of a block's load comes from. -/
theorem qrow_blk (c : Dev nD) (o i : Fin 4) (x1 : Fin 256) (h1 : x1.val / 64 = i.val) :
    gpos (4 * (pr c o.val).val + i.val) + x1.val % 64 = (qrow c o x1).val := by rw [← h1]; rfl

/-- A store of the block `i` of a part: on the block the part's contents, elsewhere what was there. -/
theorem store13 (c : Dev nD) (o i : Fin 4) (f : S4x256x1024.Idx → Elt F .bf16) (x : S4x256x1024.Idx) :
    (((A13.access (Rect.unit (s := S4x256x1024) ![o.val, 64 * i.val, 0] S1x64x1024.size (inbB13 o i))).write (Elt F) f
      (k0_pay284 (A11.view.readAt (Elt F) (Rect.unit (s := S1024x1024) (k0_off17 c (BitVec.ofNat 32 o.val) (BitVec.ofNat 32 i.val)) S64x1024.size
        (k0_off17_inb c o i)).toLoadRect (X.w11 c))) Finset.univ : S4x256x1024.Idx → Elt F .bf16)) x
      = if (x 0).val = o.val ∧ (x 1).val / 64 = i.val then p13 X c x else f x := by
  split
  case isTrue hx =>
    obtain ⟨h0, h1⟩ := hx
    obtain ⟨x0, x1, x2, rfl⟩ : ∃ x0 x1 x2, x = ix3 x0 x1 x2 := ⟨x 0, x 1, x 2, eq_ix3 x⟩
    obtain rfl : x0 = o := Fin.ext h0
    have hx : ix3 x0 x1 x2 = ((Rect.unit (s := S4x256x1024) ![x0.val, 64 * i.val, 0] S1x64x1024.size (inbB13 x0 i)).emb
        (ix3 (0 : Fin 1) (⟨x1.val % 64, Nat.mod_lt _ (by decide)⟩ : Fin 64) x2) : S4x256x1024.Idx) := by
      funext a
      match a with
      | ⟨0, _⟩ => exact Fin.ext (by change x0.val = x0.val + 1 * 0; omega)
      | ⟨1, _⟩ => exact Fin.ext (by change x1.val = 64 * i.val + 1 * (x1.val % 64); change x1.val / 64 = _ at h1; omega)
      | ⟨2, _⟩ => exact Fin.ext (by change x2.val = 0 + 1 * x2.val; omega)
    rw [hx]
    refine (View.write_emb_of_mem (v := A13.access _) _ _ (Finset.mem_univ _)).trans ?_
    rw [← hx]
    refine (cast_eq _ _).trans ?_
    unfold k0_pay284
    refine (ValueIdx.shapeCast_ab_1ab_apply _ _ (0 : Fin 1) _ _).trans ?_
    refine (congrArg (X.w11 c) ?_ : X.w11 c _ = X.w11 c _)
    funext a
    match a with
    | ⟨0, _⟩ => exact Fin.ext (by
        change k0_off17 c (BitVec.ofNat 32 x0.val) (BitVec.ofNat 32 i.val) 0 + 1 * (x1.val % 64) = (qrow c x0 x1).val
        rw [off17_eq, ← qrow_blk c x0 i x1 h1]; change gpos _ + 1 * (x1.val % 64) = _; omega)
    | ⟨1, _⟩ => exact Fin.ext (by
        change k0_off17 c (BitVec.ofNat 32 x0.val) (BitVec.ofNat 32 i.val) 1 + 1 * x2.val = x2.val
        rw [off17_eq]; change 0 + 1 * x2.val = _; omega)
  case isFalse hx =>
    refine View.write_of_not_mem (v := A13.access (Rect.unit (s := S4x256x1024) ![o.val, 64 * i.val, 0] S1x64x1024.size (inbB13 o i))) f _ _ ?_
    rw [View.setOn_univ, show ((A13.access (Rect.unit (s := S4x256x1024) ![o.val, 64 * i.val, 0] S1x64x1024.size (inbB13 o i))).set : Finset S4x256x1024.Idx) = _
      from View.set_slice_whole _ _, Rect.mem_set_unit]
    intro h
    have a0 := h 0
    have a1 := h 1
    change o.val ≤ (x 0).val ∧ (x 0).val < o.val + 1 at a0
    change 64 * i.val ≤ (x 1).val ∧ (x 1).val < 64 * i.val + 64 at a1
    exact hx ⟨by omega, by omega⟩
theorem store14 (c : Dev nD) (o i : Fin 4) (f : S4x256x64.Idx → Elt F .f32) (x : S4x256x64.Idx) :
    (((A14.access (Rect.unit (s := S4x256x64) ![o.val, 64 * i.val, 0] S1x64x64.size (inbB14 o i))).write (Elt F) f
      (k0_pay285 (A12.view.readAt (Elt F) (Rect.unit (s := S1024x64) (k0_off18 c (BitVec.ofNat 32 o.val) (BitVec.ofNat 32 i.val)) S64x64.size
        (k0_off18_inb c o i)).toLoadRect (X.w12 c))) Finset.univ : S4x256x64.Idx → Elt F .f32)) x
      = if (x 0).val = o.val ∧ (x 1).val / 64 = i.val then p14 X c x else f x := by
  split
  case isTrue hx =>
    obtain ⟨h0, h1⟩ := hx
    obtain ⟨x0, x1, x2, rfl⟩ : ∃ x0 x1 x2, x = ix3 x0 x1 x2 := ⟨x 0, x 1, x 2, eq_ix3 x⟩
    obtain rfl : x0 = o := Fin.ext h0
    have hx : ix3 x0 x1 x2 = ((Rect.unit (s := S4x256x64) ![x0.val, 64 * i.val, 0] S1x64x64.size (inbB14 x0 i)).emb
        (ix3 (0 : Fin 1) (⟨x1.val % 64, Nat.mod_lt _ (by decide)⟩ : Fin 64) x2) : S4x256x64.Idx) := by
      funext a
      match a with
      | ⟨0, _⟩ => exact Fin.ext (by change x0.val = x0.val + 1 * 0; omega)
      | ⟨1, _⟩ => exact Fin.ext (by change x1.val = 64 * i.val + 1 * (x1.val % 64); change x1.val / 64 = _ at h1; omega)
      | ⟨2, _⟩ => exact Fin.ext (by change x2.val = 0 + 1 * x2.val; omega)
    rw [hx]
    refine (View.write_emb_of_mem (v := A14.access _) _ _ (Finset.mem_univ _)).trans ?_
    rw [← hx]
    refine (cast_eq _ _).trans ?_
    unfold k0_pay285
    refine (ValueIdx.shapeCast_ab_1ab_apply _ _ (0 : Fin 1) _ _).trans ?_
    refine (congrArg (X.w12 c) ?_ : X.w12 c _ = X.w12 c _)
    funext a
    match a with
    | ⟨0, _⟩ => exact Fin.ext (by
        change k0_off18 c (BitVec.ofNat 32 x0.val) (BitVec.ofNat 32 i.val) 0 + 1 * (x1.val % 64) = (qrow c x0 x1).val
        rw [off18_eq, ← qrow_blk c x0 i x1 h1]; change gpos _ + 1 * (x1.val % 64) = _; omega)
    | ⟨1, _⟩ => exact Fin.ext (by
        change k0_off18 c (BitVec.ofNat 32 x0.val) (BitVec.ofNat 32 i.val) 1 + 1 * x2.val = x2.val
        rw [off18_eq]; change 0 + 1 * x2.val = _; omega)
  case isFalse hx =>
    refine View.write_of_not_mem (v := A14.access (Rect.unit (s := S4x256x64) ![o.val, 64 * i.val, 0] S1x64x64.size (inbB14 o i))) f _ _ ?_
    rw [View.setOn_univ, show ((A14.access (Rect.unit (s := S4x256x64) ![o.val, 64 * i.val, 0] S1x64x64.size (inbB14 o i))).set : Finset S4x256x64.Idx) = _
      from View.set_slice_whole _ _, Rect.mem_set_unit]
    intro h
    have a0 := h 0
    have a1 := h 1
    change o.val ≤ (x 0).val ∧ (x 0).val < o.val + 1 at a0
    change 64 * i.val ≤ (x 1).val ∧ (x 1).val < 64 * i.val + 64 at a1
    exact hx ⟨by omega, by omega⟩

/-- The elements a block's store writes lie in the part. -/
theorem blk_sub13 (o i : Fin 4) : ((A13.access (Rect.unit (s := S4x256x1024) ![o.val, 64 * i.val, 0] S1x64x1024.size (inbB13 o i))).setOn Finset.univ : Finset S4x256x1024.Idx)
    ⊆ (cpW o).view.set := by
  intro x hx
  rw [View.setOn_univ, show ((A13.access (Rect.unit (s := S4x256x1024) ![o.val, 64 * i.val, 0] S1x64x1024.size (inbB13 o i))).set : Finset S4x256x1024.Idx) = _
      from View.set_slice_whole _ _, Rect.mem_set_unit] at hx
  have a0 := hx 0
  change o.val ≤ (x 0).val ∧ (x 0).val < o.val + 1 at a0
  exact (mem_cpW o x).mpr (by omega)
theorem blk_sub14 (o i : Fin 4) : ((A14.access (Rect.unit (s := S4x256x64) ![o.val, 64 * i.val, 0] S1x64x64.size (inbB14 o i))).setOn Finset.univ : Finset S4x256x64.Idx)
    ⊆ (lpW o).view.set := by
  intro x hx
  rw [View.setOn_univ, show ((A14.access (Rect.unit (s := S4x256x64) ![o.val, 64 * i.val, 0] S1x64x64.size (inbB14 o i))).set : Finset S4x256x64.Idx) = _
      from View.set_slice_whole _ _, Rect.mem_set_unit] at hx
  have a0 := hx 0
  change o.val ≤ (x 0).val ∧ (x 0).val < o.val + 1 at a0
  exact (mem_lpW o x).mpr (by omega)
/-- The same of the load before it. -/
theorem blk_ld13 (o i : Fin 4) : (A13.view.setOn (Rect.unit (s := S4x256x1024) ![o.val, 64 * i.val, 0] S1x64x1024.size (inbB13 o i)).toLoadRect.set : Finset S4x256x1024.Idx)
    ⊆ (cpW o).view.set := fun x hx => blk_sub13 o i (by rw [View.setOn_univ]; rw [show (A13.access _).set = _ from View.set_slice _ _]; exact hx)
theorem blk_ld14 (o i : Fin 4) : (A14.view.setOn (Rect.unit (s := S4x256x64) ![o.val, 64 * i.val, 0] S1x64x64.size (inbB14 o i)).toLoadRect.set : Finset S4x256x64.Idx)
    ⊆ (lpW o).view.set := fun x hx => blk_sub14 o i (by rw [View.setOn_univ]; rw [show (A14.access _).set = _ from View.set_slice _ _]; exact hx)

/-- The loads of whole windows read them. -/
theorem win_ld13 (o : Fin 4) : (A13.view.setOn (Rect.unit (s := S4x256x1024) ![o.val, 0, 0] S1x256x1024.size (inbW13 o)).toLoadRect.set : Finset S4x256x1024.Idx)
    ⊆ (cpW o).view.set := by rw [set_cpW]; exact (Finset.map_refl).subset
theorem win_ld14 (o : Fin 4) : (A14.view.setOn (Rect.unit (s := S4x256x64) ![o.val, 0, 0] S1x256x64.size (inbW14 o)).toLoadRect.set : Finset S4x256x64.Idx)
    ⊆ (lpW o).view.set := by rw [set_lpW]; exact (Finset.map_refl).subset
theorem win_ld15 (o : Fin 3) : (A15.view.setOn (Rect.unit (s := S3x256x1024) ![o.val, 0, 0] S1x256x1024.size (inbW15 o)).toLoadRect.set : Finset S3x256x1024.Idx)
    ⊆ (ccW o).view.set := by rw [set_ccW]; exact (Finset.map_refl).subset
theorem win_ld16 (o : Fin 3) : (A16.view.setOn (Rect.unit (s := S3x256x64) ![o.val, 0, 0] S1x256x64.size (inbW16 o)).toLoadRect.set : Finset S3x256x64.Idx)
    ⊆ (clW o).view.set := by rw [set_clW]; exact (Finset.map_refl).subset

/-! A half of the result's rows: the load and the store at the kernel's first spelling of the offset. -/
theorem out_sub (c : Dev nD) (h : Fin 2) : ((A17.access (Rect.unit (s := S1024x1024) (k0_off19 c (BitVec.ofNat 32 (128 * h.val))) S128x1024.size (k0_off19_inb c h))).setOn
    Finset.univ : Finset S1024x1024.Idx) ⊆ (obW c h).view.set := by
  intro x hx
  rw [View.setOn_univ, show ((A17.access (Rect.unit (s := S1024x1024) (k0_off19 c (BitVec.ofNat 32 (128 * h.val))) S128x1024.size (k0_off19_inb c h))).set
    : Finset S1024x1024.Idx) = _ from View.set_slice_whole _ _, Rect.mem_set_unit, off19_eq] at hx
  have a0 := hx 0
  change 256 * c.val + 128 * h.val ≤ (x 0).val ∧ (x 0).val < 256 * c.val + 128 * h.val + 128 at a0
  exact (mem_obW c h x).mpr (by omega)
theorem out_ld (c : Dev nD) (h : Fin 2) : (A17.view.setOn (Rect.unit (s := S1024x1024) (k0_off19 c (BitVec.ofNat 32 (128 * h.val))) S128x1024.size (k0_off19_inb c h)).toLoadRect.set
    : Finset S1024x1024.Idx) ⊆ (obW c h).view.set := fun x hx => out_sub c h (by rw [View.setOn_univ]; rw [show (A17.access _).set = _ from View.set_slice _ _]; exact hx)

theorem store17 (c : Dev nD) (h : Fin 2) (f : S1024x1024.Idx → Elt F .bf16) :
    ∀ x ∈ ((obW c h).view.set : Finset S1024x1024.Idx),
    (((A17.access (Rect.unit (s := S1024x1024) (k0_off19 c (BitVec.ofNat 32 (128 * h.val))) S128x1024.size (k0_off19_inb c h))).write (Elt F) f
      (outH X c h) Finset.univ : S1024x1024.Idx → Elt F .bf16)) x = o17 X x := by
  intro x hx
  have hx := (mem_obW c h x).mp hx
  obtain ⟨x0, x1, rfl⟩ : ∃ x0 x1, x = ix2 x0 x1 := ⟨x 0, x 1, eq_ix2 x⟩
  change x0.val / 128 = 2 * c.val + h.val at hx
  have hh := h.isLt
  have e : ix2 x0 x1 = ((Rect.unit (s := S1024x1024) (k0_off19 c (BitVec.ofNat 32 (128 * h.val))) S128x1024.size (k0_off19_inb c h)).emb
      (ix2 (⟨x0.val % 128, Nat.mod_lt _ (by decide)⟩ : Fin 128) x1) : S1024x1024.Idx) := by
    funext a
    match a with
    | ⟨0, _⟩ => exact Fin.ext (by
        change x0.val = k0_off19 c (BitVec.ofNat 32 (128 * h.val)) 0 + 1 * (x0.val % 128)
        rw [off19_eq]; change x0.val = 256 * c.val + 128 * h.val + 1 * (x0.val % 128); omega)
    | ⟨1, _⟩ => exact Fin.ext (by
        change x1.val = k0_off19 c (BitVec.ofNat 32 (128 * h.val)) 1 + 1 * x1.val
        rw [off19_eq]; change x1.val = 0 + 1 * x1.val; omega)
  rw [e]
  refine (View.write_emb_of_mem (v := A17.access _) _ _ (Finset.mem_univ _)).trans ?_
  rw [← e]
  refine (cast_eq _ _).trans ?_
  have h1 : (⟨x0.val / 256, by have := x0.isLt; change _ < 4; omega⟩ : Dev nD) = c := Fin.ext (by change x0.val / 256 = c.val; omega)
  have h2 : (⟨x0.val / 128 % 2, Nat.mod_lt _ (by decide)⟩ : Fin 2) = h := Fin.ext (by change x0.val / 128 % 2 = h.val; omega)
  change _ = outH X ⟨x0.val / 256, _⟩ ⟨x0.val / 128 % 2, _⟩ (ix2 (⟨x0.val % 128, _⟩ : Fin 128) x1)
  rw [h1, h2]

end Cert.KP

end
-- ==== Proof.Sched.lean ====
module

public import proofs.«01_k».proof.Proof.Geo

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

/-! ## The semaphores of a device, by their part in the exchange -/

/-- The barrier, the closing handshake, the copies of contexts and of sums (their departure and their arrival), the copies of
    result rows (likewise, by peer and by half). -/
inductive Cl where
  | bar | ex
  | cs (o : Fin 3) | cr (s : Fin 3) | ls (o : Fin 3) | lr (s : Fin 3)
  | os (j : Fin 3) (h : Fin 2) | or (j : Fin 3) (h : Fin 2)
  deriving DecidableEq, Fintype

def csem : Cl → SemLoc sig
  | .bar => .reg qBar
  | .ex => .reg qEx
  | .cs o => .dma (qCS o)
  | .cr s => .dma (qCR s)
  | .ls o => .dma (qLS o)
  | .lr s => .dma (qLR s)
  | .os j h => .dma (qOS j h)
  | .or j h => .dma (qOR j h)

theorem csem_inj : Function.Injective csem := by
  have h : ∀ a b : Cl, csem a = csem b → a = b := by decide +kernel
  exact fun a b => h a b

abbrev kcell (ck : Dev nD × Cl) : GSem nD τ sig := ((ck.1 : Thread nD τ), csem ck.2)

theorem kcell_inj : Function.Injective kcell := by
  rintro ⟨c, k⟩ ⟨c', k'⟩ h
  have h1 : c = c' := by have := congrArg (fun g : GSem nD τ sig => g.1.1) h; exact this
  have h2 : k = k' := csem_inj (congrArg Prod.snd h)
  rw [h1, h2]

/-- Which part a semaphore has. -/
def cls : SemLoc sig → Option Cl := Function.partialInv csem
theorem cls_csem (k : Cl) : cls (csem k) = some k := Function.partialInv_left csem_inj k

theorem cls_stage (q : DmaSem sig) (hq : q.val < 6) : cls (.dma q) = none := by
  have h : ∀ a : Cl, ∀ q : DmaSem sig, q.val < 6 → csem a ≠ .dma q := by decide +kernel
  unfold cls Function.partialInv
  rw [dif_neg]; rintro ⟨a, ha⟩; exact h a q hq ha

/-! ## The schedule -/

abbrev NC : ℕ := (ccW 0).view.dmaCredit
abbrev NL : ℕ := (clW 0).view.dmaCredit
abbrev NO : ℕ := (obW 0 0).view.dmaCredit

def amtK : Cl → ℕ
  | .bar | .ex => 1
  | .cs _ | .cr _ => NC
  | .ls _ | .lr _ => NL
  | .os _ _ | .or _ _ => NO
theorem amtK_pos (k : Cl) : 0 < amtK k := by
  cases k <;> first | exact Nat.one_pos | exact View.dmaCredit_pos _ (by decide)

/-- The payers of a cell's one round. -/
def dut : Cl → Finset Dy
  | .bar | .ex => Finset.univ
  | _ => {0}
/-- How far after the cell's device its payer stands, and how far after the payer the cell's device. -/
def fwd : Cl → Dy → ℕ
  | .bar, d | .ex, d => d.val + 1
  | .cr s, _ | .lr s, _ => s.val + 1
  | .or j _, _ => j.val + 1
  | _, _ => 0
def back : Cl → Dy → ℕ
  | .bar, d | .ex, d => 3 - d.val
  | .cr s, _ | .lr s, _ => 3 - s.val
  | .or j _, _ => 3 - j.val
  | _, _ => 0

/-- The shares of a device's own rows lent to the three copies of them, and the one kept. -/
def shO : Fin 3 → PosShare TreeShare
  | 0 => fullShare.left.left
  | 1 => fullShare.left.right
  | 2 => fullShare.right.left
abbrev shK : PosShare TreeShare := fullShare.right.right

section Pay
variable (X : Cn F)

/-- A window held at given contents. -/
def ptw {sp : Space} {S : Shape} {e : EltTy} (c : Dev nD) (M : Memref sig .tc sp S e) (q : PosShare TreeShare) (f : Buf (Elt F) (M.view.loc (c : Thread nD τ))) : sProp 𝕄 :=
  M.view.loc (c : Thread nD τ) ↦[M.view.set]{q} f

/-- The slot of the device `d + 1` after. -/
def rv (d : Fin 3) : Fin 3 := ⟨2 - d.val, by omega⟩

/-- What a payer's signal hands the barrier's device: the payer's slots and rows which that device's copies land in. -/
def barPay (c : Dev nD) (d : Dy) : sProp 𝕄 :=
  iprop((∃ f, ptw (F := F) (pr c (d.val + 1)) (ccW (rv d)) fullShare f) ∗ (∃ f, ptw (F := F) (pr c (d.val + 1)) (clW (rv d)) fullShare f)
    ∗ (∃ f, ptw (F := F) (pr c (d.val + 1)) (obW c 0) fullShare f) ∗ (∃ f, ptw (F := F) (pr c (d.val + 1)) (obW c 1) fullShare f))

def pay (c : Dev nD) : Cl → Dy → sProp 𝕄
  | .bar, d => barPay c d
  | .ex, _ => iprop(emp)
  | .cs o, _ => ptw c (cpW o.succ) fullShare (p13 X c)
  | .cr s, _ => ptw c (ccW s) fullShare (g15 X c)
  | .ls o, _ => ptw c (lpW o.succ) fullShare (p14 X c)
  | .lr s, _ => ptw c (clW s) fullShare (g16 X c)
  | .os j h, _ => ptw c (obW c h) (shO j) (o17 X)
  | .or j h, _ => ptw c (obW (pr c (j.val + 1)) h) fullShare (o17 X)

instance ptw_storable {sp : Space} {S : Shape} {e : EltTy} (c : Dev nD) (M : Memref sig .tc sp S e) (q : PosShare TreeShare)
    (f : Buf (Elt F) (M.view.loc (c : Thread nD τ))) : BI.Storable (upEmb : UEmb _ 𝕄) (ptw c M q f) := by
  unfold ptw; infer_instance
instance barPay_storable (c : Dev nD) (d : Dy) : BI.Storable (upEmb : UEmb _ 𝕄) (barPay (F := F) c d) := by
  unfold barPay; infer_instance
instance pay_storable (c : Dev nD) (k : Cl) (d : Dy) : BI.Storable (upEmb : UEmb _ 𝕄) (pay X c k d) := by
  cases k <;> dsimp only [pay] <;> infer_instance

def Rd : Rounds.Schedule (GSem nD τ sig) Dy 𝕄 where
  duties g r := if r = 0 ∧ g.1.2 = .tc then (cls g.2).elim ∅ dut else ∅
  unitless _ := False
  amount g _ _ := (cls g.2).elim 1 amtK
  payload g _ d := (cls g.2).elim iprop(emp) fun k => pay X g.1.1 k d
  amount_pos g _ _ _ := by
    cases cls g.2 with
    | none => exact Nat.one_pos
    | some k => exact amtK_pos k

instance Rd_storable (g : GSem nD τ sig) (r : ℕ) (d : Dy) : BI.Storable (upEmb : UEmb _ 𝕄) ((Rd X).payload g r d) := by
  show BI.Storable upEmb ((cls g.2).elim iprop(emp) fun k => pay X g.1.1 k d)
  cases cls g.2 with
  | none => dsimp only [Option.elim]; infer_instance
  | some k => dsimp only [Option.elim]; infer_instance

theorem Rd_duties (c : Dev nD) (k : Cl) : (Rd X).duties (kcell (c, k)) 0 = dut k := by
  dsimp only [Rd]; rw [if_pos ⟨rfl, rfl⟩, cls_csem]; rfl
theorem Rd_later (g : GSem nD τ sig) : ∀ r, 1 ≤ r → (Rd X).duties g r = ∅ := fun r hr => by
  dsimp only [Rd]; rw [if_neg fun h => by omega]
theorem Rd_amount (c : Dev nD) (k : Cl) (d : Dy) : (Rd X).amount (kcell (c, k)) 0 d = amtK k := by
  dsimp only [Rd]; rw [cls_csem]; rfl
theorem Rd_payload (c : Dev nD) (k : Cl) (d : Dy) : (Rd X).payload (kcell (c, k)) 0 d = pay X c k d := by
  dsimp only [Rd]; rw [cls_csem]; rfl

/-- What a cell's wait is for. -/
def expK : Cl → ℕ
  | .bar | .ex => 3
  | k => amtK k
theorem Rd_expect (c : Dev nD) (k : Cl) : (Rd X).expect (kcell (c, k)) 0 = expK k := by
  unfold Schedule.expect Schedule.amountOf
  rw [Rd_duties, Finset.sum_congr rfl fun d _ => Rd_amount X c k d, Finset.sum_const]
  cases k <;> simp [dut, expK, amtK]

theorem Rd_rest (c : Dev nD) (k : Cl) :
    bigSep ((Rd X).duties (kcell (c, k)) 0 \ ∅) (fun d => (Rd X).payload (kcell (c, k)) 0 d) = bigSep (dut k) fun d => pay X c k d := by
  rw [Finset.sdiff_empty, Rd_duties]; exact bigSep_congr fun d _ => Rd_payload X c k d

end Pay

/-! ## The debts in program order; the levels -/

/-- What a device owes at launch, by how far after it the creditor stands and by cell, in the order it pays. -/
def debtL : List (ℕ × Cl) :=
  [(1, .bar), (2, .bar), (3, .bar), (1, .cr 2), (1, .lr 2), (2, .cr 1), (2, .lr 1), (3, .cr 0), (3, .lr 0),
   (1, .or 2 0), (2, .or 1 0), (3, .or 0 0), (1, .or 2 1), (2, .or 1 1), (3, .or 0 1), (1, .ex), (2, .ex), (3, .ex)]

def OL (c : Dev nD) (l : List (ℕ × Cl)) : CellTallies nD τ sig Unit :=
  l.foldr (fun x acc => acc + tallyAt (kcell (pr c x.1, x.2)) () (amtK x.2)) 0
/-- What it still owes after `n` payments. -/
def O (c : Dev nD) (n : ℕ) : CellTallies nD τ sig Unit := OL c (debtL.drop n)

def lvK : Cl → ℕ
  | .bar => 1
  | .cr _ | .lr _ => 2
  | .or _ _ => 3
  | .ex => 4
  | _ => 0
def L (g : GSem nD τ sig) : Finset Unit := if g.1.2 = .tc then {()} else ∅
def lv (g : GSem nD τ sig) (_ : Unit) : ℕ := (cls g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Cl) : lv (kcell (c, k)) () = lvK k := by unfold lv; rw [cls_csem]; rfl

theorem OL_pos {c : Dev nD} {l : List (ℕ × Cl)} {g : GSem nD τ sig} {u : Unit} (h : 0 < OL c l g u) :
    ∃ x ∈ l, g = kcell (pr c x.1, x.2) := by
  induction l with
  | nil => exact absurd h (Nat.lt_irrefl 0)
  | cons x l ih =>
    change 0 < (OL c l + tallyAt (kcell (pr c x.1, x.2)) () (amtK x.2)) g u at h
    rw [Pi.add_apply, Finsupp.add_apply] at h
    by_cases hg : g = kcell (pr c x.1, x.2)
    · exact ⟨x, List.mem_cons_self .., hg⟩
    · rw [tallyAt_apply, if_neg (fun h' => hg h'.1), Nat.add_zero] at h
      obtain ⟨y, hy, e⟩ := ih h
      exact ⟨y, List.mem_cons_of_mem _ hy, e⟩

theorem mayWait (c : Dev nD) (sm : SemLoc sig) (n b : ℕ) (hb : lv ((c : Thread nD τ), sm) () ≤ b) (hd : ∀ x ∈ debtL.drop n, b < lvK x.2) :
    (levAts L lv : sProp 𝕄) ⊢ MayWait (c : Thread nD τ) sm () (O c n) :=
  MayOwe.of_cut (L := L) (lev := lv) b (fun p hp => by rw [Finset.mem_singleton.mp hp, L_tc]; exact Finset.mem_singleton_self _)
    (fun g u hg => by obtain ⟨x, -, rfl⟩ := OL_pos hg; rw [L_tc]; exact Finset.mem_singleton_self _)
    (fun p hp => by rw [Finset.mem_singleton.mp hp]; exact hb)
    (fun g u hg => by obtain ⟨x, hx, rfl⟩ := OL_pos hg; rw [lv_kcell]; exact hd x hx)

theorem mayWaitK (c : Dev nD) (k : Cl) (n : ℕ) (hd : ∀ x ∈ debtL.drop n, lvK k < lvK x.2) :
    (levAts L lv : sProp 𝕄) ⊢ MayWait (c : Thread nD τ) (csem k) () (O c n) :=
  mayWait c _ n (lvK k) (le_of_eq (lv_kcell c k)) hd

theorem mayWait_stage (c : Dev nD) (q : DmaSem sig) (hq : q.val < 6) (n : ℕ) :
    (levAts L lv : sProp 𝕄) ⊢ MayWait (c : Thread nD τ) (.dma q) () (O c n) :=
  mayWait c _ n 0 (by unfold lv; rw [cls_stage q hq]; exact le_refl 0) fun x hx => by
    have h : ∀ x ∈ debtL, 0 < lvK x.2 := by decide
    exact h x (List.mem_of_mem_drop hx)

/-! ## The devices around -/

theorem pr_pr (c : Dev nD) (a b : ℕ) : pr (pr c a) b = pr c (a + b) := Fin.ext (by
  change ((c.val + a) % 4 + b) % 4 = (c.val + (a + b)) % 4; omega)
theorem pr_four (c : Dev nD) : pr c 4 = c := Fin.ext (by have := c.isLt; change (c.val + 4) % 4 = c.val; change _ < 4 at this; omega)
theorem pr_zero (c : Dev nD) : pr c 0 = c := Fin.ext (by have := c.isLt; change (c.val + 0) % 4 = c.val; change _ < 4 at this; omega)
theorem pr_fwd_back (c : Dev nD) (k : Cl) (d : Dy) : pr (pr c (back k d)) (fwd k d) = c := by
  revert c k d; decide +kernel
theorem pr_back_fwd (c : Dev nD) (k : Cl) (d : Dy) : pr (pr c (fwd k d)) (back k d) = c := by
  revert c k d; decide +kernel

end Cert.KP

end
-- ==== Proof.Steps.lean ====
module

public import proofs.«01_k».proof.Proof.Sched

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

variable (X : Cn F) (K : Dev nD × Cl → ℕ)

/-- The weakest precondition on core `c`. -/
abbrev WP (c : Dev nD) {α : Type} (p : PR F α) (Q : α → sProp 𝕄) : sProp 𝕄 := wp frame (wpE (defs₀ (F := F)) Variants.none (c : Thread nD τ) none) Set.univ p Q

/-- The cells' invariants, that every cell has reached round 0, and the levels. -/
def ctx : sProp 𝕄 :=
  iprop((bigSep Finset.univ fun ck : Dev nD × Cl => cellInv ER (Rd X) (K ck) (kcell ck))
    ∗ (bigSep Finset.univ fun ck : Dev nD × Cl => reached ER (kcell ck) 0) ∗ levAts L lv)
instance ctx_persistent : BI.Persistent (ctx X K) := by unfold ctx; infer_instance

theorem ctx_inv (ck : Dev nD × Cl) : ctx X K ⊢ cellInv ER (Rd X) (K ck) (kcell ck) := by
  have h : (bigSep Finset.univ fun ck : Dev nD × Cl => (cellInv ER (Rd X) (K ck) (kcell ck) : sProp 𝕄)) ⊢ cellInv ER (Rd X) (K ck) (kcell ck) := bigSep_elim (Finset.mem_univ ck)
  unfold ctx; iintro ⟨H, -, -⟩; iapply h; iexact H
theorem ctx_rch (ck : Dev nD × Cl) : ctx X K ⊢ reached ER (kcell ck) 0 := by
  have h : (bigSep Finset.univ fun ck : Dev nD × Cl => (reached ER (kcell ck) 0 : sProp 𝕄)) ⊢ reached ER (kcell ck) 0 := bigSep_elim (Finset.mem_univ ck)
  unfold ctx; iintro ⟨-, H, -⟩; iapply h; iexact H
theorem ctx_lev : ctx X K ⊢ levAts L lv := by
  unfold ctx; iintro ⟨-, -, H⟩; iexact H

/-- What core `c` owes after `n` payments, whatever it has waited for. -/
def owing (c : Dev nD) (n : ℕ) : sProp 𝕄 := iprop(∃ W : Waits sig Unit, owes (c : Thread nD τ) (O c n) W)
/-- Core `c`'s place at its cell `k`; the right to pay a duty of the cell `k` of the device `o` after it; the cell closed; its credit. -/
abbrev at0 (c : Dev nD) (k : Cl) : sProp 𝕄 := atPos ER (kcell (c, k)) 0 ∅ 0
abbrev tk (c : Dev nD) (o : ℕ) (k : Cl) (d : Dy) : sProp 𝕄 := dutyTok ER (kcell (pr c o, k)) 0 d
abbrev zr (c : Dev nD) (k : Cl) : sProp 𝕄 := semVal (kcell (c, k)) 0
abbrev cr (c : Dev nD) (k : Cl) : sProp 𝕄 := cred (tallyAt (kcell (c, k)) () (expK k))

/-- A wait for the whole of a cell's round; the cell is closed after it. -/
theorem st_wait {β : Type} {Q : β → sProp 𝕄} (c : Dev nD) (k : Cl) (n : ℕ) (hlev : ∀ x ∈ debtL.drop n, lvK k < lvK x.2)
    {w : TpuEff nD τ sig (Elt F) Λ₀ .tc PUnit}
    (hw : ∀ Kt : PUnit → sProp 𝕄, wpE (defs₀ (F := F)) Variants.none (c : Thread nD τ) none Set.univ w Kt = waitSpec (c : Thread nD τ) Set.univ (csem k) (expK k) Kt)
    (p : PUnit → PR F β) :
    iprop(ctx X K ∗ owing c n ∗ at0 c k ∗ cr c k ∗ (iprop(owing c n ∗ zr c k ∗ bigSep (dut k) fun d => pay X c k d) -∗ WP c (p ⟨⟩) Q))
      ⊢ WP c (.op w p) Q := by
  unfold owing
  iintro ⟨#Hc, ⟨%W, HO⟩, Hat, Hcr, Hk⟩
  ihave #Hi := (ctx_inv X K (c, k)) $$ Hc
  ihave #Hl := (ctx_lev X K) $$ Hc
  iapply (Rounds.wp_wait_rest_token Variants.none ER (Rd X) (c : Thread nD τ) none (κ := K (c, k)) hw (Set.mem_univ _) () (O := O c n) (W := W) (R := 0) (m := 0) (T := ∅)
      (by rw [Nat.zero_add]; exact (Rd_expect X c k).symm)) $$ [Hcr HO Hat]
  · isplitr; · iexact Hi
    isplitl [Hcr]; · iexact Hcr
    isplitl [HO]; · iexact HO
    isplitr; · iapply (mayWaitK c k n hlev); iexact Hl
    iexact Hat
  iintro ⟨HO, Hat, -, Hpay⟩
  ihave Hp := (Entails.of_eq (Rd_rest X c k)) $$ Hpay
  imod (Rounds.cell_close ER (Rd X) (Set.mem_univ (K (c, k))) (fun h => h) (R := 0 + 1) (Rd_later X (kcell (c, k)))) $$ [Hat] with Hz
  · isplitr; · iexact Hi
    iexact Hat
  iapply Hk
  isplitl [HO]; · iexists _; iexact HO
  isplitl [Hz]; · iexact Hz
  iexact Hp

/-- The same of the wait for a copy. -/
theorem st_waitDma {β : Type} {Q : β → sProp 𝕄} (c : Dev nD) (k : Cl) (n : ℕ) (hlev : ∀ x ∈ debtL.drop n, lvK k < lvK x.2)
    (q : DmaSem sig) (hq : csem k = .dma q) {sp sp' : Space} {S S' : Shape} {e e' : EltTy} (src : Memref sig .tc sp S e) (dst : Memref sig .tc sp' S' e')
    (hN : dst.view.dmaCredit = expK k) {hsrc : src.view.WordExact} {hdst : dst.view.WordExact} (p : PUnit → PR F β) :
    iprop(ctx X K ∗ owing c n ∗ at0 c k ∗ cr c k ∗ (iprop(owing c n ∗ zr c k ∗ bigSep (dut k) fun d => pay X c k d) -∗ WP c (p ⟨⟩) Q))
      ⊢ WP c (.op (.waitDma2 q src dst hsrc hdst) p) Q :=
  st_wait X K c k n hlev (fun Kt => by rw [hq, ← hN]; exact wpE_waitDma2_eq Variants.none (c : Thread nD τ) none Set.univ Kt) p

/-- A signal to a cell of three payers, of the device `o` after `c`. -/
theorem st_signal {β : Type} {Q : β → sProp 𝕄} (c m : Dev nD) (o : ℕ) (hm : m = pr c o) (k : Cl) (q : Sem sig) (hq : csem k = .reg q) (ha : amtK k = 1) (d : Dy) (hd : d ∈ dut k) (n : ℕ)
    (hn : debtL.drop n = (o, k) :: debtL.drop (n + 1)) (p : PUnit → PR F β) :
    iprop(ctx X K ∗ owing c n ∗ tk c o k d ∗ pay X (pr c o) k d ∗ (owing c (n + 1) -∗ WP c (p ⟨⟩) Q))
      ⊢ WP c (.op (.semSignal (m : Thread nD τ) q 1) p) Q := by
  subst hm
  unfold owing
  iintro ⟨#Hc, ⟨%W, HO⟩, Ht, Hp, Hk⟩
  ihave #Hi := (ctx_inv X K (pr c o, k)) $$ Hc
  ihave #Hr := (ctx_rch X K (pr c o, k)) $$ Hc
  have e : kcell (pr c o, k) = ((pr c o : Thread nD τ), SemLoc.reg q) := by unfold kcell; rw [hq]
  have hO : O c n = O c (n + 1) + tallyAt ((pr c o : Thread nD τ), SemLoc.reg q) () 1 := by
    unfold O; rw [hn, ← e, ← ha]; rfl
  iapply (Rounds.wp_signal Variants.none ER (Rd X) (c : Thread nD τ) none (dst := (pr c o : Thread nD τ)) (κ := K (pr c o, k))
      (d := d) (r := 0) (by rw [← e, Rd_duties]; exact hd) (by rw [← e, Rd_amount, ha]) () (O c (n + 1)) hO)
    $$ [HO Ht Hp]
  · rw [← e]
    isplitr; · iexact Hi
    isplitl [HO]; · iexact HO
    isplitl [Ht]; · iexact Ht
    isplitl [Hp]; · rw [Rd_payload]; iexact Hp
    iexact Hr
  iintro HO
  iapply Hk; iexists _; iexact HO

/-- A copy to the device `o` after `c`, whose departure pays the cell `k₁` of `c` and whose arrival the cell `k₂` there. -/
theorem st_send {β : Type} {Q : β → sProp 𝕄} (c m : Dev nD) (o : ℕ) (hm : m = pr c o) (k₁ k₂ : Cl) (q₁ q₂ : DmaSem sig) (h₁ : csem k₁ = .dma q₁) (h₂ : csem k₂ = .dma q₂)
    (hd₁ : dut k₁ = {0}) (hd₂ : dut k₂ = {0}) (he : expK k₁ = amtK k₁) (n : ℕ) (hn : debtL.drop n = (o, k₂) :: debtL.drop (n + 1))
    {sp sp' : Space} {S : Shape} {e : EltTy} (src : Memref sig .tc sp S e) (dst : Memref sig .tc sp' S e)
    (hN₁ : dst.view.dmaCredit = amtK k₁) (hN₂ : dst.view.dmaCredit = amtK k₂)
    {hsc : dst.view.ref.isScScratch = false}
    {hsrc : src.view.WordExact} {hdst : dst.view.WordExact} {hsem : DmaTarget.Typed sp (.dma q₂) (.remote (m : Thread nD τ) dst (.dma q₁) hsc)}
    (q : PosShare TreeShare) (fs : Buf (Elt F) (src.view.loc (c : Thread nD τ))) (fd : Buf (Elt F) (dst.view.loc (pr c o : Thread nD τ)))
    (hp₁ : ptw c src q fs ⊢ pay X c k₁ 0)
    (hp₂ : ptw (pr c o) dst fullShare (dst.view.write (Elt F) fd (src.view.read (Elt F) fs) Finset.univ) ⊢ pay X (pr c o) k₂ 0)
    (p : PUnit → PR F β) :
    iprop(ctx X K ∗ owing c n ∗ tk c 0 k₁ 0 ∗ tk c o k₂ 0 ∗ ptw c src q fs ∗ ptw (pr c o) dst fullShare fd
        ∗ (iprop(owing c (n + 1) ∗ cr c k₁) -∗ WP c (p ⟨⟩) Q))
      ⊢ WP c (.op (.enqueueDma src (.remote (m : Thread nD τ) dst (.dma q₁) hsc) (.dma q₂) hsrc hdst hsem) p) Q := by
  subst hm
  have ht : tk (F := F) c 0 k₁ 0 = dutyTok ER (kcell (c, k₁)) 0 0 := by unfold tk; rw [pr_zero]
  rw [ht]
  unfold owing
  unfold ptw at hp₁ hp₂ ⊢
  iintro ⟨#Hc, ⟨%W, HO⟩, Ht₁, Ht₂, Hs, Hd, Hk⟩
  ihave #Hi₁ := (ctx_inv X K (c, k₁)) $$ Hc
  ihave #Hr₁ := (ctx_rch X K (c, k₁)) $$ Hc
  ihave #Hi₂ := (ctx_inv X K (pr c o, k₂)) $$ Hc
  ihave #Hr₂ := (ctx_rch X K (pr c o, k₂)) $$ Hc
  have e₁ : kcell (c, k₁) = ((c : Thread nD τ), SemLoc.dma q₁) := by unfold kcell; rw [h₁]
  have e₂ : kcell (pr c o, k₂) = ((pr c o : Thread nD τ), SemLoc.dma q₂) := by unfold kcell; rw [h₂]
  have hO : O c n = O c (n + 1) + tallyAt ((pr c o : Thread nD τ), SemLoc.dma q₂) () (amtK k₂) := by
    unfold O; rw [hn, ← e₂]; rfl
  have h12 : amtK k₁ = amtK k₂ := hN₁.symm.trans hN₂
  iapply (Rounds.wp_send_pointsTo Variants.none ER (Rd X) (c : Thread nD τ) none (κ₁ := K (c, k₁)) (κ₂ := K (pr c o, k₂))
    (r₁ := 0) (r₂ := 0) (d₁ := 0) (d₂ := 0) (fd := fd) (fs := fs) (q := q)
    (by rw [← e₁, Rd_duties, hd₁]; exact Finset.mem_singleton_self _) (by rw [← e₂, Rd_duties, hd₂]; exact Finset.mem_singleton_self _)
    () () (amtK k₂) (show dst.view.amount (.dma q₂) = amtK k₂ from hN₂) (by rw [← e₁, Rd_amount, h12]) (by rw [← e₂, Rd_amount]) (O c (n + 1)) hO (W := W)
    (by rw [← e₁, Rd_payload]; exact hp₁) (by rw [← e₂, Rd_payload]; exact hp₂)) $$ [HO Ht₁ Ht₂ Hs Hd]
  · rw [← e₁, ← e₂]
    isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hcr, HO⟩
  iapply Hk
  isplitl [HO]; · iexists _; iexact HO
  rw [← e₁, ← h12, ← he]; iexact Hcr

end Cert.KP

end
-- ==== Proof.Comm.lean ====
module

public import proofs.«01_k».proof.Proof.Steps

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

variable (X : Cn F) (K : Dev nD × Cl → ℕ)

/-! ## Copies within the core -/

/-- A part's contents once its block `i` is copied. -/
def s13 (c : Dev nD) (o i : Fin 4) (f : S4x256x1024.Idx → Elt F .bf16) : S4x256x1024.Idx → Elt F .bf16 := fun x =>
  if (x 0).val = o.val ∧ (x 1).val / 64 = i.val then p13 X c x else f x
def s14 (c : Dev nD) (o i : Fin 4) (f : S4x256x64.Idx → Elt F .f32) : S4x256x64.Idx → Elt F .f32 := fun x =>
  if (x 0).val = o.val ∧ (x 1).val / 64 = i.val then p14 X c x else f x

theorem st_copyBlk {β : Type} {Q : β → sProp 𝕄} (c : Dev nD) (o i : Fin 4) (f : S4x256x1024.Idx → Elt F .bf16) (g : S4x256x64.Idx → Elt F .f32) (k : PR F β) :
    iprop(pt c A11 (X.w11 c) ∗ pt c A12 (X.w12 c) ∗ ptw c (cpW o) fullShare f ∗ ptw c (lpW o) fullShare g
      ∗ (iprop(pt c A11 (X.w11 c) ∗ pt c A12 (X.w12 c) ∗ ptw c (cpW o) fullShare (s13 X c o i f) ∗ ptw c (lpW o) fullShare (s14 X c o i g)) -∗ WP c k Q))
      ⊢ WP c (copyBlk c o i k) Q := by
  unfold copyBlk ptw
  iintro ⟨H11, H12, H13, H14, Hk⟩
  iapply (wp_load Variants.none (c : Thread nD τ) none Set.univ (m := A11) (S := Finset.univ) (Finset.subset_univ _)) $$ [H11]
  · iexact H11
  iintro H11
  iapply (wp_load Variants.none (c : Thread nD τ) none Set.univ (m := A13) (S := (cpW o).view.set) (blk_ld13 o i)) $$ [H13]
  · iexact H13
  iintro H13
  iapply (wp_store Variants.none (c : Thread nD τ) none Set.univ (m := A13) (r := Rect.unit (s := S4x256x1024) ![o.val, 64 * i.val, 0] S1x64x1024.size (inbB13 o i)) (S := (cpW o).view.set) (Mk := Finset.univ) (blk_sub13 o i)) $$ [H13]
  · iexact H13
  iintro H13
  rw [show ((A13.access (Rect.unit (s := S4x256x1024) ![o.val, 64 * i.val, 0] S1x64x1024.size (inbB13 o i))).write (Elt F) f
      (k0_pay284 (A11.view.readAt (Elt F) (Rect.unit (s := S1024x1024) (k0_off17 c (BitVec.ofNat 32 o.val) (BitVec.ofNat 32 i.val)) S64x1024.size
        (k0_off17_inb c o i)).toLoadRect (X.w11 c))) Finset.univ) = s13 X c o i f from funext (store13 X c o i f)]
  iapply (wp_load Variants.none (c : Thread nD τ) none Set.univ (m := A12) (S := Finset.univ) (Finset.subset_univ _)) $$ [H12]
  · iexact H12
  iintro H12
  iapply (wp_load Variants.none (c : Thread nD τ) none Set.univ (m := A14) (S := (lpW o).view.set) (blk_ld14 o i)) $$ [H14]
  · iexact H14
  iintro H14
  iapply (wp_store Variants.none (c : Thread nD τ) none Set.univ (m := A14) (r := Rect.unit (s := S4x256x64) ![o.val, 64 * i.val, 0] S1x64x64.size (inbB14 o i)) (S := (lpW o).view.set) (Mk := Finset.univ) (blk_sub14 o i)) $$ [H14]
  · iexact H14
  iintro H14
  rw [show ((A14.access (Rect.unit (s := S4x256x64) ![o.val, 64 * i.val, 0] S1x64x64.size (inbB14 o i))).write (Elt F) g
      (k0_pay285 (A12.view.readAt (Elt F) (Rect.unit (s := S1024x64) (k0_off18 c (BitVec.ofNat 32 o.val) (BitVec.ofNat 32 i.val)) S64x64.size
        (k0_off18_inb c o i)).toLoadRect (X.w12 c))) Finset.univ) = s14 X c o i g from funext (store14 X c o i g)]
  iapply Hk
  isplitl [H11]; · iexact H11
  isplitl [H12]; · iexact H12
  isplitl [H13]; · iexact H13
  iexact H14

theorem s13_all (c : Dev nD) (o : Fin 4) (f : S4x256x1024.Idx → Elt F .bf16) :
    ptw c (cpW o) fullShare (s13 X c o 3 (s13 X c o 2 (s13 X c o 1 (s13 X c o 0 f)))) = ptw (F := F) c (cpW o) fullShare (p13 X c) := by
  unfold ptw
  refine pointsTo_congr fun x hx => ?_
  have hx := (mem_cpW o x).mp hx
  have h1 : (x 1).val < 256 := (x 1).isLt
  show s13 X c o 3 (s13 X c o 2 (s13 X c o 1 (s13 X c o 0 f))) x = p13 X c x
  unfold s13
  by_cases h3 : (x 1).val / 64 = 3
  · rw [if_pos ⟨hx, h3⟩]
  rw [if_neg fun h => h3 h.2]
  by_cases h2 : (x 1).val / 64 = 2
  · rw [if_pos ⟨hx, h2⟩]
  rw [if_neg fun h => h2 h.2]
  by_cases h1' : (x 1).val / 64 = 1
  · rw [if_pos ⟨hx, h1'⟩]
  rw [if_neg fun h => h1' h.2, if_pos ⟨hx, by show _ = 0; omega⟩]
theorem s14_all (c : Dev nD) (o : Fin 4) (f : S4x256x64.Idx → Elt F .f32) :
    ptw c (lpW o) fullShare (s14 X c o 3 (s14 X c o 2 (s14 X c o 1 (s14 X c o 0 f)))) = ptw (F := F) c (lpW o) fullShare (p14 X c) := by
  unfold ptw
  refine pointsTo_congr fun x hx => ?_
  have hx := (mem_lpW o x).mp hx
  have h1 : (x 1).val < 256 := (x 1).isLt
  show s14 X c o 3 (s14 X c o 2 (s14 X c o 1 (s14 X c o 0 f))) x = p14 X c x
  unfold s14
  by_cases h3 : (x 1).val / 64 = 3
  · rw [if_pos ⟨hx, h3⟩]
  rw [if_neg fun h => h3 h.2]
  by_cases h2 : (x 1).val / 64 = 2
  · rw [if_pos ⟨hx, h2⟩]
  rw [if_neg fun h => h2 h.2]
  by_cases h1' : (x 1).val / 64 = 1
  · rw [if_pos ⟨hx, h1'⟩]
  rw [if_neg fun h => h1' h.2, if_pos ⟨hx, by show _ = 0; omega⟩]

/-- Both whole results. -/
abbrev both (c : Dev nD) : sProp 𝕄 := iprop(pt c A11 (X.w11 c) ∗ pt c A12 (X.w12 c))

theorem st_copyPart {β : Type} {Q : β → sProp 𝕄} (c : Dev nD) (o : Fin 4) (k : PR F β) :
    iprop(both X c ∗ (∃ f, ptw (F := F) c (cpW o) fullShare f) ∗ (∃ f, ptw (F := F) c (lpW o) fullShare f)
      ∗ (iprop(both X c ∗ ptw c (cpW o) fullShare (p13 X c) ∗ ptw c (lpW o) fullShare (p14 X c)) -∗ WP c k Q))
      ⊢ WP c (copyPart c o k) Q := by
  unfold copyPart
  iintro ⟨⟨H11, H12⟩, ⟨%f, H13⟩, ⟨%g, H14⟩, Hk⟩
  iapply (st_copyBlk X c o 0 f g); isplitl [H11]; · iexact H11
  isplitl [H12]; · iexact H12
  isplitl [H13]; · iexact H13
  isplitl [H14]; · iexact H14
  iintro ⟨H11, H12, H13, H14⟩
  iapply (st_copyBlk X c o 1 _ _); isplitl [H11]; · iexact H11
  isplitl [H12]; · iexact H12
  isplitl [H13]; · iexact H13
  isplitl [H14]; · iexact H14
  iintro ⟨H11, H12, H13, H14⟩
  iapply (st_copyBlk X c o 2 _ _); isplitl [H11]; · iexact H11
  isplitl [H12]; · iexact H12
  isplitl [H13]; · iexact H13
  isplitl [H14]; · iexact H14
  iintro ⟨H11, H12, H13, H14⟩
  iapply (st_copyBlk X c o 3 _ _); isplitl [H11]; · iexact H11
  isplitl [H12]; · iexact H12
  isplitl [H13]; · iexact H13
  isplitl [H14]; · iexact H14
  iintro ⟨H11, H12, H13, H14⟩
  ihave H13 := (Entails.of_eq (s13_all X c o f)) $$ H13
  ihave H14 := (Entails.of_eq (s14_all X c o g)) $$ H14
  iapply Hk
  isplitl [H11 H12]
  · isplitl [H11]; · iexact H11
    iexact H12
  isplitl [H13]; · iexact H13
  iexact H14

theorem pay_one (c : Dev nD) (k : Cl) (hk : dut k = {0}) : (bigSep (dut k) fun d => pay X c k d) ⊢ pay X c k 0 := by
  rw [hk, bigSep_singleton]

theorem pq_cr (c : Dev nD) (s : Fin 3) : (bigSep (dut (.cr s)) fun d => pay X c (.cr s) d) ⊢ ptw c (ccW s) fullShare (g15 X c) := pay_one X c (.cr s) rfl
theorem pq_lr (c : Dev nD) (s : Fin 3) : (bigSep (dut (.lr s)) fun d => pay X c (.lr s) d) ⊢ ptw c (clW s) fullShare (g16 X c) := pay_one X c (.lr s) rfl
theorem pq_cs (c : Dev nD) (o : Fin 3) : (bigSep (dut (.cs o)) fun d => pay X c (.cs o) d) ⊢ ptw c (cpW o.succ) fullShare (p13 X c) := pay_one X c (.cs o) rfl
theorem pq_ls (c : Dev nD) (o : Fin 3) : (bigSep (dut (.ls o)) fun d => pay X c (.ls o) d) ⊢ ptw c (lpW o.succ) fullShare (p14 X c) := pay_one X c (.ls o) rfl
theorem pq_or (c : Dev nD) (j : Fin 3) (h : Fin 2) : (bigSep (dut (.or j h)) fun d => pay X c (.or j h) d)
    ⊢ ptw c (obW (pr c (j.val + 1)) h) fullShare (o17 X) := pay_one X c (.or j h) rfl
theorem pq_os (c : Dev nD) (j : Fin 3) (h : Fin 2) : (bigSep (dut (.os j h)) fun d => pay X c (.os j h) d)
    ⊢ ptw c (obW c h) (shO j) (o17 X) := pay_one X c (.os j h) rfl

/-! ## The parts sent, received, their departure -/

def sendTok (c : Dev nD) (o : Fin 3) : sProp 𝕄 :=
  iprop(tk c 0 (.cs o) 0 ∗ tk c (o.val + 1) (.cr (rv o)) 0 ∗ tk c 0 (.ls o) 0 ∗ tk c (o.val + 1) (.lr (rv o)) 0)
def recvTok (c : Dev nD) (s : Fin 3) : sProp 𝕄 := iprop(at0 c (.cr s) ∗ at0 c (.lr s) ∗ cr c (.cr s) ∗ cr c (.lr s))
def sentTok (c : Dev nD) (o : Fin 3) : sProp 𝕄 := iprop(at0 c (.cs o) ∗ at0 c (.ls o))
def sentCr (c : Dev nD) (o : Fin 3) : sProp 𝕄 := iprop(cr c (.cs o) ∗ cr c (.ls o))

theorem pr_back (c : Dev nD) (o : Fin 3) : pr (pr c (o.val + 1)) ((rv o).val + 1) = c := by
  unfold pr rv; apply Fin.ext
  have := c.isLt; have := o.isLt; change c.val < 4 at *
  show ((c.val + (o.val + 1)) % 4 + (2 - o.val + 1)) % 4 = c.val
  omega

theorem pay_cr (c : Dev nD) (o : Fin 3) (fd : S3x256x1024.Idx → Elt F .bf16) :
    ptw (pr c (o.val + 1)) (ccW (rv o)) fullShare ((ccW (rv o)).view.write (Elt F) fd ((cpW o.succ).view.read (Elt F) (p13 X c)) Finset.univ)
      ⊢ pay X (pr c (o.val + 1)) (.cr (rv o)) 0 := by
  dsimp only [pay]; unfold ptw
  refine Entails.of_eq (pointsTo_congr fun i hi => ?_)
  have h := land15 X (pr c (o.val + 1)) o.succ (rv o) (by apply Fin.ext; show o.val + 1 = 3 - (2 - o.val); omega) fd i hi
  rw [pr_back] at h; exact h
theorem pay_lr (c : Dev nD) (o : Fin 3) (fd : S3x256x64.Idx → Elt F .f32) :
    ptw (pr c (o.val + 1)) (clW (rv o)) fullShare ((clW (rv o)).view.write (Elt F) fd ((lpW o.succ).view.read (Elt F) (p14 X c)) Finset.univ)
      ⊢ pay X (pr c (o.val + 1)) (.lr (rv o)) 0 := by
  dsimp only [pay]; unfold ptw
  refine Entails.of_eq (pointsTo_congr fun i hi => ?_)
  have h := land16 X (pr c (o.val + 1)) o.succ (rv o) (by apply Fin.ext; show o.val + 1 = 3 - (2 - o.val); omega) fd i hi
  rw [pr_back] at h; exact h

theorem st_sendPart {β : Type} {Q : β → sProp 𝕄} (c : Dev nD) (m m' : Dev nD) (o : Fin 3) (hm : m = pr c (o.val + 1)) (hm' : m' = pr c (o.val + 1)) (n : ℕ)
    (hn : debtL.drop n = (o.val + 1, .cr (rv o)) :: debtL.drop (n + 1)) (hn' : debtL.drop (n + 1) = (o.val + 1, .lr (rv o)) :: debtL.drop (n + 1 + 1))
    (k : PR F β) :
    iprop(ctx X K ∗ owing c n ∗ sendTok c o ∗ ptw c (cpW o.succ) fullShare (p13 X c) ∗ ptw c (lpW o.succ) fullShare (p14 X c)
      ∗ (∃ f, ptw (F := F) (pr c (o.val + 1)) (ccW (rv o)) fullShare f) ∗ (∃ f, ptw (F := F) (pr c (o.val + 1)) (clW (rv o)) fullShare f)
      ∗ (iprop(owing c (n + 1 + 1) ∗ sentCr c o) -∗ WP c k Q))
      ⊢ WP c (sendPart m m' o.succ o (rv o) k) Q := by
  unfold sendPart sendTok sentCr
  iintro ⟨#Hc, HO, ⟨T1, T2, T3, T4⟩, H13, H14, ⟨%f, H15⟩, ⟨%g, H16⟩, Hk⟩
  iapply (st_send X K c m (o.val + 1) hm (.cs o) (.cr (rv o)) (qCS o) (qCR (rv o)) rfl rfl rfl rfl rfl n hn (cpW o.succ) (ccW (rv o)) rfl rfl
    fullShare (p13 X c) f (Entails.rfl) (pay_cr X c o f))
  isplitr; · iexact Hc
  isplitl [HO]; · iexact HO
  isplitl [T1]; · iexact T1
  isplitl [T2]; · iexact T2
  isplitl [H13]; · iexact H13
  isplitl [H15]; · iexact H15
  iintro ⟨HO, C1⟩
  iapply (st_send X K c m' (o.val + 1) hm' (.ls o) (.lr (rv o)) (qLS o) (qLR (rv o)) rfl rfl rfl rfl rfl (n + 1) hn' (lpW o.succ) (clW (rv o)) rfl rfl
    fullShare (p14 X c) g (Entails.rfl) (pay_lr X c o g))
  isplitr; · iexact Hc
  isplitl [HO]; · iexact HO
  isplitl [T3]; · iexact T3
  isplitl [T4]; · iexact T4
  isplitl [H14]; · iexact H14
  isplitl [H16]; · iexact H16
  iintro ⟨HO, C2⟩
  iapply Hk
  isplitl [HO]; · iexact HO
  isplitl [C1]; · iexact C1
  iexact C2

theorem st_recvPart {β : Type} {Q : β → sProp 𝕄} (c : Dev nD) (o : Fin 4) (s : Fin 3) (k : PR F β) :
    iprop(ctx X K ∗ owing c 9 ∗ recvTok c s
      ∗ (iprop(owing c 9 ∗ zr c (.cr s) ∗ zr c (.lr s) ∗ ptw c (ccW s) fullShare (g15 X c) ∗ ptw c (clW s) fullShare (g16 X c)) -∗ WP c k Q))
      ⊢ WP c (recvPart o s k) Q := by
  unfold recvPart recvTok
  iintro ⟨#Hc, HO, ⟨A1, A2, C1, C2⟩, Hk⟩
  iapply (st_waitDma X K c (.cr s) 9 (by show ∀ x ∈ debtL.drop 9, 2 < lvK x.2; decide) (qCR s) rfl (cpW o) (ccW s) rfl)
  isplitr; · iexact Hc
  isplitl [HO]; · iexact HO
  isplitl [A1]; · iexact A1
  isplitl [C1]; · iexact C1
  iintro ⟨HO, Z1, P1⟩
  iapply (st_waitDma X K c (.lr s) 9 (by show ∀ x ∈ debtL.drop 9, 2 < lvK x.2; decide) (qLR s) rfl (lpW o) (clW s) rfl)
  isplitr; · iexact Hc
  isplitl [HO]; · iexact HO
  isplitl [A2]; · iexact A2
  isplitl [C2]; · iexact C2
  iintro ⟨HO, Z2, P2⟩
  iapply Hk
  isplitl [HO]; · iexact HO
  isplitl [Z1]; · iexact Z1
  isplitl [Z2]; · iexact Z2
  isplitl [P1]; · iapply (pq_cr X c s); iexact P1
  iapply (pq_lr X c s); iexact P2

theorem st_sentPart {β : Type} {Q : β → sProp 𝕄} (c : Dev nD) (o : Fin 3) (k : PR F β) :
    iprop(ctx X K ∗ owing c 15 ∗ sentTok c o ∗ sentCr c o
      ∗ (iprop(owing c 15 ∗ zr c (.cs o) ∗ zr c (.ls o) ∗ ptw c (cpW o.succ) fullShare (p13 X c) ∗ ptw c (lpW o.succ) fullShare (p14 X c)) -∗ WP c k Q))
      ⊢ WP c (sentPart o.succ o (rv o) k) Q := by
  unfold sentPart sentTok sentCr
  iintro ⟨#Hc, HO, ⟨A1, A2⟩, ⟨C1, C2⟩, Hk⟩
  iapply (st_waitDma X K c (.cs o) 15 (by show ∀ x ∈ debtL.drop 15, 0 < lvK x.2; decide) (qCS o) rfl (ccW (rv o)) (cpW o.succ) rfl)
  isplitr; · iexact Hc
  isplitl [HO]; · iexact HO
  isplitl [A1]; · iexact A1
  isplitl [C1]; · iexact C1
  iintro ⟨HO, Z1, P1⟩
  iapply (st_waitDma X K c (.ls o) 15 (by show ∀ x ∈ debtL.drop 15, 0 < lvK x.2; decide) (qLS o) rfl (clW (rv o)) (lpW o.succ) rfl)
  isplitr; · iexact Hc
  isplitl [HO]; · iexact HO
  isplitl [A2]; · iexact A2
  isplitl [C2]; · iexact C2
  iintro ⟨HO, Z2, P2⟩
  iapply Hk
  isplitl [HO]; · iexact HO
  isplitl [Z1]; · iexact Z1
  isplitl [Z2]; · iexact Z2
  isplitl [P1]; · iapply (pq_cs X c o); iexact P1
  iapply (pq_ls X c o); iexact P2

/-! ## The loads of the parts and slots -/

theorem st_ld13 {β : Type} {Q : β → sProp 𝕄} (c : Dev nD) (o : Fin 4) (k : Vec F S1x256x1024 .bf16 → PR F β) :
    iprop(ptw c (cpW o) fullShare (p13 X c) ∗ (ptw c (cpW o) fullShare (p13 X c) -∗ WP c (k (r13 X c o)) Q)) ⊢ WP c (ld13 F o k) Q := by
  unfold ptw; iintro ⟨H, Hk⟩
  iapply (wp_load Variants.none (c : Thread nD τ) none Set.univ (m := A13) (S := (cpW o).view.set) (win_ld13 o)) $$ [H]
  · iexact H
  iexact Hk
theorem st_ld14 {β : Type} {Q : β → sProp 𝕄} (c : Dev nD) (o : Fin 4) (k : Vec F S1x256x64 .f32 → PR F β) :
    iprop(ptw c (lpW o) fullShare (p14 X c) ∗ (ptw c (lpW o) fullShare (p14 X c) -∗ WP c (k (r14 X c o)) Q)) ⊢ WP c (ld14 F o k) Q := by
  unfold ptw; iintro ⟨H, Hk⟩
  iapply (wp_load Variants.none (c : Thread nD τ) none Set.univ (m := A14) (S := (lpW o).view.set) (win_ld14 o)) $$ [H]
  · iexact H
  iexact Hk
theorem st_ld15 {β : Type} {Q : β → sProp 𝕄} (c : Dev nD) (o : Fin 3) (k : Vec F S1x256x1024 .bf16 → PR F β) :
    iprop(ptw c (ccW o) fullShare (g15 X c) ∗ (ptw c (ccW o) fullShare (g15 X c) -∗ WP c (k (r15 X c o)) Q)) ⊢ WP c (ld15 F o k) Q := by
  unfold ptw; iintro ⟨H, Hk⟩
  iapply (wp_load Variants.none (c : Thread nD τ) none Set.univ (m := A15) (S := (ccW o).view.set) (win_ld15 o)) $$ [H]
  · iexact H
  iexact Hk
theorem st_ld16 {β : Type} {Q : β → sProp 𝕄} (c : Dev nD) (o : Fin 3) (k : Vec F S1x256x64 .f32 → PR F β) :
    iprop(ptw c (clW o) fullShare (g16 X c) ∗ (ptw c (clW o) fullShare (g16 X c) -∗ WP c (k (r16 X c o)) Q)) ⊢ WP c (ld16 F o k) Q := by
  unfold ptw; iintro ⟨H, Hk⟩
  iapply (wp_load Variants.none (c : Thread nD τ) none Set.univ (m := A16) (S := (clW o).view.set) (win_ld16 o)) $$ [H]
  · iexact H
  iexact Hk

/-! ## The result's rows -/

theorem hz2 : (![0, 0] : Fin 2 → ℕ) = fun _ => 0 := funext fun i => by fin_cases i <;> rfl
theorem hz3 : (![0, 0, 0] : Fin 3 → ℕ) = fun _ => 0 := funext fun i => by fin_cases i <;> rfl

theorem st_storeOut {β : Type} {Q : β → sProp 𝕄} (c : Dev nD) (h : Fin 2) (v : Vec F S1024x1024 .bf16 → FVec F S128x1024 .bf16) (hv : v (X.w10 c) = outH X c h) (k : PR F β) :
    iprop(pt c A10 (X.w10 c) ∗ (∃ f, ptw (F := F) c (obW c h) fullShare f)
      ∗ (iprop(pt c A10 (X.w10 c) ∗ ptw c (obW c h) fullShare (o17 X)) -∗ WP c k Q))
      ⊢ WP c (storeOut c h v k) Q := by
  unfold storeOut ptw
  iintro ⟨H10, ⟨%f, H17⟩, Hk⟩
  iapply (wp_load Variants.none (c : Thread nD τ) none Set.univ (m := A10) (S := Finset.univ) (Finset.subset_univ _)) $$ [H10]
  · iexact H10
  iintro H10
  rw [show A10.view.readAt (Elt F) (Rect.unit (s := S1024x1024) ![0, 0] S1024x1024.size inb_S1024x1024_S1024x1024_0_0).toLoadRect (X.w10 c) = X.w10 c
    from Memref.readAt_unit_zero (Elt F) cc0_scratch4 hz2 _ (X.w10 c), hv]
  iapply (wp_load Variants.none (c : Thread nD τ) none Set.univ (m := A17) (S := (obW c h).view.set) (out_ld c h)) $$ [H17]
  · iexact H17
  iintro H17
  iapply (wp_store Variants.none (c : Thread nD τ) none Set.univ (m := A17) (r := Rect.unit (s := S1024x1024) (k0_off19 c (BitVec.ofNat 32 (128 * h.val))) S128x1024.size (k0_off19_inb c h)) (S := (obW c h).view.set) (Mk := Finset.univ) (out_sub c h)) $$ [H17]
  · iexact H17
  iintro H17
  ihave H17 := (Entails.of_eq (pointsTo_congr (store17 X c h f))) $$ H17
  iapply Hk
  isplitl [H10]; · iexact H10
  iexact H17

def outTok (c : Dev nD) (j : Fin 3) (h : Fin 2) : sProp 𝕄 := iprop(tk c 0 (.os j h) 0 ∗ tk c (j.val + 1) (.or (rv j) h) 0)

theorem st_sendOut {β : Type} {Q : β → sProp 𝕄} (c m : Dev nD) (h : Fin 2) (j : Fin 3) (hm : m = pr c (j.val + 1)) (n : ℕ)
    (hn : debtL.drop n = (j.val + 1, .or (rv j) h) :: debtL.drop (n + 1)) (k : PR F β) :
    iprop(ctx X K ∗ owing c n ∗ outTok c j h ∗ ptw c (obW c h) (shO j) (o17 X) ∗ (∃ f, ptw (F := F) (pr c (j.val + 1)) (obW c h) fullShare f)
      ∗ (iprop(owing c (n + 1) ∗ cr c (.os j h)) -∗ WP c k Q))
      ⊢ WP c (sendOut c m h j (rv j) k) Q := by
  unfold sendOut outTok
  iintro ⟨#Hc, HO, ⟨T1, T2⟩, H, ⟨%f, H'⟩, Hk⟩
  iapply (st_send X K c m (j.val + 1) hm (.os j h) (.or (rv j) h) (qOS j h) (qOR (rv j) h) rfl rfl rfl rfl rfl n hn (obW c h) (obW c h) rfl rfl
    (shO j) (o17 X) f (Entails.rfl) (by
      dsimp only [pay]; rw [pr_back]; unfold ptw
      exact Entails.of_eq (pointsTo_congr (land17 c h f (o17 X)))))
  isplitr; · iexact Hc
  isplitl [HO]; · iexact HO
  isplitl [T1]; · iexact T1
  isplitl [T2]; · iexact T2
  isplitl [H]; · iexact H
  isplitl [H']; · iexact H'
  iexact Hk

def outRecv (c : Dev nD) (j : Fin 3) (h : Fin 2) : sProp 𝕄 := iprop(at0 c (.or j h) ∗ cr c (.or j h))

theorem st_recvOut {β : Type} {Q : β → sProp 𝕄} (c : Dev nD) (j : Fin 3) (h : Fin 2) (k : PR F β) :
    iprop(ctx X K ∗ owing c 15 ∗ outRecv c j h
      ∗ (iprop(owing c 15 ∗ zr c (.or j h) ∗ ptw c (obW (pr c (j.val + 1)) h) fullShare (o17 X)) -∗ WP c k Q))
      ⊢ WP c (recvOut c j h k) Q := by
  unfold recvOut outRecv
  iintro ⟨#Hc, HO, ⟨A1, C1⟩, Hk⟩
  iapply (st_waitDma X K c (.or j h) 15 (by show ∀ x ∈ debtL.drop 15, 3 < lvK x.2; decide) (qOR j h) rfl (osW c) (orW c j h) rfl)
  isplitr; · iexact Hc
  isplitl [HO]; · iexact HO
  isplitl [A1]; · iexact A1
  isplitl [C1]; · iexact C1
  iintro ⟨HO, Z1, P1⟩
  iapply Hk
  isplitl [HO]; · iexact HO
  isplitl [Z1]; · iexact Z1
  iapply (pq_or X c j h); iexact P1

theorem st_sentOut {β : Type} {Q : β → sProp 𝕄} (c : Dev nD) (j : Fin 3) (h : Fin 2) (k : PR F β) :
    iprop(ctx X K ∗ owing c 15 ∗ at0 c (.os j h) ∗ cr c (.os j h)
      ∗ (iprop(owing c 15 ∗ zr c (.os j h) ∗ ptw c (obW c h) (shO j) (o17 X)) -∗ WP c k Q))
      ⊢ WP c (sentOut c j h k) Q := by
  unfold sentOut
  iintro ⟨#Hc, HO, A1, C1, Hk⟩
  iapply (st_waitDma X K c (.os j h) 15 (by show ∀ x ∈ debtL.drop 15, 0 < lvK x.2; decide) (qOS j h) rfl (obW c h) (obW c h) rfl)
  isplitr; · iexact Hc
  isplitl [HO]; · iexact HO
  isplitl [A1]; · iexact A1
  isplitl [C1]; · iexact C1
  iintro ⟨HO, Z1, P1⟩
  iapply Hk
  isplitl [HO]; · iexact HO
  isplitl [Z1]; · iexact Z1
  iapply (pq_os X c j h); iexact P1

theorem st_storeRes {β : Type} {Q : β → sProp 𝕄} (c : Dev nD) (q : PosShare TreeShare) (f5 : Bf F c A5) (k : PR F β) :
    iprop((A17.view.loc (c : Thread nD τ) ↦{q} o17 X) ∗ pt c A5 f5
      ∗ (iprop((A17.view.loc (c : Thread nD τ) ↦{q} o17 X) ∗ pt c A5 (k0_pay328 (o17 X) : S1x1024x1024.Idx → Elt F .f32)) -∗ WP c k Q))
      ⊢ WP c (storeRes k) Q := by
  unfold storeRes
  iintro ⟨H17, H5, Hk⟩
  iapply (wp_load Variants.none (c : Thread nD τ) none Set.univ (m := A17) (S := Finset.univ) (Finset.subset_univ _)) $$ [H17]
  · iexact H17
  iintro H17
  rw [show A17.view.readAt (Elt F) (Rect.unit (s := S1024x1024) ![0, 0] S1024x1024.size inb_S1024x1024_S1024x1024_0_0).toLoadRect (o17 X) = o17 X
    from Memref.readAt_unit_zero (Elt F) cc0_scratch11 hz2 _ (o17 X)]
  iapply (wp_load Variants.none (c : Thread nD τ) none Set.univ (m := A5) (S := Finset.univ) (Finset.subset_univ _)) $$ [H5]
  · iexact H5
  iintro H5
  iapply (wp_store Variants.none (c : Thread nD τ) none Set.univ (m := A5) (S := Finset.univ) (Mk := Finset.univ) (Finset.subset_univ _)) $$ [H5]
  · iexact H5
  iintro H5
  rw [show (A5.access (Rect.unit (s := S1x1024x1024) ![0, 0, 0] S1x1024x1024.size inb_S1x1024x1024_S1x1024x1024_0_0_0)).write (Elt F) f5 (k0_pay328 (o17 X)) Finset.univ
    = (k0_pay328 (o17 X) : S1x1024x1024.Idx → Elt F .f32) from Memref.write_access_unit_zero_univ (Elt F) cc0_stg5_0 hz3 _ f5 (k0_pay328 (o17 X))]
  iapply Hk
  isplitl [H17]; · iexact H17
  iexact H5

end Cert.KP

end
-- ==== Proof.Split.lean ====
module

public import proofs.«01_k».proof.Proof.Comm

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

/-! ## Buffers held by windows -/

theorem parts13 (c : Dev nD) (f : S4x256x1024.Idx → Elt F .bf16) : (pt c A13 f : sProp 𝕄)
    = iprop(ptw c (cpW 0) fullShare f ∗ ptw c (cpW 1) fullShare f ∗ ptw c (cpW 2) fullShare f ∗ ptw c (cpW 3) fullShare f) := by
  unfold ptw
  exact (Ring.pointsTo_blocks (ℓ := A13.view.loc (c : Thread nD τ)) (fun o : Fin 4 => ((cpW o).view.set : Finset S4x256x1024.Idx)) dj_cpW cov_cpW f).trans
    (bigSep_univ_eq_bigSepL [0, 1, 2, 3] (by decide) (by decide) _)
theorem parts14 (c : Dev nD) (f : S4x256x64.Idx → Elt F .f32) : (pt c A14 f : sProp 𝕄)
    = iprop(ptw c (lpW 0) fullShare f ∗ ptw c (lpW 1) fullShare f ∗ ptw c (lpW 2) fullShare f ∗ ptw c (lpW 3) fullShare f) := by
  unfold ptw
  exact (Ring.pointsTo_blocks (ℓ := A14.view.loc (c : Thread nD τ)) (fun o : Fin 4 => ((lpW o).view.set : Finset S4x256x64.Idx)) dj_lpW cov_lpW f).trans
    (bigSep_univ_eq_bigSepL [0, 1, 2, 3] (by decide) (by decide) _)
theorem parts15 (c : Dev nD) (f : S3x256x1024.Idx → Elt F .bf16) : (pt c A15 f : sProp 𝕄)
    = iprop(ptw c (ccW 0) fullShare f ∗ ptw c (ccW 1) fullShare f ∗ ptw c (ccW 2) fullShare f) := by
  unfold ptw
  exact (Ring.pointsTo_blocks (ℓ := A15.view.loc (c : Thread nD τ)) (fun o : Fin 3 => ((ccW o).view.set : Finset S3x256x1024.Idx)) dj_ccW cov_ccW f).trans
    (bigSep_univ_eq_bigSepL [0, 1, 2] (by decide) (by decide) _)
theorem parts16 (c : Dev nD) (f : S3x256x64.Idx → Elt F .f32) : (pt c A16 f : sProp 𝕄)
    = iprop(ptw c (clW 0) fullShare f ∗ ptw c (clW 1) fullShare f ∗ ptw c (clW 2) fullShare f) := by
  unfold ptw
  exact (Ring.pointsTo_blocks (ℓ := A16.view.loc (c : Thread nD τ)) (fun o : Fin 3 => ((clW o).view.set : Finset S3x256x64.Idx)) dj_clW cov_clW f).trans
    (bigSep_univ_eq_bigSepL [0, 1, 2] (by decide) (by decide) _)

theorem pr_surj (c d : Dev nD) : ∃ o : Fin 4, pr c o.val = d := by revert c d; decide
theorem pr_inj (c : Dev nD) (o o' : Fin 4) (h : pr c o.val = pr c o'.val) : o = o' := by revert c o o'; decide

theorem parts17 (c : Dev nD) (q : PosShare TreeShare) (f : S1024x1024.Idx → Elt F .bf16) : (A17.view.loc (c : Thread nD τ) ↦{q} f : sProp 𝕄)
    = iprop(ptw c (obW c 0) q f ∗ ptw c (obW c 1) q f ∗ ptw c (obW (pr c 1) 0) q f ∗ ptw c (obW (pr c 1) 1) q f
      ∗ ptw c (obW (pr c 2) 0) q f ∗ ptw c (obW (pr c 2) 1) q f ∗ ptw c (obW (pr c 3) 0) q f ∗ ptw c (obW (pr c 3) 1) q f) := by
  have h := (Ring.pointsTo_blocks (Ix := Unit) (Name := ℕ) (U := UU) (Lvl := ℕ) (q := q) (ℓ := A17.view.loc (c : Thread nD τ)) (fun p : Fin 4 × Fin 2 => ((obW (pr c p.1.val) p.2).view.set : Finset S1024x1024.Idx))
    (fun p p' hp => dj_obW (pr c p.1.val, p.2) (pr c p'.1.val, p'.2) fun h => hp (Prod.ext (pr_inj c _ _ (Prod.mk.inj h).1) (Prod.mk.inj h).2))
    (Finset.eq_univ_iff_forall.mpr fun x => by
      have hx : x ∈ ((Finset.univ : Finset (Dev nD × Fin 2)).biUnion (β := S1024x1024.Idx) fun p => (obW p.1 p.2).view.set) := by rw [cov_obW]; exact Finset.mem_univ x
      obtain ⟨p, -, hp⟩ := Finset.mem_biUnion.mp hx
      obtain ⟨o, ho⟩ := pr_surj c p.1
      exact Finset.mem_biUnion.mpr ⟨(o, p.2), Finset.mem_univ _, by show x ∈ (obW (pr c o.val) p.2).view.set; rw [ho]; exact hp⟩) f).trans
    (bigSep_univ_eq_bigSepL [(0, 0), (0, 1), (1, 0), (1, 1), (2, 0), (2, 1), (3, 0), (3, 1)] (by decide) (by decide) _)
  refine h.trans ?_
  unfold ptw
  show iprop((A17.view.loc (c : Thread nD τ) ↦[(obW (pr c 0) 0).view.set]{q} f) ∗ (A17.view.loc (c : Thread nD τ) ↦[(obW (pr c 0) 1).view.set]{q} f) ∗ _) = _
  rw [pr_zero]; rfl

/-! ## Shares -/

/-- The shares of a window other than the one kept for reading. -/
abbrev rst {sp : Space} {S : Shape} {e : EltTy} (c : Dev nD) (M : Memref sig .tc sp S e) (f : Buf (Elt F) (M.view.loc (c : Thread nD τ))) : sProp 𝕄 :=
  iprop(ptw c M (shO 0) f ∗ ptw c M (shO 1) f ∗ ptw c M (shO 2) f)

theorem sh_split {sp : Space} {S : Shape} {e : EltTy} (c : Dev nD) (M : Memref sig .tc sp S e) (f : Buf (Elt F) (M.view.loc (c : Thread nD τ))) :
    ptw c M fullShare f ⊢ iprop(ptw c M shK f ∗ rst c M f) := by
  unfold rst ptw
  iintro H
  ihave ⟨Ha, Hb⟩ := (pointsTo_share (PosShare.mem_left_op_right fullShare)).1 $$ H
  ihave ⟨H0, H1⟩ := (pointsTo_share (PosShare.mem_left_op_right fullShare.left)).1 $$ Ha
  ihave ⟨H2, H3⟩ := (pointsTo_share (PosShare.mem_left_op_right fullShare.right)).1 $$ Hb
  isplitl [H3]; · iexact H3
  isplitl [H0]; · iexact H0
  isplitl [H1]; · iexact H1
  iexact H2
theorem sh_join {sp : Space} {S : Shape} {e : EltTy} (c : Dev nD) (M : Memref sig .tc sp S e) (f : Buf (Elt F) (M.view.loc (c : Thread nD τ))) :
    iprop(ptw c M shK f ∗ rst c M f) ⊢ ptw c M fullShare f := by
  unfold rst ptw
  iintro ⟨H3, H0, H1, H2⟩
  iapply (pointsTo_share (PosShare.mem_left_op_right fullShare)).2
  isplitl [H0 H1]
  · iapply (pointsTo_share (PosShare.mem_left_op_right fullShare.left)).2
    isplitl [H0]; · iexact H0
    iexact H1
  iapply (pointsTo_share (PosShare.mem_left_op_right fullShare.right)).2
  isplitl [H2]; · iexact H2
  iexact H3

end Cert.KP

end
-- ==== Proof.Body1.lean ====
module

public import proofs.«01_k».proof.Proof.Split

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

variable (X : Cn F) (K : Dev nD × Cl → ℕ)

/-! ## The entry handshake -/

/-- A device's slot; its rows which the device `o` after it fills; what it needs for a handshake. -/
def slot (c : Dev nD) (s : Fin 3) : sProp 𝕄 := iprop((∃ f, ptw (F := F) c (ccW s) fullShare f) ∗ (∃ f, ptw (F := F) c (clW s) fullShare f))
def rows (c : Dev nD) (o : ℕ) : sProp 𝕄 :=
  iprop((∃ f, ptw (F := F) c (obW (pr c o) 0) fullShare f) ∗ (∃ f, ptw (F := F) c (obW (pr c o) 1) fullShare f))
def hsTok (c : Dev nD) (k : Cl) : sProp 𝕄 := iprop(at0 c k ∗ cr c k ∗ tk c 1 k 2 ∗ tk c 2 k 1 ∗ tk c 3 k 0)

theorem rv_rv (o : Fin 3) : rv (rv o) = o := by revert o; decide

theorem bar_give (c : Dev nD) (o : Fin 3) : iprop(slot (F := F) c o ∗ rows c (o.val + 1)) ⊢ pay X (pr c (o.val + 1)) .bar (rv o) := by
  show _ ⊢ barPay (pr c (o.val + 1)) (rv o)
  unfold barPay slot rows
  rw [pr_back, rv_rv]
  iintro ⟨⟨H1, H2⟩, H3, H4⟩
  isplitl [H1]; · iexact H1
  isplitl [H2]; · iexact H2
  isplitl [H3]; · iexact H3
  iexact H4

theorem pq_bar (c : Dev nD) : (bigSep (dut .bar) fun d => pay X c .bar d) ⊢ iprop(barPay (F := F) c 0 ∗ barPay c 1 ∗ barPay c 2) :=
  Entails.of_eq (bigSep_univ_eq_bigSepL [0, 1, 2] (by decide) (by decide) _)

theorem st_bind {α β : Type} {Q : β → sProp 𝕄} (c : Dev nD) (p : PR F α) (k : α → PR F β) : WP c p (fun v => WP c (k v) Q) ⊢ WP c (p >>= k) Q :=
  Entails.of_eq (wp_bind _ _ _ p k Q).symm

theorem st_head {β : Type} {Q : β → sProp 𝕄} (c : Dev nD) (f : Dev nD → FVec F S128x1024 .bf16 → PR F β) :
    iprop(ctx X K ∗ owing c 0 ∗ hsTok c .bar ∗ slot (F := F) c 0 ∗ slot (F := F) c 1 ∗ slot (F := F) c 2 ∗ rows c 1 ∗ rows c 2 ∗ rows c 3
      ∗ (iprop(owing c 3 ∗ zr c .bar ∗ barPay (F := F) c 0 ∗ barPay c 1 ∗ barPay c 2) -∗ WP c tail31 (fun v60 => WP c (f c v60) Q)))
      ⊢ WP c (normHead f) Q := by
  unfold normHead hsTok
  simp only [semSignalWord, semWaitWord, Prog.lift, Prog.bind_op, Prog.bind_ret, Prog.pure_eq_ret, wp_deviceId]
  iintro ⟨#Hc, HO, ⟨A, C, T1, T2, T3⟩, S0, S1, S2, R1, R2, R3, Hk⟩
  iapply (st_signal X K c _ 1 (dev1_eq c) .bar qBar rfl rfl 2 (Finset.mem_univ _) 0 rfl)
  isplitr; · iexact Hc
  isplitl [HO]; · iexact HO
  isplitl [T1]; · iexact T1
  isplitl [S0 R1]
  · iapply (bar_give X c 0); isplitl [S0]; · iexact S0
    iexact R1
  iintro HO
  iapply (st_signal X K c _ 2 (dev2_eq c) .bar qBar rfl rfl 1 (Finset.mem_univ _) 1 rfl)
  isplitr; · iexact Hc
  isplitl [HO]; · iexact HO
  isplitl [T2]; · iexact T2
  isplitl [S1 R2]
  · iapply (bar_give X c 1); isplitl [S1]; · iexact S1
    iexact R2
  iintro HO
  iapply (st_signal X K c _ 3 (dev3_eq c) .bar qBar rfl rfl 0 (Finset.mem_univ _) 2 rfl)
  isplitr; · iexact Hc
  isplitl [HO]; · iexact HO
  isplitl [T3]; · iexact T3
  isplitl [S2 R3]
  · iapply (bar_give X c 2); isplitl [S2]; · iexact S2
    iexact R3
  iintro HO
  iapply (st_wait X K c .bar 3 (by decide) (w := .semWait qBar 3) (fun Kt => wpE_semWait_eq Variants.none (c : Thread nD τ) none Set.univ Kt))
  isplitr; · iexact Hc
  isplitl [HO]; · iexact HO
  isplitl [A]; · iexact A
  isplitl [C]; · iexact C
  iintro ⟨HO, Z, P⟩
  ihave P := (pq_bar X c) $$ P
  iapply (st_bind c tail31 (fun v60 => f c v60))
  iapply Hk
  isplitl [HO]; · iexact HO
  isplitl [Z]; · iexact Z
  iexact P

/-! ## The exchange of contexts -/

/-- A part, its contents unknown. -/
def part (c : Dev nD) (o : Fin 4) : sProp 𝕄 := iprop((∃ f, ptw (F := F) c (cpW o) fullShare f) ∗ (∃ f, ptw (F := F) c (lpW o) fullShare f))
/-- A part and a slot, filled; a slot's semaphores closed. -/
def partF (c : Dev nD) (o : Fin 4) : sProp 𝕄 := iprop(ptw c (cpW o) fullShare (p13 X c) ∗ ptw c (lpW o) fullShare (p14 X c))
def slotF (c : Dev nD) (s : Fin 3) : sProp 𝕄 := iprop(ptw c (ccW s) fullShare (g15 X c) ∗ ptw c (clW s) fullShare (g16 X c))
def slotZ (c : Dev nD) (s : Fin 3) : sProp 𝕄 := iprop(zr c (.cr s) ∗ zr c (.lr s))
def partZ (c : Dev nD) (o : Fin 3) : sProp 𝕄 := iprop(zr c (.cs o) ∗ zr c (.ls o))
/-- The slot of the device `o + 1` after, which this device's copies land in. -/
def pslot (c : Dev nD) (o : Fin 3) : sProp 𝕄 :=
  iprop((∃ f, ptw (F := F) (pr c (o.val + 1)) (ccW (rv o)) fullShare f) ∗ (∃ f, ptw (F := F) (pr c (o.val + 1)) (clW (rv o)) fullShare f))

theorem st_both {β : Type} {Q : β → sProp 𝕄} (c m m' : Dev nD) (o : Fin 3) (hm : m = pr c (o.val + 1)) (hm' : m' = pr c (o.val + 1)) (n : ℕ)
    (hn : debtL.drop n = (o.val + 1, .cr (rv o)) :: debtL.drop (n + 1)) (hn' : debtL.drop (n + 1) = (o.val + 1, .lr (rv o)) :: debtL.drop (n + 1 + 1))
    (k : PR F β) :
    iprop(ctx X K ∗ owing c n ∗ both X c ∗ sendTok c o ∗ part (F := F) c o.succ ∗ pslot (F := F) c o
      ∗ (iprop(owing c (n + 1 + 1) ∗ both X c ∗ sentCr c o) -∗ WP c k Q))
      ⊢ WP c (copyPart c o.succ (sendPart m m' o.succ o (rv o) k)) Q := by
  unfold part pslot
  iintro ⟨#Hc, HO, HB, T, ⟨P1, P2⟩, ⟨S1, S2⟩, Hk⟩
  iapply (st_copyPart X c o.succ)
  isplitl [HB]; · iexact HB
  isplitl [P1]; · iexact P1
  isplitl [P2]; · iexact P2
  iintro ⟨HB, P1, P2⟩
  iapply (st_sendPart X K c m m' o hm hm' n hn hn')
  isplitr; · iexact Hc
  isplitl [HO]; · iexact HO
  isplitl [T]; · iexact T
  isplitl [P1]; · iexact P1
  isplitl [P2]; · iexact P2
  isplitl [S1]; · iexact S1
  isplitl [S2]; · iexact S2
  iintro ⟨HO, C⟩
  iapply Hk
  isplitl [HO]; · iexact HO
  isplitl [HB]; · iexact HB
  iexact C

theorem st_recv {β : Type} {Q : β → sProp 𝕄} (c : Dev nD) (o : Fin 4) (s : Fin 3) (k : PR F β) :
    iprop(ctx X K ∗ owing c 9 ∗ recvTok c s ∗ (iprop(owing c 9 ∗ slotZ c s ∗ slotF X c s) -∗ WP c k Q)) ⊢ WP c (recvPart o s k) Q := by
  unfold slotZ slotF
  iintro ⟨#Hc, HO, T, Hk⟩
  iapply (st_recvPart X K c o s)
  isplitr; · iexact Hc
  isplitl [HO]; · iexact HO
  isplitl [T]; · iexact T
  iintro ⟨HO, Z1, Z2, H1, H2⟩
  iapply Hk
  isplitl [HO]; · iexact HO
  isplitl [Z1 Z2]
  · isplitl [Z1]; · iexact Z1
    iexact Z2
  isplitl [H1]; · iexact H1
  iexact H2

theorem normC1_steps {β : Type} (c : Dev nD) (k : FVec F S256x1024 .f32 → PR F β) : normC1 c k =
    (copyPart c (Fin.succ 0) <| sendPart ⟨k0_dev4 c, k0_dev4_lt c⟩ ⟨k0_dev5 c, k0_dev5_lt c⟩ (Fin.succ 0) 0 (rv 0) <|
     copyPart c (Fin.succ 1) <| sendPart ⟨k0_dev6 c, k0_dev6_lt c⟩ ⟨k0_dev7 c, k0_dev7_lt c⟩ (Fin.succ 1) 1 (rv 1) <|
     copyPart c (Fin.succ 2) <| sendPart ⟨k0_dev8 c, k0_dev8_lt c⟩ ⟨k0_dev9 c, k0_dev9_lt c⟩ (Fin.succ 2) 2 (rv 2) <|
     copyPart c 0 <| recvPart 1 2 <| recvPart 2 1 <| recvPart 3 0 <|
     ld13 F 0 fun x0 => ld15 F 0 fun x1 => ld15 F 1 fun x2 => ld15 F 2 fun x3 =>
     ld14 F 0 fun y0 => ld16 F 0 fun y1 => ld16 F 1 fun y2 => ld16 F 2 fun y3 =>
     storeOut c 0 (fun w => outOf0 x0 x1 x2 x3 y0 y1 y2 y3 w) <| k (attnOf x0 x1 x2 x3 y0 y1 y2 y3)) := rfl

theorem st_C1 {β : Type} {Q : β → sProp 𝕄} (c : Dev nD) (k : FVec F S256x1024 .f32 → PR F β) :
    iprop(ctx X K ∗ owing c 3 ∗ both X c ∗ pt c A10 (X.w10 c)
      ∗ sendTok c 0 ∗ sendTok c 1 ∗ sendTok c 2 ∗ recvTok c 0 ∗ recvTok c 1 ∗ recvTok c 2
      ∗ part (F := F) c 0 ∗ part (F := F) c (Fin.succ 0) ∗ part (F := F) c (Fin.succ 1) ∗ part (F := F) c (Fin.succ 2) ∗ pslot (F := F) c 0 ∗ pslot (F := F) c 1 ∗ pslot (F := F) c 2
      ∗ (∃ f, ptw (F := F) c (obW c 0) fullShare f)
      ∗ (iprop(owing c 9 ∗ both X c ∗ pt c A10 (X.w10 c) ∗ sentCr c 0 ∗ sentCr c 1 ∗ sentCr c 2 ∗ slotZ c 0 ∗ slotZ c 1 ∗ slotZ c 2
          ∗ slotF X c 0 ∗ slotF X c 1 ∗ slotF X c 2 ∗ partF X c 0 ∗ ptw c (obW c 0) fullShare (o17 X)) -∗ WP c (k (att X c)) Q))
      ⊢ WP c (normC1 c k) Q := by
  rw [normC1_steps]
  iintro ⟨#Hc, HO, HB, H10, T0, T1, T2, R0, R1, R2, P0, P1, P2, P3, S0, S1, S2, HR, Hk⟩
  iapply (st_both X K c _ _ 0 (dev4_eq c) (dev5_eq c) 3 rfl rfl)
  isplitr; · iexact Hc
  isplitl [HO]; · iexact HO
  isplitl [HB]; · iexact HB
  isplitl [T0]; · iexact T0
  isplitl [P1]; · iexact P1
  isplitl [S0]; · iexact S0
  iintro ⟨HO, HB, C0⟩
  iapply (st_both X K c _ _ 1 (dev6_eq c) (dev7_eq c) 5 rfl rfl)
  isplitr; · iexact Hc
  isplitl [HO]; · iexact HO
  isplitl [HB]; · iexact HB
  isplitl [T1]; · iexact T1
  isplitl [P2]; · iexact P2
  isplitl [S1]; · iexact S1
  iintro ⟨HO, HB, C1⟩
  iapply (st_both X K c _ _ 2 (dev8_eq c) (dev9_eq c) 7 rfl rfl)
  isplitr; · iexact Hc
  isplitl [HO]; · iexact HO
  isplitl [HB]; · iexact HB
  isplitl [T2]; · iexact T2
  isplitl [P3]; · iexact P3
  isplitl [S2]; · iexact S2
  iintro ⟨HO, HB, C2⟩
  unfold part
  icases P0 with ⟨P01, P02⟩
  iapply (st_copyPart X c 0)
  isplitl [HB]; · iexact HB
  isplitl [P01]; · iexact P01
  isplitl [P02]; · iexact P02
  iintro ⟨HB, P01, P02⟩
  iapply (st_recv X K c 1 2)
  isplitr; · iexact Hc
  isplitl [HO]; · iexact HO
  isplitl [R2]; · iexact R2
  iintro ⟨HO, Z2, F2⟩
  iapply (st_recv X K c 2 1)
  isplitr; · iexact Hc
  isplitl [HO]; · iexact HO
  isplitl [R1]; · iexact R1
  iintro ⟨HO, Z1, F1⟩
  iapply (st_recv X K c 3 0)
  isplitr; · iexact Hc
  isplitl [HO]; · iexact HO
  isplitl [R0]; · iexact R0
  iintro ⟨HO, Z0, F0⟩
  unfold slotF partF
  icases F0 with ⟨F00, F01⟩
  icases F1 with ⟨F10, F11⟩
  icases F2 with ⟨F20, F21⟩
  iapply (st_ld13 X c 0); isplitl [P01]; · iexact P01
  iintro P01
  iapply (st_ld15 X c 0); isplitl [F00]; · iexact F00
  iintro F00
  iapply (st_ld15 X c 1); isplitl [F10]; · iexact F10
  iintro F10
  iapply (st_ld15 X c 2); isplitl [F20]; · iexact F20
  iintro F20
  iapply (st_ld14 X c 0); isplitl [P02]; · iexact P02
  iintro P02
  iapply (st_ld16 X c 0); isplitl [F01]; · iexact F01
  iintro F01
  iapply (st_ld16 X c 1); isplitl [F11]; · iexact F11
  iintro F11
  iapply (st_ld16 X c 2); isplitl [F21]; · iexact F21
  iintro F21
  iapply (st_storeOut X c 0 _ rfl)
  isplitl [H10]; · iexact H10
  isplitl [HR]; · iexact HR
  iintro ⟨H10, HR⟩
  iapply Hk
  isplitl [HO]; · iexact HO
  isplitl [HB]; · iexact HB
  isplitl [H10]; · iexact H10
  isplitl [C0]; · iexact C0
  isplitl [C1]; · iexact C1
  isplitl [C2]; · iexact C2
  isplitl [Z0]; · iexact Z0
  isplitl [Z1]; · iexact Z1
  isplitl [Z2]; · iexact Z2
  isplitl [F00 F01]
  · isplitl [F00]; · iexact F00
    iexact F01
  isplitl [F10 F11]
  · isplitl [F10]; · iexact F10
    iexact F11
  isplitl [F20 F21]
  · isplitl [F20]; · iexact F20
    iexact F21
  isplitl [P01 P02]
  · isplitl [P01]; · iexact P01
    iexact P02
  iexact HR

end Cert.KP

end
-- ==== Proof.Body2.lean ====
module

public import proofs.«01_k».proof.Proof.Body1

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

variable (X : Cn F) (K : Dev nD × Cl → ℕ)

/-! ## The exchange of result rows, the departures, the closing handshake -/

/-- This device's half `h` on the device `j + 1` after it. -/
def prow (c : Dev nD) (j : Fin 3) (h : Fin 2) : sProp 𝕄 := iprop(∃ f, ptw (F := F) (pr c (j.val + 1)) (obW c h) fullShare f)
/-- What three copies of a half need, and the three waits for their departure. -/
def outTok3 (c : Dev nD) (h : Fin 2) : sProp 𝕄 := iprop(outTok (F := F) c 0 h ∗ outTok c 1 h ∗ outTok c 2 h)
def prow3 (c : Dev nD) (h : Fin 2) : sProp 𝕄 := iprop(prow (F := F) c 0 h ∗ prow c 1 h ∗ prow c 2 h)
def osCr3 (c : Dev nD) (h : Fin 2) : sProp 𝕄 := iprop(cr (F := F) c (.os 0 h) ∗ cr c (.os 1 h) ∗ cr c (.os 2 h))
def osAt3 (c : Dev nD) (h : Fin 2) : sProp 𝕄 := iprop(at0 (F := F) c (.os 0 h) ∗ at0 c (.os 1 h) ∗ at0 c (.os 2 h))
def osZ3 (c : Dev nD) (h : Fin 2) : sProp 𝕄 := iprop(zr (F := F) c (.os 0 h) ∗ zr c (.os 1 h) ∗ zr c (.os 2 h))
def orTok3 (c : Dev nD) (h : Fin 2) : sProp 𝕄 := iprop(outRecv (F := F) c 0 h ∗ outRecv c 1 h ∗ outRecv c 2 h)
def orZ3 (c : Dev nD) (h : Fin 2) : sProp 𝕄 := iprop(zr (F := F) c (.or 0 h) ∗ zr c (.or 1 h) ∗ zr c (.or 2 h))
/-- The half `h` of every other device's rows. -/
def got3 (c : Dev nD) (h : Fin 2) (q : PosShare TreeShare) : sProp 𝕄 :=
  iprop(ptw c (obW (pr c 1) h) q (o17 X) ∗ ptw c (obW (pr c 2) h) q (o17 X) ∗ ptw c (obW (pr c 3) h) q (o17 X))

theorem st_out3 {β : Type} {Q : β → sProp 𝕄} (c m0 m1 m2 : Dev nD) (h : Fin 2) (h0 : m0 = pr c 1) (h1 : m1 = pr c 2) (h2 : m2 = pr c 3) (n : ℕ)
    (hn0 : debtL.drop n = (1, .or (rv 0) h) :: debtL.drop (n + 1)) (hn1 : debtL.drop (n + 1) = (2, .or (rv 1) h) :: debtL.drop (n + 1 + 1))
    (hn2 : debtL.drop (n + 1 + 1) = (3, .or (rv 2) h) :: debtL.drop (n + 1 + 1 + 1)) (k : PR F β) :
    iprop(ctx X K ∗ owing c n ∗ outTok3 c h ∗ prow3 (F := F) c h ∗ ptw c (obW c h) fullShare (o17 X)
      ∗ (iprop(owing c (n + 1 + 1 + 1) ∗ osCr3 c h ∗ ptw c (obW c h) shK (o17 X)) -∗ WP c k Q))
      ⊢ WP c (sendOut c m0 h 0 (rv 0) <| sendOut c m1 h 1 (rv 1) <| sendOut c m2 h 2 (rv 2) k) Q := by
  unfold outTok3 prow3 osCr3 prow
  iintro ⟨#Hc, HO, ⟨T0, T1, T2⟩, ⟨P0, P1, P2⟩, H, Hk⟩
  ihave ⟨H, R0, R1, R2⟩ := (sh_split c (obW c h) (o17 X)) $$ H
  iapply (st_sendOut X K c m0 h 0 h0 _ hn0)
  isplitr; · iexact Hc
  isplitl [HO]; · iexact HO
  isplitl [T0]; · iexact T0
  isplitl [R0]; · iexact R0
  isplitl [P0]; · iexact P0
  iintro ⟨HO, C0⟩
  iapply (st_sendOut X K c m1 h 1 h1 _ hn1)
  isplitr; · iexact Hc
  isplitl [HO]; · iexact HO
  isplitl [T1]; · iexact T1
  isplitl [R1]; · iexact R1
  isplitl [P1]; · iexact P1
  iintro ⟨HO, C1⟩
  iapply (st_sendOut X K c m2 h 2 h2 _ hn2)
  isplitr; · iexact Hc
  isplitl [HO]; · iexact HO
  isplitl [T2]; · iexact T2
  isplitl [R2]; · iexact R2
  isplitl [P2]; · iexact P2
  iintro ⟨HO, C2⟩
  iapply Hk
  isplitl [HO]; · iexact HO
  isplitl [C0 C1 C2]
  · isplitl [C0]; · iexact C0
    isplitl [C1]; · iexact C1
    iexact C2
  iexact H

theorem st_or6 {β : Type} {Q : β → sProp 𝕄} (c : Dev nD) (k : PR F β) :
    iprop(ctx X K ∗ owing c 15 ∗ orTok3 c 0 ∗ orTok3 c 1
      ∗ (iprop(owing c 15 ∗ orZ3 c 0 ∗ orZ3 c 1 ∗ got3 X c 0 fullShare ∗ got3 X c 1 fullShare) -∗ WP c k Q))
      ⊢ WP c (recvOut c 0 0 <| recvOut c 0 1 <| recvOut c 1 0 <| recvOut c 1 1 <| recvOut c 2 0 <| recvOut c 2 1 k) Q := by
  unfold orTok3 orZ3 got3
  iintro ⟨#Hc, HO, ⟨T00, T10, T20⟩, ⟨T01, T11, T21⟩, Hk⟩
  iapply (st_recvOut X K c 0 0)
  isplitr; · iexact Hc
  isplitl [HO]; · iexact HO
  isplitl [T00]; · iexact T00
  iintro ⟨HO, Z00, H00⟩
  iapply (st_recvOut X K c 0 1)
  isplitr; · iexact Hc
  isplitl [HO]; · iexact HO
  isplitl [T01]; · iexact T01
  iintro ⟨HO, Z01, H01⟩
  iapply (st_recvOut X K c 1 0)
  isplitr; · iexact Hc
  isplitl [HO]; · iexact HO
  isplitl [T10]; · iexact T10
  iintro ⟨HO, Z10, H10⟩
  iapply (st_recvOut X K c 1 1)
  isplitr; · iexact Hc
  isplitl [HO]; · iexact HO
  isplitl [T11]; · iexact T11
  iintro ⟨HO, Z11, H11⟩
  iapply (st_recvOut X K c 2 0)
  isplitr; · iexact Hc
  isplitl [HO]; · iexact HO
  isplitl [T20]; · iexact T20
  iintro ⟨HO, Z20, H20⟩
  iapply (st_recvOut X K c 2 1)
  isplitr; · iexact Hc
  isplitl [HO]; · iexact HO
  isplitl [T21]; · iexact T21
  iintro ⟨HO, Z21, H21⟩
  iapply Hk
  isplitl [HO]; · iexact HO
  isplitl [Z00 Z10 Z20]
  · isplitl [Z00]; · iexact Z00
    isplitl [Z10]; · iexact Z10
    iexact Z20
  isplitl [Z01 Z11 Z21]
  · isplitl [Z01]; · iexact Z01
    isplitl [Z11]; · iexact Z11
    iexact Z21
  isplitl [H00 H10 H20]
  · isplitl [H00]; · iexact H00
    isplitl [H10]; · iexact H10
    iexact H20
  isplitl [H01]; · iexact H01
  isplitl [H11]; · iexact H11
  iexact H21

theorem st_os3 {β : Type} {Q : β → sProp 𝕄} (c : Dev nD) (h : Fin 2) (k : PR F β) :
    iprop(ctx X K ∗ owing c 15 ∗ osAt3 c h ∗ osCr3 c h
      ∗ (iprop(owing c 15 ∗ osZ3 c h ∗ rst c (obW c h) (o17 X)) -∗ WP c k Q))
      ⊢ WP c (sentOut c 0 h <| sentOut c 1 h <| sentOut c 2 h k) Q := by
  unfold osAt3 osCr3 osZ3
  iintro ⟨#Hc, HO, ⟨T0, T1, T2⟩, ⟨C0, C1, C2⟩, Hk⟩
  iapply (st_sentOut X K c 0 h)
  isplitr; · iexact Hc
  isplitl [HO]; · iexact HO
  isplitl [T0]; · iexact T0
  isplitl [C0]; · iexact C0
  iintro ⟨HO, Z0, H0⟩
  iapply (st_sentOut X K c 1 h)
  isplitr; · iexact Hc
  isplitl [HO]; · iexact HO
  isplitl [T1]; · iexact T1
  isplitl [C1]; · iexact C1
  iintro ⟨HO, Z1, H1⟩
  iapply (st_sentOut X K c 2 h)
  isplitr; · iexact Hc
  isplitl [HO]; · iexact HO
  isplitl [T2]; · iexact T2
  isplitl [C2]; · iexact C2
  iintro ⟨HO, Z2, H2⟩
  iapply Hk
  isplitl [HO]; · iexact HO
  isplitl [Z0 Z1 Z2]
  · isplitl [Z0]; · iexact Z0
    isplitl [Z1]; · iexact Z1
    iexact Z2
  isplitl [H0]; · iexact H0
  isplitl [H1]; · iexact H1
  iexact H2

theorem st_sent {β : Type} {Q : β → sProp 𝕄} (c : Dev nD) (o : Fin 3) (k : PR F β) :
    iprop(ctx X K ∗ owing c 15 ∗ sentTok c o ∗ sentCr c o ∗ (iprop(owing c 15 ∗ partZ c o ∗ partF X c o.succ) -∗ WP c k Q))
      ⊢ WP c (sentPart o.succ o (rv o) k) Q := by
  unfold partZ partF
  iintro ⟨#Hc, HO, T, C, Hk⟩
  iapply (st_sentPart X K c o)
  isplitr; · iexact Hc
  isplitl [HO]; · iexact HO
  isplitl [T]; · iexact T
  isplitl [C]; · iexact C
  iintro ⟨HO, Z1, Z2, H1, H2⟩
  iapply Hk
  isplitl [HO]; · iexact HO
  isplitl [Z1 Z2]
  · isplitl [Z1]; · iexact Z1
    iexact Z2
  isplitl [H1]; · iexact H1
  iexact H2

/-- The closing handshake. -/
def exitP (c : Dev nD) : PR F PUnit := do
  semSignalWord (⟨k0_dev16 c, k0_dev16_lt c⟩ : Dev nD) qEx 1#32
  semSignalWord (⟨k0_dev17 c, k0_dev17_lt c⟩ : Dev nD) qEx 1#32
  semSignalWord (⟨k0_dev18 c, k0_dev18_lt c⟩ : Dev nD) qEx 1#32
  semWaitWord qEx 3#32
  pure ⟨⟩

theorem st_ret {β : Type} {Q : β → sProp 𝕄} (c : Dev nD) (a : β) : Q a ⊢ WP c (.ret a) Q := by
  unfold WP; rw [wp_ret]; exact fupd_intro

theorem ex_give (c m : Dev nD) (d : Dy) : (emp : sProp 𝕄) ⊢ pay X m .ex d := Entails.rfl

theorem st_exit {Q : PUnit → sProp 𝕄} (c : Dev nD) :
    iprop(ctx X K ∗ owing c 15 ∗ hsTok c .ex ∗ (iprop(owing c 18 ∗ zr c .ex) -∗ Q ⟨⟩)) ⊢ WP c (exitP (F := F) c) Q := by
  unfold exitP hsTok
  simp only [semSignalWord, semWaitWord, Prog.lift, Prog.bind_op, Prog.bind_ret, Prog.pure_eq_ret]
  iintro ⟨#Hc, HO, ⟨A, C, T1, T2, T3⟩, Hk⟩
  iapply (st_signal X K c _ 1 (dev16_eq c) .ex qEx rfl rfl 2 (Finset.mem_univ _) 15 rfl)
  isplitr; · iexact Hc
  isplitl [HO]; · iexact HO
  isplitl [T1]; · iexact T1
  isplitr; · iapply (ex_give X c (pr c 1) 2); iempintro
  iintro HO
  iapply (st_signal X K c _ 2 (dev17_eq c) .ex qEx rfl rfl 1 (Finset.mem_univ _) 16 rfl)
  isplitr; · iexact Hc
  isplitl [HO]; · iexact HO
  isplitl [T2]; · iexact T2
  isplitr; · iapply (ex_give X c (pr c 2) 1); iempintro
  iintro HO
  iapply (st_signal X K c _ 3 (dev18_eq c) .ex qEx rfl rfl 0 (Finset.mem_univ _) 17 rfl)
  isplitr; · iexact Hc
  isplitl [HO]; · iexact HO
  isplitl [T3]; · iexact T3
  isplitr; · iapply (ex_give X c (pr c 3) 0); iempintro
  iintro HO
  iapply (st_wait X K c .ex 18 (by decide) (w := .semWait qEx 3) (fun Kt => wpE_semWait_eq Variants.none (c : Thread nD τ) none Set.univ Kt))
  isplitr; · iexact Hc
  isplitl [HO]; · iexact HO
  isplitl [A]; · iexact A
  isplitl [C]; · iexact C
  iintro ⟨HO, Z, -⟩
  iapply (st_ret c PUnit.unit)
  iapply Hk
  isplitl [HO]; · iexact HO
  iexact Z

theorem normC2_steps (c : Dev nD) (v : FVec F S256x1024 .f32) : normC2 c v =
    (sendOut c ⟨k0_dev10 c, k0_dev10_lt c⟩ 0 0 (rv 0) <| sendOut c ⟨k0_dev11 c, k0_dev11_lt c⟩ 0 1 (rv 1) <| sendOut c ⟨k0_dev12 c, k0_dev12_lt c⟩ 0 2 (rv 2) <|
     storeOut c 1 (fun w => k0_pay327 v w) <|
     sendOut c ⟨k0_dev13 c, k0_dev13_lt c⟩ 1 0 (rv 0) <| sendOut c ⟨k0_dev14 c, k0_dev14_lt c⟩ 1 1 (rv 1) <| sendOut c ⟨k0_dev15 c, k0_dev15_lt c⟩ 1 2 (rv 2) <|
     recvOut c 0 0 <| recvOut c 0 1 <| recvOut c 1 0 <| recvOut c 1 1 <| recvOut c 2 0 <| recvOut c 2 1 <|
     storeRes <|
     sentPart (Fin.succ 0) 0 (rv 0) <| sentPart (Fin.succ 1) 1 (rv 1) <| sentPart (Fin.succ 2) 2 (rv 2) <|
     sentOut c 0 0 <| sentOut c 1 0 <| sentOut c 2 0 <| sentOut c 0 1 <| sentOut c 1 1 <| sentOut c 2 1 <| exitP c) := rfl

theorem st_C2 {Q : PUnit → sProp 𝕄} (c : Dev nD) (f5 : Bf F c A5) :
    iprop(ctx X K ∗ owing c 9 ∗ pt c A10 (X.w10 c) ∗ pt c A5 f5
      ∗ (∃ f, ptw (F := F) c (obW c 1) fullShare f) ∗ ptw c (obW c 0) fullShare (o17 X)
      ∗ outTok3 c 0 ∗ outTok3 c 1 ∗ prow3 (F := F) c 0 ∗ prow3 (F := F) c 1 ∗ orTok3 c 0 ∗ orTok3 c 1 ∗ osAt3 c 0 ∗ osAt3 c 1
      ∗ sentTok c 0 ∗ sentTok c 1 ∗ sentTok c 2 ∗ sentCr c 0 ∗ sentCr c 1 ∗ sentCr c 2 ∗ hsTok c .ex
      ∗ (iprop(owing c 18 ∗ pt c A10 (X.w10 c) ∗ pt c A5 (k0_pay328 (o17 X) : S1x1024x1024.Idx → Elt F .f32) ∗ pt c A17 (o17 X)
          ∗ partF X c (Fin.succ 0) ∗ partF X c (Fin.succ 1) ∗ partF X c (Fin.succ 2) ∗ partZ c 0 ∗ partZ c 1 ∗ partZ c 2
          ∗ orZ3 c 0 ∗ orZ3 c 1 ∗ osZ3 c 0 ∗ osZ3 c 1 ∗ zr c .ex) -∗ Q ⟨⟩))
      ⊢ WP c (normC2 c (att X c)) Q := by
  rw [normC2_steps]
  iintro ⟨#Hc, HO, H10, H5, HR1, HR0, T0, T1, P0, P1, R0, R1, A0, A1, S0, S1, S2, C0, C1, C2, E, Hk⟩
  iapply (st_out3 X K c _ _ _ 0 (dev10_eq c) (dev11_eq c) (dev12_eq c) 9 rfl rfl rfl)
  isplitr; · iexact Hc
  isplitl [HO]; · iexact HO
  isplitl [T0]; · iexact T0
  isplitl [P0]; · iexact P0
  isplitl [HR0]; · iexact HR0
  iintro ⟨HO, D0, K0⟩
  iapply (st_storeOut X c 1 _ rfl)
  isplitl [H10]; · iexact H10
  isplitl [HR1]; · iexact HR1
  iintro ⟨H10, HR1⟩
  iapply (st_out3 X K c _ _ _ 1 (dev13_eq c) (dev14_eq c) (dev15_eq c) 12 rfl rfl rfl)
  isplitr; · iexact Hc
  isplitl [HO]; · iexact HO
  isplitl [T1]; · iexact T1
  isplitl [P1]; · iexact P1
  isplitl [HR1]; · iexact HR1
  iintro ⟨HO, D1, K1⟩
  iapply (st_or6 X K c)
  isplitr; · iexact Hc
  isplitl [HO]; · iexact HO
  isplitl [R0]; · iexact R0
  isplitl [R1]; · iexact R1
  iintro ⟨HO, Z0, Z1, G0, G1⟩
  unfold got3
  icases G0 with ⟨G10, G20, G30⟩
  icases G1 with ⟨G11, G21, G31⟩
  ihave ⟨G10, L10⟩ := (sh_split c (obW (pr c 1) 0) (o17 X)) $$ G10
  ihave ⟨G11, L11⟩ := (sh_split c (obW (pr c 1) 1) (o17 X)) $$ G11
  ihave ⟨G20, L20⟩ := (sh_split c (obW (pr c 2) 0) (o17 X)) $$ G20
  ihave ⟨G21, L21⟩ := (sh_split c (obW (pr c 2) 1) (o17 X)) $$ G21
  ihave ⟨G30, L30⟩ := (sh_split c (obW (pr c 3) 0) (o17 X)) $$ G30
  ihave ⟨G31, L31⟩ := (sh_split c (obW (pr c 3) 1) (o17 X)) $$ G31
  iapply (st_storeRes X c shK f5)
  isplitl [K0 K1 G10 G11 G20 G21 G30 G31]
  · iapply (Entails.of_eq (parts17 c shK (o17 X)).symm)
    isplitl [K0]; · iexact K0
    isplitl [K1]; · iexact K1
    isplitl [G10]; · iexact G10
    isplitl [G11]; · iexact G11
    isplitl [G20]; · iexact G20
    isplitl [G21]; · iexact G21
    isplitl [G30]; · iexact G30
    iexact G31
  isplitl [H5]; · iexact H5
  iintro ⟨H17, H5⟩
  ihave ⟨K0, K1, G10, G11, G20, G21, G30, G31⟩ := (Entails.of_eq (parts17 c shK (o17 X))) $$ H17
  iapply (st_sent X K c 0)
  isplitr; · iexact Hc
  isplitl [HO]; · iexact HO
  isplitl [S0]; · iexact S0
  isplitl [C0]; · iexact C0
  iintro ⟨HO, Y0, F0⟩
  iapply (st_sent X K c 1)
  isplitr; · iexact Hc
  isplitl [HO]; · iexact HO
  isplitl [S1]; · iexact S1
  isplitl [C1]; · iexact C1
  iintro ⟨HO, Y1, F1⟩
  iapply (st_sent X K c 2)
  isplitr; · iexact Hc
  isplitl [HO]; · iexact HO
  isplitl [S2]; · iexact S2
  isplitl [C2]; · iexact C2
  iintro ⟨HO, Y2, F2⟩
  iapply (st_os3 X K c 0)
  isplitr; · iexact Hc
  isplitl [HO]; · iexact HO
  isplitl [A0]; · iexact A0
  isplitl [D0]; · iexact D0
  iintro ⟨HO, B0, M0⟩
  iapply (st_os3 X K c 1)
  isplitr; · iexact Hc
  isplitl [HO]; · iexact HO
  isplitl [A1]; · iexact A1
  isplitl [D1]; · iexact D1
  iintro ⟨HO, B1, M1⟩
  iapply (st_exit X K c)
  isplitr; · iexact Hc
  isplitl [HO]; · iexact HO
  isplitl [E]; · iexact E
  iintro ⟨HO, ZE⟩
  iapply Hk
  isplitl [HO]; · iexact HO
  isplitl [H10]; · iexact H10
  isplitl [H5]; · iexact H5
  isplitl [K0 K1 G10 G11 G20 G21 G30 G31 M0 M1 L10 L11 L20 L21 L30 L31]
  · iapply (Entails.of_eq (parts17 c fullShare (o17 X)).symm)
    isplitl [K0 M0]
    · iapply (sh_join c (obW c 0) (o17 X))
      isplitl [K0]; · iexact K0
      iexact M0
    isplitl [K1 M1]
    · iapply (sh_join c (obW c 1) (o17 X))
      isplitl [K1]; · iexact K1
      iexact M1
    isplitl [G10 L10]
    · iapply (sh_join c (obW (pr c 1) 0) (o17 X))
      isplitl [G10]; · iexact G10
      iexact L10
    isplitl [G11 L11]
    · iapply (sh_join c (obW (pr c 1) 1) (o17 X))
      isplitl [G11]; · iexact G11
      iexact L11
    isplitl [G20 L20]
    · iapply (sh_join c (obW (pr c 2) 0) (o17 X))
      isplitl [G20]; · iexact G20
      iexact L20
    isplitl [G21 L21]
    · iapply (sh_join c (obW (pr c 2) 1) (o17 X))
      isplitl [G21]; · iexact G21
      iexact L21
    isplitl [G30 L30]
    · iapply (sh_join c (obW (pr c 3) 0) (o17 X))
      isplitl [G30]; · iexact G30
      iexact L30
    iapply (sh_join c (obW (pr c 3) 1) (o17 X))
    isplitl [G31]; · iexact G31
    iexact L31
  isplitl [F0]; · iexact F0
  isplitl [F1]; · iexact F1
  isplitl [F2]; · iexact F2
  isplitl [Y0]; · iexact Y0
  isplitl [Y1]; · iexact Y1
  isplitl [Y2]; · iexact Y2
  isplitl [Z0]; · iexact Z0
  isplitl [Z1]; · iexact Z1
  isplitl [B0]; · iexact B0
  isplitl [B1]; · iexact B1
  iexact ZE

end Cert.KP

end
-- ==== Proof.RunA.lean ====
/-
  The run of the stage that builds the permuted queries, keys and values: what it leaves, found by the run.
-/
module

public import proofs.«01_k».proof.Proof.Progs

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The contents left in the permuted queries, keys, values and the output weight, with the run leaving them. -/
def runA (c : Dev nD) (f0 : Bf F c A0) (f1 : Bf F c A1) (f2 : Bf F c A2) (f3 : Bf F c A3) (f4 : Bf F c A4) :
    { W : Bf F c A6 × Bf F c A8 × Bf F c A9 × Bf F c A10 //
      ∀ (α : Type) (f6 : Bf F c A6) (f7 : Bf F c A7) (f8 : Bf F c A8) (f9 : Bf F c A9) (f10 : Bf F c A10)
        (k : FVec F S384x8 .bf16 → PR F α) (E : Set ℕ) (Q : α → sProp 𝕄),
        iprop(pt c A0 f0 ∗ pt c A1 f1 ∗ pt c A2 f2 ∗ pt c A3 f3 ∗ pt c A4 f4 ∗ pt c A6 f6 ∗ pt c A7 f7 ∗ pt c A8 f8 ∗ pt c A9 f9 ∗ pt c A10 f10
          ∗ (iprop(pt c A0 f0 ∗ pt c A1 f1 ∗ pt c A2 f2 ∗ pt c A3 f3 ∗ pt c A4 f4 ∗ pt c A6 W.1 ∗ (∃ f, pt c A7 f) ∗ pt c A8 W.2.1 ∗ pt c A9 W.2.2.1 ∗ pt c A10 W.2.2.2)
              -∗ wp frame (wpE (defs₀ (F := F)) Variants.none c none) E (k k0_pay192) Q))
        ⊢ wp frame (wpE (defs₀ (F := F)) Variants.none c none) E tail31 (fun v60 => wp frame (wpE (defs₀ (F := F)) Variants.none c none) E (progA v60 k) Q) } := by
  refine ⟨⟨?_, ?_, ?_, ?_⟩, fun α f6 f7 f8 f9 f10 k E Q => ?run⟩
  case run =>
    unfold tail31
    iintro ⟨H0, H1, H2, H3, H4, H6, H7, H8, H9, H10, Hk⟩
    sl_exec!
    iapply Hk
    isplitl [H0]; · iexact H0
    isplitl [H1]; · iexact H1
    isplitl [H2]; · iexact H2
    isplitl [H3]; · iexact H3
    isplitl [H4]; · iexact H4
    isplitl [H6]; · iexact H6
    isplitl [H7]; · iexists _; iexact H7
    isplitl [H8]; · iexact H8
    isplitl [H9]; · iexact H9
    iexact H10

end Cert.KP

end
-- ==== Proof.RunB.lean ====
/-
  The run of the stage that computes the three groups' contexts and weight sums: what it leaves, found by the run.
-/
module

public import proofs.«01_k».proof.Proof.Progs

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The contents left in the contexts and weight sums on a device other than the first, with the run leaving them. -/
def runB1 (c d0 : Dev nD) (v2 : BitVec 32) (hc : ¬ (Scalar.cmpi .ne (Scalar.extui (Scalar.cmpi .eq v2 0#32) : BitVec 32) 0#32 = 1#1)) (f6 : Bf F c A6) (f8 : Bf F c A8) (f9 : Bf F c A9) :
    { W : Bf F c A11 × Bf F c A12 //
      ∀ (α : Type) (f11 : Bf F c A11) (f12 : Bf F c A12)
        (k : BitVec 32 → BitVec 32 → BitVec 32 → BitVec 32 → BitVec 1 → PR F α) (E : Set ℕ) (Q : α → sProp 𝕄),
        iprop(pt c A6 f6 ∗ pt c A8 f8 ∗ pt c A9 f9 ∗ pt c A11 f11 ∗ pt c A12 f12
          ∗ (∀ w1 w2 w3 w4 w5, iprop(pt c A6 f6 ∗ pt c A8 f8 ∗ pt c A9 f9 ∗ pt c A11 W.1 ∗ pt c A12 W.2)
              -∗ wp frame (wpE (defs₀ (F := F)) Variants.none c none) E (k w1 w2 w3 w4 w5) Q))
        ⊢ wp frame (wpE (defs₀ (F := F)) Variants.none c none) E (progB d0 v2 k0_pay192 k) Q } := by
  refine ⟨⟨?_, ?_⟩, fun α f11 f12 k E Q => ?run⟩
  case run =>
    unfold progB
    iintro ⟨H6, H8, H9, H11, H12, Hk⟩
    sl_exec_parts!
    iapply Hk
    isplitl [H6]; · iexact H6
    isplitl [H8]; · iexact H8
    isplitl [H9]; · iexact H9
    isplitl [H11]; · iexact H11
    iexact H12

/-- The contents left in the contexts and weight sums on the first device, with the run leaving them. -/
def runB0 (c d0 : Dev nD) (v2 : BitVec 32) (hc : Scalar.cmpi .ne (Scalar.extui (Scalar.cmpi .eq v2 0#32) : BitVec 32) 0#32 = 1#1) (f6 : Bf F c A6) (f8 : Bf F c A8) (f9 : Bf F c A9) :
    { W : Bf F c A11 × Bf F c A12 //
      ∀ (α : Type) (f11 : Bf F c A11) (f12 : Bf F c A12)
        (k : BitVec 32 → BitVec 32 → BitVec 32 → BitVec 32 → BitVec 1 → PR F α) (E : Set ℕ) (Q : α → sProp 𝕄),
        iprop(pt c A6 f6 ∗ pt c A8 f8 ∗ pt c A9 f9 ∗ pt c A11 f11 ∗ pt c A12 f12
          ∗ (∀ w1 w2 w3 w4 w5, iprop(pt c A6 f6 ∗ pt c A8 f8 ∗ pt c A9 f9 ∗ pt c A11 W.1 ∗ pt c A12 W.2)
              -∗ wp frame (wpE (defs₀ (F := F)) Variants.none c none) E (k w1 w2 w3 w4 w5) Q))
        ⊢ wp frame (wpE (defs₀ (F := F)) Variants.none c none) E (progB d0 v2 k0_pay192 k) Q } := by
  refine ⟨⟨?_, ?_⟩, fun α f11 f12 k E Q => ?run⟩
  case run =>
    unfold progB
    iintro ⟨H6, H8, H9, H11, H12, Hk⟩
    sl_exec_parts!
    iapply Hk
    isplitl [H6]; · iexact H6
    isplitl [H8]; · iexact H8
    isplitl [H9]; · iexact H9
    isplitl [H11]; · iexact H11
    iexact H12

end Cert.KP

end
-- ==== Proof.Body3.lean ====
module

public import proofs.«01_k».proof.Proof.Body2
public import proofs.«01_k».proof.Proof.RunA
public import proofs.«01_k».proof.Proof.RunB

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

/-! ## The whole body -/

/-- What the devices hold of the five operands. -/
structure In (F : FTy → Type) where
  i0 : Dev nD → S1x1024x1024.Idx → Elt F .f32
  i1 : Dev nD → S1024x1024.Idx → Elt F .f32
  i2 : Dev nD → S1x1024x8x128.Idx → Elt F .f32
  i3 : Dev nD → S1x1024x8x128.Idx → Elt F .f32
  i4 : Dev nD → S1024x1024.Idx → Elt F .f32

variable (I : In F)

/-- Whether a device is the first. -/
abbrev isFst (c : Dev nD) : Prop := Scalar.cmpi .ne (Scalar.extui (Scalar.cmpi .eq (v2Of c) 0#32) : BitVec 32) 0#32 = 1#1

@[irreducible] def wA (c : Dev nD) : Bf F c A6 × Bf F c A8 × Bf F c A9 × Bf F c A10 := (runA c (I.i0 c) (I.i1 c) (I.i2 c) (I.i3 c) (I.i4 c)).1
@[irreducible] def wB (c : Dev nD) : Bf F c A11 × Bf F c A12 :=
  if h : isFst c then (runB0 c c (v2Of c) h (wA I c).1 (wA I c).2.1 (wA I c).2.2.1).1
  else (runB1 c c (v2Of c) h (wA I c).1 (wA I c).2.1 (wA I c).2.2.1).1
/-- The contents the exchange starts from. -/
def cn : Cn F where
  w10 c := (wA I c).2.2.2
  w11 c := (wB I c).1
  w12 c := (wB I c).2

variable (K : Dev nD × Cl → ℕ)

theorem w10_eq (c : Dev nD) : pt c A10 (wA I c).2.2.2 ⊢ pt c A10 ((cn I).w10 c) := Entails.refl _

theorem st_A {β : Type} {Q : β → sProp 𝕄} (c : Dev nD) (k : FVec F S384x8 .bf16 → PR F β) :
    iprop(pt c A0 (I.i0 c) ∗ pt c A1 (I.i1 c) ∗ pt c A2 (I.i2 c) ∗ pt c A3 (I.i3 c) ∗ pt c A4 (I.i4 c)
      ∗ (∃ f, pt (F := F) c A6 f) ∗ (∃ f, pt (F := F) c A7 f) ∗ (∃ f, pt (F := F) c A8 f) ∗ (∃ f, pt (F := F) c A9 f) ∗ (∃ f, pt (F := F) c A10 f)
      ∗ (iprop(pt c A0 (I.i0 c) ∗ pt c A1 (I.i1 c) ∗ pt c A2 (I.i2 c) ∗ pt c A3 (I.i3 c) ∗ pt c A4 (I.i4 c)
          ∗ pt c A6 (wA I c).1 ∗ (∃ f, pt (F := F) c A7 f) ∗ pt c A8 (wA I c).2.1 ∗ pt c A9 (wA I c).2.2.1 ∗ pt c A10 (wA I c).2.2.2) -∗ WP c (k k0_pay192) Q))
      ⊢ WP c tail31 (fun v60 => WP c (progA v60 k) Q) := by
  unfold wA
  generalize runA c (I.i0 c) (I.i1 c) (I.i2 c) (I.i3 c) (I.i4 c) = R
  obtain ⟨W', hR⟩ := R
  dsimp only
  iintro ⟨H0, H1, H2, H3, H4, ⟨%f6, H6⟩, ⟨%f7, H7⟩, ⟨%f8, H8⟩, ⟨%f9, H9⟩, ⟨%f10, H10⟩, Hk⟩
  iapply (hR β f6 f7 f8 f9 f10 k Set.univ Q)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  iexact Hk

theorem st_B {β : Type} {Q : β → sProp 𝕄} (c : Dev nD) (k : PR F β) :
    iprop(pt c A6 (wA I c).1 ∗ pt c A8 (wA I c).2.1 ∗ pt c A9 (wA I c).2.2.1 ∗ (∃ f, pt (F := F) c A11 f) ∗ (∃ f, pt (F := F) c A12 f)
      ∗ (iprop(pt c A6 (wA I c).1 ∗ pt c A8 (wA I c).2.1 ∗ pt c A9 (wA I c).2.2.1 ∗ both (cn I) c) -∗ WP c k Q))
      ⊢ WP c (progB c (v2Of c) k0_pay192 (fun _ _ _ _ _ => k)) Q := by
  by_cases h : isFst c
  · have e : wB I c = (runB0 c c (v2Of c) h (wA I c).1 (wA I c).2.1 (wA I c).2.2.1).1 := by unfold wB; exact dif_pos h
    show iprop(_ ∗ _ ∗ _ ∗ _ ∗ _ ∗ (iprop(pt c A6 (wA I c).1 ∗ pt c A8 (wA I c).2.1 ∗ pt c A9 (wA I c).2.2.1 ∗ pt c A11 (wB I c).1 ∗ pt c A12 (wB I c).2) -∗ WP c k Q)) ⊢ _
    rw [e]
    iintro ⟨H6, H8, H9, ⟨%f11, H11⟩, ⟨%f12, H12⟩, Hk⟩
    iapply ((runB0 c c (v2Of c) h (wA I c).1 (wA I c).2.1 (wA I c).2.2.1).2 β f11 f12 (fun _ _ _ _ _ => k) Set.univ Q)
    isplitl [H6]; · iexact H6
    isplitl [H8]; · iexact H8
    isplitl [H9]; · iexact H9
    isplitl [H11]; · iexact H11
    isplitl [H12]; · iexact H12
    iintro %w1 %w2 %w3 %w4 %w5
    iexact Hk
  · have e : wB I c = (runB1 c c (v2Of c) h (wA I c).1 (wA I c).2.1 (wA I c).2.2.1).1 := by unfold wB; exact dif_neg h
    show iprop(_ ∗ _ ∗ _ ∗ _ ∗ _ ∗ (iprop(pt c A6 (wA I c).1 ∗ pt c A8 (wA I c).2.1 ∗ pt c A9 (wA I c).2.2.1 ∗ pt c A11 (wB I c).1 ∗ pt c A12 (wB I c).2) -∗ WP c k Q)) ⊢ _
    rw [e]
    iintro ⟨H6, H8, H9, ⟨%f11, H11⟩, ⟨%f12, H12⟩, Hk⟩
    iapply ((runB1 c c (v2Of c) h (wA I c).1 (wA I c).2.1 (wA I c).2.2.1).2 β f11 f12 (fun _ _ _ _ _ => k) Set.univ Q)
    isplitl [H6]; · iexact H6
    isplitl [H8]; · iexact H8
    isplitl [H9]; · iexact H9
    isplitl [H11]; · iexact H11
    isplitl [H12]; · iexact H12
    iintro %w1 %w2 %w3 %w4 %w5
    iexact Hk

/-- What a device starts with of rights, and the semaphores it ends with, closed. -/
def lin (c : Dev nD) : sProp 𝕄 :=
  iprop(hsTok (F := F) c .bar ∗ hsTok c .ex ∗ sendTok c 0 ∗ sendTok c 1 ∗ sendTok c 2 ∗ recvTok c 0 ∗ recvTok c 1 ∗ recvTok c 2
    ∗ sentTok c 0 ∗ sentTok c 1 ∗ sentTok c 2 ∗ outTok3 c 0 ∗ outTok3 c 1 ∗ orTok3 c 0 ∗ orTok3 c 1 ∗ osAt3 c 0 ∗ osAt3 c 1)
def zs (c : Dev nD) : sProp 𝕄 :=
  iprop(zr (F := F) c .bar ∗ slotZ c 0 ∗ slotZ c 1 ∗ slotZ c 2 ∗ partZ c 0 ∗ partZ c 1 ∗ partZ c 2 ∗ orZ3 c 0 ∗ orZ3 c 1 ∗ osZ3 c 0 ∗ osZ3 c 1 ∗ zr c .ex)
/-- The scratch buffers, their contents unknown. -/
def scr (c : Dev nD) : sProp 𝕄 :=
  iprop((∃ f, pt (F := F) c A6 f) ∗ (∃ f, pt (F := F) c A7 f) ∗ (∃ f, pt (F := F) c A8 f) ∗ (∃ f, pt (F := F) c A9 f) ∗ (∃ f, pt (F := F) c A10 f) ∗ (∃ f, pt (F := F) c A11 f)
    ∗ (∃ f, pt (F := F) c A12 f) ∗ (∃ f, pt (F := F) c A13 f) ∗ (∃ f, pt (F := F) c A14 f) ∗ (∃ f, pt (F := F) c A15 f) ∗ (∃ f, pt (F := F) c A16 f) ∗ (∃ f, pt (F := F) c A17 f))
/-- The operands' stages. -/
def stgs (c : Dev nD) : sProp 𝕄 := iprop(pt c A0 (I.i0 c) ∗ pt c A1 (I.i1 c) ∗ pt c A2 (I.i2 c) ∗ pt c A3 (I.i3 c) ∗ pt c A4 (I.i4 c))
/-- The result. -/
def outAt (c : Dev nD) : S1x1024x1024.Idx → Elt F .f32 := k0_pay328 (o17 (cn I))

theorem bar_take (c : Dev nD) (o : Fin 3) : barPay (F := F) c o ⊢ iprop(pslot c o ∗ prow c o 0 ∗ prow c o 1) := by
  unfold barPay pslot prow
  iintro ⟨H1, H2, H3, H4⟩
  isplitl [H1 H2]
  · isplitl [H1]; · iexact H1
    iexact H2
  isplitl [H3]; · iexact H3
  iexact H4

theorem parts_in (c : Dev nD) : iprop((∃ f, pt (F := F) c A13 f) ∗ (∃ f, pt (F := F) c A14 f))
    ⊢ iprop(part (F := F) c 0 ∗ part c (Fin.succ 0) ∗ part c (Fin.succ 1) ∗ part c (Fin.succ 2)) := by
  unfold part
  iintro ⟨⟨%f, H⟩, ⟨%g, G⟩⟩
  ihave ⟨H0, H1, H2, H3⟩ := (Entails.of_eq (parts13 c f)) $$ H
  ihave ⟨G0, G1, G2, G3⟩ := (Entails.of_eq (parts14 c g)) $$ G
  isplitl [H0 G0]
  · isplitl [H0]; · iexists f; iexact H0
    iexists g; iexact G0
  isplitl [H1 G1]
  · isplitl [H1]; · iexists f; iexact H1
    iexists g; iexact G1
  isplitl [H2 G2]
  · isplitl [H2]; · iexists f; iexact H2
    iexists g; iexact G2
  isplitl [H3]; · iexists f; iexact H3
  iexists g; iexact G3
theorem parts_out (X : Cn F) (c : Dev nD) : iprop(partF X c 0 ∗ partF X c (Fin.succ 0) ∗ partF X c (Fin.succ 1) ∗ partF X c (Fin.succ 2))
    ⊢ iprop((∃ f, pt (F := F) c A13 f) ∗ (∃ f, pt (F := F) c A14 f)) := by
  unfold partF
  iintro ⟨⟨H0, G0⟩, ⟨H1, G1⟩, ⟨H2, G2⟩, ⟨H3, G3⟩⟩
  isplitl [H0 H1 H2 H3]
  · iexists (p13 X c)
    iapply (Entails.of_eq (parts13 c (p13 X c)).symm)
    isplitl [H0]; · iexact H0
    isplitl [H1]; · iexact H1
    isplitl [H2]; · iexact H2
    iexact H3
  · iexists (p14 X c)
    iapply (Entails.of_eq (parts14 c (p14 X c)).symm)
    isplitl [G0]; · iexact G0
    isplitl [G1]; · iexact G1
    isplitl [G2]; · iexact G2
    iexact G3
theorem slots_in (c : Dev nD) : iprop((∃ f, pt (F := F) c A15 f) ∗ (∃ f, pt (F := F) c A16 f)) ⊢ iprop(slot (F := F) c 0 ∗ slot c 1 ∗ slot c 2) := by
  unfold slot
  iintro ⟨⟨%f, H⟩, ⟨%g, G⟩⟩
  ihave ⟨H0, H1, H2⟩ := (Entails.of_eq (parts15 c f)) $$ H
  ihave ⟨G0, G1, G2⟩ := (Entails.of_eq (parts16 c g)) $$ G
  isplitl [H0 G0]
  · isplitl [H0]; · iexists f; iexact H0
    iexists g; iexact G0
  isplitl [H1 G1]
  · isplitl [H1]; · iexists f; iexact H1
    iexists g; iexact G1
  isplitl [H2]; · iexists f; iexact H2
  iexists g; iexact G2
theorem slots_out (X : Cn F) (c : Dev nD) : iprop(slotF X c 0 ∗ slotF X c 1 ∗ slotF X c 2) ⊢ iprop((∃ f, pt (F := F) c A15 f) ∗ (∃ f, pt (F := F) c A16 f)) := by
  unfold slotF
  iintro ⟨⟨H0, G0⟩, ⟨H1, G1⟩, ⟨H2, G2⟩⟩
  isplitl [H0 H1 H2]
  · iexists (g15 X c)
    iapply (Entails.of_eq (parts15 c (g15 X c)).symm)
    isplitl [H0]; · iexact H0
    isplitl [H1]; · iexact H1
    iexact H2
  · iexists (g16 X c)
    iapply (Entails.of_eq (parts16 c (g16 X c)).symm)
    isplitl [G0]; · iexact G0
    isplitl [G1]; · iexact G1
    iexact G2
theorem rows_in (c : Dev nD) : iprop(∃ f, pt (F := F) c A17 f)
    ⊢ iprop((∃ f, ptw (F := F) c (obW c 0) fullShare f) ∗ (∃ f, ptw (F := F) c (obW c 1) fullShare f) ∗ rows c 1 ∗ rows c 2 ∗ rows c 3) := by
  unfold rows
  iintro ⟨%f, H⟩
  ihave ⟨H0, H1, H2, H3, H4, H5, H6, H7⟩ := (Entails.of_eq (parts17 c fullShare f)) $$ H
  isplitl [H0]; · iexists f; iexact H0
  isplitl [H1]; · iexists f; iexact H1
  isplitl [H2 H3]
  · isplitl [H2]; · iexists f; iexact H2
    iexists f; iexact H3
  isplitl [H4 H5]
  · isplitl [H4]; · iexists f; iexact H4
    iexists f; iexact H5
  isplitl [H6]; · iexists f; iexact H6
  iexists f; iexact H7

theorem st_body {Q : PUnit → sProp 𝕄} (c : Dev nD) (f5 : Bf F c A5) :
    iprop(ctx (cn I) K ∗ owing c 0 ∗ lin c ∗ stgs I c ∗ pt c A5 f5 ∗ scr (F := F) c
      ∗ (iprop(owing c 18 ∗ zs c ∗ stgs I c ∗ pt c A5 (outAt I c) ∗ scr (F := F) c) -∗ Q ⟨⟩))
      ⊢ WP c (cc0_body A0 hw A1 hw A2 hw A3 hw A4 hw A5 hw A6 hw A7 hw A8 hw A9 hw A10 hw A11 hw A12 hw A13 hw A14 hw A15 hw A16 hw A17 hw
        cc0_scratch12 cc0_scratch13 cc0_scratch14 cc0_scratch15 cc0_scratch16 cc0_scratch17 cc0_scoped0) Q := by
  rw [body_eq]
  unfold lin stgs scr zs
  iintro ⟨#Hc, HO, ⟨TB, TE, S0, S1, S2, R0, R1, R2, N0, N1, N2, U0, U1, V0, V1, M0, M1⟩, ⟨H0, H1, H2, H3, H4⟩, H5,
    ⟨H6, H7, H8, H9, H10, H11, H12, H13, H14, H15, H16, H17⟩, Hk⟩
  ihave ⟨P0, P1, P2, P3⟩ := (parts_in c) $$ [H13 H14]
  · isplitl [H13]; · iexact H13
    iexact H14
  ihave ⟨L0, L1, L2⟩ := (slots_in c) $$ [H15 H16]
  · isplitl [H15]; · iexact H15
    iexact H16
  ihave ⟨W0, W1, X1, X2, X3⟩ := (rows_in c) $$ H17
  iapply (st_bind c normBody (fun r => normC2 r.1 r.2.2))
  unfold normBody
  iapply (st_head (cn I) K c)
  isplitr; · iexact Hc
  isplitl [HO]; · iexact HO
  isplitl [TB]; · iexact TB
  isplitl [L0]; · iexact L0
  isplitl [L1]; · iexact L1
  isplitl [L2]; · iexact L2
  isplitl [X1]; · iexact X1
  isplitl [X2]; · iexact X2
  isplitl [X3]; · iexact X3
  iintro ⟨HO, ZB, B0, B1, B2⟩
  iapply (st_A I c)
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  iintro ⟨H0, H1, H2, H3, H4, H6, H7, H8, H9, H10⟩
  iapply (st_B I c)
  isplitl [H6]; · iexact H6
  isplitl [H8]; · iexact H8
  isplitl [H9]; · iexact H9
  isplitl [H11]; · iexact H11
  isplitl [H12]; · iexact H12
  iintro ⟨H6, H8, H9, HB⟩
  ihave ⟨B0, A00, A01⟩ := (bar_take c 0) $$ B0
  ihave ⟨B1, A10, A11⟩ := (bar_take c 1) $$ B1
  ihave ⟨B2, A20, A21⟩ := (bar_take c 2) $$ B2
  ihave H10 := (w10_eq I c) $$ H10
  iapply (st_C1 (cn I) K c)
  isplitr; · iexact Hc
  isplitl [HO]; · iexact HO
  isplitl [HB]; · iexact HB
  isplitl [H10]; · iexact H10
  isplitl [S0]; · iexact S0
  isplitl [S1]; · iexact S1
  isplitl [S2]; · iexact S2
  isplitl [R0]; · iexact R0
  isplitl [R1]; · iexact R1
  isplitl [R2]; · iexact R2
  isplitl [P0]; · iexact P0
  isplitl [P1]; · iexact P1
  isplitl [P2]; · iexact P2
  isplitl [P3]; · iexact P3
  isplitl [B0]; · iexact B0
  isplitl [B1]; · iexact B1
  isplitl [B2]; · iexact B2
  isplitl [W0]; · iexact W0
  iintro ⟨HO, HB, H10, C0, C1, C2, Z0, Z1, Z2, F0, F1, F2, E0, W0⟩
  iapply (st_ret c)
  iapply (st_C2 (cn I) K c f5)
  isplitr; · iexact Hc
  isplitl [HO]; · iexact HO
  isplitl [H10]; · iexact H10
  isplitl [H5]; · iexact H5
  isplitl [W1]; · iexact W1
  isplitl [W0]; · iexact W0
  isplitl [U0]; · iexact U0
  isplitl [U1]; · iexact U1
  isplitl [A00 A10 A20]
  · unfold prow3
    isplitl [A00]; · iexact A00
    isplitl [A10]; · iexact A10
    iexact A20
  isplitl [A01 A11 A21]
  · unfold prow3
    isplitl [A01]; · iexact A01
    isplitl [A11]; · iexact A11
    iexact A21
  isplitl [V0]; · iexact V0
  isplitl [V1]; · iexact V1
  isplitl [M0]; · iexact M0
  isplitl [M1]; · iexact M1
  isplitl [N0]; · iexact N0
  isplitl [N1]; · iexact N1
  isplitl [N2]; · iexact N2
  isplitl [C0]; · iexact C0
  isplitl [C1]; · iexact C1
  isplitl [C2]; · iexact C2
  isplitl [TE]; · iexact TE
  iintro ⟨HO, H10, H5, H17, E1, E2, E3, Y0, Y1, Y2, D0, D1, G0, G1, ZE⟩
  ihave ⟨H13, H14⟩ := (parts_out (cn I) c) $$ [E0 E1 E2 E3]
  · isplitl [E0]; · iexact E0
    isplitl [E1]; · iexact E1
    isplitl [E2]; · iexact E2
    iexact E3
  ihave ⟨H15, H16⟩ := (slots_out (cn I) c) $$ [F0 F1 F2]
  · isplitl [F0]; · iexact F0
    isplitl [F1]; · iexact F1
    iexact F2
  icases HB with ⟨H11, H12⟩
  iapply Hk
  isplitl [HO]; · iexact HO
  isplitl [ZB Z0 Z1 Z2 Y0 Y1 Y2 D0 D1 G0 G1 ZE]
  · isplitl [ZB]; · iexact ZB
    isplitl [Z0]; · iexact Z0
    isplitl [Z1]; · iexact Z1
    isplitl [Z2]; · iexact Z2
    isplitl [Y0]; · iexact Y0
    isplitl [Y1]; · iexact Y1
    isplitl [Y2]; · iexact Y2
    isplitl [D0]; · iexact D0
    isplitl [D1]; · iexact D1
    isplitl [G0]; · iexact G0
    isplitl [G1]; · iexact G1
    iexact ZE
  isplitl [H0 H1 H2 H3 H4]
  · isplitl [H0]; · iexact H0
    isplitl [H1]; · iexact H1
    isplitl [H2]; · iexact H2
    isplitl [H3]; · iexact H3
    iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexact H14
  isplitl [H15]; · iexact H15
  isplitl [H16]; · iexact H16
  iexists _; iexact H17

end Cert.KP

end
-- ==== Proof.Deal.lean ====
module

public import proofs.«01_k».proof.Proof.Body3

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

/-! ## What a device is dealt at launch -/

def atL : List Cl := [.bar, .ex, .cs 0, .cs 1, .cs 2, .cr 0, .cr 1, .cr 2, .ls 0, .ls 1, .ls 2, .lr 0, .lr 1, .lr 2, .os 0 0, .os 1 0, .os 2 0, .os 0 1, .os 1 1, .os 2 1, .or 0 0, .or 1 0, .or 2 0, .or 0 1, .or 1 1, .or 2 1]
def tokL : List (Cl × Dy) := [(.bar, 2), (.bar, 1), (.bar, 0), (.ex, 2), (.ex, 1), (.ex, 0), (.cs 0, 0), (.cr 2, 0), (.ls 0, 0), (.lr 2, 0), (.cs 1, 0), (.cr 1, 0), (.ls 1, 0), (.lr 1, 0), (.cs 2, 0), (.cr 0, 0), (.ls 2, 0), (.lr 0, 0), (.os 0 0, 0), (.or 2 0, 0), (.os 1 0, 0), (.or 1 0, 0), (.os 2 0, 0), (.or 0 0, 0), (.os 0 1, 0), (.or 2 1, 0), (.os 1 1, 0), (.or 1 1, 0), (.os 2 1, 0), (.or 0 1, 0)]
def crL : List Cl := [.bar, .ex, .cr 0, .cr 1, .cr 2, .lr 0, .lr 1, .lr 2, .or 0 0, .or 1 0, .or 2 0, .or 0 1, .or 1 1, .or 2 1]

/-- A device's places at its cells, the rights to pay, and its credits. -/
def ats (c : Dev nD) : sProp 𝕄 := bigSep Finset.univ fun k : Cl => at0 (F := F) c k
def payToks (c : Dev nD) : sProp 𝕄 := bigSep Finset.univ fun kd : Cl × Dy => tk (F := F) c (back kd.1 kd.2) kd.1 kd.2
def creds (c : Dev nD) : sProp 𝕄 := bigSep crL.toFinset fun k : Cl => cr (F := F) c k

theorem ats_eq (c : Dev nD) : ats (F := F) c = bigSepL atL fun k => at0 c k := bigSep_univ_eq_bigSepL atL (by decide) (by decide) _
theorem payToks_elim (c : Dev nD) : payToks (F := F) c ⊢ bigSepL tokL fun kd => tk c (back kd.1 kd.2) kd.1 kd.2 := by
  unfold payToks
  rw [← bigSep_eq_bigSepL tokL (by decide)]
  exact bigSep_subset (Finset.subset_univ _)
theorem creds_eq (c : Dev nD) : creds (F := F) c = bigSepL crL fun k => cr c k := bigSep_eq_bigSepL crL (by decide) _

theorem ats_flat (c : Dev nD) : ats (F := F) c = iprop(at0 c (.bar) ∗ at0 c (.ex) ∗ at0 c (.cs 0) ∗ at0 c (.cs 1) ∗ at0 c (.cs 2) ∗ at0 c (.cr 0) ∗ at0 c (.cr 1) ∗ at0 c (.cr 2) ∗ at0 c (.ls 0) ∗ at0 c (.ls 1) ∗ at0 c (.ls 2) ∗ at0 c (.lr 0) ∗ at0 c (.lr 1) ∗ at0 c (.lr 2) ∗ at0 c (.os 0 0) ∗ at0 c (.os 1 0) ∗ at0 c (.os 2 0) ∗ at0 c (.os 0 1) ∗ at0 c (.os 1 1) ∗ at0 c (.os 2 1) ∗ at0 c (.or 0 0) ∗ at0 c (.or 1 0) ∗ at0 c (.or 2 0) ∗ at0 c (.or 0 1) ∗ at0 c (.or 1 1) ∗ at0 c (.or 2 1)) := ats_eq c
theorem toks_flat (c : Dev nD) : payToks (F := F) c ⊢ iprop(tk c 1 (.bar) 2 ∗ tk c 2 (.bar) 1 ∗ tk c 3 (.bar) 0 ∗ tk c 1 (.ex) 2 ∗ tk c 2 (.ex) 1 ∗ tk c 3 (.ex) 0 ∗ tk c 0 (.cs 0) 0 ∗ tk c 1 (.cr 2) 0 ∗ tk c 0 (.ls 0) 0 ∗ tk c 1 (.lr 2) 0 ∗ tk c 0 (.cs 1) 0 ∗ tk c 2 (.cr 1) 0 ∗ tk c 0 (.ls 1) 0 ∗ tk c 2 (.lr 1) 0 ∗ tk c 0 (.cs 2) 0 ∗ tk c 3 (.cr 0) 0 ∗ tk c 0 (.ls 2) 0 ∗ tk c 3 (.lr 0) 0 ∗ tk c 0 (.os 0 0) 0 ∗ tk c 1 (.or 2 0) 0 ∗ tk c 0 (.os 1 0) 0 ∗ tk c 2 (.or 1 0) 0 ∗ tk c 0 (.os 2 0) 0 ∗ tk c 3 (.or 0 0) 0 ∗ tk c 0 (.os 0 1) 0 ∗ tk c 1 (.or 2 1) 0 ∗ tk c 0 (.os 1 1) 0 ∗ tk c 2 (.or 1 1) 0 ∗ tk c 0 (.os 2 1) 0 ∗ tk c 3 (.or 0 1) 0) := payToks_elim c
theorem creds_flat (c : Dev nD) : creds (F := F) c = iprop(cr c (.bar) ∗ cr c (.ex) ∗ cr c (.cr 0) ∗ cr c (.cr 1) ∗ cr c (.cr 2) ∗ cr c (.lr 0) ∗ cr c (.lr 1) ∗ cr c (.lr 2) ∗ cr c (.or 0 0) ∗ cr c (.or 1 0) ∗ cr c (.or 2 0) ∗ cr c (.or 0 1) ∗ cr c (.or 1 1) ∗ cr c (.or 2 1)) := creds_eq c

theorem lin_intro (c : Dev nD) : iprop(ats (F := F) c ∗ payToks c ∗ creds c) ⊢ lin c := by
  iintro ⟨HA, HT, HC⟩
  ihave ⟨Abar, Aex, Acs_0, Acs_1, Acs_2, Acr_0, Acr_1, Acr_2, Als_0, Als_1, Als_2, Alr_0, Alr_1, Alr_2, Aos_0_0, Aos_1_0, Aos_2_0, Aos_0_1, Aos_1_1, Aos_2_1, Aor_0_0, Aor_1_0, Aor_2_0, Aor_0_1, Aor_1_1, Aor_2_1⟩ := (Entails.of_eq (ats_flat c)) $$ HA
  ihave ⟨Tbard2, Tbard1, Tbard0, Texd2, Texd1, Texd0, Tcs_0d0, Tcr_2d0, Tls_0d0, Tlr_2d0, Tcs_1d0, Tcr_1d0, Tls_1d0, Tlr_1d0, Tcs_2d0, Tcr_0d0, Tls_2d0, Tlr_0d0, Tos_0_0d0, Tor_2_0d0, Tos_1_0d0, Tor_1_0d0, Tos_2_0d0, Tor_0_0d0, Tos_0_1d0, Tor_2_1d0, Tos_1_1d0, Tor_1_1d0, Tos_2_1d0, Tor_0_1d0⟩ := (toks_flat c) $$ HT
  ihave ⟨Cbar, Cex, Ccr_0, Ccr_1, Ccr_2, Clr_0, Clr_1, Clr_2, Cor_0_0, Cor_1_0, Cor_2_0, Cor_0_1, Cor_1_1, Cor_2_1⟩ := (Entails.of_eq (creds_flat c)) $$ HC
  unfold lin hsTok sendTok recvTok sentTok outTok3 outTok orTok3 outRecv osAt3
  isplitl [Abar Cbar Tbard2 Tbard1 Tbard0]
  · isplitl [Abar]; · iexact Abar
    isplitl [Cbar]; · iexact Cbar
    isplitl [Tbard2]; · iexact Tbard2
    isplitl [Tbard1]; · iexact Tbard1
    iexact Tbard0
  isplitl [Aex Cex Texd2 Texd1 Texd0]
  · isplitl [Aex]; · iexact Aex
    isplitl [Cex]; · iexact Cex
    isplitl [Texd2]; · iexact Texd2
    isplitl [Texd1]; · iexact Texd1
    iexact Texd0
  isplitl [Tcs_0d0 Tcr_2d0 Tls_0d0 Tlr_2d0]
  · isplitl [Tcs_0d0]; · iexact Tcs_0d0
    isplitl [Tcr_2d0]; · iexact Tcr_2d0
    isplitl [Tls_0d0]; · iexact Tls_0d0
    iexact Tlr_2d0
  isplitl [Tcs_1d0 Tcr_1d0 Tls_1d0 Tlr_1d0]
  · isplitl [Tcs_1d0]; · iexact Tcs_1d0
    isplitl [Tcr_1d0]; · iexact Tcr_1d0
    isplitl [Tls_1d0]; · iexact Tls_1d0
    iexact Tlr_1d0
  isplitl [Tcs_2d0 Tcr_0d0 Tls_2d0 Tlr_0d0]
  · isplitl [Tcs_2d0]; · iexact Tcs_2d0
    isplitl [Tcr_0d0]; · iexact Tcr_0d0
    isplitl [Tls_2d0]; · iexact Tls_2d0
    iexact Tlr_0d0
  isplitl [Acr_0 Alr_0 Ccr_0 Clr_0]
  · isplitl [Acr_0]; · iexact Acr_0
    isplitl [Alr_0]; · iexact Alr_0
    isplitl [Ccr_0]; · iexact Ccr_0
    iexact Clr_0
  isplitl [Acr_1 Alr_1 Ccr_1 Clr_1]
  · isplitl [Acr_1]; · iexact Acr_1
    isplitl [Alr_1]; · iexact Alr_1
    isplitl [Ccr_1]; · iexact Ccr_1
    iexact Clr_1
  isplitl [Acr_2 Alr_2 Ccr_2 Clr_2]
  · isplitl [Acr_2]; · iexact Acr_2
    isplitl [Alr_2]; · iexact Alr_2
    isplitl [Ccr_2]; · iexact Ccr_2
    iexact Clr_2
  isplitl [Acs_0 Als_0]
  · isplitl [Acs_0]; · iexact Acs_0
    iexact Als_0
  isplitl [Acs_1 Als_1]
  · isplitl [Acs_1]; · iexact Acs_1
    iexact Als_1
  isplitl [Acs_2 Als_2]
  · isplitl [Acs_2]; · iexact Acs_2
    iexact Als_2
  isplitl [Tos_0_0d0 Tor_2_0d0 Tos_1_0d0 Tor_1_0d0 Tos_2_0d0 Tor_0_0d0]
  · isplitl [Tos_0_0d0 Tor_2_0d0]
    · isplitl [Tos_0_0d0]; · iexact Tos_0_0d0
      iexact Tor_2_0d0
    isplitl [Tos_1_0d0 Tor_1_0d0]
    · isplitl [Tos_1_0d0]; · iexact Tos_1_0d0
      iexact Tor_1_0d0
    isplitl [Tos_2_0d0]; · iexact Tos_2_0d0
    iexact Tor_0_0d0
  isplitl [Tos_0_1d0 Tor_2_1d0 Tos_1_1d0 Tor_1_1d0 Tos_2_1d0 Tor_0_1d0]
  · isplitl [Tos_0_1d0 Tor_2_1d0]
    · isplitl [Tos_0_1d0]; · iexact Tos_0_1d0
      iexact Tor_2_1d0
    isplitl [Tos_1_1d0 Tor_1_1d0]
    · isplitl [Tos_1_1d0]; · iexact Tos_1_1d0
      iexact Tor_1_1d0
    isplitl [Tos_2_1d0]; · iexact Tos_2_1d0
    iexact Tor_0_1d0
  isplitl [Aor_0_0 Cor_0_0 Aor_1_0 Cor_1_0 Aor_2_0 Cor_2_0]
  · isplitl [Aor_0_0 Cor_0_0]
    · isplitl [Aor_0_0]; · iexact Aor_0_0
      iexact Cor_0_0
    isplitl [Aor_1_0 Cor_1_0]
    · isplitl [Aor_1_0]; · iexact Aor_1_0
      iexact Cor_1_0
    isplitl [Aor_2_0]; · iexact Aor_2_0
    iexact Cor_2_0
  isplitl [Aor_0_1 Cor_0_1 Aor_1_1 Cor_1_1 Aor_2_1 Cor_2_1]
  · isplitl [Aor_0_1 Cor_0_1]
    · isplitl [Aor_0_1]; · iexact Aor_0_1
      iexact Cor_0_1
    isplitl [Aor_1_1 Cor_1_1]
    · isplitl [Aor_1_1]; · iexact Aor_1_1
      iexact Cor_1_1
    isplitl [Aor_2_1]; · iexact Aor_2_1
    iexact Cor_2_1
  isplitl [Aos_0_0 Aos_1_0 Aos_2_0]
  · isplitl [Aos_0_0]; · iexact Aos_0_0
    isplitl [Aos_1_0]; · iexact Aos_1_0
    iexact Aos_2_0
  isplitl [Aos_0_1]; · iexact Aos_0_1
  isplitl [Aos_1_1]; · iexact Aos_1_1
  iexact Aos_2_1

/-- The semaphores closed, one by one. -/
def zrs (c : Dev nD) : sProp 𝕄 := bigSep Finset.univ fun k : Cl => zr (F := F) c k
theorem zrs_flat (c : Dev nD) : zrs (F := F) c = iprop(zr c (.bar) ∗ zr c (.ex) ∗ zr c (.cs 0) ∗ zr c (.cs 1) ∗ zr c (.cs 2) ∗ zr c (.cr 0) ∗ zr c (.cr 1) ∗ zr c (.cr 2) ∗ zr c (.ls 0) ∗ zr c (.ls 1) ∗ zr c (.ls 2) ∗ zr c (.lr 0) ∗ zr c (.lr 1) ∗ zr c (.lr 2) ∗ zr c (.os 0 0) ∗ zr c (.os 1 0) ∗ zr c (.os 2 0) ∗ zr c (.os 0 1) ∗ zr c (.os 1 1) ∗ zr c (.os 2 1) ∗ zr c (.or 0 0) ∗ zr c (.or 1 0) ∗ zr c (.or 2 0) ∗ zr c (.or 0 1) ∗ zr c (.or 1 1) ∗ zr c (.or 2 1)) :=
  bigSep_univ_eq_bigSepL atL (by decide) (by decide) _
theorem zrs_of (c : Dev nD) : zs (F := F) c ⊢ zrs c := by
  rw [zrs_flat]
  unfold zs slotZ partZ orZ3 osZ3
  iintro ⟨Zbar, ⟨Zcr_0, Zlr_0⟩, ⟨Zcr_1, Zlr_1⟩, ⟨Zcr_2, Zlr_2⟩, ⟨Zcs_0, Zls_0⟩, ⟨Zcs_1, Zls_1⟩, ⟨Zcs_2, Zls_2⟩, ⟨Zor_0_0, Zor_1_0, Zor_2_0⟩, ⟨Zor_0_1, Zor_1_1, Zor_2_1⟩, ⟨Zos_0_0, Zos_1_0, Zos_2_0⟩, ⟨Zos_0_1, Zos_1_1, Zos_2_1⟩, Zex⟩
  isplitl [Zbar]; · iexact Zbar
  isplitl [Zex]; · iexact Zex
  isplitl [Zcs_0]; · iexact Zcs_0
  isplitl [Zcs_1]; · iexact Zcs_1
  isplitl [Zcs_2]; · iexact Zcs_2
  isplitl [Zcr_0]; · iexact Zcr_0
  isplitl [Zcr_1]; · iexact Zcr_1
  isplitl [Zcr_2]; · iexact Zcr_2
  isplitl [Zls_0]; · iexact Zls_0
  isplitl [Zls_1]; · iexact Zls_1
  isplitl [Zls_2]; · iexact Zls_2
  isplitl [Zlr_0]; · iexact Zlr_0
  isplitl [Zlr_1]; · iexact Zlr_1
  isplitl [Zlr_2]; · iexact Zlr_2
  isplitl [Zos_0_0]; · iexact Zos_0_0
  isplitl [Zos_1_0]; · iexact Zos_1_0
  isplitl [Zos_2_0]; · iexact Zos_2_0
  isplitl [Zos_0_1]; · iexact Zos_0_1
  isplitl [Zos_1_1]; · iexact Zos_1_1
  isplitl [Zos_2_1]; · iexact Zos_2_1
  isplitl [Zor_0_0]; · iexact Zor_0_0
  isplitl [Zor_1_0]; · iexact Zor_1_0
  isplitl [Zor_2_0]; · iexact Zor_2_0
  isplitl [Zor_0_1]; · iexact Zor_0_1
  isplitl [Zor_1_1]; · iexact Zor_1_1
  iexact Zor_2_1

/-! ### The semaphores at launch -/

/-- The kernel's own semaphores, in the order of the cells. -/
def osem : Fin 25 → SemLoc sig := fun i => csem (atL.get (i.succ.cast rfl))
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop(zr c (.ex) ∗ zr c (.cs 0) ∗ zr c (.cs 1) ∗ zr c (.cs 2) ∗ zr c (.cr 0) ∗ zr c (.cr 1) ∗ zr c (.cr 2) ∗ zr c (.ls 0) ∗ zr c (.ls 1) ∗ zr c (.ls 2) ∗ zr c (.lr 0) ∗ zr c (.lr 1) ∗ zr c (.lr 2) ∗ zr c (.os 0 0) ∗ zr c (.os 1 0) ∗ zr c (.os 2 0) ∗ zr c (.os 0 1) ∗ zr c (.os 1 1) ∗ zr c (.os 2 1) ∗ zr c (.or 0 0) ∗ zr c (.or 1 0) ∗ zr c (.or 2 0) ∗ zr c (.or 0 1) ∗ zr c (.or 1 1) ∗ zr c (.or 2 1)) := by
  rw [Pipeline.ownSems0_eq_of_list c osem [0, 1, 2, 3, 4, 5, 6, 7, 8, 9, 10, 11, 12, 13, 14, 15, 16, 17, 18, 19, 20, 21, 22, 23, 24] (by decide) (by decide)]; rfl
theorem unscopedSems0_eq (c : Dev nD) : (unscopedSems0 c : sProp 𝕄) = zr (F := F) c .bar := by
  unfold unscopedSems0; rw [bigSep_eq_bigSepL_of_eq [SemLoc.reg qBar] (by decide) (by decide)]; rfl
theorem sems0_eq (c : Dev nD) :
    iprop(Pipeline.ownSems0 (Ix := Unit) (Name := ℕ) (U := UU) (Lvl := ℕ) (Val := Elt F) (τ := τ) osem c ∗ unscopedSems0 c) ⊢ zrs (F := F) c := by
  rw [ownSems0_eq, unscopedSems0_eq, zrs_flat]
  iintro ⟨H, HB⟩
  isplitl [HB]; · iexact HB
  iexact H
theorem sems0_of (c : Dev nD) :
    zrs (F := F) c ⊢ iprop(unscopedSems0 c ∗ Pipeline.ownSems0 (Ix := Unit) (Name := ℕ) (U := UU) (Lvl := ℕ) (Val := Elt F) (τ := τ) osem c) := by
  rw [ownSems0_eq, unscopedSems0_eq, zrs_flat]

/-! ### The launch credit -/

/-- How many payments a cell takes from the others' debts. -/
def cntK : Cl → ℕ
  | .bar | .ex => 3
  | .cr _ | .lr _ | .or _ _ => 1
  | _ => 0

theorem OL_at (d c : Dev nD) (k : Cl) (l : List (ℕ × Cl)) :
    OL d l (kcell (c, k)) () = (l.countP fun x => pr d x.1 = c ∧ x.2 = k) * amtK k := by
  induction l with
  | nil => rw [List.countP_nil, Nat.zero_mul]; rfl
  | cons x l ih =>
    change (OL d l + tallyAt (kcell (pr d x.1, x.2)) () (amtK x.2)) (kcell (c, k)) () = _
    rw [Pi.add_apply, Finsupp.add_apply, ih, tallyAt_apply, List.countP_cons]
    by_cases h : pr d x.1 = c ∧ x.2 = k
    · have e : kcell (c, k) = kcell (pr d x.1, x.2) := by rw [h.1, h.2]
      rw [if_pos ⟨e, rfl⟩, decide_eq_true h, if_pos rfl, Nat.add_mul, Nat.one_mul, h.2]
    · rw [if_neg (fun h' => h (by have := kcell_inj h'.1; exact ⟨(congrArg Prod.fst this).symm, (congrArg Prod.snd this).symm⟩)),
        decide_eq_false h, if_neg (by decide), Nat.add_zero, Nat.add_zero]

theorem cnt_eq : ∀ (c : Dev nD) (k : Cl), (∑ d : Dev nD, debtL.countP fun x => pr d x.1 = c ∧ x.2 = k) = cntK k := by decide +kernel
theorem crL_exp : ∀ k : Cl, k ∈ crL → cntK k * amtK k = expK k
  | .bar, _ => rfl
  | .ex, _ => rfl
  | .cr _, _ => Nat.one_mul _
  | .lr _, _ => Nat.one_mul _
  | .or _ _, _ => Nat.one_mul _
  | .cs o, h => absurd h (by revert o; decide)
  | .ls o, h => absurd h (by revert o; decide)
  | .os j o, h => absurd h (by revert j o; decide)

theorem owed_sum (c : Dev nD) (k : Cl) (hk : k ∈ crL) : (∑ d : Dev nD, O d 0 (kcell (c, k)) ()) = expK k := by
  rw [Finset.sum_congr rfl fun d _ => show O d 0 (kcell (c, k)) () = _ from OL_at d c k (debtL.drop 0), ← Finset.sum_mul]
  exact (congrArg (· * amtK k) (cnt_eq c k)).trans (crL_exp k hk)

theorem launch_at (c : Dev nD) (k : Cl) (hk : k ∈ crL) :
    tallyOn (kcell (c, k)) (launchCredit (Pipeline.owing fun d => O d 0) 0 (kcell (c, k))) = (tallyAt (kcell (c, k)) () (expK k) : CellTallies nD τ sig Unit) := by
  unfold tallyAt; refine congrArg _ (Finsupp.ext fun u => ?_); cases u
  rw [Pipeline.launchCredit_owing, Finsupp.single_eq_same]
  exact owed_sum c k hk

theorem creds_intro (c : Dev nD) : (Pipeline.launchCred (fun d => O d 0) c : sProp 𝕄) ⊢ creds (F := F) c := by
  unfold Pipeline.launchCred creds
  have e (k : Cl) (hk : k ∈ crL.toFinset) : cr (F := F) c k = cred (tallyOn (kcell (c, k)) (launchCredit (Pipeline.owing fun d => O d 0) 0 (kcell (c, k)))) := by
    rw [launch_at c k (List.mem_toFinset.mp hk)]
  rw [bigSep_congr e]
  exact (bigSep_subset (Finset.subset_univ (crL.toFinset.map ⟨csem, csem_inj⟩))).trans (Entails.of_eq (BI.bigSep_map ⟨csem, csem_inj⟩))

end Cert.KP

end
-- ==== Proof.Launch.lean ====
module

public import proofs.«01_k».proof.Proof.Deal
public import Idealize.ShloMosaic.Lib.Pipeline.CollectiveSegs
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] {α : Type}

local notation "𝕄" => MT nD τ sig Unit (Elt F) ℕ UU ℕ

variable (m : (ℓ : Loc nD τ sig) → Buf (Elt F) ℓ) (ρ : Dev nD → PrngReg)

/-- The operands as staged from memory. -/
def Im : In F := ⟨fun c => iblk m c 0 t0_0, fun c => iblk m c 1 t0_0, fun c => iblk m c 2 t0_0, fun c => iblk m c 3 t0_0, fun c => iblk m c 4 t0_0⟩
abbrev Xm : Cn F := cn (Im m)

/-! ## The launch's data -/

def ringCells : Finset (GSem nD τ sig) := Finset.univ.map ⟨kcell, kcell_inj⟩
abbrev tokOf (x : (Dev nD × Cl) × Dy) : GSem nD τ sig × ℕ × Dy := (kcell x.1, 0, x.2)
theorem tokOf_inj : Function.Injective tokOf := by
  rintro ⟨ck, d⟩ ⟨ck', d'⟩ h
  have h1 : ck = ck' := kcell_inj (congrArg Prod.fst h)
  have h2 : d = d' := congrArg (fun x : GSem nD τ sig × ℕ × Dy => x.2.2) h
  rw [h1, h2]
def ringToks : Finset (GSem nD τ sig × ℕ × Dy) := Finset.univ.map ⟨tokOf, tokOf_inj⟩

def u₀ : UU := (initOf (Pipeline.cells cfgs cellOf_inj) (Pipeline.launchToks cfgs cellOf_inj), initOf ringCells ringToks)

/-- The rights minted with a device's own cells. -/
def toks (c : Dev nD) : sProp 𝕄 := bigSep Finset.univ fun kd : Cl × Dy => dutyTok ER (kcell (c, kd.1)) 0 kd.2
def marks (c : Dev nD) : sProp 𝕄 := bigSep Finset.univ fun k : Cl => reached ER (kcell (c, k)) 0
def G (c : Dev nD) : sProp 𝕄 :=
  iprop((bigSep Finset.univ fun k : Cl => roundState ER (Rd (Xm m)) (kcell (c, k)) 0) ∗ ats (F := F) c ∗ marks c ∗ toks c)

/-- The cells' invariants and marks, without the levels. -/
def recs (K : Dev nD × Cl → ℕ) : sProp 𝕄 :=
  iprop((bigSep Finset.univ fun ck : Dev nD × Cl => cellInv ER (Rd (Xm m)) (K ck) (kcell ck))
    ∗ bigSep Finset.univ fun ck : Dev nD × Cl => reached ER (kcell ck) 0)
instance recs_persistent (K : Dev nD × Cl → ℕ) : BI.Persistent (recs m K) := by unfold recs; infer_instance
def G' (c : Dev nD) : sProp 𝕄 := iprop(∃ K, recs m K ∗ ats (F := F) c ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cl => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod, bigSep_univ_prod]
    refine bigSep_congr fun c _ => ?_
    unfold toks; rw [bigSep_univ_prod]; rfl
  iintro HX
  imod (Rounds.fund ER (Rd (Xm m)) ringCells ringToks) $$ HX with ⟨Hst, Hr, Hat, Htok⟩
  imodintro
  ihave Hst' := (Entails.of_eq (hX fun g => roundState ER (Rd (Xm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats marks; simp only [bigSep_sep']
  isplitl [Hst']; · iexact Hst'
  isplitl [Hat']; · iexact Hat'
  isplitl [Hr']; · iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (Xm m)) κ (kcell (c, k)))) ∗ ats (F := F) c ∗ marks c ∗ toks c) := by
  unfold G
  iintro ⟨Hos, Hus, Hst, Hat, Hr, Htok⟩
  ihave Hv := (sems0_eq (F := F) c) $$ [Hos Hus]
  · isplitl [Hos] <;> iassumption
  imod (show iprop(zrs (F := F) c ∗ bigSep Finset.univ fun k : Cl => roundState ER (Rd (Xm m)) (kcell (c, k)) 0)
      ⊢ (|={Set.univ}=> bigSep Finset.univ fun k => iprop(∃ κ : ℕ, cellInv ER (Rd (Xm m)) κ (kcell (c, k))) : sProp 𝕄) from by
        unfold zrs
        rw [← bigSep_sep']
        exact (bigSep_mono fun k _ => (Rounds.body_intro ER (Rd (Xm m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- Each right to pay, at the payer instead of the paid. -/
def turn : Dev nD × (Cl × Dy) ≃ Dev nD × (Cl × Dy) where
  toFun x := (pr x.1 (back x.2.1 x.2.2), x.2)
  invFun x := (pr x.1 (fwd x.2.1 x.2.2), x.2)
  left_inv x := by ext1; exacts [pr_fwd_back x.1 x.2.1 x.2.2, rfl]
  right_inv x := by ext1; exacts [pr_back_fwd x.1 x.2.1 x.2.2, rfl]

/-- The rights dealt to their payers. -/
theorem toks_around : (bigSep Finset.univ fun c : Dev nD => (toks c : sProp 𝕄)) ⊢ bigSep Finset.univ fun c : Dev nD => payToks (F := F) c := by
  unfold toks payToks
  rw [← bigSep_univ_prod (fun x : Dev nD × (Cl × Dy) => (dutyTok ER (kcell (x.1, x.2.1)) 0 x.2.2 : sProp 𝕄)),
    ← bigSep_univ_prod (fun x : Dev nD × (Cl × Dy) => tk (F := F) x.1 (back x.2.1 x.2.2) x.2.1 x.2.2), bigSep_univ_equiv turn]
  exact Entails.of_eq rfl

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (Xm m)) κ (kcell (c, k)))) ∗ ats (F := F) c ∗ marks c ∗ toks c) : sProp 𝕄)
      ⊢ bigSep Finset.univ (G' m) := by
  unfold marks
  rw [bigSep_sep', bigSep_sep', bigSep_sep', ← bigSep_univ_prod (fun ck : Dev nD × Cl => iprop(∃ κ : ℕ, cellInv ER (Rd (Xm m)) κ (kcell ck))),
    ← bigSep_univ_prod (fun ck : Dev nD × Cl => (reached ER (kcell ck) 0 : sProp 𝕄))]
  iintro ⟨HI, Hat, #HR, Htok⟩
  ihave HK := (BI.bigSep_exists_pi Finset.univ (fun (ck : Dev nD × Cl) (κ : ℕ) => (cellInv ER (Rd (Xm m)) κ (kcell ck) : sProp 𝕄))) $$ HI
  icases HK with ⟨%K, #HI⟩
  ihave Htk := (toks_around (F := F)) $$ Htok
  iapply (with_persistent (R := recs m K) (Φ := fun c => iprop(ats (F := F) c ∗ payToks c)) fun c _ => by
    unfold G'; iintro H; iexists K; iexact H)
  isplitr
  · unfold recs; isplitl; · iexact HI
    iexact HR
  · iapply (Entails.of_eq (bigSep_sep' Finset.univ (fun c : Dev nD => ats (F := F) c) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The pipeline's data -/

def start (c : Dev nD) : sProp 𝕄 := iprop((∃ K, ctx (Xm m) K) ∗ lin (F := F) c)
def Φ₀ (c : Dev nD) : sProp 𝕄 := iprop(start m c ∗ scr (F := F) c)
def Φ₁ (c : Dev nD) : sProp 𝕄 := iprop(zs (F := F) c ∗ scr (F := F) c)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt (Im m) c
  Φ t := match t with
    | ⟨0, _⟩ => Φ₀ m c
    | ⟨_ + 1, _⟩ => Φ₁ c
  q _ := fullShare
  owed t := match t with
    | ⟨0, _⟩ => O c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
set_option maxRecDepth 4000 in
def bodyPost (c : Dev nD) : sProp 𝕄 :=
  iprop(Φ₁ c ∗ (dats m 0 c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (outAt (Im m) c))

theorem before_0 (c : Dev nD) (d) : (dats m 0 c).before (0 : Fin 6) t0_0 d = iblk m c 0 t0_0 := by
  unfold Dat.before; rw [if_pos (fetch0_0 t0_0)]; rfl
theorem before_1 (c : Dev nD) (d) : (dats m 0 c).before (1 : Fin 6) t0_0 d = iblk m c 1 t0_0 := by
  unfold Dat.before; rw [if_pos (fetch0_1 t0_0)]; rfl
theorem before_2 (c : Dev nD) (d) : (dats m 0 c).before (2 : Fin 6) t0_0 d = iblk m c 2 t0_0 := by
  unfold Dat.before; rw [if_pos (fetch0_2 t0_0)]; rfl
theorem before_3 (c : Dev nD) (d) : (dats m 0 c).before (3 : Fin 6) t0_0 d = iblk m c 3 t0_0 := by
  unfold Dat.before; rw [if_pos (fetch0_3 t0_0)]; rfl
theorem before_4 (c : Dev nD) (d) : (dats m 0 c).before (4 : Fin 6) t0_0 d = iblk m c 4 t0_0 := by
  unfold Dat.before; rw [if_pos (fetch0_4 t0_0)]; rfl

theorem owes_in (c : Dev nD) : (dats m 0 c).owesAt () t0_0.castSucc ⊢ owing (F := F) c 0 := by
  unfold Dat.owesAt Pipeline.owesWithin owing
  rw [show (dats m 0 c).owed t0_0.castSucc = O c 0 from rfl]
  iintro ⟨%W, %hW, HO⟩
  iexists W; iexact HO
theorem owes_out (c : Dev nD) : owing (F := F) c 18 ⊢ (dats m 0 c).owesAt () t0_0.succ := by
  unfold Dat.owesAt Pipeline.owesWithin owing
  rw [show (dats m 0 c).owed t0_0.succ = O c 18 from rfl]
  iintro ⟨%W, HO⟩
  iexists W
  isplitr; · ipureintro; exact fun _ _ => Or.inl trivial
  iexact HO

theorem stg_in (c : Dev nD) (b : Ref sig .tc) (X : b.ty.Contents (Elt F)) : stg c b X ⊢ (((c : Thread nD τ).loc b) ↦{fullShare} X) := by
  iintro ⟨%f, %h, H⟩
  subst h
  iexact H
theorem stg_out (c : Dev nD) (b : Ref sig .tc) (X : b.ty.Contents (Elt F)) : (((c : Thread nD τ).loc b) ↦{fullShare} X) ⊢ stg c b X := by
  iintro H
  iexists X
  isplitr; · ipureintro; rfl
  iexact H
theorem in_of {c : Dev nD} {b : Ref sig .tc} {Z : Type} {Y : Z → b.ty.Contents (Elt F)} {X : b.ty.Contents (Elt F)} (h : ∀ d, Y d = X) :
    iprop(∃ d, stg c b (Y d)) ⊢ (((c : Thread nD τ).loc b) ↦{fullShare} X) := by
  iintro ⟨%d, H⟩
  iapply (stg_in c b X)
  iapply (Entails.of_eq (congrArg (stg c b) (h d)))
  iexact H

theorem stgs_in (c : Dev nD) : iprop((∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))) ⊢ stgs (Im m) c := by
  unfold stgs
  iintro ⟨H0, H1, H2, H3, H4⟩
  isplitl [H0]; · iapply (in_of (before_0 m c)); iexact H0
  isplitl [H1]; · iapply (in_of (before_1 m c)); iexact H1
  isplitl [H2]; · iapply (in_of (before_2 m c)); iexact H2
  isplitl [H3]; · iapply (in_of (before_3 m c)); iexact H3
  iapply (in_of (before_4 m c)); iexact H4
theorem stgs_out (c : Dev nD) : stgs (Im m) c ⊢ iprop(stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0)) := by
  unfold stgs
  iintro ⟨H0, H1, H2, H3, H4⟩
  isplitl [H0]; · iapply (stg_out c cc0_stg0_0 (iblk m c 0 t0_0)); iexact H0
  isplitl [H1]; · iapply (stg_out c cc0_stg1_0 (iblk m c 1 t0_0)); iexact H1
  isplitl [H2]; · iapply (stg_out c cc0_stg2_0 (iblk m c 2 t0_0)); iexact H2
  isplitl [H3]; · iapply (stg_out c cc0_stg3_0 (iblk m c 3 t0_0)); iexact H3
  iapply (stg_out c cc0_stg4_0 (iblk m c 4 t0_0)); iexact H4
theorem out_in (c : Dev nD) : iprop(∃ d, stg c cc0_stg5_0 ((dats m 0 c).before (5 : Fin 6) t0_0 d)) ⊢ iprop(∃ f, pt (F := F) c A5 f) := by
  iintro ⟨%d, %f, %h, H⟩
  iexists f; iexact H

theorem sound_body (c : Dev nD) : bodyPre m c ⊢ WP c (cc0_body A0 hw A1 hw A2 hw A3 hw A4 hw A5 hw A6 hw A7 hw A8 hw A9 hw A10 hw A11 hw A12 hw A13 hw A14 hw A15 hw A16 hw A17 hw
        cc0_scratch12 cc0_scratch13 cc0_scratch14 cc0_scratch15 cc0_scratch16 cc0_scratch17 cc0_scoped0) (fun _ => bodyPost m c) := by
  unfold bodyPre Φ₀ start
  iintro ⟨⟨⟨⟨%K, #Hc⟩, HL⟩, HS⟩, HO, H0, H1, H2, H3, H4, H5⟩
  ihave ⟨%f5, H5⟩ := (out_in m c) $$ H5
  ihave HO := (owes_in m c) $$ HO
  ihave HI := (stgs_in m c) $$ [H0 H1 H2 H3 H4]
  · isplitl [H0]; · iexact H0
    isplitl [H1]; · iexact H1
    isplitl [H2]; · iexact H2
    isplitl [H3]; · iexact H3
    iexact H4
  iapply (st_body (Im m) K c f5)
  isplitr; · iexact Hc
  isplitl [HO]; · iexact HO
  isplitl [HL]; · iexact HL
  isplitl [HI]; · iexact HI
  isplitl [H5]; · iexact H5
  isplitl [HS]; · iexact HS
  iintro ⟨HO, HZ, HI, H5, HS⟩
  ihave ⟨H0, H1, H2, H3, H4⟩ := (stgs_out m c) $$ HI
  unfold bodyPost Φ₁
  isplitl [HZ HS]
  · isplitl [HZ]; · iexact HZ
    iexact HS
  isplitl [HO]; · iapply (owes_out m c); iexact HO
  isplitl [H0]; · iexact H0
  isplitl [H1]; · iexact H1
  isplitl [H2]; · iexact H2
  isplitl [H3]; · iexact H3
  isplitl [H4]; · iexact H4
  iapply (stg_out c cc0_stg5_0 (outAt (Im m) c)); iexact H5

set_option maxRecDepth 100000 in
theorem body_obligation (c : Dev nD) : BodyObligation (dats (F := F) m 0 c) (defs₀ (F := F)) Variants.none () Set.univ := fun t => by
  rw [fin_N0 t]
  rw [bigSep_W0, bigSep_W0]
  simp only [owns_whole_eq]
  show bodyPre m c ⊢ wp frame (wpE (defs₀ (F := F)) Variants.none c none) Set.univ (cc0_body A0 hw A1 hw A2 hw A3 hw A4 hw A5 hw A6 hw A7 hw A8 hw A9 hw A10 hw A11 hw A12 hw A13 hw A14 hw A15 hw A16 hw A17 hw
        cc0_scratch12 cc0_scratch13 cc0_scratch14 cc0_scratch15 cc0_scratch16 cc0_scratch17 cc0_scoped0) (fun _ => bodyPost m c)
  exact sound_body m c

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  unfold G' start recs
  iintro ⟨-, #Hlev, Hcr, -, ⟨%K, ⟨#HI, #HR⟩, HA, HT⟩⟩
  ihave Hc := (creds_intro (F := F) c) $$ Hcr
  ihave HL := (lin_intro (F := F) c) $$ [HA HT Hc]
  · isplitl [HA]; · iexact HA
    isplitl [HT]; · iexact HT
    iexact Hc
  imodintro
  isplitl
  · isplitr
    · iexists K; unfold ctx
      isplitr; · iexact HI
      isplitr; · iexact HR
      iexact Hlev
    iexact HL
  · iempintro

theorem scr_eq (c : Dev nD) : (Pipeline.scopedRest (Ix := Unit) (Name := ℕ) (U := UU) (Lvl := ℕ) (Val := Elt F) spec0 c : sProp 𝕄) = scr (F := F) c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (Entails.of_eq (scr_eq c)); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  iintro ⟨HZ, HS⟩
  ihave HZ := (zrs_of (F := F) c) $$ HZ
  ihave ⟨HU, HO⟩ := (sems0_of (F := F) c) $$ HZ
  isplitl [HU]; · iexact HU
  isplitl [HO]; · iexact HO
  iapply (Entails.of_eq (scr_eq c).symm); iexact HS

theorem waits (c : Dev nD) : (levAts L lv : sProp 𝕄) ⊢ Pipeline.cellsWaits cfgs (dats m) () 0 c :=
  Pipeline.cellsWaits_intro cfgs (dats m) () 0 c fun w s t => by
    have hq : (((cfgs 0).win w).sem s).val < 6 := by fin_cases w <;> fin_cases s <;> decide
    rcases t with ⟨_ | _, ht⟩
    · exact mayWait_stage c _ hq 0
    · exact mayWait_stage c _ hq 18

def finalA (c : Dev nD) (w : Fin cfg0.W) : Buf (Elt F) ((cfg0.win w).arr.view.loc (c : Thread nD τ)) := (dats m 0 c).arrAt w cfg0.N
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, every weakly fair execution of the four devices ends; every final state has each window's
    array at its computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := fun d => O d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KP

end
-- ==== Proof.Same.lean ====
module

public import proofs.«01_k».proof.Proof.Gen.KernelIdeal
public import Idealize.ShloMosaic.Lib.Layout
public import Idealize.ShloMosaic.PureOps.BitExact
public import Idealize.ShloMosaic.PureOps.Ideal
public import Idealize.ShloMosaic.PureOps.IdealRules
public import proofs.«01_k».proof.Proof.Gen.Kernel

@[expose] public section

noncomputable section

namespace Cert.KP

open Idealize.ShloMosaic Idealize.ShloMosaic.TcCoe Idealize.SL.Sem
/-- On words a named constant is the word itself. -/
instance : Named Bits where
  named κ n b := FloatOps.ofBits b

theorem same1 : Cert.Kernel.k0_part1 (F := Bits) = Cert.KernelIdeal.k0_part1 (F := Bits) := rfl
theorem same2 : Cert.Kernel.k0_part2 (F := Bits) = Cert.KernelIdeal.k0_part2 (F := Bits) := rfl
theorem same3 : Cert.Kernel.k0_part3 (F := Bits) = Cert.KernelIdeal.k0_part3 (F := Bits) := rfl
theorem same4 : Cert.Kernel.k0_part4 (F := Bits) = Cert.KernelIdeal.k0_part4 (F := Bits) := rfl
theorem same5 : Cert.Kernel.k0_part5 (F := Bits) = Cert.KernelIdeal.k0_part5 (F := Bits) := rfl
theorem same6 : Cert.Kernel.k0_part6 (F := Bits) = Cert.KernelIdeal.k0_part6 (F := Bits) := rfl
theorem same7 : Cert.Kernel.k0_part7 (F := Bits) = Cert.KernelIdeal.k0_part7 (F := Bits) := rfl
theorem same8 : Cert.Kernel.k0_part8 (F := Bits) = Cert.KernelIdeal.k0_part8 (F := Bits) := rfl
theorem same9 : Cert.Kernel.k0_part9 (F := Bits) = Cert.KernelIdeal.k0_part9 (F := Bits) := rfl
theorem same10 : Cert.Kernel.k0_part10 (F := Bits) = Cert.KernelIdeal.k0_part10 (F := Bits) := rfl
theorem same11 : Cert.Kernel.k0_part11 (F := Bits) = Cert.KernelIdeal.k0_part11 (F := Bits) := rfl
theorem same12 : Cert.Kernel.k0_part12 (F := Bits) = Cert.KernelIdeal.k0_part12 (F := Bits) := rfl
theorem same13 : Cert.Kernel.k0_part13 (F := Bits) = Cert.KernelIdeal.k0_part13 (F := Bits) := rfl
theorem same14 : Cert.Kernel.k0_part14 (F := Bits) = Cert.KernelIdeal.k0_part14 (F := Bits) := rfl
theorem same15 : Cert.Kernel.k0_part15 (F := Bits) = Cert.KernelIdeal.k0_part15 (F := Bits) := rfl
theorem same16 : Cert.Kernel.k0_part16 (F := Bits) = Cert.KernelIdeal.k0_part16 (F := Bits) := rfl
theorem same17 : Cert.Kernel.k0_part17 (F := Bits) = Cert.KernelIdeal.k0_part17 (F := Bits) := rfl
theorem same18 : Cert.Kernel.k0_part18 (F := Bits) = Cert.KernelIdeal.k0_part18 (F := Bits) := rfl
theorem same19 : Cert.Kernel.k0_part19 (F := Bits) = Cert.KernelIdeal.k0_part19 (F := Bits) := rfl
theorem same20 : Cert.Kernel.k0_part20 (F := Bits) = Cert.KernelIdeal.k0_part20 (F := Bits) := rfl
theorem same21 : Cert.Kernel.k0_part21 (F := Bits) = Cert.KernelIdeal.k0_part21 (F := Bits) := rfl
theorem same22 : Cert.Kernel.k0_part22 (F := Bits) = Cert.KernelIdeal.k0_part22 (F := Bits) := rfl
theorem same23 : Cert.Kernel.k0_part23 (F := Bits) = Cert.KernelIdeal.k0_part23 (F := Bits) := rfl
theorem same24 : Cert.Kernel.k0_part24 (F := Bits) = Cert.KernelIdeal.k0_part24 (F := Bits) := rfl
theorem same25 : Cert.Kernel.k0_part25 (F := Bits) = Cert.KernelIdeal.k0_part25 (F := Bits) := rfl
theorem same26 : Cert.Kernel.k0_part26 (F := Bits) = Cert.KernelIdeal.k0_part26 (F := Bits) := rfl
theorem same27 : Cert.Kernel.k0_part27 (F := Bits) = Cert.KernelIdeal.k0_part27 (F := Bits) := rfl
theorem same28 : Cert.Kernel.k0_part28 (F := Bits) = Cert.KernelIdeal.k0_part28 (F := Bits) := rfl
theorem same29 : Cert.Kernel.k0_part29 (F := Bits) = Cert.KernelIdeal.k0_part29 (F := Bits) := rfl
theorem same30 : Cert.Kernel.k0_part30 (F := Bits) = Cert.KernelIdeal.k0_part30 (F := Bits) := rfl
theorem same31 : Cert.Kernel.k0_part31 (F := Bits) = Cert.KernelIdeal.k0_part31 (F := Bits) := rfl
theorem same32 : Cert.Kernel.k0_part32 (F := Bits) = Cert.KernelIdeal.k0_part32 (F := Bits) := rfl
theorem same33 : Cert.Kernel.k0_part33 (F := Bits) = Cert.KernelIdeal.k0_part33 (F := Bits) := rfl
theorem same34 : Cert.Kernel.k0_part34 (F := Bits) = Cert.KernelIdeal.k0_part34 (F := Bits) := rfl
theorem same35 : Cert.Kernel.k0_part35 (F := Bits) = Cert.KernelIdeal.k0_part35 (F := Bits) := rfl
theorem same36 : Cert.Kernel.k0_part36 (F := Bits) = Cert.KernelIdeal.k0_part36 (F := Bits) := rfl
theorem same37 : Cert.Kernel.k0_part37 (F := Bits) = Cert.KernelIdeal.k0_part37 (F := Bits) := rfl
theorem same38 : Cert.Kernel.k0_part38 (F := Bits) = Cert.KernelIdeal.k0_part38 (F := Bits) := rfl
theorem same39 : Cert.Kernel.k0_part39 (F := Bits) = Cert.KernelIdeal.k0_part39 (F := Bits) := rfl
theorem same40 : Cert.Kernel.k0_part40 (F := Bits) = Cert.KernelIdeal.k0_part40 (F := Bits) := rfl
theorem same41 : Cert.Kernel.k0_part41 (F := Bits) = Cert.KernelIdeal.k0_part41 (F := Bits) := rfl
theorem same42 : Cert.Kernel.k0_part42 (F := Bits) = Cert.KernelIdeal.k0_part42 (F := Bits) := rfl
theorem same43 : Cert.Kernel.k0_part43 (F := Bits) = Cert.KernelIdeal.k0_part43 (F := Bits) := rfl
theorem same44 : Cert.Kernel.k0_part44 (F := Bits) = Cert.KernelIdeal.k0_part44 (F := Bits) := rfl
theorem same45 : Cert.Kernel.k0_part45 (F := Bits) = Cert.KernelIdeal.k0_part45 (F := Bits) := rfl
theorem same46 : Cert.Kernel.k0_part46 (F := Bits) = Cert.KernelIdeal.k0_part46 (F := Bits) := rfl
theorem same47 : Cert.Kernel.k0_part47 (F := Bits) = Cert.KernelIdeal.k0_part47 (F := Bits) := rfl
theorem same48 : Cert.Kernel.k0_part48 (F := Bits) = Cert.KernelIdeal.k0_part48 (F := Bits) := rfl
theorem same49 : Cert.Kernel.k0_part49 (F := Bits) = Cert.KernelIdeal.k0_part49 (F := Bits) := rfl
theorem same50 : Cert.Kernel.k0_part50 (F := Bits) = Cert.KernelIdeal.k0_part50 (F := Bits) := rfl
theorem same51 : Cert.Kernel.k0_part51 (F := Bits) = Cert.KernelIdeal.k0_part51 (F := Bits) := rfl
theorem same52 : Cert.Kernel.k0_part52 (F := Bits) = Cert.KernelIdeal.k0_part52 (F := Bits) := rfl
theorem same53 : Cert.Kernel.k0_part53 (F := Bits) = Cert.KernelIdeal.k0_part53 (F := Bits) := rfl
theorem same54 : Cert.Kernel.k0_part54 (F := Bits) = Cert.KernelIdeal.k0_part54 (F := Bits) := rfl
theorem same55 : Cert.Kernel.k0_part55 (F := Bits) = Cert.KernelIdeal.k0_part55 (F := Bits) := rfl
theorem same56 : Cert.Kernel.k0_part56 (F := Bits) = Cert.KernelIdeal.k0_part56 (F := Bits) := rfl
theorem same57 : Cert.Kernel.k0_part57 (F := Bits) = Cert.KernelIdeal.k0_part57 (F := Bits) := rfl
theorem same58 : Cert.Kernel.k0_part58 (F := Bits) = Cert.KernelIdeal.k0_part58 (F := Bits) := rfl
theorem same59 : Cert.Kernel.k0_part59 (F := Bits) = Cert.KernelIdeal.k0_part59 (F := Bits) := rfl
theorem same60 : Cert.Kernel.k0_part60 (F := Bits) = Cert.KernelIdeal.k0_part60 (F := Bits) := rfl
theorem same61 : Cert.Kernel.k0_part61 (F := Bits) = Cert.KernelIdeal.k0_part61 (F := Bits) := rfl
theorem same62 : Cert.Kernel.k0_part62 (F := Bits) = Cert.KernelIdeal.k0_part62 (F := Bits) := rfl
theorem same63 : Cert.Kernel.k0_part63 (F := Bits) = Cert.KernelIdeal.k0_part63 (F := Bits) := rfl
theorem same64 : Cert.Kernel.k0_part64 (F := Bits) = Cert.KernelIdeal.k0_part64 (F := Bits) := rfl
theorem same65 : Cert.Kernel.k0_part65 (F := Bits) = Cert.KernelIdeal.k0_part65 (F := Bits) := rfl
theorem same66 : Cert.Kernel.k0_part66 (F := Bits) = Cert.KernelIdeal.k0_part66 (F := Bits) := rfl
theorem same67 : Cert.Kernel.k0_part67 (F := Bits) = Cert.KernelIdeal.k0_part67 (F := Bits) := rfl
theorem same68 : Cert.Kernel.k0_part68 (F := Bits) = Cert.KernelIdeal.k0_part68 (F := Bits) := rfl
theorem same69 : Cert.Kernel.k0_part69 (F := Bits) = Cert.KernelIdeal.k0_part69 (F := Bits) := rfl
theorem same70 : Cert.Kernel.k0_part70 (F := Bits) = Cert.KernelIdeal.k0_part70 (F := Bits) := rfl
theorem same71 : Cert.Kernel.k0_part71 (F := Bits) = Cert.KernelIdeal.k0_part71 (F := Bits) := rfl
theorem same72 : Cert.Kernel.k0_part72 (F := Bits) = Cert.KernelIdeal.k0_part72 (F := Bits) := rfl
theorem same73 : Cert.Kernel.k0_part73 (F := Bits) = Cert.KernelIdeal.k0_part73 (F := Bits) := rfl
theorem same74 : Cert.Kernel.k0_part74 (F := Bits) = Cert.KernelIdeal.k0_part74 (F := Bits) := rfl
theorem same75 : Cert.Kernel.k0_part75 (F := Bits) = Cert.KernelIdeal.k0_part75 (F := Bits) := rfl
theorem same76 : Cert.Kernel.k0_part76 (F := Bits) = Cert.KernelIdeal.k0_part76 (F := Bits) := rfl
theorem same77 : Cert.Kernel.k0_part77 (F := Bits) = Cert.KernelIdeal.k0_part77 (F := Bits) := rfl
theorem same78 : Cert.Kernel.k0_part78 (F := Bits) = Cert.KernelIdeal.k0_part78 (F := Bits) := rfl
theorem same79 : Cert.Kernel.k0_part79 (F := Bits) = Cert.KernelIdeal.k0_part79 (F := Bits) := rfl
theorem same80 : Cert.Kernel.k0_part80 (F := Bits) = Cert.KernelIdeal.k0_part80 (F := Bits) := rfl
theorem same81 : Cert.Kernel.k0_part81 (F := Bits) = Cert.KernelIdeal.k0_part81 (F := Bits) := rfl
theorem same82 : Cert.Kernel.k0_part82 (F := Bits) = Cert.KernelIdeal.k0_part82 (F := Bits) := rfl
theorem same83 : Cert.Kernel.k0_part83 (F := Bits) = Cert.KernelIdeal.k0_part83 (F := Bits) := rfl
theorem same84 : Cert.Kernel.k0_part84 (F := Bits) = Cert.KernelIdeal.k0_part84 (F := Bits) := rfl
theorem same85 : Cert.Kernel.k0_part85 (F := Bits) = Cert.KernelIdeal.k0_part85 (F := Bits) := rfl
theorem same86 : Cert.Kernel.k0_part86 (F := Bits) = Cert.KernelIdeal.k0_part86 (F := Bits) := rfl
theorem same87 : Cert.Kernel.k0_part87 (F := Bits) = Cert.KernelIdeal.k0_part87 (F := Bits) := rfl
theorem same88 : Cert.Kernel.k0_part88 (F := Bits) = Cert.KernelIdeal.k0_part88 (F := Bits) := rfl
theorem same89 : Cert.Kernel.k0_part89 (F := Bits) = Cert.KernelIdeal.k0_part89 (F := Bits) := rfl
theorem same90 : Cert.Kernel.k0_part90 (F := Bits) = Cert.KernelIdeal.k0_part90 (F := Bits) := rfl
theorem same91 : Cert.Kernel.k0_part91 (F := Bits) = Cert.KernelIdeal.k0_part91 (F := Bits) := rfl
theorem same92 : Cert.Kernel.k0_part92 (F := Bits) = Cert.KernelIdeal.k0_part92 (F := Bits) := rfl
theorem same93 : Cert.Kernel.k0_part93 (F := Bits) = Cert.KernelIdeal.k0_part93 (F := Bits) := rfl
theorem same94 : Cert.Kernel.k0_part94 (F := Bits) = Cert.KernelIdeal.k0_part94 (F := Bits) := rfl
theorem same95 : Cert.Kernel.k0_part95 (F := Bits) = Cert.KernelIdeal.k0_part95 (F := Bits) := rfl
theorem same96 : Cert.Kernel.k0_part96 (F := Bits) = Cert.KernelIdeal.k0_part96 (F := Bits) := rfl
theorem same97 : Cert.Kernel.k0_part97 (F := Bits) = Cert.KernelIdeal.k0_part97 (F := Bits) := rfl
theorem same98 : Cert.Kernel.k0_part98 (F := Bits) = Cert.KernelIdeal.k0_part98 (F := Bits) := rfl
theorem same99 : Cert.Kernel.k0_part99 (F := Bits) = Cert.KernelIdeal.k0_part99 (F := Bits) := rfl
theorem same100 : Cert.Kernel.k0_part100 (F := Bits) = Cert.KernelIdeal.k0_part100 (F := Bits) := rfl
end Cert.KP
end
-- ==== Proof.Same2.lean ====
module

public import proofs.«01_k».proof.Proof.Same
public import proofs.«01_k».proof.Proof.Gen.Kernel

@[expose] public section

noncomputable section

namespace Cert.KP

open Idealize.ShloMosaic Idealize.ShloMosaic.TcCoe Idealize.SL.Sem

set_option maxRecDepth 20000 in
theorem body_eq1 : Cert.Kernel.cc0_body (F := Bits) = Cert.KernelIdeal.cc0_body (F := Bits) := by
  unfold Cert.Kernel.cc0_body Cert.KernelIdeal.cc0_body
  simp only [same1, same2, same3, same4, same5, same6, same7, same8, same9, same10, same11, same12, same13, same14, same15, same16, same17, same18, same19, same20, same21, same22, same23, same24, same25, same26, same27, same28, same29, same30, same31, same32, same33, same34, same35, same36, same37, same38, same39, same40, same41, same42, same43, same44, same45, same46, same47, same48, same49, same50, same51, same52, same53, same54, same55, same56, same57, same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100]
  rfl
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) =>
    simp only [body_eq1]

theorem defs_eq : Cert.Kernel.defs (F := Bits) = Cert.KernelIdeal.defs (F := Bits) := by
  unfold Cert.Kernel.defs Cert.KernelIdeal.defs
  rw [defs₀_eq]
  rfl

end Cert.KP

end
-- ==== Proof.Frames.lean ====
module

public import proofs.«01_k».proof.Proof.Launch
public import proofs.«01_k».proof.Proof.Same2
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.KP

open Idealize.ShloMosaic Idealize.ShloMosaic.TcCoe Idealize.SL.Sem
open Idealize.ShloMosaic.Pipeline (Dat Cfg Window BodyObligation cellOf)

section K
open Cert.KernelIdeal Cert.KernelIdeal.Gen
variable {F : FTy → Type} [FloatOps F] [Named F]

/-- After the run every argument array holds what it held. -/
theorem args_of {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans (((dats m 0 c).arrAt_in 0 rfl _).trans (V_main_arg0 m c)),
    (h c 1).trans (((dats m 0 c).arrAt_in 1 rfl _).trans (V_main_arg1 m c)),
    (h c 2).trans (((dats m 0 c).arrAt_in 2 rfl _).trans (V_main_arg2 m c)),
    (h c 3).trans (((dats m 0 c).arrAt_in 3 rfl _).trans (V_main_arg3 m c)),
    (h c 4).trans (((dats m 0 c).arrAt_in 4 rfl _).trans (V_main_arg4 m c))⟩

end K

/-- The idealized kernel's frame. -/
theorem frame_ideal : Cert.quiescent_KernelIdeal := fun m ρ _ =>
  (θ_run Cert.KernelIdeal.defs _ _).mono (fun _ h => ⟨fun c => args_of h.1 c, h.2⟩) (run_main m ρ)

/-- The kernel's frame. -/
theorem frame_kernel : Cert.quiescent_Kernel := fun m ρ _ => by
  have h := (θ_run (Cert.KernelIdeal.defs (F := Bits)) (onTc (τ := Cert.KernelIdeal.τ) (Cert.KernelIdeal.main (F := Bits))) (s₀ m ρ)).mono
    (fun _ h => (⟨fun c => args_of (F := Bits) h.1 c, h.2⟩ : _ ∧ _)) (run_main (F := Bits) m ρ)
  rw [← defs_eq] at h
  exact h

/-- The reference's frame. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization names one constant. -/
theorem pres : Cert.preserves_Kernel_KernelIdeal := IdealRules.named_const.statement Cert.KernelIdeal.κ "mask" .f32 0xCE6E6B28#32 ⊥ rfl

end Cert.KP

end
-- ==== Proof.ValA.lean ====
module

public import proofs.«01_k».proof.Proof.RunA
public import Idealize.ShloMosaic.Lib.Pointwise
public import Idealize.ShloMosaic.Lib.Pipeline.ValueKit.Tiles

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section
variable (c : Dev nD) (f0 : Bf F c A0) (f1 : Bf F c A1) (f2 : Bf F c A2) (f3 : Bf F c A3) (f4 : Bf F c A4)
theorem rA6 : (runA c f0 f1 f2 f3 f4).1.1 = A6.view.writes (Elt F) A6.view.junk (runA.sl.H6_16 c f0 f1) := by
  unfold runA; dsimp only
theorem rA8 : (runA c f0 f1 f2 f3 f4).1.2.1 = A8.view.writes (Elt F) A8.view.junk (runA.sl.H8_18 c f2) := rfl
theorem rA9 : (runA c f0 f1 f2 f3 f4).1.2.2.1 = A9.view.writes (Elt F) A9.view.junk (runA.sl.H9_18 c f3) := rfl
theorem rA10 : (runA c f0 f1 f2 f3 f4).1.2.2.2 = A10.view.writes (Elt F) A10.view.junk (runA.sl.H10_1 c f4) := by
  unfold runA; dsimp only
end

section V
open Idealize.ShloMosaic.View

/-- The scaled product of the row `i` of x with the column `e` of Wq. -/
def qv (f0 : Vec Ideal S1x1024x1024 .f32) (f1 : Vec Ideal S1024x1024 .f32) (i e : Fin 1024) : EReal :=
  (∑ k : Fin 1024, f0 (ix3 0 i k) * f1 (ix2 k e)) * Ideal.ofBits .f32 0x3DB504F3#32

/-- A column packed by segments: the segment `m` holds the blocks `m`, `m + 3`, …, then zeros. -/
def segv (g : Fin 1024 → EReal) (col : Fin 1152) : EReal :=
  if h : col.val / 384 + 3 * (col.val % 384 / 64) < 16 then g ⟨64 * (col.val / 384 + 3 * (col.val % 384 / 64)) + col.val % 64, by omega⟩ else 0

/-- The row of x that stands at the grouped row `p`. -/
def ungp (p : Nat) : Nat :=
  if p < 384 then 64 * (3 * (p / 64)) + p % 64 else if p < 704 then 64 * (3 * ((p - 384) / 64) + 1) + p % 64
    else 64 * (3 * ((p - 704) / 64) + 2) + p % 64
theorem ungp_lt {p : Nat} (h : p < 1024) : ungp p < 1024 := by unfold ungp; split_ifs <;> omega

variable (c : Dev nD) (f0 : Bf Ideal c A0) (f1 : Bf Ideal c A1) (f2 : Bf Ideal c A2) (f3 : Bf Ideal c A3) (f4 : Bf Ideal c A4)

theorem v290_apply (i e : Fin 1024) : runA.sl.v290 (F := Ideal) c f0 f1 (ix2 i e) = qv f0 f1 i e := by
  pointwise [runA.sl.v290, runA.sl.v289, runA.sl.v288, runA.sl.v287, runA.sl.v286, runA.sl.v285, runA.sl.v283, runA.sl.v282, runA.sl.cst_291, runA.sl.cst_292, View.readAt_eq_ld]
  rfl

theorem canon6 (L : List (View.Piece (Elt Ideal) S1024x1024 .bf16)) (y : S1024x1024.Idx) (h : ∃ p ∈ L, y ∈ p.1.set) :
    (A6.view.writes (Elt Ideal) A6.view.junk L : Bf Ideal c A6) y = View.canon L y :=
  View.read_writes_apply_eq_canon A6.view A6.view.junk y L h

set_option maxRecDepth 10000 in
theorem cov6 (y : S1024x1024.Idx) : ∃ p ∈ runA.sl.H6_16 (F := Ideal) c f0 f1, y ∈ p.1.set := by
  unfold runA.sl.H6_16
  exact View.cover_of_tiled_head _ _ _ rfl y

theorem wA6 (p e : Fin 1024) : ((runA c f0 f1 f2 f3 f4).1.1 : S1024x1024.Idx → EReal) (ix2 p e) = qv f0 f1 ⟨ungp p.val, ungp_lt p.isLt⟩ e := by
  rw [rA6]
  refine (canon6 _ (ix2 p e) (cov6 c f0 f1 _)).trans ?_
  refine View.canon_eq_of_allAt _ _ _ (cov6 c f0 f1 _) ?_
  rw [← v290_apply c f0 f1]
  unfold runA.sl.H6_16
  repeat' refine View.allAt_cons_unit _ _ _ _ _ ?_ ?_
  all_goals try exact View.allAt_nil _ _
  all_goals
    intro x hx
    obtain ⟨x0, x1, rfl⟩ : ∃ (x0 : Fin 64) (x1 : Fin 1024), x = ix2 x0 x1 := ⟨x 0, x 1, eq_ix2 x⟩
    have h0 := hx 0
    have h1 := hx 1
    change p.val = _ + x0.val at h0
    change e.val = _ + x1.val at h1
    pointwise [runA.sl.v291, runA.sl.v294, runA.sl.v295, runA.sl.v298, runA.sl.v299, runA.sl.v302, runA.sl.v303, runA.sl.v306, runA.sl.v307, runA.sl.v310, runA.sl.v311, runA.sl.v314, runA.sl.v315, runA.sl.v318, runA.sl.v319, runA.sl.v322, runA.sl.v323, runA.sl.v326, runA.sl.v327, runA.sl.v330, runA.sl.v331, runA.sl.v334, runA.sl.v335, runA.sl.v338, runA.sl.v339, runA.sl.v342, runA.sl.v343, runA.sl.v346, runA.sl.v347, runA.sl.v350, runA.sl.v351, runA.sl.v354]
    refine congrArg (runA.sl.v290 (F := Ideal) c f0 f1) (congrArg₂ ix2 (Fin.ext ?_) (Fin.ext ?_))
    · unfold ungp; dsimp only; simp only [Matrix.cons_val] at h0; split_ifs <;> omega
    · simp only [Matrix.cons_val] at h1; omega

theorem canon7 (L : List (View.Piece (Elt Ideal) S8x128x1024 .bf16)) (h : ∀ y, ∃ p ∈ L, y ∈ p.1.set) (r : LoadRect S8x128x1024) (x : r.shape.Idx) :
    A7.view.readCov L r x = View.canon L (r.idx x) :=
  congrFun (View.readCov_eq_canon A7.view L r fun j => h _) x
theorem canon8 (L : List (View.Piece (Elt Ideal) S8x128x1152 .bf16)) (y : S8x128x1152.Idx) (h : ∃ p ∈ L, y ∈ p.1.set) :
    (A8.view.writes (Elt Ideal) A8.view.junk L : Bf Ideal c A8) y = View.canon L y :=
  View.read_writes_apply_eq_canon A8.view A8.view.junk y L h
theorem canon10 (L : List (View.Piece (Elt Ideal) S1024x1024 .bf16)) (y : S1024x1024.Idx) (h : ∃ p ∈ L, y ∈ p.1.set) :
    (A10.view.writes (Elt Ideal) A10.view.junk L : Bf Ideal c A10) y = View.canon L y :=
  View.read_writes_apply_eq_canon A10.view A10.view.junk y L h
theorem canon9 (L : List (View.Piece (Elt Ideal) S1152x8x128 .bf16)) (y : S1152x8x128.Idx) (h : ∃ p ∈ L, y ∈ p.1.set) :
    (A9.view.writes (Elt Ideal) A9.view.junk L : Bf Ideal c A9) y = View.canon L y :=
  View.read_writes_apply_eq_canon A9.view A9.view.junk y L h

set_option maxRecDepth 10000 in
theorem cov7 (y : S8x128x1024.Idx) : ∃ p ∈ runA.sl.H7_8 (F := Ideal) c f2, y ∈ p.1.set := by
  unfold runA.sl.H7_8
  exact View.cover_of_tiled_head _ _ _ rfl y
set_option maxRecDepth 10000 in
theorem cov8 (y : S8x128x1152.Idx) : ∃ p ∈ runA.sl.H8_18 (F := Ideal) c f2, y ∈ p.1.set := by
  unfold runA.sl.H8_18
  exact View.cover_of_tiled_head _ _ _ rfl y
set_option maxRecDepth 10000 in
theorem cov9 (y : S1152x8x128.Idx) : ∃ p ∈ runA.sl.H9_18 (F := Ideal) c f3, y ∈ p.1.set := by
  unfold runA.sl.H9_18
  exact View.cover_of_tiled_head _ _ _ rfl y

/-- The keys transposed head by head. -/
theorem cn7 (h : Fin 8) (d : Fin 128) (j : Fin 1024) :
    View.canon (runA.sl.H7_8 (F := Ideal) c f2) (ix3 h d j) = (f2 : S1x1024x8x128.Idx → EReal) (ix4 0 j h d) := by
  refine View.canon_eq_of_allAt _ _ _ (cov7 c f2 _) ?_
  unfold runA.sl.H7_8
  repeat' refine View.allAt_cons_unit _ _ _ _ _ ?_ ?_
  all_goals try exact View.allAt_nil _ _
  all_goals
    intro x hx
    obtain ⟨x0, x1, x2, rfl⟩ : ∃ (x0 : Fin 1) (x1 : Fin 128) (x2 : Fin 1024), x = ix3 x0 x1 x2 := ⟨x 0, x 1, x 2, eq_ix3 x⟩
    have h0 := hx 0
    have h1 := hx 1
    have h2 := hx 2
    change h.val = _ + x0.val at h0
    change d.val = _ + x1.val at h1
    change j.val = _ + x2.val at h2
    simp only [Matrix.cons_val] at h0 h1 h2
    pointwise [runA.sl.r, runA.sl.v63, runA.sl.v65, runA.sl.v66, runA.sl.v67, runA.sl.v70, runA.sl.v72, runA.sl.v73, runA.sl.v74, runA.sl.v77, runA.sl.v79, runA.sl.v80, runA.sl.v81, runA.sl.v84, runA.sl.v86, runA.sl.v87, runA.sl.v88, runA.sl.v91, runA.sl.v93, runA.sl.v94, runA.sl.v95, runA.sl.v98, k0_pay122, k0_pay123, k0_pay124, View.readAt_eq_ld]
    refine (congrArg f2 ?_ : f2 _ = f2 _)
    refine congr (congr (congr (congrArg ix4 (Fin.ext ?_)) (Fin.ext ?_)) (Fin.ext ?_)) (Fin.ext ?_)
    all_goals try simp
    all_goals omega

/-- A load of 64 of their columns. -/
theorem ld7 (o : Nat) (inb : ∀ a, (![0, 0, o] : Fin 3 → Nat) a + S8x128x64.size a ≤ S8x128x1024.size a) (h : Fin 8) (d : Fin 128) (u : Fin 64) (ho : o + u.val < 1024) :
    A7.view.readCov (runA.sl.H7_8 (F := Ideal) c f2) (Rect.unit (s := S8x128x1024) ![0, 0, o] S8x128x64.size inb).toLoadRect (ix3 h d u)
      = (f2 : S1x1024x8x128.Idx → EReal) (ix4 0 ⟨o + u.val, ho⟩ h d) := by
  refine (canon7 _ (cov7 c f2) _ _).trans (Eq.trans (congrArg (View.canon (runA.sl.H7_8 (F := Ideal) c f2)) ?_) (cn7 c f2 h d ⟨o + u.val, ho⟩))
  funext a
  match a with
  | ⟨0, _⟩ => exact Fin.ext (by change 0 + 1 * h.val = h.val; omega)
  | ⟨1, _⟩ => exact Fin.ext (by change 0 + 1 * d.val = d.val; omega)
  | ⟨2, _⟩ => exact Fin.ext (by change o + 1 * u.val = o + u.val; omega)

/-- The packed keys. -/
theorem wA8 (h : Fin 8) (d : Fin 128) (col : Fin 1152) :
    ((runA c f0 f1 f2 f3 f4).1.2.1 : S8x128x1152.Idx → EReal) (ix3 h d col) = segv (fun j => (f2 : S1x1024x8x128.Idx → EReal) (ix4 0 j h d)) col := by
  rw [rA8]
  refine (canon8 _ (ix3 h d col) (cov8 c f2 _)).trans ?_
  refine View.canon_eq_of_allAt _ _ _ (cov8 c f2 _) ?_
  unfold runA.sl.H8_18
  repeat' refine View.allAt_cons_unit _ _ _ _ _ ?_ ?_
  all_goals try exact View.allAt_nil _ _
  all_goals
    intro x hx
    obtain ⟨x0, x1, x2, rfl⟩ : ∃ (x0 : Fin 8) (x1 : Fin 128) (x2 : Fin 64), x = ix3 x0 x1 x2 := ⟨x 0, x 1, x 2, eq_ix3 x⟩
    have h0 := hx 0
    have h1 := hx 1
    have h2 := hx 2
    change h.val = _ + x0.val at h0
    change d.val = _ + x1.val at h1
    change col.val = _ + x2.val at h2
    simp only [Matrix.cons_val] at h0 h1 h2
    obtain rfl : h = x0 := Fin.ext (by omega)
    obtain rfl : d = x1 := Fin.ext (by omega)
    pointwise [runA.sl.cst, runA.sl.v102, runA.sl.v112, runA.sl.v122, runA.sl.v132, runA.sl.v142, runA.sl.v152, runA.sl.v162, runA.sl.v172, runA.sl.v182, runA.sl.v192, runA.sl.v202, runA.sl.v212, runA.sl.v222, runA.sl.v232, runA.sl.v242, runA.sl.v252, runA.sl.v259, runA.sl.v262]
    unfold segv
    first
    | (rw [dif_neg (by omega)])
    | (rw [dif_pos (by omega)]
       dsimp only [runA.sl.v109, runA.sl.v119, runA.sl.v129, runA.sl.v139, runA.sl.v149, runA.sl.v159, runA.sl.v169, runA.sl.v179, runA.sl.v189, runA.sl.v199, runA.sl.v209, runA.sl.v219, runA.sl.v229, runA.sl.v239, runA.sl.v249, runA.sl.v99]
       refine (ld7 c f2 _ _ h d x2 (by omega)).trans ?_
       refine (congrArg f2 ?_ : f2 _ = f2 _)
       refine congr (congr (congr (congrArg ix4 rfl) (Fin.ext ?_)) rfl) rfl
       dsimp only
       omega)

/-- The packed values. -/
theorem wA9 (row : Fin 1152) (h : Fin 8) (d : Fin 128) :
    ((runA c f0 f1 f2 f3 f4).1.2.2.1 : S1152x8x128.Idx → EReal) (ix3 row h d) = segv (fun j => (f3 : S1x1024x8x128.Idx → EReal) (ix4 0 j h d)) row := by
  rw [rA9]
  refine (canon9 _ (ix3 row h d) (cov9 c f3 _)).trans ?_
  refine View.canon_eq_of_allAt _ _ _ (cov9 c f3 _) ?_
  unfold runA.sl.H9_18
  repeat' refine View.allAt_cons_unit _ _ _ _ _ ?_ ?_
  all_goals try exact View.allAt_nil _ _
  all_goals
    intro x hx
    obtain ⟨x0, x1, x2, rfl⟩ : ∃ (x0 : Fin 64) (x1 : Fin 8) (x2 : Fin 128), x = ix3 x0 x1 x2 := ⟨x 0, x 1, x 2, eq_ix3 x⟩
    have h0 := hx 0
    have h1 := hx 1
    have h2 := hx 2
    change row.val = _ + x0.val at h0
    change h.val = _ + x1.val at h1
    change d.val = _ + x2.val at h2
    simp only [Matrix.cons_val] at h0 h1 h2
    obtain rfl : h = x1 := Fin.ext (by omega)
    obtain rfl : d = x2 := Fin.ext (by omega)
    pointwise [runA.sl.cst, runA.sl.v104, runA.sl.v105, runA.sl.v108, runA.sl.v114, runA.sl.v115, runA.sl.v118, runA.sl.v124, runA.sl.v125, runA.sl.v128, runA.sl.v134, runA.sl.v135, runA.sl.v138, runA.sl.v144, runA.sl.v145, runA.sl.v148, runA.sl.v154, runA.sl.v155, runA.sl.v158, runA.sl.v164, runA.sl.v165, runA.sl.v168, runA.sl.v174, runA.sl.v175, runA.sl.v178, runA.sl.v184, runA.sl.v185, runA.sl.v188, runA.sl.v194, runA.sl.v195, runA.sl.v198, runA.sl.v204, runA.sl.v205, runA.sl.v208, runA.sl.v214, runA.sl.v215, runA.sl.v218, runA.sl.v224, runA.sl.v225, runA.sl.v228, runA.sl.v234, runA.sl.v235, runA.sl.v238, runA.sl.v244, runA.sl.v245, runA.sl.v248, runA.sl.v254, runA.sl.v255, runA.sl.v258, runA.sl.v263, runA.sl.v266, View.readAt_eq_ld]
    unfold segv
    first
    | (rw [dif_neg (by omega)])
    | (rw [dif_pos (by omega)]
       refine (congrArg f3 ?_ : f3 _ = f3 _)
       refine congr (congr (congr (congrArg ix4 rfl) (Fin.ext ?_)) rfl) rfl
       simp
       omega)

/-- The output weights. -/
theorem wA10 (e n : Fin 1024) : ((runA c f0 f1 f2 f3 f4).1.2.2.2 : S1024x1024.Idx → EReal) (ix2 e n) = (f4 : S1024x1024.Idx → EReal) (ix2 e n) := by
  rw [rA10]
  have hc (y : S1024x1024.Idx) : ∃ p ∈ runA.sl.H10_1 (F := Ideal) c f4, y ∈ p.1.set := by
    unfold runA.sl.H10_1
    exact View.cover_of_tiled_head _ _ _ rfl y
  refine (canon10 _ (ix2 e n) (hc _)).trans ?_
  refine View.canon_eq_of_allAt _ _ _ (hc _) ?_
  unfold runA.sl.H10_1
  refine View.allAt_cons_unit _ _ _ _ _ ?_ (View.allAt_nil _ _)
  intro x hx
  obtain ⟨x0, x1, rfl⟩ : ∃ (x0 : Fin 1024) (x1 : Fin 1024), x = ix2 x0 x1 := ⟨x 0, x 1, eq_ix2 x⟩
  have h0 := hx 0
  have h1 := hx 1
  change e.val = 0 + x0.val at h0
  change n.val = 0 + x1.val at h1
  obtain rfl : e = x0 := Fin.ext (by omega)
  obtain rfl : n = x1 := Fin.ext (by omega)
  pointwise [runA.sl.v280, runA.sl.v277, runA.sl.v276, View.readAt_eq_ld]
  rfl

end V

end Cert.KP

end
-- ==== Proof.ValB1.lean ====
module

public import proofs.«01_k».proof.Proof.RunB
public import proofs.«01_k».proof.Proof.Norm
public import Idealize.ShloMosaic.Lib.Pointwise
public import Idealize.ShloMosaic.Lib.Pipeline.ValueKit.Tiles

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V
open Idealize.ShloMosaic.View

/-- The segment of keys a device reads for the rows of the group `r`. -/
def cmN (c : Dev nD) (r : Nat) : Nat := (9 - c.val - r) % 3

theorem cmN_lt (c : Dev nD) (r : Nat) : cmN c r < 3 := Nat.mod_lt _ (by decide)

/-- The value a mask adds to a score. -/
def pb (P : Prop) [Decidable P] : EReal := if P then 0 else ⊥

theorem selpb (w : BitVec 1) (P : Prop) [Decidable P] (h : w = if P then 1#1 else 0#1) :
    Scalar.select w (0 : Ideal .f32) (Named.named κ "mask" 3463342888#32) = pb P := by
  subst h
  unfold pb
  split_ifs
  · rfl
  · rfl

theorem o8_0_0 (c : Dev nD) : k0_off1 c 0#32 = ![0, 0, 384 * cmN c 0] := by
  revert c; decide +kernel
theorem o9_0_0 (c : Dev nD) : k0_off2 c 0#32 = ![384 * cmN c 0, 0, 0] := by
  revert c; decide +kernel
theorem o8_0_1 (c : Dev nD) : k0_off1 c 1#32 = ![0, 0, 384 * cmN c 1] := by
  revert c; decide +kernel
theorem o9_0_1 (c : Dev nD) : k0_off2 c 1#32 = ![384 * cmN c 1, 0, 0] := by
  revert c; decide +kernel
theorem o8_0_2 (c : Dev nD) : k0_off1 c 2#32 = ![0, 0, 384 * cmN c 2] := by
  revert c; decide +kernel
theorem o9_0_2 (c : Dev nD) : k0_off2 c 2#32 = ![384 * cmN c 2, 0, 0] := by
  revert c; decide +kernel
theorem o8_1_0 (c : Dev nD) : k0_off3 c 0#32 = ![1, 0, 384 * cmN c 0] := by
  revert c; decide +kernel
theorem o9_1_0 (c : Dev nD) : k0_off4 c 0#32 = ![384 * cmN c 0, 1, 0] := by
  revert c; decide +kernel
theorem o8_1_1 (c : Dev nD) : k0_off3 c 1#32 = ![1, 0, 384 * cmN c 1] := by
  revert c; decide +kernel
theorem o9_1_1 (c : Dev nD) : k0_off4 c 1#32 = ![384 * cmN c 1, 1, 0] := by
  revert c; decide +kernel
theorem o8_1_2 (c : Dev nD) : k0_off3 c 2#32 = ![1, 0, 384 * cmN c 2] := by
  revert c; decide +kernel
theorem o9_1_2 (c : Dev nD) : k0_off4 c 2#32 = ![384 * cmN c 2, 1, 0] := by
  revert c; decide +kernel
theorem o8_2_0 (c : Dev nD) : k0_off5 c 0#32 = ![2, 0, 384 * cmN c 0] := by
  revert c; decide +kernel
theorem o9_2_0 (c : Dev nD) : k0_off6 c 0#32 = ![384 * cmN c 0, 2, 0] := by
  revert c; decide +kernel
theorem o8_2_1 (c : Dev nD) : k0_off5 c 1#32 = ![2, 0, 384 * cmN c 1] := by
  revert c; decide +kernel
theorem o9_2_1 (c : Dev nD) : k0_off6 c 1#32 = ![384 * cmN c 1, 2, 0] := by
  revert c; decide +kernel
theorem o8_2_2 (c : Dev nD) : k0_off5 c 2#32 = ![2, 0, 384 * cmN c 2] := by
  revert c; decide +kernel
theorem o9_2_2 (c : Dev nD) : k0_off6 c 2#32 = ![384 * cmN c 2, 2, 0] := by
  revert c; decide +kernel
theorem o8_3_0 (c : Dev nD) : k0_off7 c 0#32 = ![3, 0, 384 * cmN c 0] := by
  revert c; decide +kernel
theorem o9_3_0 (c : Dev nD) : k0_off8 c 0#32 = ![384 * cmN c 0, 3, 0] := by
  revert c; decide +kernel
theorem o8_3_1 (c : Dev nD) : k0_off7 c 1#32 = ![3, 0, 384 * cmN c 1] := by
  revert c; decide +kernel
theorem o9_3_1 (c : Dev nD) : k0_off8 c 1#32 = ![384 * cmN c 1, 3, 0] := by
  revert c; decide +kernel
theorem o8_3_2 (c : Dev nD) : k0_off7 c 2#32 = ![3, 0, 384 * cmN c 2] := by
  revert c; decide +kernel
theorem o9_3_2 (c : Dev nD) : k0_off8 c 2#32 = ![384 * cmN c 2, 3, 0] := by
  revert c; decide +kernel
theorem o8_4_0 (c : Dev nD) : k0_off9 c 0#32 = ![4, 0, 384 * cmN c 0] := by
  revert c; decide +kernel
theorem o9_4_0 (c : Dev nD) : k0_off10 c 0#32 = ![384 * cmN c 0, 4, 0] := by
  revert c; decide +kernel
theorem o8_4_1 (c : Dev nD) : k0_off9 c 1#32 = ![4, 0, 384 * cmN c 1] := by
  revert c; decide +kernel
theorem o9_4_1 (c : Dev nD) : k0_off10 c 1#32 = ![384 * cmN c 1, 4, 0] := by
  revert c; decide +kernel
theorem o8_4_2 (c : Dev nD) : k0_off9 c 2#32 = ![4, 0, 384 * cmN c 2] := by
  revert c; decide +kernel
theorem o9_4_2 (c : Dev nD) : k0_off10 c 2#32 = ![384 * cmN c 2, 4, 0] := by
  revert c; decide +kernel
theorem o8_5_0 (c : Dev nD) : k0_off11 c 0#32 = ![5, 0, 384 * cmN c 0] := by
  revert c; decide +kernel
theorem o9_5_0 (c : Dev nD) : k0_off12 c 0#32 = ![384 * cmN c 0, 5, 0] := by
  revert c; decide +kernel
theorem o8_5_1 (c : Dev nD) : k0_off11 c 1#32 = ![5, 0, 384 * cmN c 1] := by
  revert c; decide +kernel
theorem o9_5_1 (c : Dev nD) : k0_off12 c 1#32 = ![384 * cmN c 1, 5, 0] := by
  revert c; decide +kernel
theorem o8_5_2 (c : Dev nD) : k0_off11 c 2#32 = ![5, 0, 384 * cmN c 2] := by
  revert c; decide +kernel
theorem o9_5_2 (c : Dev nD) : k0_off12 c 2#32 = ![384 * cmN c 2, 5, 0] := by
  revert c; decide +kernel
theorem o8_6_0 (c : Dev nD) : k0_off13 c 0#32 = ![6, 0, 384 * cmN c 0] := by
  revert c; decide +kernel
theorem o9_6_0 (c : Dev nD) : k0_off14 c 0#32 = ![384 * cmN c 0, 6, 0] := by
  revert c; decide +kernel
theorem o8_6_1 (c : Dev nD) : k0_off13 c 1#32 = ![6, 0, 384 * cmN c 1] := by
  revert c; decide +kernel
theorem o9_6_1 (c : Dev nD) : k0_off14 c 1#32 = ![384 * cmN c 1, 6, 0] := by
  revert c; decide +kernel
theorem o8_6_2 (c : Dev nD) : k0_off13 c 2#32 = ![6, 0, 384 * cmN c 2] := by
  revert c; decide +kernel
theorem o9_6_2 (c : Dev nD) : k0_off14 c 2#32 = ![384 * cmN c 2, 6, 0] := by
  revert c; decide +kernel
theorem o8_7_0 (c : Dev nD) : k0_off15 c 0#32 = ![7, 0, 384 * cmN c 0] := by
  revert c; decide +kernel
theorem o9_7_0 (c : Dev nD) : k0_off16 c 0#32 = ![384 * cmN c 0, 7, 0] := by
  revert c; decide +kernel
theorem o8_7_1 (c : Dev nD) : k0_off15 c 1#32 = ![7, 0, 384 * cmN c 1] := by
  revert c; decide +kernel
theorem o9_7_1 (c : Dev nD) : k0_off16 c 1#32 = ![384 * cmN c 1, 7, 0] := by
  revert c; decide +kernel
theorem o8_7_2 (c : Dev nD) : k0_off15 c 2#32 = ![7, 0, 384 * cmN c 2] := by
  revert c; decide +kernel
theorem o9_7_2 (c : Dev nD) : k0_off16 c 2#32 = ![384 * cmN c 2, 7, 0] := by
  revert c; decide +kernel

theorem bias0_0 (c : Dev nD) (j : Fin 384) : k0_pay194 (F := Ideal) (runB0.sl.v398 (v2Of c)) (ix2 0 j) = pb (cmN c 0 + 3 * (j.val / 64) < 16) := by
  pointwise [k0_pay194, runB0.sl.v398, runB0.sl.v356, runB0.sl.v357, runB0.sl.v360, runB0.sl.v361, runB0.sl.v362, runB0.sl.v364, runB0.sl.v365, runB0.sl.v366, runB0.sl.v367, runB0.sl.v368, runB0.sl.v369, runB0.sl.v371, runB0.sl.v373, runB0.sl.v376, runB0.sl.v383, runB0.sl.v384, runB0.sl.v388, runB0.sl.v391, runB0.sl.v392, runB0.sl.v393, runB0.sl.v395, runB0.sl.v396, runB0.sl.v397]
  refine selpb _ _ ?_
  revert c j; decide +kernel

theorem bias1_0 (c : Dev nD) (j : Fin 384) : runB0.sl.r_3 (F := Ideal) (v2Of c) (ix2 0 j) = pb (cmN c 1 + 3 * (j.val / 64) < 16) := by
  pointwise [k0_pay229, runB0.sl.r_3, runB0.sl.v368, runB0.sl.v369, runB0.sl.v371, runB0.sl.v373, runB0.sl.v376, runB0.sl.v587, runB0.sl.v588, runB0.sl.v591, runB0.sl.v592, runB0.sl.v593, runB0.sl.v595, runB0.sl.v596, runB0.sl.v597, runB0.sl.v598]
  refine selpb _ _ ?_
  revert c j; decide +kernel

theorem bias2_0 (c : Dev nD) (j : Fin 384) : runB0.sl.r_7 (F := Ideal) (v2Of c) (ix2 0 j) = pb (cmN c 2 + 3 * (j.val / 64) < 16) := by
  pointwise [k0_pay254, runB0.sl.r_7, runB0.sl.v818, runB0.sl.v819]
  refine selpb _ _ ?_
  revert c j; decide +kernel

theorem bias0_1 (c : Dev nD) (j : Fin 384) : k0_pay194 (F := Ideal) (runB1.sl.v398 (v2Of c)) (ix2 0 j) = pb (cmN c 0 + 3 * (j.val / 64) < 16) := by
  pointwise [k0_pay194, runB1.sl.v398, runB1.sl.v356, runB1.sl.v357, runB1.sl.v360, runB1.sl.v361, runB1.sl.v362, runB1.sl.v364, runB1.sl.v365, runB1.sl.v366, runB1.sl.v367, runB1.sl.v368, runB1.sl.v369, runB1.sl.v371, runB1.sl.v373, runB1.sl.v376, runB1.sl.v383, runB1.sl.v384, runB1.sl.v388, runB1.sl.v391, runB1.sl.v392, runB1.sl.v393, runB1.sl.v395, runB1.sl.v396, runB1.sl.v397]
  refine selpb _ _ ?_
  revert c j; decide +kernel

theorem bias1_1 (c : Dev nD) (j : Fin 384) : runB1.sl.r_3 (F := Ideal) (v2Of c) (ix2 0 j) = pb (cmN c 1 + 3 * (j.val / 64) < 16) := by
  pointwise [k0_pay229, runB1.sl.r_3, runB1.sl.v368, runB1.sl.v369, runB1.sl.v371, runB1.sl.v373, runB1.sl.v376, runB1.sl.v587, runB1.sl.v588, runB1.sl.v591, runB1.sl.v592, runB1.sl.v593, runB1.sl.v595, runB1.sl.v596, runB1.sl.v597, runB1.sl.v598]
  refine selpb _ _ ?_
  revert c j; decide +kernel

theorem bias2_1 (c : Dev nD) (j : Fin 384) : runB1.sl.r_7 (F := Ideal) (v2Of c) (ix2 0 j) = pb (cmN c 2 + 3 * (j.val / 64) < 16) := by
  pointwise [k0_pay254, runB1.sl.r_7, runB1.sl.v818, runB1.sl.v819]
  refine selpb _ _ ?_
  revert c j; decide +kernel

theorem pay277_apply (b : FVec Ideal S1x384 .bf16) (q : Vec Ideal S320x128 .bf16) (k : Vec Ideal S1x128x384 .bf16) (v : Vec Ideal S384x1x128 .bf16)
    (i : Fin 320) (d : Fin 128) :
    k0_pay277 b q k v (ix2 i d) = ∑ j : Fin 384, Ideal.exp ((∑ d : Fin 128, q (ix2 i d) * k (ix3 0 d j)) + b (ix2 0 j)) * v (ix3 j 0 d) := by
  pointwise [k0_pay277, k0_pay275]
theorem pay276_apply (b : FVec Ideal S1x384 .bf16) (q : Vec Ideal S320x128 .bf16) (k : Vec Ideal S1x128x384 .bf16)
    (i : Fin 320) (d : Fin 8) :
    k0_pay276 k0_pay192 b q k (ix2 i d) = ∑ j : Fin 384, Ideal.exp ((∑ d : Fin 128, q (ix2 i d) * k (ix3 0 d j)) + b (ix2 0 j)) := by
  pointwise [k0_pay276, k0_pay275, k0_pay192]
theorem pay197_apply (b : IVec S1x384 1) (q : Vec Ideal S384x128 .bf16) (k : Vec Ideal S1x128x384 .bf16) (v : Vec Ideal S384x1x128 .bf16)
    (i : Fin 384) (d : Fin 128) :
    k0_pay197 b q k v (ix2 i d) = ∑ j : Fin 384, Ideal.exp ((∑ d : Fin 128, q (ix2 i d) * k (ix3 0 d j)) + k0_pay194 (F := Ideal) b (ix2 0 j)) * v (ix3 j 0 d) := by
  generalize h : k0_pay194 (F := Ideal) b = w
  unfold k0_pay197 k0_pay195
  rw [h]
  pointwise []
theorem pay196_apply (b : IVec S1x384 1) (q : Vec Ideal S384x128 .bf16) (k : Vec Ideal S1x128x384 .bf16)
    (i : Fin 384) (d : Fin 8) :
    k0_pay196 k0_pay192 b q k (ix2 i d) = ∑ j : Fin 384, Ideal.exp ((∑ d : Fin 128, q (ix2 i d) * k (ix3 0 d j)) + k0_pay194 (F := Ideal) b (ix2 0 j)) := by
  generalize h : k0_pay194 (F := Ideal) b = w
  unfold k0_pay196 k0_pay195
  rw [h]
  pointwise [k0_pay192]

/-- The weight of a key's column for a row. -/
def wgt (q : S1024x1024.Idx → EReal) (k : S8x128x1152.Idx → EReal) (p : Fin 1024) (h : Fin 8) (J : Fin 1152) : EReal :=
  ∑ d : Fin 128, q (ix2 p ⟨128 * h.val + d.val, by omega⟩) * k (ix3 h d J)

/-- The column `j` of a segment. -/
def scol (m : Nat) (hm : m < 3) (j : Fin 384) : Fin 1152 := ⟨384 * m + j.val, by omega⟩

variable (c : Dev nD) (f6 : Bf Ideal c A6) (f8 : Bf Ideal c A8) (f9 : Bf Ideal c A9)

theorem idx3_congr {a b c : Nat} {i i' : Fin a} {j j' : Fin b} {k k' : Fin c} (h1 : i = i') (h2 : j = j') (h3 : k = k') : ix3 i j k = ix3 i' j' k' := by
  subst h1 h2 h3; rfl

theorem rd6_320 {o : Fin 2 → Nat} {g h : Nat} (ho : o = ![g, 128 * h]) (inb : ∀ a, o a + S320x128.size a ≤ S1024x1024.size a)
    (hg : g + 320 ≤ 1024) (hh : h < 8) (i : Fin 320) (d : Fin 128) :
    View.readAt (Elt Ideal) A6.view (Rect.unit o S320x128.size inb : Rect S1024x1024).toLoadRect f6 (ix2 i d)
      = (f6 : S1024x1024.Idx → EReal) (ix2 ⟨g + i.val, by omega⟩ ⟨128 * h + d.val, by omega⟩) := by
  subst ho
  pointwise [View.readAt_eq_ld]
  first | done | (refine congrArg f6 (congrArg₂ ix2 (Fin.ext ?_) (Fin.ext ?_)) <;> simp)

theorem rd6_384 {o : Fin 2 → Nat} {g h : Nat} (ho : o = ![g, 128 * h]) (inb : ∀ a, o a + S384x128.size a ≤ S1024x1024.size a)
    (hg : g + 384 ≤ 1024) (hh : h < 8) (i : Fin 384) (d : Fin 128) :
    View.readAt (Elt Ideal) A6.view (Rect.unit o S384x128.size inb : Rect S1024x1024).toLoadRect f6 (ix2 i d)
      = (f6 : S1024x1024.Idx → EReal) (ix2 ⟨g + i.val, by omega⟩ ⟨128 * h + d.val, by omega⟩) := by
  subst ho
  pointwise [View.readAt_eq_ld]
  first | done | (refine congrArg f6 (congrArg₂ ix2 (Fin.ext ?_) (Fin.ext ?_)) <;> simp)

theorem rd8 {o : Fin 3 → Nat} {h m : Nat} (hh : h < 8) (hm : m < 3) (ho : o = ![h, 0, 384 * m]) (inb : ∀ a, o a + S1x128x384.size a ≤ S8x128x1152.size a)
    (d : Fin 128) (j : Fin 384) :
    View.readAt (Elt Ideal) A8.view (Rect.unit o S1x128x384.size inb : Rect S8x128x1152).toLoadRect f8 (ix3 0 d j)
      = (f8 : S8x128x1152.Idx → EReal) (ix3 ⟨h, hh⟩ d (scol m hm j)) := by
  subst ho
  pointwise [View.readAt_eq_ld]
  refine congrArg f8 (idx3_congr (Fin.ext ?_) (Fin.ext ?_) (Fin.ext ?_))
  all_goals simp [scol]
theorem rd9 {o : Fin 3 → Nat} {h m : Nat} (hh : h < 8) (hm : m < 3) (ho : o = ![384 * m, h, 0]) (inb : ∀ a, o a + S384x1x128.size a ≤ S1152x8x128.size a)
    (j : Fin 384) (d : Fin 128) :
    View.readAt (Elt Ideal) A9.view (Rect.unit o S384x1x128.size inb : Rect S1152x8x128).toLoadRect f9 (ix3 j 0 d)
      = (f9 : S1152x8x128.Idx → EReal) (ix3 (scol m hm j) ⟨h, hh⟩ d) := by
  subst ho
  pointwise [View.readAt_eq_ld]
  refine congrArg f9 (idx3_congr (Fin.ext ?_) (Fin.ext ?_) (Fin.ext ?_))
  all_goals simp [scol]

/-- The group of a grouped row. -/
def rgp (p : Nat) : Nat := if p < 384 then 0 else if p < 704 then 1 else 2

/-- The context of a row over the segment of keys its group reads. -/
def m11 (q : S1024x1024.Idx → EReal) (k : S8x128x1152.Idx → EReal) (v : S1152x8x128.Idx → EReal) (p e : Fin 1024) : EReal :=
  ∑ j : Fin 384, Ideal.exp (wgt q k p ⟨e.val / 128, by omega⟩ (scol (cmN c (rgp p.val)) (cmN_lt _ _) j) + pb (cmN c (rgp p.val) + 3 * (j.val / 64) < 16))
    * v (ix3 (scol (cmN c (rgp p.val)) (cmN_lt _ _) j) ⟨e.val / 128, by omega⟩ ⟨e.val % 128, Nat.mod_lt _ (by decide)⟩)

/-- The sum of a row's weights over the segment of keys its group reads. -/
def m12 (q : S1024x1024.Idx → EReal) (k : S8x128x1152.Idx → EReal) (p : Fin 1024) (e : Fin 64) : EReal :=
  ∑ j : Fin 384, Ideal.exp (wgt q k p ⟨e.val / 8, by omega⟩ (scol (cmN c (rgp p.val)) (cmN_lt _ _) j) + pb (cmN c (rgp p.val) + 3 * (j.val / 64) < 16))

theorem p11_320 (b : FVec Ideal S1x384 .bf16) {g h r : Nat} (hh : h < 8) (hg : g + 320 ≤ 1024)
    (hb : ∀ j : Fin 384, b (ix2 0 j) = pb (cmN c r + 3 * (j.val / 64) < 16))
    {o6 : Fin 2 → Nat} {o8 o9 : Fin 3 → Nat} (h6 : o6 = ![g, 128 * h]) (h8 : o8 = ![h, 0, 384 * cmN c r]) (h9 : o9 = ![384 * cmN c r, h, 0])
    (i6 : ∀ a, o6 a + S320x128.size a ≤ S1024x1024.size a) (i8 : ∀ a, o8 a + S1x128x384.size a ≤ S8x128x1152.size a)
    (i9 : ∀ a, o9 a + S384x1x128.size a ≤ S1152x8x128.size a)
    (p e : Fin 1024) (x0 : Fin 320) (x1 : Fin 128) (hp : p.val = g + x0.val) (he : e.val = 128 * h + x1.val) (hr : rgp p.val = r) :
    k0_pay277 b (View.readAt (Elt Ideal) A6.view (Rect.unit o6 S320x128.size i6 : Rect S1024x1024).toLoadRect f6)
      (View.readAt (Elt Ideal) A8.view (Rect.unit o8 S1x128x384.size i8 : Rect S8x128x1152).toLoadRect f8)
      (View.readAt (Elt Ideal) A9.view (Rect.unit o9 S384x1x128.size i9 : Rect S1152x8x128).toLoadRect f9) (ix2 x0 x1) = m11 c f6 f8 f9 p e := by
  subst hr
  refine (pay277_apply _ _ _ _ x0 x1).trans ?_
  have a3 : (⟨g + x0.val, by omega⟩ : Fin 1024) = p := Fin.ext hp.symm
  have a1 : (⟨h, hh⟩ : Fin 8) = ⟨e.val / 128, by omega⟩ := Fin.ext (by dsimp only; omega)
  have a2 : x1 = ⟨e.val % 128, Nat.mod_lt _ (by decide)⟩ := Fin.ext (by dsimp only; omega)
  refine Finset.sum_congr rfl fun j _ => ?_
  refine congrArg₂ (· * ·) (congrArg Ideal.exp (congrArg₂ (· + ·) ?_ (hb j))) ?_
  · unfold wgt
    rw [← a1]
    refine Finset.sum_congr rfl fun d _ => ?_
    exact congrArg₂ (· * ·) ((rd6_320 c f6 h6 i6 hg hh x0 d).trans (by rw [← a3])) (rd8 c f8 hh (cmN_lt _ _) h8 i8 d j)
  · rw [← a1, ← a2]
    exact rd9 c f9 hh (cmN_lt _ _) h9 i9 j x1

theorem p12_320 (b : FVec Ideal S1x384 .bf16) {g h r : Nat} (hh : h < 8) (hg : g + 320 ≤ 1024)
    (hb : ∀ j : Fin 384, b (ix2 0 j) = pb (cmN c r + 3 * (j.val / 64) < 16))
    {o6 : Fin 2 → Nat} {o8 : Fin 3 → Nat} (h6 : o6 = ![g, 128 * h]) (h8 : o8 = ![h, 0, 384 * cmN c r])
    (i6 : ∀ a, o6 a + S320x128.size a ≤ S1024x1024.size a) (i8 : ∀ a, o8 a + S1x128x384.size a ≤ S8x128x1152.size a)
    (p : Fin 1024) (e : Fin 64) (x0 : Fin 320) (x1 : Fin 8) (hp : p.val = g + x0.val) (he : e.val = 8 * h + x1.val) (hr : rgp p.val = r) :
    k0_pay276 k0_pay192 b (View.readAt (Elt Ideal) A6.view (Rect.unit o6 S320x128.size i6 : Rect S1024x1024).toLoadRect f6)
      (View.readAt (Elt Ideal) A8.view (Rect.unit o8 S1x128x384.size i8 : Rect S8x128x1152).toLoadRect f8) (ix2 x0 x1) = m12 c f6 f8 p e := by
  subst hr
  refine (pay276_apply _ _ _ x0 x1).trans ?_
  have a3 : (⟨g + x0.val, by omega⟩ : Fin 1024) = p := Fin.ext hp.symm
  have a1 : (⟨h, hh⟩ : Fin 8) = ⟨e.val / 8, by omega⟩ := Fin.ext (by dsimp only; omega)
  refine Finset.sum_congr rfl fun j _ => ?_
  refine congrArg Ideal.exp (congrArg₂ (· + ·) ?_ (hb j))
  unfold wgt
  rw [← a1]
  refine Finset.sum_congr rfl fun d _ => ?_
  exact congrArg₂ (· * ·) ((rd6_320 c f6 h6 i6 hg hh x0 d).trans (by rw [← a3])) (rd8 c f8 hh (cmN_lt _ _) h8 i8 d j)

theorem p11_384 (b : IVec S1x384 1) {g h r : Nat} (hh : h < 8) (hg : g + 384 ≤ 1024)
    (hb : ∀ j : Fin 384, k0_pay194 (F := Ideal) b (ix2 0 j) = pb (cmN c r + 3 * (j.val / 64) < 16))
    {o6 : Fin 2 → Nat} {o8 o9 : Fin 3 → Nat} (h6 : o6 = ![g, 128 * h]) (h8 : o8 = ![h, 0, 384 * cmN c r]) (h9 : o9 = ![384 * cmN c r, h, 0])
    (i6 : ∀ a, o6 a + S384x128.size a ≤ S1024x1024.size a) (i8 : ∀ a, o8 a + S1x128x384.size a ≤ S8x128x1152.size a)
    (i9 : ∀ a, o9 a + S384x1x128.size a ≤ S1152x8x128.size a)
    (p e : Fin 1024) (x0 : Fin 384) (x1 : Fin 128) (hp : p.val = g + x0.val) (he : e.val = 128 * h + x1.val) (hr : rgp p.val = r) :
    k0_pay197 b (View.readAt (Elt Ideal) A6.view (Rect.unit o6 S384x128.size i6 : Rect S1024x1024).toLoadRect f6)
      (View.readAt (Elt Ideal) A8.view (Rect.unit o8 S1x128x384.size i8 : Rect S8x128x1152).toLoadRect f8)
      (View.readAt (Elt Ideal) A9.view (Rect.unit o9 S384x1x128.size i9 : Rect S1152x8x128).toLoadRect f9) (ix2 x0 x1) = m11 c f6 f8 f9 p e := by
  subst hr
  refine (pay197_apply _ _ _ _ x0 x1).trans ?_
  have a3 : (⟨g + x0.val, by omega⟩ : Fin 1024) = p := Fin.ext hp.symm
  have a1 : (⟨h, hh⟩ : Fin 8) = ⟨e.val / 128, by omega⟩ := Fin.ext (by dsimp only; omega)
  have a2 : x1 = ⟨e.val % 128, Nat.mod_lt _ (by decide)⟩ := Fin.ext (by dsimp only; omega)
  refine Finset.sum_congr rfl fun j _ => ?_
  refine congrArg₂ (· * ·) (congrArg Ideal.exp (congrArg₂ (· + ·) ?_ (hb j))) ?_
  · unfold wgt
    rw [← a1]
    refine Finset.sum_congr rfl fun d _ => ?_
    exact congrArg₂ (· * ·) ((rd6_384 c f6 h6 i6 hg hh x0 d).trans (by rw [← a3])) (rd8 c f8 hh (cmN_lt _ _) h8 i8 d j)
  · rw [← a1, ← a2]
    exact rd9 c f9 hh (cmN_lt _ _) h9 i9 j x1

theorem p12_384 (b : IVec S1x384 1) {g h r : Nat} (hh : h < 8) (hg : g + 384 ≤ 1024)
    (hb : ∀ j : Fin 384, k0_pay194 (F := Ideal) b (ix2 0 j) = pb (cmN c r + 3 * (j.val / 64) < 16))
    {o6 : Fin 2 → Nat} {o8 : Fin 3 → Nat} (h6 : o6 = ![g, 128 * h]) (h8 : o8 = ![h, 0, 384 * cmN c r])
    (i6 : ∀ a, o6 a + S384x128.size a ≤ S1024x1024.size a) (i8 : ∀ a, o8 a + S1x128x384.size a ≤ S8x128x1152.size a)
    (p : Fin 1024) (e : Fin 64) (x0 : Fin 384) (x1 : Fin 8) (hp : p.val = g + x0.val) (he : e.val = 8 * h + x1.val) (hr : rgp p.val = r) :
    k0_pay196 k0_pay192 b (View.readAt (Elt Ideal) A6.view (Rect.unit o6 S384x128.size i6 : Rect S1024x1024).toLoadRect f6)
      (View.readAt (Elt Ideal) A8.view (Rect.unit o8 S1x128x384.size i8 : Rect S8x128x1152).toLoadRect f8) (ix2 x0 x1) = m12 c f6 f8 p e := by
  subst hr
  refine (pay196_apply _ _ _ x0 x1).trans ?_
  have a3 : (⟨g + x0.val, by omega⟩ : Fin 1024) = p := Fin.ext hp.symm
  have a1 : (⟨h, hh⟩ : Fin 8) = ⟨e.val / 8, by omega⟩ := Fin.ext (by dsimp only; omega)
  refine Finset.sum_congr rfl fun j _ => ?_
  refine congrArg Ideal.exp (congrArg₂ (· + ·) ?_ (hb j))
  unfold wgt
  rw [← a1]
  refine Finset.sum_congr rfl fun d _ => ?_
  exact congrArg₂ (· * ·) ((rd6_384 c f6 h6 i6 hg hh x0 d).trans (by rw [← a3])) (rd8 c f8 hh (cmN_lt _ _) h8 i8 d j)
end V

end Cert.KP

end
-- ==== Proof.ValB2.lean ====
module

public import proofs.«01_k».proof.Proof.ValB1
public import proofs.«01_k».proof.Proof.Norm
public import Idealize.ShloMosaic.Lib.Pointwise
public import Idealize.ShloMosaic.Lib.Pipeline.ValueKit.Tiles

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V
open Idealize.ShloMosaic.View

/-- Six blocks of keys side by side. -/
def kcat (K : Fin 6 → Vec Ideal S1x128x64 .bf16) : FVec Ideal S128x384 .bf16 :=
  concatenate S128x384 1 [⟨S128x64, shapeCast S128x64 (K 0) shapeCasts_S1x128x64_S128x64⟩, ⟨S128x64, shapeCast S128x64 (K 1) shapeCasts_S1x128x64_S128x64⟩, ⟨S128x64, shapeCast S128x64 (K 2) shapeCasts_S1x128x64_S128x64⟩, ⟨S128x64, shapeCast S128x64 (K 3) shapeCasts_S1x128x64_S128x64⟩, ⟨S128x64, shapeCast S128x64 (K 4) shapeCasts_S1x128x64_S128x64⟩, ⟨S128x64, shapeCast S128x64 (K 5) shapeCasts_S1x128x64_S128x64⟩] concatenates_S128x64_S128x64_S128x64_S128x64_S128x64_S128x64_S128x384_d1
/-- Six blocks of values one below the other. -/
def vcat (V : Fin 6 → Vec Ideal S64x1x128 .bf16) : FVec Ideal S384x128 .bf16 :=
  concatenate S384x128 0 [⟨S64x128, shapeCast S64x128 (V 0) shapeCasts_S64x1x128_S64x128⟩, ⟨S64x128, shapeCast S64x128 (V 1) shapeCasts_S64x1x128_S64x128⟩, ⟨S64x128, shapeCast S64x128 (V 2) shapeCasts_S64x1x128_S64x128⟩, ⟨S64x128, shapeCast S64x128 (V 3) shapeCasts_S64x1x128_S64x128⟩, ⟨S64x128, shapeCast S64x128 (V 4) shapeCasts_S64x1x128_S64x128⟩, ⟨S64x128, shapeCast S64x128 (V 5) shapeCasts_S64x1x128_S64x128⟩] concatenates_S64x128_S64x128_S64x128_S64x128_S64x128_S64x128_S384x128_d0

theorem kcat_apply (K : Fin 6 → Vec Ideal S1x128x64 .bf16) (d : Fin 128) (j : Fin 384) :
    kcat K (ix2 d j) = K ⟨j.val / 64, by omega⟩ (ix3 0 d ⟨j.val % 64, Nat.mod_lt _ (by decide)⟩) := by
  have key : ∀ (a b : Fin 6) (i j : Fin 64), a = b → i = j → K a (ix3 0 d i) = K b (ix3 0 d j) := by
    intro a b i j h1 h2; subst h1 h2; rfl
  pointwise [kcat]
  split_ifs
  all_goals refine key _ _ _ _ (Fin.ext ?_) (Fin.ext ?_)
  all_goals (try simp); omega
theorem vcat_apply (V : Fin 6 → Vec Ideal S64x1x128 .bf16) (j : Fin 384) (d : Fin 128) :
    vcat V (ix2 j d) = V ⟨j.val / 64, by omega⟩ (ix3 ⟨j.val % 64, Nat.mod_lt _ (by decide)⟩ 0 d) := by
  have key : ∀ (a b : Fin 6) (i j : Fin 64), a = b → i = j → V a (ix3 i 0 d) = V b (ix3 j 0 d) := by
    intro a b i j h1 h2; subst h1 h2; rfl
  pointwise [vcat]
  split_ifs
  all_goals refine key _ _ _ _ (Fin.ext ?_) (Fin.ext ?_)
  all_goals (try simp); omega

/-- The word of a column's block. -/
theorem fd1 (j : Fin 384) :
    Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32))) 1#32)
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32) = BitVec.ofNat 32 (j.val / 64) := by
  revert j; decide +kernel
theorem fd2 (j : Fin 384) :
    Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32))) (Scalar.subi (Scalar.extui (Scalar.cmpi CmpIPredicate.sgt 64#32 0#32)) (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32) = BitVec.ofNat 32 (j.val / 64) := by
  revert j; decide +kernel
theorem fd3 (j : Fin 320) :
    Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32))) 1#32)
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32) = BitVec.ofNat 32 (j.val / 64) := by
  revert j; decide +kernel

theorem bx_1 (i : Fin 320) (j : Fin 384) : runB0.sl.r_8 (F := Ideal) (ix2 i j) = pb (j.val / 64 = 0 ∨ i.val / 64 + 1 = j.val / 64) := by
  pointwise [k0_pay4, runB0.sl.r_8, runB0.sl.v2274, runB0.sl.v2275, runB0.sl.v2277, runB0.sl.v2279, runB0.sl.v2282, runB0.sl.v2289, runB0.sl.v2290, runB0.sl.v2294, runB0.sl.v2297, runB0.sl.v2298, runB0.sl.v2299, runB0.sl.v2302, runB0.sl.v2303, runB0.sl.v2308, runB0.sl.v2311, runB0.sl.v2319]
  refine selpb _ _ ?_
  rw [fd1 j, fd3 i]
  have hi : i.val / 64 < 5 := by omega
  have hj : j.val / 64 < 6 := by omega
  generalize i.val / 64 = a at *
  generalize j.val / 64 = b at *
  interval_cases a <;> interval_cases b <;> decide +kernel
theorem bx_2 (i : Fin 320) (j : Fin 384) : runB0.sl.r_16 (F := Ideal) (ix2 i j) = pb (j.val / 64 = 0 ∨ i.val / 64 + 1 = j.val / 64) := by
  pointwise [k0_pay62, runB0.sl.r_16, runB0.sl.v2274, runB0.sl.v2275, runB0.sl.v2277, runB0.sl.v2279, runB0.sl.v2282, runB0.sl.v2289, runB0.sl.v2290, runB0.sl.v2294, runB0.sl.v2297, runB0.sl.v2298, runB0.sl.v2299]
  refine selpb _ _ ?_
  rw [fd2 j, fd3 i]
  have hi : i.val / 64 < 5 := by omega
  have hj : j.val / 64 < 6 := by omega
  generalize i.val / 64 = a at *
  generalize j.val / 64 = b at *
  interval_cases a <;> interval_cases b <;> decide +kernel
theorem xp11_apply (bx : FVec Ideal S320x384 .bf16) (q : Vec Ideal S320x128 .bf16) (K : Fin 6 → Vec Ideal S1x128x64 .bf16)
    (V : Fin 6 → Vec Ideal S64x1x128 .bf16) (o : Vec Ideal S320x128 .bf16) (i : Fin 320) (d : Fin 128) :
    k0_pay283 (vcat V) (k0_pay120 bx (kcat K) q) o (ix2 i d)
      = o (ix2 i d) + ∑ j : Fin 384, Ideal.exp ((∑ d : Fin 128, q (ix2 i d) * K ⟨j.val / 64, by omega⟩ (ix3 0 d ⟨j.val % 64, Nat.mod_lt _ (by decide)⟩)) + bx (ix2 i j))
          * V ⟨j.val / 64, by omega⟩ (ix3 ⟨j.val % 64, Nat.mod_lt _ (by decide)⟩ 0 d) := by
  simp only [← kcat_apply K, ← vcat_apply V]
  generalize kcat K = k'
  generalize vcat V = v'
  pointwise [k0_pay283, k0_pay120]

theorem xp12_apply (bx : FVec Ideal S320x384 .bf16) (q : Vec Ideal S320x128 .bf16) (K : Fin 6 → Vec Ideal S1x128x64 .bf16)
    (o : Vec Ideal S320x8 .f32) (i : Fin 320) (d : Fin 8) :
    k0_pay282 (k0_pay121 k0_pay192 bx (kcat K) q o) (ix2 i d)
      = o (ix2 i d) + ∑ j : Fin 384, Ideal.exp ((∑ d : Fin 128, q (ix2 i d) * K ⟨j.val / 64, by omega⟩ (ix3 0 d ⟨j.val % 64, Nat.mod_lt _ (by decide)⟩)) + bx (ix2 i j)) := by
  simp only [← kcat_apply K]
  generalize kcat K = k'
  pointwise [k0_pay282, k0_pay121, k0_pay120, k0_pay192]

/-- The first column of the block `t` of the further keys for the rows of the group `r`. -/
def xbase (r t : Nat) : Nat := if t = 0 then 0 else 384 * r + 64 * (t - 1)
/-- The column `j` of the further keys for the rows of the group `r`. -/
def xcol (r : Nat) (hr : r < 3) (j : Fin 384) : Fin 1152 := ⟨xbase r (j.val / 64) + j.val % 64, by unfold xbase; split_ifs <;> omega⟩

/-- The first grouped row of a group. -/
def g0 (r : Nat) : Nat := if r = 0 then 0 else if r = 1 then 384 else 704
theorem rgp_lt (p : Nat) : rgp p < 3 := by unfold rgp; split_ifs <;> omega

variable (c : Dev nD) (f6 : Bf Ideal c A6) (f8 : Bf Ideal c A8) (f9 : Bf Ideal c A9)

/-- What the further keys add to the context of a row. -/
def x11 (q : S1024x1024.Idx → EReal) (k : S8x128x1152.Idx → EReal) (v : S1152x8x128.Idx → EReal) (p e : Fin 1024) : EReal :=
  ∑ j : Fin 384, Ideal.exp (wgt q k p ⟨e.val / 128, by omega⟩ (xcol (rgp p.val) (rgp_lt _) j) + pb (j.val / 64 = 0 ∨ (p.val - g0 (rgp p.val)) / 64 + 1 = j.val / 64))
    * v (ix3 (xcol (rgp p.val) (rgp_lt _) j) ⟨e.val / 128, by omega⟩ ⟨e.val % 128, Nat.mod_lt _ (by decide)⟩)
/-- What the further keys add to the sum of a row's weights. -/
def x12 (q : S1024x1024.Idx → EReal) (k : S8x128x1152.Idx → EReal) (p : Fin 1024) (e : Fin 64) : EReal :=
  ∑ j : Fin 384, Ideal.exp (wgt q k p ⟨e.val / 8, by omega⟩ (xcol (rgp p.val) (rgp_lt _) j) + pb (j.val / 64 = 0 ∨ (p.val - g0 (rgp p.val)) / 64 + 1 = j.val / 64))

/-- A block of keys read from a head. -/
theorem rk8 {o : Fin 3 → Nat} {h b : Nat} (hh : h < 8) (hb : b + 64 ≤ 1152) (ho : o = ![h, 0, b]) (inb : ∀ a, o a + S1x128x64.size a ≤ S8x128x1152.size a)
    (d : Fin 128) (j : Fin 64) :
    View.readAt (Elt Ideal) A8.view (Rect.unit o S1x128x64.size inb : Rect S8x128x1152).toLoadRect f8 (ix3 0 d j)
      = (f8 : S8x128x1152.Idx → EReal) (ix3 ⟨h, hh⟩ d ⟨b + j.val, by omega⟩) := by
  subst ho
  pointwise [View.readAt_eq_ld]
  refine congrArg f8 (idx3_congr (Fin.ext ?_) (Fin.ext ?_) (Fin.ext ?_))
  all_goals simp
theorem rk9 {o : Fin 3 → Nat} {h b : Nat} (hh : h < 8) (hb : b + 64 ≤ 1152) (ho : o = ![b, h, 0]) (inb : ∀ a, o a + S64x1x128.size a ≤ S1152x8x128.size a)
    (j : Fin 64) (d : Fin 128) :
    View.readAt (Elt Ideal) A9.view (Rect.unit o S64x1x128.size inb : Rect S1152x8x128).toLoadRect f9 (ix3 j 0 d)
      = (f9 : S1152x8x128.Idx → EReal) (ix3 ⟨b + j.val, by omega⟩ ⟨h, hh⟩ d) := by
  subst ho
  pointwise [View.readAt_eq_ld]
  refine congrArg f9 (idx3_congr (Fin.ext ?_) (Fin.ext ?_) (Fin.ext ?_))
  all_goals simp

theorem xin8 {h r : Nat} (hh : h < 8) (hr : r < 3) (t : Fin 6) : ∀ a, (![h, 0, xbase r t.val] : Fin 3 → Nat) a + S1x128x64.size a ≤ S8x128x1152.size a := by
  have : xbase r t.val + 64 ≤ 1152 := by unfold xbase; split_ifs <;> omega
  intro a
  fin_cases a
  · change h + 1 ≤ 8; omega
  · change 0 + 128 ≤ 128; omega
  · exact this
theorem xin9 {h r : Nat} (hh : h < 8) (hr : r < 3) (t : Fin 6) : ∀ a, (![xbase r t.val, h, 0] : Fin 3 → Nat) a + S64x1x128.size a ≤ S1152x8x128.size a := by
  have : xbase r t.val + 64 ≤ 1152 := by unfold xbase; split_ifs <;> omega
  intro a
  fin_cases a
  · exact this
  · change h + 1 ≤ 8; omega
  · change 0 + 128 ≤ 128; omega

/-- The blocks of further keys of a head. -/
abbrev KK {h r : Nat} (hh : h < 8) (hr : r < 3) : Fin 6 → Vec Ideal S1x128x64 .bf16 := fun t =>
  View.readAt (Elt Ideal) A8.view (Rect.unit ![h, 0, xbase r t.val] S1x128x64.size (xin8 hh hr t) : Rect S8x128x1152).toLoadRect f8
/-- The blocks of further values of a head. -/
abbrev VV {h r : Nat} (hh : h < 8) (hr : r < 3) : Fin 6 → Vec Ideal S64x1x128 .bf16 := fun t =>
  View.readAt (Elt Ideal) A9.view (Rect.unit ![xbase r t.val, h, 0] S64x1x128.size (xin9 hh hr t) : Rect S1152x8x128).toLoadRect f9

theorem xp11 (b : FVec Ideal S320x384 .bf16) {g h r : Nat} (hh : h < 8) (hr3 : r < 3) (hg : g + 320 ≤ 1024) (hg0 : g = g0 r)
    (hb : ∀ (i : Fin 320) (j : Fin 384), b (ix2 i j) = pb (j.val / 64 = 0 ∨ i.val / 64 + 1 = j.val / 64))
    {o6 : Fin 2 → Nat} (h6 : o6 = ![g, 128 * h]) (i6 : ∀ a, o6 a + S320x128.size a ≤ S1024x1024.size a)
    (o : Vec Ideal S320x128 .bf16) (m : EReal)
    (p e : Fin 1024) (x0 : Fin 320) (x1 : Fin 128) (hp : p.val = g + x0.val) (he : e.val = 128 * h + x1.val) (hr : rgp p.val = r)
    (ho : o (ix2 x0 x1) = m) :
    k0_pay283 (vcat (VV c f9 hh hr3)) (k0_pay120 b (kcat (KK c f8 hh hr3)) (View.readAt (Elt Ideal) A6.view (Rect.unit o6 S320x128.size i6 : Rect S1024x1024).toLoadRect f6)) o (ix2 x0 x1)
      = m + x11 f6 f8 f9 p e := by
  subst hr ho hg0
  refine (xp11_apply _ _ _ _ _ x0 x1).trans ?_
  have a3 : (⟨g0 (rgp p.val) + x0.val, by omega⟩ : Fin 1024) = p := Fin.ext hp.symm
  have a1 : (⟨h, hh⟩ : Fin 8) = ⟨e.val / 128, by omega⟩ := Fin.ext (by dsimp only; omega)
  have a2 : x1 = ⟨e.val % 128, Nat.mod_lt _ (by decide)⟩ := Fin.ext (by dsimp only; omega)
  have a4 : x0.val = p.val - g0 (rgp p.val) := by omega
  refine congrArg (o (ix2 x0 x1) + ·) (Finset.sum_congr rfl fun j _ => ?_)
  refine congrArg₂ (· * ·) (congrArg Ideal.exp (congrArg₂ (· + ·) ?_ ((hb x0 j).trans (by rw [a4])))) ?_
  · unfold wgt
    rw [← a1]
    refine Finset.sum_congr rfl fun d _ => ?_
    exact congrArg₂ (· * ·) ((rd6_320 c f6 h6 i6 hg hh x0 d).trans (by rw [a3])) (rk8 c f8 hh (by unfold xbase; split_ifs <;> omega) rfl _ d _)
  · rw [← a1, ← a2]
    exact rk9 c f9 hh (by unfold xbase; split_ifs <;> omega) rfl _ _ x1

theorem xp12 (b : FVec Ideal S320x384 .bf16) {g h r : Nat} (hh : h < 8) (hr3 : r < 3) (hg : g + 320 ≤ 1024) (hg0 : g = g0 r)
    (hb : ∀ (i : Fin 320) (j : Fin 384), b (ix2 i j) = pb (j.val / 64 = 0 ∨ i.val / 64 + 1 = j.val / 64))
    {o6 : Fin 2 → Nat} (h6 : o6 = ![g, 128 * h]) (i6 : ∀ a, o6 a + S320x128.size a ≤ S1024x1024.size a)
    (o : Vec Ideal S320x8 .f32) (m : EReal)
    (p : Fin 1024) (e : Fin 64) (x0 : Fin 320) (x1 : Fin 8) (hp : p.val = g + x0.val) (he : e.val = 8 * h + x1.val) (hr : rgp p.val = r)
    (ho : o (ix2 x0 x1) = m) :
    k0_pay282 (k0_pay121 k0_pay192 b (kcat (KK c f8 hh hr3)) (View.readAt (Elt Ideal) A6.view (Rect.unit o6 S320x128.size i6 : Rect S1024x1024).toLoadRect f6) o) (ix2 x0 x1)
      = m + x12 f6 f8 p e := by
  subst hr ho hg0
  refine (xp12_apply _ _ _ _ x0 x1).trans ?_
  have a3 : (⟨g0 (rgp p.val) + x0.val, by omega⟩ : Fin 1024) = p := Fin.ext hp.symm
  have a1 : (⟨h, hh⟩ : Fin 8) = ⟨e.val / 8, by omega⟩ := Fin.ext (by dsimp only; omega)
  have a4 : x0.val = p.val - g0 (rgp p.val) := by omega
  refine congrArg (o (ix2 x0 x1) + ·) (Finset.sum_congr rfl fun j _ => ?_)
  refine congrArg Ideal.exp (congrArg₂ (· + ·) ?_ ((hb x0 j).trans (by rw [a4])))
  unfold wgt
  rw [← a1]
  refine Finset.sum_congr rfl fun d _ => ?_
  exact congrArg₂ (· * ·) ((rd6_320 c f6 h6 i6 hg hh x0 d).trans (by rw [a3])) (rk8 c f8 hh (by unfold xbase; split_ifs <;> omega) rfl _ d _)
end V

end Cert.KP

end
-- ==== Proof.ValC1.lean ====
module

public import proofs.«01_k».proof.Proof.ValA
public import proofs.«01_k».proof.Proof.ValB2

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V

theorem xcol_val (r : Nat) (hr : r < 3) (j : Fin 384) (h : ¬ j.val / 64 = 0) : (xcol r hr j).val / 384 = r ∧ (xcol r hr j).val % 384 / 64 = j.val / 64 - 1
    ∧ (xcol r hr j).val % 64 = j.val % 64 := by
  unfold xcol xbase; dsimp only; rw [if_neg h]
  obtain rfl | rfl | rfl : r = 0 ∨ r = 1 ∨ r = 2 := by omega
  all_goals omega

theorem g0_rgp (p : Nat) : g0 (rgp p) = if p < 384 then 0 else if p < 704 then 384 else 704 := by
  unfold rgp; split_ifs <;> rfl

/-- The score of a key for a row. -/
def sc (Q : Fin 1024 → Fin 1024 → EReal) (K : Fin 1024 → Fin 8 → Fin 128 → EReal) (i : Fin 1024) (h : Fin 8) (j : Fin 1024) : EReal :=
  ∑ d : Fin 128, Q i ⟨128 * h.val + d.val, by omega⟩ * K j h d

/-- A function read at a number, zero past its end. -/
def atN (G : Fin 1024 → EReal) (n : Nat) : EReal := if h : n < 1024 then G ⟨n, h⟩ else 0

theorem atN_of (G : Fin 1024 → EReal) {n : Nat} (h : n < 1024) : atN G n = G ⟨n, h⟩ := dif_pos h

theorem sum_sel {n : Nat} (G : Fin 1024 → EReal) (P : Fin n → Prop) [DecidablePred P] (R : Fin 1024 → Prop) [DecidablePred R] (φ : Fin n → Nat) (ψ : Fin 1024 → Nat)
    (h1 : ∀ j, P j → φ j < 1024) (h2 : ∀ J, R J → ψ J < n) (h3 : ∀ j (hj : P j), R ⟨φ j, h1 j hj⟩) (h4 : ∀ J (hJ : R J), P ⟨ψ J, h2 J hJ⟩)
    (h5 : ∀ j (hj : P j), ψ ⟨φ j, h1 j hj⟩ = j.val) (h6 : ∀ J (hJ : R J), φ ⟨ψ J, h2 J hJ⟩ = J.val) :
    (∑ j : Fin n, if P j then atN G (φ j) else 0) = ∑ J : Fin 1024, if R J then G J else 0 := by
  rw [← Finset.sum_filter, ← Finset.sum_filter]
  refine Finset.sum_bij' (fun j hj => (⟨φ j, h1 j (Finset.mem_filter.1 hj).2⟩ : Fin 1024)) (fun J hJ => (⟨ψ J, h2 J (Finset.mem_filter.1 hJ).2⟩ : Fin n)) ?_ ?_ ?_ ?_ ?_
  · exact fun j hj => Finset.mem_filter.2 ⟨Finset.mem_univ _, h3 j (Finset.mem_filter.1 hj).2⟩
  · exact fun J hJ => Finset.mem_filter.2 ⟨Finset.mem_univ _, h4 J (Finset.mem_filter.1 hJ).2⟩
  · exact fun j hj => Fin.ext (h5 j (Finset.mem_filter.1 hj).2)
  · exact fun J hJ => Fin.ext (h6 J (Finset.mem_filter.1 hJ).2)
  · exact fun j hj => atN_of G _

/-- The sum over a segment's columns is the sum over the keys whose block has the segment's remainder. -/
theorem sum_seg (G : Fin 1024 → EReal) (m : Nat) (hm : m < 3) :
    (∑ j : Fin 384, if m + 3 * (j.val / 64) < 16 then atN G (64 * (m + 3 * (j.val / 64)) + j.val % 64) else 0)
      = ∑ J : Fin 1024, if J.val / 64 % 3 = m then G J else 0 := by
  refine sum_sel G (fun j => m + 3 * (j.val / 64) < 16) (fun J => J.val / 64 % 3 = m) (fun j => 64 * (m + 3 * (j.val / 64)) + j.val % 64) (fun J => J.val / 64 / 3 * 64 + J.val % 64) ?_ ?_ ?_ ?_ ?_ ?_
  all_goals intros
  all_goals try dsimp only at *
  all_goals omega

/-- The sum over the further columns is the sum over the first block of keys and the row's own. -/
theorem sum_ext (G : Fin 1024 → EReal) (r b : Nat) (hr : 0 < r) (hr3 : r < 3) (hb : b < 5) :
    (∑ j : Fin 384, if j.val / 64 = 0 ∨ b + 1 = j.val / 64 then atN G (if j.val / 64 = 0 then j.val % 64 else 64 * (r + 3 * (j.val / 64 - 1)) + j.val % 64) else 0)
      = ∑ J : Fin 1024, if J.val / 64 = 0 ∨ J.val / 64 = r + 3 * b then G J else 0 := by
  refine sum_sel G (fun j => j.val / 64 = 0 ∨ b + 1 = j.val / 64) (fun J => J.val / 64 = 0 ∨ J.val / 64 = r + 3 * b) (fun j => if j.val / 64 = 0 then j.val % 64 else 64 * (r + 3 * (j.val / 64 - 1)) + j.val % 64) (fun J => if J.val / 64 = 0 then J.val % 64 else 64 * (J.val / 64 / 3 + 1) + J.val % 64) ?_ ?_ ?_ ?_ ?_ ?_
  all_goals intros
  all_goals try dsimp only at *
  all_goals split_ifs
  all_goals omega

theorem exp_pb (s : EReal) (P : Prop) [Decidable P] : Ideal.exp (s + pb P) = if P then Ideal.exp s else 0 := by
  unfold pb
  split_ifs
  · rw [add_zero]
  · rw [EReal.add_bot]; rfl

/-- Whether a query's block attends a key's block. -/
def msk (qb kb : Nat) : Prop := qb = kb ∨ kb = 0 ∨ (qb + kb) % 3 = 0
instance (qb kb : Nat) : Decidable (msk qb kb) := by unfold msk; infer_instance

variable (q : S1024x1024.Idx → EReal) (k : S8x128x1152.Idx → EReal) (v : S1152x8x128.Idx → EReal)
  (Q : Fin 1024 → Fin 1024 → EReal) (K V : Fin 1024 → Fin 8 → Fin 128 → EReal)

theorem segv_at (g : Fin 1024 → EReal) (col : Fin 1152) (n : Nat) (hn : n < 1024) (h : col.val / 384 + 3 * (col.val % 384 / 64) < 16)
    (he : 64 * (col.val / 384 + 3 * (col.val % 384 / 64)) + col.val % 64 = n) : segv g col = g ⟨n, hn⟩ := by
  unfold segv
  rw [dif_pos h]
  exact congrArg g (Fin.ext he)

section
variable (hq : ∀ p e, q (ix2 p e) = Q ⟨ungp p.val, ungp_lt p.isLt⟩ e) (hk : ∀ h d col, k (ix3 h d col) = segv (fun j => K j h d) col)
  (hv : ∀ row h d, v (ix3 row h d) = segv (fun j => V j h d) row)
include hq hk

theorem wgt_at (p : Fin 1024) (h : Fin 8) (col : Fin 1152) (n : Nat) (hn : n < 1024) (hc : col.val / 384 + 3 * (col.val % 384 / 64) < 16)
    (he : 64 * (col.val / 384 + 3 * (col.val % 384 / 64)) + col.val % 64 = n) :
    wgt q k p h col = sc Q K ⟨ungp p.val, ungp_lt p.isLt⟩ h ⟨n, hn⟩ := by
  unfold wgt sc
  refine Finset.sum_congr rfl fun d _ => ?_
  rw [hq, hk, segv_at _ col n hn hc he]

theorem m12_val (c : Dev nD) (p : Fin 1024) (e : Fin 64) :
    m12 c q k p e = ∑ J : Fin 1024, if J.val / 64 % 3 = cmN c (rgp p.val) then Ideal.exp (sc Q K ⟨ungp p.val, ungp_lt p.isLt⟩ ⟨e.val / 8, by omega⟩ J) else 0 := by
  rw [← sum_seg (fun J => Ideal.exp (sc Q K ⟨ungp p.val, ungp_lt p.isLt⟩ ⟨e.val / 8, by omega⟩ J)) _ (cmN_lt _ _)]
  unfold m12
  refine Finset.sum_congr rfl fun j _ => ?_
  have hm := cmN_lt c (rgp p.val)
  rw [exp_pb]
  split_ifs with h
  · have hn : 64 * (cmN c (rgp p.val) + 3 * (j.val / 64)) + j.val % 64 < 1024 := by omega
    rw [atN_of _ hn, wgt_at q k Q K hq hk p _ (scol (cmN c (rgp p.val)) hm j) _ hn (by unfold scol; dsimp only; omega) (by unfold scol; dsimp only; omega)]
  · rfl

theorem x12_val (p : Fin 1024) (e : Fin 64) (hp : 384 ≤ p.val) :
    x12 q k p e = ∑ J : Fin 1024, if J.val / 64 = 0 ∨ J.val / 64 = ungp p.val / 64 then Ideal.exp (sc Q K ⟨ungp p.val, ungp_lt p.isLt⟩ ⟨e.val / 8, by omega⟩ J) else 0 := by
  have hr : 0 < rgp p.val := by unfold rgp; split_ifs <;> omega
  have hb : (p.val - g0 (rgp p.val)) / 64 < 5 := by rw [g0_rgp]; split_ifs <;> omega
  have hu : ungp p.val / 64 = rgp p.val + 3 * ((p.val - g0 (rgp p.val)) / 64) := by rw [g0_rgp]; unfold ungp rgp; split_ifs <;> omega
  rw [hu, ← sum_ext (fun J => Ideal.exp (sc Q K ⟨ungp p.val, ungp_lt p.isLt⟩ ⟨e.val / 8, by omega⟩ J)) _ _ hr (rgp_lt _) hb]
  unfold x12
  refine Finset.sum_congr rfl fun j _ => ?_
  have hm := rgp_lt p.val
  rw [exp_pb]
  split_ifs with h h0
  · have hn : j.val % 64 < 1024 := by omega
    rw [atN_of _ hn, wgt_at q k Q K hq hk p _ (xcol (rgp p.val) hm j) _ hn (by unfold xcol xbase; dsimp only; rw [if_pos h0]; omega) (by unfold xcol xbase; dsimp only; rw [if_pos h0]; omega)]
  · have hn : 64 * (rgp p.val + 3 * (j.val / 64 - 1)) + j.val % 64 < 1024 := by omega
    rw [atN_of _ hn, wgt_at q k Q K hq hk p _ (xcol (rgp p.val) hm j) _ hn (by obtain ⟨y1, y2, y3⟩ := xcol_val _ hm j h0; rw [y1, y2]; omega) (by obtain ⟨y1, y2, y3⟩ := xcol_val _ hm j h0; rw [y1, y2, y3])]
  · rfl

include hv
theorem m11_val (c : Dev nD) (p e : Fin 1024) :
    m11 c q k v p e = ∑ J : Fin 1024, if J.val / 64 % 3 = cmN c (rgp p.val) then
      Ideal.exp (sc Q K ⟨ungp p.val, ungp_lt p.isLt⟩ ⟨e.val / 128, by omega⟩ J) * V J ⟨e.val / 128, by omega⟩ ⟨e.val % 128, Nat.mod_lt _ (by decide)⟩ else 0 := by
  rw [← sum_seg (fun J => Ideal.exp (sc Q K ⟨ungp p.val, ungp_lt p.isLt⟩ ⟨e.val / 128, by omega⟩ J) * V J ⟨e.val / 128, by omega⟩ ⟨e.val % 128, Nat.mod_lt _ (by decide)⟩) _ (cmN_lt _ _)]
  unfold m11
  refine Finset.sum_congr rfl fun j _ => ?_
  have hm := cmN_lt c (rgp p.val)
  rw [exp_pb]
  split_ifs with h
  · have hn : 64 * (cmN c (rgp p.val) + 3 * (j.val / 64)) + j.val % 64 < 1024 := by omega
    rw [atN_of _ hn, wgt_at q k Q K hq hk p _ (scol (cmN c (rgp p.val)) hm j) _ hn (by unfold scol; dsimp only; omega) (by unfold scol; dsimp only; omega), hv,
      segv_at _ (scol (cmN c (rgp p.val)) hm j) _ hn (by unfold scol; dsimp only; omega) (by unfold scol; dsimp only; omega)]
  · rw [zero_mul]

theorem x11_val (p e : Fin 1024) (hp : 384 ≤ p.val) :
    x11 q k v p e = ∑ J : Fin 1024, if J.val / 64 = 0 ∨ J.val / 64 = ungp p.val / 64 then
      Ideal.exp (sc Q K ⟨ungp p.val, ungp_lt p.isLt⟩ ⟨e.val / 128, by omega⟩ J) * V J ⟨e.val / 128, by omega⟩ ⟨e.val % 128, Nat.mod_lt _ (by decide)⟩ else 0 := by
  have hr : 0 < rgp p.val := by unfold rgp; split_ifs <;> omega
  have hb : (p.val - g0 (rgp p.val)) / 64 < 5 := by rw [g0_rgp]; split_ifs <;> omega
  have hu : ungp p.val / 64 = rgp p.val + 3 * ((p.val - g0 (rgp p.val)) / 64) := by rw [g0_rgp]; unfold ungp rgp; split_ifs <;> omega
  rw [hu, ← sum_ext (fun J => Ideal.exp (sc Q K ⟨ungp p.val, ungp_lt p.isLt⟩ ⟨e.val / 128, by omega⟩ J) * V J ⟨e.val / 128, by omega⟩ ⟨e.val % 128, Nat.mod_lt _ (by decide)⟩) _ _ hr (rgp_lt _) hb]
  unfold x11
  refine Finset.sum_congr rfl fun j _ => ?_
  have hm := rgp_lt p.val
  rw [exp_pb]
  split_ifs with h h0
  · have hn : j.val % 64 < 1024 := by omega
    rw [atN_of _ hn, wgt_at q k Q K hq hk p _ (xcol (rgp p.val) hm j) _ hn (by unfold xcol xbase; dsimp only; rw [if_pos h0]; omega) (by unfold xcol xbase; dsimp only; rw [if_pos h0]; omega), hv,
      segv_at _ (xcol (rgp p.val) hm j) _ hn (by unfold xcol xbase; dsimp only; rw [if_pos h0]; omega) (by unfold xcol xbase; dsimp only; rw [if_pos h0]; omega)]
  · have hn : 64 * (rgp p.val + 3 * (j.val / 64 - 1)) + j.val % 64 < 1024 := by omega
    rw [atN_of _ hn, wgt_at q k Q K hq hk p _ (xcol (rgp p.val) hm j) _ hn (by obtain ⟨y1, y2, y3⟩ := xcol_val _ hm j h0; rw [y1, y2]; omega) (by obtain ⟨y1, y2, y3⟩ := xcol_val _ hm j h0; rw [y1, y2, y3]), hv,
      segv_at _ (xcol (rgp p.val) hm j) _ hn (by obtain ⟨y1, y2, y3⟩ := xcol_val _ hm j h0; rw [y1, y2]; omega) (by obtain ⟨y1, y2, y3⟩ := xcol_val _ hm j h0; rw [y1, y2, y3])]
  · rw [zero_mul]
end

/-- The masked sum on a device other than the first: its segment holds the attended keys. -/
theorem mask_rest (c : Dev nD) (hc : c.val ≠ 0) (p J : Nat) (hp : p < 1024) (hJ : J < 1024) :
    J / 64 % 3 = cmN c (rgp p) ↔ msk (ungp p / 64) (16 * c.val + J / 64) := by
  have := c.isLt
  change c.val < 4 at this
  unfold cmN msk ungp rgp
  split_ifs <;> omega

/-- The masked sum on the first device: the segment, the first block and the row's own, each once. -/
theorem mask_first (c : Dev nD) (hc : c.val = 0) (p : Nat) (hp : p < 1024) (G : Fin 1024 → EReal) :
    (if 384 ≤ p then (∑ J : Fin 1024, if J.val / 64 % 3 = cmN c (rgp p) then G J else 0) + ∑ J : Fin 1024, if J.val / 64 = 0 ∨ J.val / 64 = ungp p / 64 then G J else 0
      else ∑ J : Fin 1024, if J.val / 64 % 3 = cmN c (rgp p) then G J else 0)
      = ∑ J : Fin 1024, if msk (ungp p / 64) (16 * c.val + J.val / 64) then G J else 0 := by
  split_ifs with h
  · rw [← Finset.sum_add_distrib]
    refine Finset.sum_congr rfl fun J _ => ?_
    have e : msk (ungp p / 64) (16 * c.val + J.val / 64) ↔ J.val / 64 % 3 = cmN c (rgp p) ∨ (J.val / 64 = 0 ∨ J.val / 64 = ungp p / 64) := by
      unfold cmN msk ungp rgp
      split_ifs <;> omega
    have d : J.val / 64 % 3 = cmN c (rgp p) → ¬ (J.val / 64 = 0 ∨ J.val / 64 = ungp p / 64) := by
      unfold cmN ungp rgp
      split_ifs <;> omega
    by_cases h1 : J.val / 64 % 3 = cmN c (rgp p)
    · rw [if_pos h1, if_neg (d h1), if_pos (e.2 (Or.inl h1)), add_zero]
    · by_cases h2 : J.val / 64 = 0 ∨ J.val / 64 = ungp p / 64
      · rw [if_neg h1, if_pos h2, if_pos (e.2 (Or.inr h2)), zero_add]
      · rw [if_neg h1, if_neg h2, if_neg (fun h => (e.1 h).elim h1 h2), add_zero]
  · refine Finset.sum_congr rfl fun J _ => ?_
    refine if_congr ?_ rfl rfl
    unfold cmN msk ungp rgp
    split_ifs <;> omega
end V

end Cert.KP

end
-- ==== Proof.ValOut.lean ====
module

public import proofs.«01_k».proof.Proof.Geo
public import Idealize.ShloMosaic.Lib.Pointwise

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

theorem quot_congr (x0 x1 x2 x3 : Vec Ideal S1x256x1024 .bf16) (y0 y1 y2 y3 : Vec Ideal S1x256x64 .f32) (r : Fin 256) (e e' : Fin 1024) (g g' : Fin 64)
    (he : e' = e) (hg : g' = g) :
    Ideal.div (x0 (ix3 0 r e') + x1 (ix3 0 r e') + x2 (ix3 0 r e') + x3 (ix3 0 r e')) (y0 (ix3 0 r g') + y1 (ix3 0 r g') + y2 (ix3 0 r g') + y3 (ix3 0 r g'))
      = Ideal.div (x0 (ix3 0 r e) + x1 (ix3 0 r e) + x2 (ix3 0 r e) + x3 (ix3 0 r e)) (y0 (ix3 0 r g) + y1 (ix3 0 r g) + y2 (ix3 0 r g) + y3 (ix3 0 r g)) := by
  subst he hg; rfl

/-- The normalised contexts at an index. -/
theorem attnOf_apply (x0 x1 x2 x3 : Vec Ideal S1x256x1024 .bf16) (y0 y1 y2 y3 : Vec Ideal S1x256x64 .f32) (r : Fin 256) (e : Fin 1024) :
    attnOf x0 x1 x2 x3 y0 y1 y2 y3 (ix2 r e)
      = Ideal.div (x0 (ix3 0 r e) + x1 (ix3 0 r e) + x2 (ix3 0 r e) + x3 (ix3 0 r e))
          (y0 (ix3 0 r ⟨8 * (e.val / 128), by omega⟩) + y1 (ix3 0 r ⟨8 * (e.val / 128), by omega⟩)
            + y2 (ix3 0 r ⟨8 * (e.val / 128), by omega⟩) + y3 (ix3 0 r ⟨8 * (e.val / 128), by omega⟩)) := by
  pointwise [attnOf, k0_pay316, k0_pay317, k0_pay318, k0_pay319, k0_pay320, k0_pay321, k0_pay322, k0_pay323, k0_pay324, k0_pay325]
  split_ifs
  all_goals refine quot_congr x0 x1 x2 x3 y0 y1 y2 y3 r _ _ _ _ (Fin.ext ?_) (Fin.ext ?_)
  all_goals simp
  all_goals omega

/-- The column of the sums of weights that the column `e` of the contexts is divided by. -/
def lcol (e : Fin 1024) : Fin 64 := ⟨8 * (e.val / 128), by omega⟩

theorem outOf0_apply (x0 x1 x2 x3 : Vec Ideal S1x256x1024 .bf16) (y0 y1 y2 y3 : Vec Ideal S1x256x64 .f32) (w : Vec Ideal S1024x1024 .bf16)
    (r : Fin 128) (n : Fin 1024) :
    outOf0 x0 x1 x2 x3 y0 y1 y2 y3 w (ix2 r n)
      = ∑ e : Fin 1024, attnOf x0 x1 x2 x3 y0 y1 y2 y3 (ix2 ⟨r.val, by omega⟩ e) * w (ix2 e n) := by
  unfold outOf0 attnOf
  generalize k0_pay317 (F := Ideal) _ _ _ _ = z1
  generalize k0_pay318 (F := Ideal) _ _ _ _ = z2
  generalize k0_pay319 (F := Ideal) _ _ _ _ _ _ _ _ = z3
  generalize k0_pay320 (F := Ideal) _ _ _ _ _ _ _ _ = z4
  generalize k0_pay321 (F := Ideal) _ _ _ _ _ _ _ _ = z5
  generalize k0_pay322 (F := Ideal) _ _ _ _ _ _ _ _ = z6
  generalize k0_pay323 (F := Ideal) _ _ _ _ = z7
  generalize k0_pay324 (F := Ideal) _ _ _ _ = z8
  unfold k0_pay326
  generalize k0_pay325 (F := Ideal) _ _ _ _ _ _ _ _ = z
  pointwise []

theorem outOf1_apply (a : Vec Ideal S256x1024 .f32) (w : Vec Ideal S1024x1024 .bf16) (r : Fin 128) (n : Fin 1024) :
    k0_pay327 a w (ix2 r n) = ∑ e : Fin 1024, a (ix2 ⟨128 + r.val, by omega⟩ e) * w (ix2 e n) := by
  pointwise [k0_pay327]

section O
variable (X : Cn Ideal)

/-- A device's normalised contexts at an index: its own part and the three parts that reached it. -/
theorem att_apply (c : Dev nD) (r : Fin 256) (e : Fin 1024) :
    att X c (ix2 r e)
      = Ideal.div (X.w11 c (ix2 (qrow c 0 r) e) + X.w11 (pr c 1) (ix2 (qrow (pr c 1) 3 r) e) + X.w11 (pr c 2) (ix2 (qrow (pr c 2) 2 r) e)
            + X.w11 (pr c 3) (ix2 (qrow (pr c 3) 1 r) e))
          (X.w12 c (ix2 (qrow c 0 r) (lcol e)) + X.w12 (pr c 1) (ix2 (qrow (pr c 1) 3 r) (lcol e)) + X.w12 (pr c 2) (ix2 (qrow (pr c 2) 2 r) (lcol e))
            + X.w12 (pr c 3) (ix2 (qrow (pr c 3) 1 r) (lcol e))) := by
  refine (attnOf_apply _ _ _ _ _ _ _ _ r e).trans ?_
  have a (o : Fin 4) (e' : Fin 1024) : r13 X c o (ix3 0 r e') = X.w11 c (ix2 (qrow c o r) e') := by
    refine (congrArg (p13 X c) (emb13 o (ix3 0 r e'))).trans rfl
  have b (o : Fin 4) (e' : Fin 64) : r14 X c o (ix3 0 r e') = X.w12 c (ix2 (qrow c o r) e') := by
    refine (congrArg (p14 X c) (emb14 o (ix3 0 r e'))).trans rfl
  have a' (o : Fin 3) (e' : Fin 1024) : r15 X c o (ix3 0 r e') = X.w11 (pr c (o.val + 1)) (ix2 (qrow (pr c (o.val + 1)) ⟨3 - o.val, by omega⟩ r) e') := by
    refine (congrArg (g15 X c) (emb15 o (ix3 0 r e'))).trans rfl
  have b' (o : Fin 3) (e' : Fin 64) : r16 X c o (ix3 0 r e') = X.w12 (pr c (o.val + 1)) (ix2 (qrow (pr c (o.val + 1)) ⟨3 - o.val, by omega⟩ r) e') := by
    refine (congrArg (g16 X c) (emb16 o (ix3 0 r e'))).trans rfl
  rw [a, b, a', a', a', b', b', b']
  rfl

/-- The result's element of the row `i`. -/
theorem o17_apply (i n : Fin 1024) :
    o17 X (ix2 i n) = ∑ e : Fin 1024, att X ⟨i.val / 256, by change _ < 4; omega⟩ (ix2 ⟨i.val % 256, Nat.mod_lt _ (by decide)⟩ e)
        * X.w10 ⟨i.val / 256, by change _ < 4; omega⟩ (ix2 e n) := by
  change outH X ⟨i.val / 256, _⟩ ⟨i.val / 128 % 2, _⟩ (ix2 (⟨i.val % 128, _⟩ : Fin 128) n) = _
  unfold outH
  split
  · case _ h =>
    have h' : i.val / 128 % 2 = 0 := congrArg Fin.val h
    refine (outOf0_apply _ _ _ _ _ _ _ _ _ _ n).trans ?_
    refine Finset.sum_congr rfl fun e _ => ?_
    have : (⟨i.val % 128, by omega⟩ : Fin 256) = ⟨i.val % 256, Nat.mod_lt _ (by decide)⟩ := Fin.ext (by change i.val % 128 = i.val % 256; omega)
    change attnOf _ _ _ _ _ _ _ _ (ix2 (⟨i.val % 128, _⟩ : Fin 256) e) * _ = _
    rw [this]; rfl
  · case _ h =>
    have h' : ¬ i.val / 128 % 2 = 0 := fun h' => h (Fin.ext h')
    refine (outOf1_apply _ _ _ n).trans ?_
    refine Finset.sum_congr rfl fun e _ => ?_
    have : (⟨128 + i.val % 128, by omega⟩ : Fin 256) = ⟨i.val % 256, Nat.mod_lt _ (by decide)⟩ := Fin.ext (by change 128 + i.val % 128 = i.val % 256; omega)
    change att X _ (ix2 (⟨128 + i.val % 128, _⟩ : Fin 256) e) * _ = _
    rw [this]

end O

/-- The stored result: the same with a leading axis. -/
theorem pay328_apply (v : Vec Ideal S1024x1024 .bf16) (i n : Fin 1024) : k0_pay328 v (ix3 0 i n) = v (ix2 i n) := by
  pointwise [k0_pay328]

end Cert.KP

end
-- ==== Proof.ValB3.lean ====
module

public import proofs.«01_k».proof.Proof.ValB2
public import proofs.«01_k».proof.Proof.Norm
public import Idealize.ShloMosaic.Lib.Pointwise
public import Idealize.ShloMosaic.Lib.Pipeline.ValueKit.Tiles

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V
open Idealize.ShloMosaic.View

/-- The order in which the blocks of contexts are written. -/
def key11 (p e : Fin 1024) : Nat := 8 * rgp p.val + e.val / 128
/-- The order in which the blocks of weight sums are written. -/
def key12 (p : Fin 1024) (e : Fin 64) : Nat := 8 * rgp p.val + e.val / 8

/-- The pieces cover the rows and columns of `C`, and leave `M` there. -/
def Ok11 (L : List (View.Piece (Elt Ideal) S1024x1024 .bf16)) (C : Fin 1024 → Fin 1024 → Prop) (M : Fin 1024 → Fin 1024 → EReal) : Prop :=
  ∀ p e, C p e → (∃ q ∈ L, (ix2 p e : S1024x1024.Idx) ∈ q.1.set) ∧ View.canon L (ix2 p e) = M p e

theorem st11_320 {L : List (View.Piece (Elt Ideal) S1024x1024 .bf16)} {C C' : Fin 1024 → Fin 1024 → Prop} {M M' : Fin 1024 → Fin 1024 → EReal}
    (hL : Ok11 L C M) (K g c0 : Nat) (hg : g + 320 ≤ 1024) (hc : c0 + 128 ≤ 1024) (inb : ∀ a, (![g, c0] : Fin 2 → Nat) a + S320x128.size a ≤ S1024x1024.size a)
    (w : S320x128.Idx → EReal)
    (hk : ∀ p e, key11 p e = K ↔ g ≤ p.val ∧ p.val < g + 320 ∧ c0 ≤ e.val ∧ e.val < c0 + 128)
    (hw : ∀ (x0 : Fin 320) (x1 : Fin 128) (p : Fin 1024) (e : Fin 1024), p.val = g + x0.val → e.val = c0 + x1.val → w (ix2 x0 x1) = M' p e)
    (hM : ∀ p e, key11 p e ≠ K → M' p e = M p e) (hC : ∀ p e, C' p e → key11 p e = K ∨ C p e) :
    Ok11 ((⟨Rect.unit ![g, c0] S320x128.size inb, w⟩ : View.Piece (Elt Ideal) S1024x1024 .bf16) :: L) C' M' := by
  intro p e hp
  by_cases hK : key11 p e = K
  · obtain ⟨h1, h2, h3, h4⟩ := (hk p e).1 hK
    have he : (Rect.unit ![g, c0] S320x128.size inb : Rect S1024x1024).emb (ix2 (⟨p.val - g, by omega⟩ : Fin 320) (⟨e.val - c0, by omega⟩ : Fin 128)) = ix2 p e := by
      funext a
      refine Fin.ext ?_
      rw [Rect.emb_apply]
      fin_cases a
      · change g + 1 * (p.val - g) = p.val; omega
      · change c0 + 1 * (e.val - c0) = e.val; omega
    rw [← he]
    refine ⟨⟨_, List.mem_cons_self, LoadRect.idx_mem _ _⟩, ?_⟩
    refine (View.canon_cons_emb (Rect.unit ![g, c0] S320x128.size inb : Rect S1024x1024) w L _).trans ?_
    exact hw _ _ p e (by dsimp only; omega) (by dsimp only; omega)
  · obtain ⟨⟨q, hq, hm⟩, hv⟩ := hL p e ((hC p e hp).resolve_left hK)
    refine ⟨⟨q, List.mem_cons_of_mem _ hq, hm⟩, ?_⟩
    have hn : (ix2 p e : S1024x1024.Idx) ∉ (Rect.unit ![g, c0] S320x128.size inb : Rect S1024x1024).set := by
      intro hm
      refine hK ((hk p e).2 ?_)
      obtain ⟨j0, hj0, e0⟩ := (LoadRect.mem_set _).mp hm (0 : Fin 2)
      obtain ⟨j1, hj1, e1⟩ := (LoadRect.mem_set _).mp hm (1 : Fin 2)
      change j0 < 320 at hj0
      change j1 < 128 at hj1
      change p.val = g + 1 * j0 at e0
      change e.val = c0 + 1 * j1 at e1
      omega
    exact (View.canon_cons_of_not_mem (⟨Rect.unit ![g, c0] S320x128.size inb, w⟩ : View.Piece (Elt Ideal) S1024x1024 .bf16) L hn).trans (hv.trans (hM p e hK).symm)

theorem st11_384 {L : List (View.Piece (Elt Ideal) S1024x1024 .bf16)} {C C' : Fin 1024 → Fin 1024 → Prop} {M M' : Fin 1024 → Fin 1024 → EReal}
    (hL : Ok11 L C M) (K g c0 : Nat) (hg : g + 384 ≤ 1024) (hc : c0 + 128 ≤ 1024) (inb : ∀ a, (![g, c0] : Fin 2 → Nat) a + S384x128.size a ≤ S1024x1024.size a)
    (w : S384x128.Idx → EReal)
    (hk : ∀ p e, key11 p e = K ↔ g ≤ p.val ∧ p.val < g + 384 ∧ c0 ≤ e.val ∧ e.val < c0 + 128)
    (hw : ∀ (x0 : Fin 384) (x1 : Fin 128) (p : Fin 1024) (e : Fin 1024), p.val = g + x0.val → e.val = c0 + x1.val → w (ix2 x0 x1) = M' p e)
    (hM : ∀ p e, key11 p e ≠ K → M' p e = M p e) (hC : ∀ p e, C' p e → key11 p e = K ∨ C p e) :
    Ok11 ((⟨Rect.unit ![g, c0] S384x128.size inb, w⟩ : View.Piece (Elt Ideal) S1024x1024 .bf16) :: L) C' M' := by
  intro p e hp
  by_cases hK : key11 p e = K
  · obtain ⟨h1, h2, h3, h4⟩ := (hk p e).1 hK
    have he : (Rect.unit ![g, c0] S384x128.size inb : Rect S1024x1024).emb (ix2 (⟨p.val - g, by omega⟩ : Fin 384) (⟨e.val - c0, by omega⟩ : Fin 128)) = ix2 p e := by
      funext a
      refine Fin.ext ?_
      rw [Rect.emb_apply]
      fin_cases a
      · change g + 1 * (p.val - g) = p.val; omega
      · change c0 + 1 * (e.val - c0) = e.val; omega
    rw [← he]
    refine ⟨⟨_, List.mem_cons_self, LoadRect.idx_mem _ _⟩, ?_⟩
    refine (View.canon_cons_emb (Rect.unit ![g, c0] S384x128.size inb : Rect S1024x1024) w L _).trans ?_
    exact hw _ _ p e (by dsimp only; omega) (by dsimp only; omega)
  · obtain ⟨⟨q, hq, hm⟩, hv⟩ := hL p e ((hC p e hp).resolve_left hK)
    refine ⟨⟨q, List.mem_cons_of_mem _ hq, hm⟩, ?_⟩
    have hn : (ix2 p e : S1024x1024.Idx) ∉ (Rect.unit ![g, c0] S384x128.size inb : Rect S1024x1024).set := by
      intro hm
      refine hK ((hk p e).2 ?_)
      obtain ⟨j0, hj0, e0⟩ := (LoadRect.mem_set _).mp hm (0 : Fin 2)
      obtain ⟨j1, hj1, e1⟩ := (LoadRect.mem_set _).mp hm (1 : Fin 2)
      change j0 < 384 at hj0
      change j1 < 128 at hj1
      change p.val = g + 1 * j0 at e0
      change e.val = c0 + 1 * j1 at e1
      omega
    exact (View.canon_cons_of_not_mem (⟨Rect.unit ![g, c0] S384x128.size inb, w⟩ : View.Piece (Elt Ideal) S1024x1024 .bf16) L hn).trans (hv.trans (hM p e hK).symm)

/-- The pieces cover the rows and columns of `C`, and leave `M` there. -/
def Ok12 (L : List (View.Piece (Elt Ideal) S1024x64 .f32)) (C : Fin 1024 → Fin 64 → Prop) (M : Fin 1024 → Fin 64 → EReal) : Prop :=
  ∀ p e, C p e → (∃ q ∈ L, (ix2 p e : S1024x64.Idx) ∈ q.1.set) ∧ View.canon L (ix2 p e) = M p e

theorem st12_320 {L : List (View.Piece (Elt Ideal) S1024x64 .f32)} {C C' : Fin 1024 → Fin 64 → Prop} {M M' : Fin 1024 → Fin 64 → EReal}
    (hL : Ok12 L C M) (K g c0 : Nat) (hg : g + 320 ≤ 1024) (hc : c0 + 8 ≤ 64) (inb : ∀ a, (![g, c0] : Fin 2 → Nat) a + S320x8.size a ≤ S1024x64.size a)
    (w : S320x8.Idx → EReal)
    (hk : ∀ p e, key12 p e = K ↔ g ≤ p.val ∧ p.val < g + 320 ∧ c0 ≤ e.val ∧ e.val < c0 + 8)
    (hw : ∀ (x0 : Fin 320) (x1 : Fin 8) (p : Fin 1024) (e : Fin 64), p.val = g + x0.val → e.val = c0 + x1.val → w (ix2 x0 x1) = M' p e)
    (hM : ∀ p e, key12 p e ≠ K → M' p e = M p e) (hC : ∀ p e, C' p e → key12 p e = K ∨ C p e) :
    Ok12 ((⟨Rect.unit ![g, c0] S320x8.size inb, w⟩ : View.Piece (Elt Ideal) S1024x64 .f32) :: L) C' M' := by
  intro p e hp
  by_cases hK : key12 p e = K
  · obtain ⟨h1, h2, h3, h4⟩ := (hk p e).1 hK
    have he : (Rect.unit ![g, c0] S320x8.size inb : Rect S1024x64).emb (ix2 (⟨p.val - g, by omega⟩ : Fin 320) (⟨e.val - c0, by omega⟩ : Fin 8)) = ix2 p e := by
      funext a
      refine Fin.ext ?_
      rw [Rect.emb_apply]
      fin_cases a
      · change g + 1 * (p.val - g) = p.val; omega
      · change c0 + 1 * (e.val - c0) = e.val; omega
    rw [← he]
    refine ⟨⟨_, List.mem_cons_self, LoadRect.idx_mem _ _⟩, ?_⟩
    refine (View.canon_cons_emb (Rect.unit ![g, c0] S320x8.size inb : Rect S1024x64) w L _).trans ?_
    exact hw _ _ p e (by dsimp only; omega) (by dsimp only; omega)
  · obtain ⟨⟨q, hq, hm⟩, hv⟩ := hL p e ((hC p e hp).resolve_left hK)
    refine ⟨⟨q, List.mem_cons_of_mem _ hq, hm⟩, ?_⟩
    have hn : (ix2 p e : S1024x64.Idx) ∉ (Rect.unit ![g, c0] S320x8.size inb : Rect S1024x64).set := by
      intro hm
      refine hK ((hk p e).2 ?_)
      obtain ⟨j0, hj0, e0⟩ := (LoadRect.mem_set _).mp hm (0 : Fin 2)
      obtain ⟨j1, hj1, e1⟩ := (LoadRect.mem_set _).mp hm (1 : Fin 2)
      change j0 < 320 at hj0
      change j1 < 8 at hj1
      change p.val = g + 1 * j0 at e0
      change e.val = c0 + 1 * j1 at e1
      omega
    exact (View.canon_cons_of_not_mem (⟨Rect.unit ![g, c0] S320x8.size inb, w⟩ : View.Piece (Elt Ideal) S1024x64 .f32) L hn).trans (hv.trans (hM p e hK).symm)

theorem st12_384 {L : List (View.Piece (Elt Ideal) S1024x64 .f32)} {C C' : Fin 1024 → Fin 64 → Prop} {M M' : Fin 1024 → Fin 64 → EReal}
    (hL : Ok12 L C M) (K g c0 : Nat) (hg : g + 384 ≤ 1024) (hc : c0 + 8 ≤ 64) (inb : ∀ a, (![g, c0] : Fin 2 → Nat) a + S384x8.size a ≤ S1024x64.size a)
    (w : S384x8.Idx → EReal)
    (hk : ∀ p e, key12 p e = K ↔ g ≤ p.val ∧ p.val < g + 384 ∧ c0 ≤ e.val ∧ e.val < c0 + 8)
    (hw : ∀ (x0 : Fin 384) (x1 : Fin 8) (p : Fin 1024) (e : Fin 64), p.val = g + x0.val → e.val = c0 + x1.val → w (ix2 x0 x1) = M' p e)
    (hM : ∀ p e, key12 p e ≠ K → M' p e = M p e) (hC : ∀ p e, C' p e → key12 p e = K ∨ C p e) :
    Ok12 ((⟨Rect.unit ![g, c0] S384x8.size inb, w⟩ : View.Piece (Elt Ideal) S1024x64 .f32) :: L) C' M' := by
  intro p e hp
  by_cases hK : key12 p e = K
  · obtain ⟨h1, h2, h3, h4⟩ := (hk p e).1 hK
    have he : (Rect.unit ![g, c0] S384x8.size inb : Rect S1024x64).emb (ix2 (⟨p.val - g, by omega⟩ : Fin 384) (⟨e.val - c0, by omega⟩ : Fin 8)) = ix2 p e := by
      funext a
      refine Fin.ext ?_
      rw [Rect.emb_apply]
      fin_cases a
      · change g + 1 * (p.val - g) = p.val; omega
      · change c0 + 1 * (e.val - c0) = e.val; omega
    rw [← he]
    refine ⟨⟨_, List.mem_cons_self, LoadRect.idx_mem _ _⟩, ?_⟩
    refine (View.canon_cons_emb (Rect.unit ![g, c0] S384x8.size inb : Rect S1024x64) w L _).trans ?_
    exact hw _ _ p e (by dsimp only; omega) (by dsimp only; omega)
  · obtain ⟨⟨q, hq, hm⟩, hv⟩ := hL p e ((hC p e hp).resolve_left hK)
    refine ⟨⟨q, List.mem_cons_of_mem _ hq, hm⟩, ?_⟩
    have hn : (ix2 p e : S1024x64.Idx) ∉ (Rect.unit ![g, c0] S384x8.size inb : Rect S1024x64).set := by
      intro hm
      refine hK ((hk p e).2 ?_)
      obtain ⟨j0, hj0, e0⟩ := (LoadRect.mem_set _).mp hm (0 : Fin 2)
      obtain ⟨j1, hj1, e1⟩ := (LoadRect.mem_set _).mp hm (1 : Fin 2)
      change j0 < 384 at hj0
      change j1 < 8 at hj1
      change p.val = g + 1 * j0 at e0
      change e.val = c0 + 1 * j1 at e1
      omega
    exact (View.canon_cons_of_not_mem (⟨Rect.unit ![g, c0] S384x8.size inb, w⟩ : View.Piece (Elt Ideal) S1024x64 .f32) L hn).trans (hv.trans (hM p e hK).symm)

theorem hk11_0 (p : Fin 1024) (e : Fin 1024) : key11 p e = 0 ↔ 0 ≤ p.val ∧ p.val < 0 + 384 ∧ 0 ≤ e.val ∧ e.val < 0 + 128 := by
  unfold key11 rgp; split_ifs <;> omega
theorem hk11_1 (p : Fin 1024) (e : Fin 1024) : key11 p e = 1 ↔ 0 ≤ p.val ∧ p.val < 0 + 384 ∧ 128 ≤ e.val ∧ e.val < 128 + 128 := by
  unfold key11 rgp; split_ifs <;> omega
theorem hk11_2 (p : Fin 1024) (e : Fin 1024) : key11 p e = 2 ↔ 0 ≤ p.val ∧ p.val < 0 + 384 ∧ 256 ≤ e.val ∧ e.val < 256 + 128 := by
  unfold key11 rgp; split_ifs <;> omega
theorem hk11_3 (p : Fin 1024) (e : Fin 1024) : key11 p e = 3 ↔ 0 ≤ p.val ∧ p.val < 0 + 384 ∧ 384 ≤ e.val ∧ e.val < 384 + 128 := by
  unfold key11 rgp; split_ifs <;> omega
theorem hk11_4 (p : Fin 1024) (e : Fin 1024) : key11 p e = 4 ↔ 0 ≤ p.val ∧ p.val < 0 + 384 ∧ 512 ≤ e.val ∧ e.val < 512 + 128 := by
  unfold key11 rgp; split_ifs <;> omega
theorem hk11_5 (p : Fin 1024) (e : Fin 1024) : key11 p e = 5 ↔ 0 ≤ p.val ∧ p.val < 0 + 384 ∧ 640 ≤ e.val ∧ e.val < 640 + 128 := by
  unfold key11 rgp; split_ifs <;> omega
theorem hk11_6 (p : Fin 1024) (e : Fin 1024) : key11 p e = 6 ↔ 0 ≤ p.val ∧ p.val < 0 + 384 ∧ 768 ≤ e.val ∧ e.val < 768 + 128 := by
  unfold key11 rgp; split_ifs <;> omega
theorem hk11_7 (p : Fin 1024) (e : Fin 1024) : key11 p e = 7 ↔ 0 ≤ p.val ∧ p.val < 0 + 384 ∧ 896 ≤ e.val ∧ e.val < 896 + 128 := by
  unfold key11 rgp; split_ifs <;> omega
theorem hk11_8 (p : Fin 1024) (e : Fin 1024) : key11 p e = 8 ↔ 384 ≤ p.val ∧ p.val < 384 + 320 ∧ 0 ≤ e.val ∧ e.val < 0 + 128 := by
  unfold key11 rgp; split_ifs <;> omega
theorem hk11_9 (p : Fin 1024) (e : Fin 1024) : key11 p e = 9 ↔ 384 ≤ p.val ∧ p.val < 384 + 320 ∧ 128 ≤ e.val ∧ e.val < 128 + 128 := by
  unfold key11 rgp; split_ifs <;> omega
theorem hk11_10 (p : Fin 1024) (e : Fin 1024) : key11 p e = 10 ↔ 384 ≤ p.val ∧ p.val < 384 + 320 ∧ 256 ≤ e.val ∧ e.val < 256 + 128 := by
  unfold key11 rgp; split_ifs <;> omega
theorem hk11_11 (p : Fin 1024) (e : Fin 1024) : key11 p e = 11 ↔ 384 ≤ p.val ∧ p.val < 384 + 320 ∧ 384 ≤ e.val ∧ e.val < 384 + 128 := by
  unfold key11 rgp; split_ifs <;> omega
theorem hk11_12 (p : Fin 1024) (e : Fin 1024) : key11 p e = 12 ↔ 384 ≤ p.val ∧ p.val < 384 + 320 ∧ 512 ≤ e.val ∧ e.val < 512 + 128 := by
  unfold key11 rgp; split_ifs <;> omega
theorem hk11_13 (p : Fin 1024) (e : Fin 1024) : key11 p e = 13 ↔ 384 ≤ p.val ∧ p.val < 384 + 320 ∧ 640 ≤ e.val ∧ e.val < 640 + 128 := by
  unfold key11 rgp; split_ifs <;> omega
theorem hk11_14 (p : Fin 1024) (e : Fin 1024) : key11 p e = 14 ↔ 384 ≤ p.val ∧ p.val < 384 + 320 ∧ 768 ≤ e.val ∧ e.val < 768 + 128 := by
  unfold key11 rgp; split_ifs <;> omega
theorem hk11_15 (p : Fin 1024) (e : Fin 1024) : key11 p e = 15 ↔ 384 ≤ p.val ∧ p.val < 384 + 320 ∧ 896 ≤ e.val ∧ e.val < 896 + 128 := by
  unfold key11 rgp; split_ifs <;> omega
theorem hk11_16 (p : Fin 1024) (e : Fin 1024) : key11 p e = 16 ↔ 704 ≤ p.val ∧ p.val < 704 + 320 ∧ 0 ≤ e.val ∧ e.val < 0 + 128 := by
  unfold key11 rgp; split_ifs <;> omega
theorem hk11_17 (p : Fin 1024) (e : Fin 1024) : key11 p e = 17 ↔ 704 ≤ p.val ∧ p.val < 704 + 320 ∧ 128 ≤ e.val ∧ e.val < 128 + 128 := by
  unfold key11 rgp; split_ifs <;> omega
theorem hk11_18 (p : Fin 1024) (e : Fin 1024) : key11 p e = 18 ↔ 704 ≤ p.val ∧ p.val < 704 + 320 ∧ 256 ≤ e.val ∧ e.val < 256 + 128 := by
  unfold key11 rgp; split_ifs <;> omega
theorem hk11_19 (p : Fin 1024) (e : Fin 1024) : key11 p e = 19 ↔ 704 ≤ p.val ∧ p.val < 704 + 320 ∧ 384 ≤ e.val ∧ e.val < 384 + 128 := by
  unfold key11 rgp; split_ifs <;> omega
theorem hk11_20 (p : Fin 1024) (e : Fin 1024) : key11 p e = 20 ↔ 704 ≤ p.val ∧ p.val < 704 + 320 ∧ 512 ≤ e.val ∧ e.val < 512 + 128 := by
  unfold key11 rgp; split_ifs <;> omega
theorem hk11_21 (p : Fin 1024) (e : Fin 1024) : key11 p e = 21 ↔ 704 ≤ p.val ∧ p.val < 704 + 320 ∧ 640 ≤ e.val ∧ e.val < 640 + 128 := by
  unfold key11 rgp; split_ifs <;> omega
theorem hk11_22 (p : Fin 1024) (e : Fin 1024) : key11 p e = 22 ↔ 704 ≤ p.val ∧ p.val < 704 + 320 ∧ 768 ≤ e.val ∧ e.val < 768 + 128 := by
  unfold key11 rgp; split_ifs <;> omega
theorem hk11_23 (p : Fin 1024) (e : Fin 1024) : key11 p e = 23 ↔ 704 ≤ p.val ∧ p.val < 704 + 320 ∧ 896 ≤ e.val ∧ e.val < 896 + 128 := by
  unfold key11 rgp; split_ifs <;> omega
theorem hk12_0 (p : Fin 1024) (e : Fin 64) : key12 p e = 0 ↔ 0 ≤ p.val ∧ p.val < 0 + 384 ∧ 0 ≤ e.val ∧ e.val < 0 + 8 := by
  unfold key12 rgp; split_ifs <;> omega
theorem hk12_1 (p : Fin 1024) (e : Fin 64) : key12 p e = 1 ↔ 0 ≤ p.val ∧ p.val < 0 + 384 ∧ 8 ≤ e.val ∧ e.val < 8 + 8 := by
  unfold key12 rgp; split_ifs <;> omega
theorem hk12_2 (p : Fin 1024) (e : Fin 64) : key12 p e = 2 ↔ 0 ≤ p.val ∧ p.val < 0 + 384 ∧ 16 ≤ e.val ∧ e.val < 16 + 8 := by
  unfold key12 rgp; split_ifs <;> omega
theorem hk12_3 (p : Fin 1024) (e : Fin 64) : key12 p e = 3 ↔ 0 ≤ p.val ∧ p.val < 0 + 384 ∧ 24 ≤ e.val ∧ e.val < 24 + 8 := by
  unfold key12 rgp; split_ifs <;> omega
theorem hk12_4 (p : Fin 1024) (e : Fin 64) : key12 p e = 4 ↔ 0 ≤ p.val ∧ p.val < 0 + 384 ∧ 32 ≤ e.val ∧ e.val < 32 + 8 := by
  unfold key12 rgp; split_ifs <;> omega
theorem hk12_5 (p : Fin 1024) (e : Fin 64) : key12 p e = 5 ↔ 0 ≤ p.val ∧ p.val < 0 + 384 ∧ 40 ≤ e.val ∧ e.val < 40 + 8 := by
  unfold key12 rgp; split_ifs <;> omega
theorem hk12_6 (p : Fin 1024) (e : Fin 64) : key12 p e = 6 ↔ 0 ≤ p.val ∧ p.val < 0 + 384 ∧ 48 ≤ e.val ∧ e.val < 48 + 8 := by
  unfold key12 rgp; split_ifs <;> omega
theorem hk12_7 (p : Fin 1024) (e : Fin 64) : key12 p e = 7 ↔ 0 ≤ p.val ∧ p.val < 0 + 384 ∧ 56 ≤ e.val ∧ e.val < 56 + 8 := by
  unfold key12 rgp; split_ifs <;> omega
theorem hk12_8 (p : Fin 1024) (e : Fin 64) : key12 p e = 8 ↔ 384 ≤ p.val ∧ p.val < 384 + 320 ∧ 0 ≤ e.val ∧ e.val < 0 + 8 := by
  unfold key12 rgp; split_ifs <;> omega
theorem hk12_9 (p : Fin 1024) (e : Fin 64) : key12 p e = 9 ↔ 384 ≤ p.val ∧ p.val < 384 + 320 ∧ 8 ≤ e.val ∧ e.val < 8 + 8 := by
  unfold key12 rgp; split_ifs <;> omega
theorem hk12_10 (p : Fin 1024) (e : Fin 64) : key12 p e = 10 ↔ 384 ≤ p.val ∧ p.val < 384 + 320 ∧ 16 ≤ e.val ∧ e.val < 16 + 8 := by
  unfold key12 rgp; split_ifs <;> omega
theorem hk12_11 (p : Fin 1024) (e : Fin 64) : key12 p e = 11 ↔ 384 ≤ p.val ∧ p.val < 384 + 320 ∧ 24 ≤ e.val ∧ e.val < 24 + 8 := by
  unfold key12 rgp; split_ifs <;> omega
theorem hk12_12 (p : Fin 1024) (e : Fin 64) : key12 p e = 12 ↔ 384 ≤ p.val ∧ p.val < 384 + 320 ∧ 32 ≤ e.val ∧ e.val < 32 + 8 := by
  unfold key12 rgp; split_ifs <;> omega
theorem hk12_13 (p : Fin 1024) (e : Fin 64) : key12 p e = 13 ↔ 384 ≤ p.val ∧ p.val < 384 + 320 ∧ 40 ≤ e.val ∧ e.val < 40 + 8 := by
  unfold key12 rgp; split_ifs <;> omega
theorem hk12_14 (p : Fin 1024) (e : Fin 64) : key12 p e = 14 ↔ 384 ≤ p.val ∧ p.val < 384 + 320 ∧ 48 ≤ e.val ∧ e.val < 48 + 8 := by
  unfold key12 rgp; split_ifs <;> omega
theorem hk12_15 (p : Fin 1024) (e : Fin 64) : key12 p e = 15 ↔ 384 ≤ p.val ∧ p.val < 384 + 320 ∧ 56 ≤ e.val ∧ e.val < 56 + 8 := by
  unfold key12 rgp; split_ifs <;> omega
theorem hk12_16 (p : Fin 1024) (e : Fin 64) : key12 p e = 16 ↔ 704 ≤ p.val ∧ p.val < 704 + 320 ∧ 0 ≤ e.val ∧ e.val < 0 + 8 := by
  unfold key12 rgp; split_ifs <;> omega
theorem hk12_17 (p : Fin 1024) (e : Fin 64) : key12 p e = 17 ↔ 704 ≤ p.val ∧ p.val < 704 + 320 ∧ 8 ≤ e.val ∧ e.val < 8 + 8 := by
  unfold key12 rgp; split_ifs <;> omega
theorem hk12_18 (p : Fin 1024) (e : Fin 64) : key12 p e = 18 ↔ 704 ≤ p.val ∧ p.val < 704 + 320 ∧ 16 ≤ e.val ∧ e.val < 16 + 8 := by
  unfold key12 rgp; split_ifs <;> omega
theorem hk12_19 (p : Fin 1024) (e : Fin 64) : key12 p e = 19 ↔ 704 ≤ p.val ∧ p.val < 704 + 320 ∧ 24 ≤ e.val ∧ e.val < 24 + 8 := by
  unfold key12 rgp; split_ifs <;> omega
theorem hk12_20 (p : Fin 1024) (e : Fin 64) : key12 p e = 20 ↔ 704 ≤ p.val ∧ p.val < 704 + 320 ∧ 32 ≤ e.val ∧ e.val < 32 + 8 := by
  unfold key12 rgp; split_ifs <;> omega
theorem hk12_21 (p : Fin 1024) (e : Fin 64) : key12 p e = 21 ↔ 704 ≤ p.val ∧ p.val < 704 + 320 ∧ 40 ≤ e.val ∧ e.val < 40 + 8 := by
  unfold key12 rgp; split_ifs <;> omega
theorem hk12_22 (p : Fin 1024) (e : Fin 64) : key12 p e = 22 ↔ 704 ≤ p.val ∧ p.val < 704 + 320 ∧ 48 ≤ e.val ∧ e.val < 48 + 8 := by
  unfold key12 rgp; split_ifs <;> omega
theorem hk12_23 (p : Fin 1024) (e : Fin 64) : key12 p e = 23 ↔ 704 ≤ p.val ∧ p.val < 704 + 320 ∧ 56 ≤ e.val ∧ e.val < 56 + 8 := by
  unfold key12 rgp; split_ifs <;> omega
theorem rg_0 {p x : Nat} (h : p = 0 + x) (hx : x < 384) : rgp p = 0 := by
  unfold rgp; split_ifs <;> omega
theorem rg_1 {p x : Nat} (h : p = 384 + x) (hx : x < 320) : rgp p = 1 := by
  unfold rgp; split_ifs <;> omega
theorem rg_2 {p x : Nat} (h : p = 704 + x) (hx : x < 320) : rgp p = 2 := by
  unfold rgp; split_ifs <;> omega

variable (c : Dev nD) (f6 : Bf Ideal c A6) (f8 : Bf Ideal c A8) (f9 : Bf Ideal c A9)
/-- The contexts once the further keys of the blocks before the block `K` are in. -/
def mx11 (K : Nat) (p e : Fin 1024) : EReal := if 8 ≤ key11 p e ∧ key11 p e < K then m11 c f6 f8 f9 p e + x11 f6 f8 f9 p e else m11 c f6 f8 f9 p e
/-- The sums of weights once the further keys of the blocks before the block `K` are in. -/
def mx12 (K : Nat) (p : Fin 1024) (e : Fin 64) : EReal := if 8 ≤ key12 p e ∧ key12 p e < K then m12 c f6 f8 p e + x12 f6 f8 p e else m12 c f6 f8 p e

theorem mx11_at {K : Nat} (hK : 8 ≤ K) (p : Fin 1024) (e : Fin 1024) (h : key11 p e = K) : m11 c f6 f8 f9 p e + x11 f6 f8 f9 p e = mx11 c f6 f8 f9 (K + 1) p e := by
  unfold mx11; rw [if_pos (by omega)]
theorem mx11_off {K : Nat} (p : Fin 1024) (e : Fin 1024) (h : key11 p e ≠ K) : mx11 c f6 f8 f9 (K + 1) p e = mx11 c f6 f8 f9 K p e := by
  unfold mx11
  by_cases h1 : 8 ≤ key11 p e ∧ key11 p e < K
  · rw [if_pos h1, if_pos (by omega)]
  · rw [if_neg h1, if_neg (by omega)]
theorem mx11_start {L : List (View.Piece (Elt Ideal) S1024x1024 .bf16)} (hL : Ok11 L (fun p e => key11 p e < 24) (m11 c f6 f8 f9)) :
    Ok11 L (fun _ _ => True) (mx11 c f6 f8 f9 8) := by
  intro p e _
  obtain ⟨h1, h2⟩ := hL p e (by unfold key11; have := rgp_lt p.val; dsimp only; omega)
  refine ⟨h1, h2.trans ?_⟩
  unfold mx11; rw [if_neg (by omega)]
theorem rc11 {L : List (View.Piece (Elt Ideal) S1024x1024 .bf16)} {K : Nat} (hL : Ok11 L (fun _ _ => True) (mx11 c f6 f8 f9 K)) (g c0 : Nat)
    (inb : ∀ a, (![g, c0] : Fin 2 → Nat) a + S320x128.size a ≤ S1024x1024.size a) (x0 : Fin 320) (x1 : Fin 128) (p : Fin 1024) (e : Fin 1024)
    (hp : p.val = g + x0.val) (he : e.val = c0 + x1.val) (hk : key11 p e = K) :
    A11.view.readCov L (Rect.unit ![g, c0] S320x128.size inb : Rect S1024x1024).toLoadRect (ix2 x0 x1) = m11 c f6 f8 f9 p e := by
  have hc : ∀ y : S1024x1024.Idx, ∃ q ∈ L, y ∈ q.1.set := fun y => by
    rw [eq_ix2 y]; exact (hL _ _ trivial).1
  refine (congrFun (View.readCov_eq_canon A11.view L (Rect.unit ![g, c0] S320x128.size inb : Rect S1024x1024).toLoadRect fun j => hc _) (ix2 x0 x1)).trans ?_
  have hx : (Rect.unit ![g, c0] S320x128.size inb : Rect S1024x1024).toLoadRect.idx (ix2 x0 x1) = (ix2 p e : S1024x1024.Idx) := by
    funext a
    refine Fin.ext ?_
    fin_cases a
    · change g + 1 * x0.val = p.val; omega
    · change c0 + 1 * x1.val = e.val; omega
  change View.canon L _ = _
  rw [hx]
  refine (hL p e trivial).2.trans ?_
  unfold mx11; rw [if_neg (by omega)]

theorem mx12_at {K : Nat} (hK : 8 ≤ K) (p : Fin 1024) (e : Fin 64) (h : key12 p e = K) : m12 c f6 f8 p e + x12 f6 f8 p e = mx12 c f6 f8 (K + 1) p e := by
  unfold mx12; rw [if_pos (by omega)]
theorem mx12_off {K : Nat} (p : Fin 1024) (e : Fin 64) (h : key12 p e ≠ K) : mx12 c f6 f8 (K + 1) p e = mx12 c f6 f8 K p e := by
  unfold mx12
  by_cases h1 : 8 ≤ key12 p e ∧ key12 p e < K
  · rw [if_pos h1, if_pos (by omega)]
  · rw [if_neg h1, if_neg (by omega)]
theorem mx12_start {L : List (View.Piece (Elt Ideal) S1024x64 .f32)} (hL : Ok12 L (fun p e => key12 p e < 24) (m12 c f6 f8)) :
    Ok12 L (fun _ _ => True) (mx12 c f6 f8 8) := by
  intro p e _
  obtain ⟨h1, h2⟩ := hL p e (by unfold key12; have := rgp_lt p.val; dsimp only; omega)
  refine ⟨h1, h2.trans ?_⟩
  unfold mx12; rw [if_neg (by omega)]
theorem rc12 {L : List (View.Piece (Elt Ideal) S1024x64 .f32)} {K : Nat} (hL : Ok12 L (fun _ _ => True) (mx12 c f6 f8 K)) (g c0 : Nat)
    (inb : ∀ a, (![g, c0] : Fin 2 → Nat) a + S320x8.size a ≤ S1024x64.size a) (x0 : Fin 320) (x1 : Fin 8) (p : Fin 1024) (e : Fin 64)
    (hp : p.val = g + x0.val) (he : e.val = c0 + x1.val) (hk : key12 p e = K) :
    A12.view.readCov L (Rect.unit ![g, c0] S320x8.size inb : Rect S1024x64).toLoadRect (ix2 x0 x1) = m12 c f6 f8 p e := by
  have hc : ∀ y : S1024x64.Idx, ∃ q ∈ L, y ∈ q.1.set := fun y => by
    rw [eq_ix2 y]; exact (hL _ _ trivial).1
  refine (congrFun (View.readCov_eq_canon A12.view L (Rect.unit ![g, c0] S320x8.size inb : Rect S1024x64).toLoadRect fun j => hc _) (ix2 x0 x1)).trans ?_
  have hx : (Rect.unit ![g, c0] S320x8.size inb : Rect S1024x64).toLoadRect.idx (ix2 x0 x1) = (ix2 p e : S1024x64.Idx) := by
    funext a
    refine Fin.ext ?_
    fin_cases a
    · change g + 1 * x0.val = p.val; omega
    · change c0 + 1 * x1.val = e.val; omega
  change View.canon L _ = _
  rw [hx]
  refine (hL p e trivial).2.trans ?_
  unfold mx12; rw [if_neg (by omega)]
end V

end Cert.KP

end
-- ==== Proof.ValB4.lean ====
module

public import proofs.«01_k».proof.Proof.ValB3
public import proofs.«01_k».proof.Proof.Norm
public import Idealize.ShloMosaic.Lib.Pointwise
public import Idealize.ShloMosaic.Lib.Pipeline.ValueKit.Tiles

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V
open Idealize.ShloMosaic.View
set_option maxRecDepth 10000
variable (c : Dev nD) (f6 : Bf Ideal c A6) (f8 : Bf Ideal c A8) (f9 : Bf Ideal c A9)

theorem ok_runB1_sl_H11_1 : Ok11 (runB1.sl.H11_1 (F := Ideal) c c (v2Of c) f6 f8 f9) (fun p e => key11 p e < 1) (m11 c f6 f8 f9) := by
  unfold runB1.sl.H11_1
  refine st11_384 (C := fun p e => key11 p e < 0) (M := m11 c f6 f8 f9) ?_ 0 0 0 (by decide) (by decide) _ _ hk11_0 ?_ (fun _ _ _ => rfl) (fun p e (h : key11 p e < 1) => by omega)
  case refine_2 => exact fun x0 x1 p e hp he => p11_384 c f6 f8 f9 (runB1.sl.v398 (v2Of c)) (g := 0) (h := 0) (r := 0) (by decide) (by decide) (bias0_1 c) (o6 := ![0, 0]) rfl (o8_0_0 c) (o9_0_0 c) _ _ _ p e x0 x1 hp he (rg_0 hp x0.isLt)
  exact fun p e h => absurd h (Nat.not_lt_zero _)

theorem ok_runB1_sl_H11_2 : Ok11 (runB1.sl.H11_2 (F := Ideal) c c (v2Of c) f6 f8 f9) (fun p e => key11 p e < 2) (m11 c f6 f8 f9) := by
  unfold runB1.sl.H11_2
  refine st11_384 (C := fun p e => key11 p e < 1) (M := m11 c f6 f8 f9) ?_ 1 0 128 (by decide) (by decide) _ _ hk11_1 ?_ (fun _ _ _ => rfl) (fun p e (h : key11 p e < 2) => by omega)
  case refine_2 => exact fun x0 x1 p e hp he => p11_384 c f6 f8 f9 (runB1.sl.v398 (v2Of c)) (g := 0) (h := 1) (r := 0) (by decide) (by decide) (bias0_1 c) (o6 := ![0, 128]) rfl (o8_1_0 c) (o9_1_0 c) _ _ _ p e x0 x1 hp he (rg_0 hp x0.isLt)
  exact ok_runB1_sl_H11_1 c f6 f8 f9

theorem ok_runB1_sl_H11_4 : Ok11 (runB1.sl.H11_4 (F := Ideal) c c (v2Of c) f6 f8 f9) (fun p e => key11 p e < 4) (m11 c f6 f8 f9) := by
  unfold runB1.sl.H11_4
  refine st11_384 (C := fun p e => key11 p e < 3) (M := m11 c f6 f8 f9) ?_ 3 0 384 (by decide) (by decide) _ _ hk11_3 ?_ (fun _ _ _ => rfl) (fun p e (h : key11 p e < 4) => by omega)
  case refine_2 => exact fun x0 x1 p e hp he => p11_384 c f6 f8 f9 (runB1.sl.v398 (v2Of c)) (g := 0) (h := 3) (r := 0) (by decide) (by decide) (bias0_1 c) (o6 := ![0, 384]) rfl (o8_3_0 c) (o9_3_0 c) _ _ _ p e x0 x1 hp he (rg_0 hp x0.isLt)
  refine st11_384 (C := fun p e => key11 p e < 2) (M := m11 c f6 f8 f9) ?_ 2 0 256 (by decide) (by decide) _ _ hk11_2 ?_ (fun _ _ _ => rfl) (fun p e (h : key11 p e < 3) => by omega)
  case refine_2 => exact fun x0 x1 p e hp he => p11_384 c f6 f8 f9 (runB1.sl.v398 (v2Of c)) (g := 0) (h := 2) (r := 0) (by decide) (by decide) (bias0_1 c) (o6 := ![0, 256]) rfl (o8_2_0 c) (o9_2_0 c) _ _ _ p e x0 x1 hp he (rg_0 hp x0.isLt)
  exact ok_runB1_sl_H11_2 c f6 f8 f9

theorem ok_runB1_sl_H11_5 : Ok11 (runB1.sl.H11_5 (F := Ideal) c c (v2Of c) f6 f8 f9) (fun p e => key11 p e < 5) (m11 c f6 f8 f9) := by
  unfold runB1.sl.H11_5
  refine st11_384 (C := fun p e => key11 p e < 4) (M := m11 c f6 f8 f9) ?_ 4 0 512 (by decide) (by decide) _ _ hk11_4 ?_ (fun _ _ _ => rfl) (fun p e (h : key11 p e < 5) => by omega)
  case refine_2 => exact fun x0 x1 p e hp he => p11_384 c f6 f8 f9 (runB1.sl.v398 (v2Of c)) (g := 0) (h := 4) (r := 0) (by decide) (by decide) (bias0_1 c) (o6 := ![0, 512]) rfl (o8_4_0 c) (o9_4_0 c) _ _ _ p e x0 x1 hp he (rg_0 hp x0.isLt)
  exact ok_runB1_sl_H11_4 c f6 f8 f9

theorem ok_runB1_sl_H11_7 : Ok11 (runB1.sl.H11_7 (F := Ideal) c c (v2Of c) f6 f8 f9) (fun p e => key11 p e < 7) (m11 c f6 f8 f9) := by
  unfold runB1.sl.H11_7
  refine st11_384 (C := fun p e => key11 p e < 6) (M := m11 c f6 f8 f9) ?_ 6 0 768 (by decide) (by decide) _ _ hk11_6 ?_ (fun _ _ _ => rfl) (fun p e (h : key11 p e < 7) => by omega)
  case refine_2 => exact fun x0 x1 p e hp he => p11_384 c f6 f8 f9 (runB1.sl.v398 (v2Of c)) (g := 0) (h := 6) (r := 0) (by decide) (by decide) (bias0_1 c) (o6 := ![0, 768]) rfl (o8_6_0 c) (o9_6_0 c) _ _ _ p e x0 x1 hp he (rg_0 hp x0.isLt)
  refine st11_384 (C := fun p e => key11 p e < 5) (M := m11 c f6 f8 f9) ?_ 5 0 640 (by decide) (by decide) _ _ hk11_5 ?_ (fun _ _ _ => rfl) (fun p e (h : key11 p e < 6) => by omega)
  case refine_2 => exact fun x0 x1 p e hp he => p11_384 c f6 f8 f9 (runB1.sl.v398 (v2Of c)) (g := 0) (h := 5) (r := 0) (by decide) (by decide) (bias0_1 c) (o6 := ![0, 640]) rfl (o8_5_0 c) (o9_5_0 c) _ _ _ p e x0 x1 hp he (rg_0 hp x0.isLt)
  exact ok_runB1_sl_H11_5 c f6 f8 f9

theorem ok_runB1_sl_H11_8 : Ok11 (runB1.sl.H11_8 (F := Ideal) c c (v2Of c) f6 f8 f9) (fun p e => key11 p e < 8) (m11 c f6 f8 f9) := by
  unfold runB1.sl.H11_8
  refine st11_384 (C := fun p e => key11 p e < 7) (M := m11 c f6 f8 f9) ?_ 7 0 896 (by decide) (by decide) _ _ hk11_7 ?_ (fun _ _ _ => rfl) (fun p e (h : key11 p e < 8) => by omega)
  case refine_2 => exact fun x0 x1 p e hp he => p11_384 c f6 f8 f9 (runB1.sl.v398 (v2Of c)) (g := 0) (h := 7) (r := 0) (by decide) (by decide) (bias0_1 c) (o6 := ![0, 896]) rfl (o8_7_0 c) (o9_7_0 c) _ _ _ p e x0 x1 hp he (rg_0 hp x0.isLt)
  exact ok_runB1_sl_H11_7 c f6 f8 f9

theorem ok_runB1_sl_H11_10 : Ok11 (runB1.sl.H11_10 (F := Ideal) c c (v2Of c) f6 f8 f9) (fun p e => key11 p e < 10) (m11 c f6 f8 f9) := by
  unfold runB1.sl.H11_10
  refine st11_320 (C := fun p e => key11 p e < 9) (M := m11 c f6 f8 f9) ?_ 9 384 128 (by decide) (by decide) _ _ hk11_9 ?_ (fun _ _ _ => rfl) (fun p e (h : key11 p e < 10) => by omega)
  case refine_2 => exact fun x0 x1 p e hp he => p11_320 c f6 f8 f9 (runB1.sl.r_3 (F := Ideal) (v2Of c)) (g := 384) (h := 1) (r := 1) (by decide) (by decide) (bias1_1 c) (o6 := ![384, 128]) rfl (o8_1_1 c) (o9_1_1 c) _ _ _ p e x0 x1 hp he (rg_1 hp x0.isLt)
  refine st11_320 (C := fun p e => key11 p e < 8) (M := m11 c f6 f8 f9) ?_ 8 384 0 (by decide) (by decide) _ _ hk11_8 ?_ (fun _ _ _ => rfl) (fun p e (h : key11 p e < 9) => by omega)
  case refine_2 => exact fun x0 x1 p e hp he => p11_320 c f6 f8 f9 (runB1.sl.r_3 (F := Ideal) (v2Of c)) (g := 384) (h := 0) (r := 1) (by decide) (by decide) (bias1_1 c) (o6 := ![384, 0]) rfl (o8_0_1 c) (o9_0_1 c) _ _ _ p e x0 x1 hp he (rg_1 hp x0.isLt)
  exact ok_runB1_sl_H11_8 c f6 f8 f9

theorem ok_runB1_sl_H11_11 : Ok11 (runB1.sl.H11_11 (F := Ideal) c c (v2Of c) f6 f8 f9) (fun p e => key11 p e < 11) (m11 c f6 f8 f9) := by
  unfold runB1.sl.H11_11
  refine st11_320 (C := fun p e => key11 p e < 10) (M := m11 c f6 f8 f9) ?_ 10 384 256 (by decide) (by decide) _ _ hk11_10 ?_ (fun _ _ _ => rfl) (fun p e (h : key11 p e < 11) => by omega)
  case refine_2 => exact fun x0 x1 p e hp he => p11_320 c f6 f8 f9 (runB1.sl.r_3 (F := Ideal) (v2Of c)) (g := 384) (h := 2) (r := 1) (by decide) (by decide) (bias1_1 c) (o6 := ![384, 256]) rfl (o8_2_1 c) (o9_2_1 c) _ _ _ p e x0 x1 hp he (rg_1 hp x0.isLt)
  exact ok_runB1_sl_H11_10 c f6 f8 f9

theorem ok_runB1_sl_H11_13 : Ok11 (runB1.sl.H11_13 (F := Ideal) c c (v2Of c) f6 f8 f9) (fun p e => key11 p e < 13) (m11 c f6 f8 f9) := by
  unfold runB1.sl.H11_13
  refine st11_320 (C := fun p e => key11 p e < 12) (M := m11 c f6 f8 f9) ?_ 12 384 512 (by decide) (by decide) _ _ hk11_12 ?_ (fun _ _ _ => rfl) (fun p e (h : key11 p e < 13) => by omega)
  case refine_2 => exact fun x0 x1 p e hp he => p11_320 c f6 f8 f9 (runB1.sl.r_3 (F := Ideal) (v2Of c)) (g := 384) (h := 4) (r := 1) (by decide) (by decide) (bias1_1 c) (o6 := ![384, 512]) rfl (o8_4_1 c) (o9_4_1 c) _ _ _ p e x0 x1 hp he (rg_1 hp x0.isLt)
  refine st11_320 (C := fun p e => key11 p e < 11) (M := m11 c f6 f8 f9) ?_ 11 384 384 (by decide) (by decide) _ _ hk11_11 ?_ (fun _ _ _ => rfl) (fun p e (h : key11 p e < 12) => by omega)
  case refine_2 => exact fun x0 x1 p e hp he => p11_320 c f6 f8 f9 (runB1.sl.r_3 (F := Ideal) (v2Of c)) (g := 384) (h := 3) (r := 1) (by decide) (by decide) (bias1_1 c) (o6 := ![384, 384]) rfl (o8_3_1 c) (o9_3_1 c) _ _ _ p e x0 x1 hp he (rg_1 hp x0.isLt)
  exact ok_runB1_sl_H11_11 c f6 f8 f9

theorem ok_runB1_sl_H11_14 : Ok11 (runB1.sl.H11_14 (F := Ideal) c c (v2Of c) f6 f8 f9) (fun p e => key11 p e < 14) (m11 c f6 f8 f9) := by
  unfold runB1.sl.H11_14
  refine st11_320 (C := fun p e => key11 p e < 13) (M := m11 c f6 f8 f9) ?_ 13 384 640 (by decide) (by decide) _ _ hk11_13 ?_ (fun _ _ _ => rfl) (fun p e (h : key11 p e < 14) => by omega)
  case refine_2 => exact fun x0 x1 p e hp he => p11_320 c f6 f8 f9 (runB1.sl.r_3 (F := Ideal) (v2Of c)) (g := 384) (h := 5) (r := 1) (by decide) (by decide) (bias1_1 c) (o6 := ![384, 640]) rfl (o8_5_1 c) (o9_5_1 c) _ _ _ p e x0 x1 hp he (rg_1 hp x0.isLt)
  exact ok_runB1_sl_H11_13 c f6 f8 f9

theorem ok_runB1_sl_H11_16 : Ok11 (runB1.sl.H11_16 (F := Ideal) c c (v2Of c) f6 f8 f9) (fun p e => key11 p e < 16) (m11 c f6 f8 f9) := by
  unfold runB1.sl.H11_16
  refine st11_320 (C := fun p e => key11 p e < 15) (M := m11 c f6 f8 f9) ?_ 15 384 896 (by decide) (by decide) _ _ hk11_15 ?_ (fun _ _ _ => rfl) (fun p e (h : key11 p e < 16) => by omega)
  case refine_2 => exact fun x0 x1 p e hp he => p11_320 c f6 f8 f9 (runB1.sl.r_3 (F := Ideal) (v2Of c)) (g := 384) (h := 7) (r := 1) (by decide) (by decide) (bias1_1 c) (o6 := ![384, 896]) rfl (o8_7_1 c) (o9_7_1 c) _ _ _ p e x0 x1 hp he (rg_1 hp x0.isLt)
  refine st11_320 (C := fun p e => key11 p e < 14) (M := m11 c f6 f8 f9) ?_ 14 384 768 (by decide) (by decide) _ _ hk11_14 ?_ (fun _ _ _ => rfl) (fun p e (h : key11 p e < 15) => by omega)
  case refine_2 => exact fun x0 x1 p e hp he => p11_320 c f6 f8 f9 (runB1.sl.r_3 (F := Ideal) (v2Of c)) (g := 384) (h := 6) (r := 1) (by decide) (by decide) (bias1_1 c) (o6 := ![384, 768]) rfl (o8_6_1 c) (o9_6_1 c) _ _ _ p e x0 x1 hp he (rg_1 hp x0.isLt)
  exact ok_runB1_sl_H11_14 c f6 f8 f9

theorem ok_runB1_sl_H11_17 : Ok11 (runB1.sl.H11_17 (F := Ideal) c c (v2Of c) f6 f8 f9) (fun p e => key11 p e < 17) (m11 c f6 f8 f9) := by
  unfold runB1.sl.H11_17
  refine st11_320 (C := fun p e => key11 p e < 16) (M := m11 c f6 f8 f9) ?_ 16 704 0 (by decide) (by decide) _ _ hk11_16 ?_ (fun _ _ _ => rfl) (fun p e (h : key11 p e < 17) => by omega)
  case refine_2 => exact fun x0 x1 p e hp he => p11_320 c f6 f8 f9 (runB1.sl.r_7 (F := Ideal) (v2Of c)) (g := 704) (h := 0) (r := 2) (by decide) (by decide) (bias2_1 c) (o6 := ![704, 0]) rfl (o8_0_2 c) (o9_0_2 c) _ _ _ p e x0 x1 hp he (rg_2 hp x0.isLt)
  exact ok_runB1_sl_H11_16 c f6 f8 f9

theorem ok_runB1_sl_H11_19 : Ok11 (runB1.sl.H11_19 (F := Ideal) c c (v2Of c) f6 f8 f9) (fun p e => key11 p e < 19) (m11 c f6 f8 f9) := by
  unfold runB1.sl.H11_19
  refine st11_320 (C := fun p e => key11 p e < 18) (M := m11 c f6 f8 f9) ?_ 18 704 256 (by decide) (by decide) _ _ hk11_18 ?_ (fun _ _ _ => rfl) (fun p e (h : key11 p e < 19) => by omega)
  case refine_2 => exact fun x0 x1 p e hp he => p11_320 c f6 f8 f9 (runB1.sl.r_7 (F := Ideal) (v2Of c)) (g := 704) (h := 2) (r := 2) (by decide) (by decide) (bias2_1 c) (o6 := ![704, 256]) rfl (o8_2_2 c) (o9_2_2 c) _ _ _ p e x0 x1 hp he (rg_2 hp x0.isLt)
  refine st11_320 (C := fun p e => key11 p e < 17) (M := m11 c f6 f8 f9) ?_ 17 704 128 (by decide) (by decide) _ _ hk11_17 ?_ (fun _ _ _ => rfl) (fun p e (h : key11 p e < 18) => by omega)
  case refine_2 => exact fun x0 x1 p e hp he => p11_320 c f6 f8 f9 (runB1.sl.r_7 (F := Ideal) (v2Of c)) (g := 704) (h := 1) (r := 2) (by decide) (by decide) (bias2_1 c) (o6 := ![704, 128]) rfl (o8_1_2 c) (o9_1_2 c) _ _ _ p e x0 x1 hp he (rg_2 hp x0.isLt)
  exact ok_runB1_sl_H11_17 c f6 f8 f9

theorem ok_runB1_sl_H11_20 : Ok11 (runB1.sl.H11_20 (F := Ideal) c c (v2Of c) f6 f8 f9) (fun p e => key11 p e < 20) (m11 c f6 f8 f9) := by
  unfold runB1.sl.H11_20
  refine st11_320 (C := fun p e => key11 p e < 19) (M := m11 c f6 f8 f9) ?_ 19 704 384 (by decide) (by decide) _ _ hk11_19 ?_ (fun _ _ _ => rfl) (fun p e (h : key11 p e < 20) => by omega)
  case refine_2 => exact fun x0 x1 p e hp he => p11_320 c f6 f8 f9 (runB1.sl.r_7 (F := Ideal) (v2Of c)) (g := 704) (h := 3) (r := 2) (by decide) (by decide) (bias2_1 c) (o6 := ![704, 384]) rfl (o8_3_2 c) (o9_3_2 c) _ _ _ p e x0 x1 hp he (rg_2 hp x0.isLt)
  exact ok_runB1_sl_H11_19 c f6 f8 f9

theorem ok_runB1_sl_H11_22 : Ok11 (runB1.sl.H11_22 (F := Ideal) c c (v2Of c) f6 f8 f9) (fun p e => key11 p e < 22) (m11 c f6 f8 f9) := by
  unfold runB1.sl.H11_22
  refine st11_320 (C := fun p e => key11 p e < 21) (M := m11 c f6 f8 f9) ?_ 21 704 640 (by decide) (by decide) _ _ hk11_21 ?_ (fun _ _ _ => rfl) (fun p e (h : key11 p e < 22) => by omega)
  case refine_2 => exact fun x0 x1 p e hp he => p11_320 c f6 f8 f9 (runB1.sl.r_7 (F := Ideal) (v2Of c)) (g := 704) (h := 5) (r := 2) (by decide) (by decide) (bias2_1 c) (o6 := ![704, 640]) rfl (o8_5_2 c) (o9_5_2 c) _ _ _ p e x0 x1 hp he (rg_2 hp x0.isLt)
  refine st11_320 (C := fun p e => key11 p e < 20) (M := m11 c f6 f8 f9) ?_ 20 704 512 (by decide) (by decide) _ _ hk11_20 ?_ (fun _ _ _ => rfl) (fun p e (h : key11 p e < 21) => by omega)
  case refine_2 => exact fun x0 x1 p e hp he => p11_320 c f6 f8 f9 (runB1.sl.r_7 (F := Ideal) (v2Of c)) (g := 704) (h := 4) (r := 2) (by decide) (by decide) (bias2_1 c) (o6 := ![704, 512]) rfl (o8_4_2 c) (o9_4_2 c) _ _ _ p e x0 x1 hp he (rg_2 hp x0.isLt)
  exact ok_runB1_sl_H11_20 c f6 f8 f9

theorem ok_runB1_sl_H11_23 : Ok11 (runB1.sl.H11_23 (F := Ideal) c c (v2Of c) f6 f8 f9) (fun p e => key11 p e < 23) (m11 c f6 f8 f9) := by
  unfold runB1.sl.H11_23
  refine st11_320 (C := fun p e => key11 p e < 22) (M := m11 c f6 f8 f9) ?_ 22 704 768 (by decide) (by decide) _ _ hk11_22 ?_ (fun _ _ _ => rfl) (fun p e (h : key11 p e < 23) => by omega)
  case refine_2 => exact fun x0 x1 p e hp he => p11_320 c f6 f8 f9 (runB1.sl.r_7 (F := Ideal) (v2Of c)) (g := 704) (h := 6) (r := 2) (by decide) (by decide) (bias2_1 c) (o6 := ![704, 768]) rfl (o8_6_2 c) (o9_6_2 c) _ _ _ p e x0 x1 hp he (rg_2 hp x0.isLt)
  exact ok_runB1_sl_H11_22 c f6 f8 f9

theorem ok_runB1_sl_H11_24 : Ok11 (runB1.sl.H11_24 (F := Ideal) c c (v2Of c) f6 f8 f9) (fun p e => key11 p e < 24) (m11 c f6 f8 f9) := by
  unfold runB1.sl.H11_24
  refine st11_320 (C := fun p e => key11 p e < 23) (M := m11 c f6 f8 f9) ?_ 23 704 896 (by decide) (by decide) _ _ hk11_23 ?_ (fun _ _ _ => rfl) (fun p e (h : key11 p e < 24) => by omega)
  case refine_2 => exact fun x0 x1 p e hp he => p11_320 c f6 f8 f9 (runB1.sl.r_7 (F := Ideal) (v2Of c)) (g := 704) (h := 7) (r := 2) (by decide) (by decide) (bias2_1 c) (o6 := ![704, 896]) rfl (o8_7_2 c) (o9_7_2 c) _ _ _ p e x0 x1 hp he (rg_2 hp x0.isLt)
  exact ok_runB1_sl_H11_23 c f6 f8 f9

end V

end Cert.KP

end
-- ==== Proof.ValB5.lean ====
module

public import proofs.«01_k».proof.Proof.ValB3
public import proofs.«01_k».proof.Proof.Norm
public import Idealize.ShloMosaic.Lib.Pointwise
public import Idealize.ShloMosaic.Lib.Pipeline.ValueKit.Tiles

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V
open Idealize.ShloMosaic.View
set_option maxRecDepth 10000
variable (c : Dev nD) (f6 : Bf Ideal c A6) (f8 : Bf Ideal c A8) (f9 : Bf Ideal c A9)

theorem ok_runB1_sl_H12_1 : Ok12 (runB1.sl.H12_1 (F := Ideal) c c (v2Of c) f6 f8) (fun p e => key12 p e < 1) (m12 c f6 f8) := by
  unfold runB1.sl.H12_1
  refine st12_384 (C := fun p e => key12 p e < 0) (M := m12 c f6 f8) ?_ 0 0 0 (by decide) (by decide) _ _ hk12_0 ?_ (fun _ _ _ => rfl) (fun p e (h : key12 p e < 1) => by omega)
  case refine_2 => exact fun x0 x1 p e hp he => p12_384 c f6 f8 (runB1.sl.v398 (v2Of c)) (g := 0) (h := 0) (r := 0) (by decide) (by decide) (bias0_1 c) (o6 := ![0, 0]) rfl (o8_0_0 c) _ _ p e x0 x1 hp he (rg_0 hp x0.isLt)
  exact fun p e h => absurd h (Nat.not_lt_zero _)

theorem ok_runB1_sl_H12_3 : Ok12 (runB1.sl.H12_3 (F := Ideal) c c (v2Of c) f6 f8) (fun p e => key12 p e < 3) (m12 c f6 f8) := by
  unfold runB1.sl.H12_3
  refine st12_384 (C := fun p e => key12 p e < 2) (M := m12 c f6 f8) ?_ 2 0 16 (by decide) (by decide) _ _ hk12_2 ?_ (fun _ _ _ => rfl) (fun p e (h : key12 p e < 3) => by omega)
  case refine_2 => exact fun x0 x1 p e hp he => p12_384 c f6 f8 (runB1.sl.v398 (v2Of c)) (g := 0) (h := 2) (r := 0) (by decide) (by decide) (bias0_1 c) (o6 := ![0, 256]) rfl (o8_2_0 c) _ _ p e x0 x1 hp he (rg_0 hp x0.isLt)
  refine st12_384 (C := fun p e => key12 p e < 1) (M := m12 c f6 f8) ?_ 1 0 8 (by decide) (by decide) _ _ hk12_1 ?_ (fun _ _ _ => rfl) (fun p e (h : key12 p e < 2) => by omega)
  case refine_2 => exact fun x0 x1 p e hp he => p12_384 c f6 f8 (runB1.sl.v398 (v2Of c)) (g := 0) (h := 1) (r := 0) (by decide) (by decide) (bias0_1 c) (o6 := ![0, 128]) rfl (o8_1_0 c) _ _ p e x0 x1 hp he (rg_0 hp x0.isLt)
  exact ok_runB1_sl_H12_1 c f6 f8

theorem ok_runB1_sl_H12_4 : Ok12 (runB1.sl.H12_4 (F := Ideal) c c (v2Of c) f6 f8) (fun p e => key12 p e < 4) (m12 c f6 f8) := by
  unfold runB1.sl.H12_4
  refine st12_384 (C := fun p e => key12 p e < 3) (M := m12 c f6 f8) ?_ 3 0 24 (by decide) (by decide) _ _ hk12_3 ?_ (fun _ _ _ => rfl) (fun p e (h : key12 p e < 4) => by omega)
  case refine_2 => exact fun x0 x1 p e hp he => p12_384 c f6 f8 (runB1.sl.v398 (v2Of c)) (g := 0) (h := 3) (r := 0) (by decide) (by decide) (bias0_1 c) (o6 := ![0, 384]) rfl (o8_3_0 c) _ _ p e x0 x1 hp he (rg_0 hp x0.isLt)
  exact ok_runB1_sl_H12_3 c f6 f8

theorem ok_runB1_sl_H12_6 : Ok12 (runB1.sl.H12_6 (F := Ideal) c c (v2Of c) f6 f8) (fun p e => key12 p e < 6) (m12 c f6 f8) := by
  unfold runB1.sl.H12_6
  refine st12_384 (C := fun p e => key12 p e < 5) (M := m12 c f6 f8) ?_ 5 0 40 (by decide) (by decide) _ _ hk12_5 ?_ (fun _ _ _ => rfl) (fun p e (h : key12 p e < 6) => by omega)
  case refine_2 => exact fun x0 x1 p e hp he => p12_384 c f6 f8 (runB1.sl.v398 (v2Of c)) (g := 0) (h := 5) (r := 0) (by decide) (by decide) (bias0_1 c) (o6 := ![0, 640]) rfl (o8_5_0 c) _ _ p e x0 x1 hp he (rg_0 hp x0.isLt)
  refine st12_384 (C := fun p e => key12 p e < 4) (M := m12 c f6 f8) ?_ 4 0 32 (by decide) (by decide) _ _ hk12_4 ?_ (fun _ _ _ => rfl) (fun p e (h : key12 p e < 5) => by omega)
  case refine_2 => exact fun x0 x1 p e hp he => p12_384 c f6 f8 (runB1.sl.v398 (v2Of c)) (g := 0) (h := 4) (r := 0) (by decide) (by decide) (bias0_1 c) (o6 := ![0, 512]) rfl (o8_4_0 c) _ _ p e x0 x1 hp he (rg_0 hp x0.isLt)
  exact ok_runB1_sl_H12_4 c f6 f8

theorem ok_runB1_sl_H12_7 : Ok12 (runB1.sl.H12_7 (F := Ideal) c c (v2Of c) f6 f8) (fun p e => key12 p e < 7) (m12 c f6 f8) := by
  unfold runB1.sl.H12_7
  refine st12_384 (C := fun p e => key12 p e < 6) (M := m12 c f6 f8) ?_ 6 0 48 (by decide) (by decide) _ _ hk12_6 ?_ (fun _ _ _ => rfl) (fun p e (h : key12 p e < 7) => by omega)
  case refine_2 => exact fun x0 x1 p e hp he => p12_384 c f6 f8 (runB1.sl.v398 (v2Of c)) (g := 0) (h := 6) (r := 0) (by decide) (by decide) (bias0_1 c) (o6 := ![0, 768]) rfl (o8_6_0 c) _ _ p e x0 x1 hp he (rg_0 hp x0.isLt)
  exact ok_runB1_sl_H12_6 c f6 f8

theorem ok_runB1_sl_H12_8 : Ok12 (runB1.sl.H12_8 (F := Ideal) c c (v2Of c) f6 f8) (fun p e => key12 p e < 8) (m12 c f6 f8) := by
  unfold runB1.sl.H12_8
  refine st12_384 (C := fun p e => key12 p e < 7) (M := m12 c f6 f8) ?_ 7 0 56 (by decide) (by decide) _ _ hk12_7 ?_ (fun _ _ _ => rfl) (fun p e (h : key12 p e < 8) => by omega)
  case refine_2 => exact fun x0 x1 p e hp he => p12_384 c f6 f8 (runB1.sl.v398 (v2Of c)) (g := 0) (h := 7) (r := 0) (by decide) (by decide) (bias0_1 c) (o6 := ![0, 896]) rfl (o8_7_0 c) _ _ p e x0 x1 hp he (rg_0 hp x0.isLt)
  exact ok_runB1_sl_H12_7 c f6 f8

theorem ok_runB1_sl_H12_9 : Ok12 (runB1.sl.H12_9 (F := Ideal) c c (v2Of c) f6 f8) (fun p e => key12 p e < 9) (m12 c f6 f8) := by
  unfold runB1.sl.H12_9
  refine st12_320 (C := fun p e => key12 p e < 8) (M := m12 c f6 f8) ?_ 8 384 0 (by decide) (by decide) _ _ hk12_8 ?_ (fun _ _ _ => rfl) (fun p e (h : key12 p e < 9) => by omega)
  case refine_2 => exact fun x0 x1 p e hp he => p12_320 c f6 f8 (runB1.sl.r_3 (F := Ideal) (v2Of c)) (g := 384) (h := 0) (r := 1) (by decide) (by decide) (bias1_1 c) (o6 := ![384, 0]) rfl (o8_0_1 c) _ _ p e x0 x1 hp he (rg_1 hp x0.isLt)
  exact ok_runB1_sl_H12_8 c f6 f8

theorem ok_runB1_sl_H12_10 : Ok12 (runB1.sl.H12_10 (F := Ideal) c c (v2Of c) f6 f8) (fun p e => key12 p e < 10) (m12 c f6 f8) := by
  unfold runB1.sl.H12_10
  refine st12_320 (C := fun p e => key12 p e < 9) (M := m12 c f6 f8) ?_ 9 384 8 (by decide) (by decide) _ _ hk12_9 ?_ (fun _ _ _ => rfl) (fun p e (h : key12 p e < 10) => by omega)
  case refine_2 => exact fun x0 x1 p e hp he => p12_320 c f6 f8 (runB1.sl.r_3 (F := Ideal) (v2Of c)) (g := 384) (h := 1) (r := 1) (by decide) (by decide) (bias1_1 c) (o6 := ![384, 128]) rfl (o8_1_1 c) _ _ p e x0 x1 hp he (rg_1 hp x0.isLt)
  exact ok_runB1_sl_H12_9 c f6 f8

theorem ok_runB1_sl_H12_12 : Ok12 (runB1.sl.H12_12 (F := Ideal) c c (v2Of c) f6 f8) (fun p e => key12 p e < 12) (m12 c f6 f8) := by
  unfold runB1.sl.H12_12
  refine st12_320 (C := fun p e => key12 p e < 11) (M := m12 c f6 f8) ?_ 11 384 24 (by decide) (by decide) _ _ hk12_11 ?_ (fun _ _ _ => rfl) (fun p e (h : key12 p e < 12) => by omega)
  case refine_2 => exact fun x0 x1 p e hp he => p12_320 c f6 f8 (runB1.sl.r_3 (F := Ideal) (v2Of c)) (g := 384) (h := 3) (r := 1) (by decide) (by decide) (bias1_1 c) (o6 := ![384, 384]) rfl (o8_3_1 c) _ _ p e x0 x1 hp he (rg_1 hp x0.isLt)
  refine st12_320 (C := fun p e => key12 p e < 10) (M := m12 c f6 f8) ?_ 10 384 16 (by decide) (by decide) _ _ hk12_10 ?_ (fun _ _ _ => rfl) (fun p e (h : key12 p e < 11) => by omega)
  case refine_2 => exact fun x0 x1 p e hp he => p12_320 c f6 f8 (runB1.sl.r_3 (F := Ideal) (v2Of c)) (g := 384) (h := 2) (r := 1) (by decide) (by decide) (bias1_1 c) (o6 := ![384, 256]) rfl (o8_2_1 c) _ _ p e x0 x1 hp he (rg_1 hp x0.isLt)
  exact ok_runB1_sl_H12_10 c f6 f8

theorem ok_runB1_sl_H12_13 : Ok12 (runB1.sl.H12_13 (F := Ideal) c c (v2Of c) f6 f8) (fun p e => key12 p e < 13) (m12 c f6 f8) := by
  unfold runB1.sl.H12_13
  refine st12_320 (C := fun p e => key12 p e < 12) (M := m12 c f6 f8) ?_ 12 384 32 (by decide) (by decide) _ _ hk12_12 ?_ (fun _ _ _ => rfl) (fun p e (h : key12 p e < 13) => by omega)
  case refine_2 => exact fun x0 x1 p e hp he => p12_320 c f6 f8 (runB1.sl.r_3 (F := Ideal) (v2Of c)) (g := 384) (h := 4) (r := 1) (by decide) (by decide) (bias1_1 c) (o6 := ![384, 512]) rfl (o8_4_1 c) _ _ p e x0 x1 hp he (rg_1 hp x0.isLt)
  exact ok_runB1_sl_H12_12 c f6 f8

theorem ok_runB1_sl_H12_15 : Ok12 (runB1.sl.H12_15 (F := Ideal) c c (v2Of c) f6 f8) (fun p e => key12 p e < 15) (m12 c f6 f8) := by
  unfold runB1.sl.H12_15
  refine st12_320 (C := fun p e => key12 p e < 14) (M := m12 c f6 f8) ?_ 14 384 48 (by decide) (by decide) _ _ hk12_14 ?_ (fun _ _ _ => rfl) (fun p e (h : key12 p e < 15) => by omega)
  case refine_2 => exact fun x0 x1 p e hp he => p12_320 c f6 f8 (runB1.sl.r_3 (F := Ideal) (v2Of c)) (g := 384) (h := 6) (r := 1) (by decide) (by decide) (bias1_1 c) (o6 := ![384, 768]) rfl (o8_6_1 c) _ _ p e x0 x1 hp he (rg_1 hp x0.isLt)
  refine st12_320 (C := fun p e => key12 p e < 13) (M := m12 c f6 f8) ?_ 13 384 40 (by decide) (by decide) _ _ hk12_13 ?_ (fun _ _ _ => rfl) (fun p e (h : key12 p e < 14) => by omega)
  case refine_2 => exact fun x0 x1 p e hp he => p12_320 c f6 f8 (runB1.sl.r_3 (F := Ideal) (v2Of c)) (g := 384) (h := 5) (r := 1) (by decide) (by decide) (bias1_1 c) (o6 := ![384, 640]) rfl (o8_5_1 c) _ _ p e x0 x1 hp he (rg_1 hp x0.isLt)
  exact ok_runB1_sl_H12_13 c f6 f8

theorem ok_runB1_sl_H12_16 : Ok12 (runB1.sl.H12_16 (F := Ideal) c c (v2Of c) f6 f8) (fun p e => key12 p e < 16) (m12 c f6 f8) := by
  unfold runB1.sl.H12_16
  refine st12_320 (C := fun p e => key12 p e < 15) (M := m12 c f6 f8) ?_ 15 384 56 (by decide) (by decide) _ _ hk12_15 ?_ (fun _ _ _ => rfl) (fun p e (h : key12 p e < 16) => by omega)
  case refine_2 => exact fun x0 x1 p e hp he => p12_320 c f6 f8 (runB1.sl.r_3 (F := Ideal) (v2Of c)) (g := 384) (h := 7) (r := 1) (by decide) (by decide) (bias1_1 c) (o6 := ![384, 896]) rfl (o8_7_1 c) _ _ p e x0 x1 hp he (rg_1 hp x0.isLt)
  exact ok_runB1_sl_H12_15 c f6 f8

theorem ok_runB1_sl_H12_17 : Ok12 (runB1.sl.H12_17 (F := Ideal) c c (v2Of c) f6 f8) (fun p e => key12 p e < 17) (m12 c f6 f8) := by
  unfold runB1.sl.H12_17
  refine st12_320 (C := fun p e => key12 p e < 16) (M := m12 c f6 f8) ?_ 16 704 0 (by decide) (by decide) _ _ hk12_16 ?_ (fun _ _ _ => rfl) (fun p e (h : key12 p e < 17) => by omega)
  case refine_2 => exact fun x0 x1 p e hp he => p12_320 c f6 f8 (runB1.sl.r_7 (F := Ideal) (v2Of c)) (g := 704) (h := 0) (r := 2) (by decide) (by decide) (bias2_1 c) (o6 := ![704, 0]) rfl (o8_0_2 c) _ _ p e x0 x1 hp he (rg_2 hp x0.isLt)
  exact ok_runB1_sl_H12_16 c f6 f8

theorem ok_runB1_sl_H12_19 : Ok12 (runB1.sl.H12_19 (F := Ideal) c c (v2Of c) f6 f8) (fun p e => key12 p e < 19) (m12 c f6 f8) := by
  unfold runB1.sl.H12_19
  refine st12_320 (C := fun p e => key12 p e < 18) (M := m12 c f6 f8) ?_ 18 704 16 (by decide) (by decide) _ _ hk12_18 ?_ (fun _ _ _ => rfl) (fun p e (h : key12 p e < 19) => by omega)
  case refine_2 => exact fun x0 x1 p e hp he => p12_320 c f6 f8 (runB1.sl.r_7 (F := Ideal) (v2Of c)) (g := 704) (h := 2) (r := 2) (by decide) (by decide) (bias2_1 c) (o6 := ![704, 256]) rfl (o8_2_2 c) _ _ p e x0 x1 hp he (rg_2 hp x0.isLt)
  refine st12_320 (C := fun p e => key12 p e < 17) (M := m12 c f6 f8) ?_ 17 704 8 (by decide) (by decide) _ _ hk12_17 ?_ (fun _ _ _ => rfl) (fun p e (h : key12 p e < 18) => by omega)
  case refine_2 => exact fun x0 x1 p e hp he => p12_320 c f6 f8 (runB1.sl.r_7 (F := Ideal) (v2Of c)) (g := 704) (h := 1) (r := 2) (by decide) (by decide) (bias2_1 c) (o6 := ![704, 128]) rfl (o8_1_2 c) _ _ p e x0 x1 hp he (rg_2 hp x0.isLt)
  exact ok_runB1_sl_H12_17 c f6 f8

theorem ok_runB1_sl_H12_20 : Ok12 (runB1.sl.H12_20 (F := Ideal) c c (v2Of c) f6 f8) (fun p e => key12 p e < 20) (m12 c f6 f8) := by
  unfold runB1.sl.H12_20
  refine st12_320 (C := fun p e => key12 p e < 19) (M := m12 c f6 f8) ?_ 19 704 24 (by decide) (by decide) _ _ hk12_19 ?_ (fun _ _ _ => rfl) (fun p e (h : key12 p e < 20) => by omega)
  case refine_2 => exact fun x0 x1 p e hp he => p12_320 c f6 f8 (runB1.sl.r_7 (F := Ideal) (v2Of c)) (g := 704) (h := 3) (r := 2) (by decide) (by decide) (bias2_1 c) (o6 := ![704, 384]) rfl (o8_3_2 c) _ _ p e x0 x1 hp he (rg_2 hp x0.isLt)
  exact ok_runB1_sl_H12_19 c f6 f8

theorem ok_runB1_sl_H12_22 : Ok12 (runB1.sl.H12_22 (F := Ideal) c c (v2Of c) f6 f8) (fun p e => key12 p e < 22) (m12 c f6 f8) := by
  unfold runB1.sl.H12_22
  refine st12_320 (C := fun p e => key12 p e < 21) (M := m12 c f6 f8) ?_ 21 704 40 (by decide) (by decide) _ _ hk12_21 ?_ (fun _ _ _ => rfl) (fun p e (h : key12 p e < 22) => by omega)
  case refine_2 => exact fun x0 x1 p e hp he => p12_320 c f6 f8 (runB1.sl.r_7 (F := Ideal) (v2Of c)) (g := 704) (h := 5) (r := 2) (by decide) (by decide) (bias2_1 c) (o6 := ![704, 640]) rfl (o8_5_2 c) _ _ p e x0 x1 hp he (rg_2 hp x0.isLt)
  refine st12_320 (C := fun p e => key12 p e < 20) (M := m12 c f6 f8) ?_ 20 704 32 (by decide) (by decide) _ _ hk12_20 ?_ (fun _ _ _ => rfl) (fun p e (h : key12 p e < 21) => by omega)
  case refine_2 => exact fun x0 x1 p e hp he => p12_320 c f6 f8 (runB1.sl.r_7 (F := Ideal) (v2Of c)) (g := 704) (h := 4) (r := 2) (by decide) (by decide) (bias2_1 c) (o6 := ![704, 512]) rfl (o8_4_2 c) _ _ p e x0 x1 hp he (rg_2 hp x0.isLt)
  exact ok_runB1_sl_H12_20 c f6 f8

theorem ok_runB1_sl_H12_23 : Ok12 (runB1.sl.H12_23 (F := Ideal) c c (v2Of c) f6 f8) (fun p e => key12 p e < 23) (m12 c f6 f8) := by
  unfold runB1.sl.H12_23
  refine st12_320 (C := fun p e => key12 p e < 22) (M := m12 c f6 f8) ?_ 22 704 48 (by decide) (by decide) _ _ hk12_22 ?_ (fun _ _ _ => rfl) (fun p e (h : key12 p e < 23) => by omega)
  case refine_2 => exact fun x0 x1 p e hp he => p12_320 c f6 f8 (runB1.sl.r_7 (F := Ideal) (v2Of c)) (g := 704) (h := 6) (r := 2) (by decide) (by decide) (bias2_1 c) (o6 := ![704, 768]) rfl (o8_6_2 c) _ _ p e x0 x1 hp he (rg_2 hp x0.isLt)
  exact ok_runB1_sl_H12_22 c f6 f8

theorem ok_runB1_sl_H12_24 : Ok12 (runB1.sl.H12_24 (F := Ideal) c c (v2Of c) f6 f8) (fun p e => key12 p e < 24) (m12 c f6 f8) := by
  unfold runB1.sl.H12_24
  refine st12_320 (C := fun p e => key12 p e < 23) (M := m12 c f6 f8) ?_ 23 704 56 (by decide) (by decide) _ _ hk12_23 ?_ (fun _ _ _ => rfl) (fun p e (h : key12 p e < 24) => by omega)
  case refine_2 => exact fun x0 x1 p e hp he => p12_320 c f6 f8 (runB1.sl.r_7 (F := Ideal) (v2Of c)) (g := 704) (h := 7) (r := 2) (by decide) (by decide) (bias2_1 c) (o6 := ![704, 896]) rfl (o8_7_2 c) _ _ p e x0 x1 hp he (rg_2 hp x0.isLt)
  exact ok_runB1_sl_H12_23 c f6 f8

end V

end Cert.KP

end
-- ==== Proof.ValB6.lean ====
module

public import proofs.«01_k».proof.Proof.ValB3
public import proofs.«01_k».proof.Proof.Norm
public import Idealize.ShloMosaic.Lib.Pointwise
public import Idealize.ShloMosaic.Lib.Pipeline.ValueKit.Tiles

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V
open Idealize.ShloMosaic.View
set_option maxRecDepth 10000
variable (c : Dev nD) (f6 : Bf Ideal c A6) (f8 : Bf Ideal c A8) (f9 : Bf Ideal c A9)

theorem ok_runB0_sl_H11_1 : Ok11 (runB0.sl.H11_1 (F := Ideal) c c (v2Of c) f6 f8 f9) (fun p e => key11 p e < 1) (m11 c f6 f8 f9) := by
  unfold runB0.sl.H11_1
  refine st11_384 (C := fun p e => key11 p e < 0) (M := m11 c f6 f8 f9) ?_ 0 0 0 (by decide) (by decide) _ _ hk11_0 ?_ (fun _ _ _ => rfl) (fun p e (h : key11 p e < 1) => by omega)
  case refine_2 => exact fun x0 x1 p e hp he => p11_384 c f6 f8 f9 (runB0.sl.v398 (v2Of c)) (g := 0) (h := 0) (r := 0) (by decide) (by decide) (bias0_0 c) (o6 := ![0, 0]) rfl (o8_0_0 c) (o9_0_0 c) _ _ _ p e x0 x1 hp he (rg_0 hp x0.isLt)
  exact fun p e h => absurd h (Nat.not_lt_zero _)

theorem ok_runB0_sl_H11_2 : Ok11 (runB0.sl.H11_2 (F := Ideal) c c (v2Of c) f6 f8 f9) (fun p e => key11 p e < 2) (m11 c f6 f8 f9) := by
  unfold runB0.sl.H11_2
  refine st11_384 (C := fun p e => key11 p e < 1) (M := m11 c f6 f8 f9) ?_ 1 0 128 (by decide) (by decide) _ _ hk11_1 ?_ (fun _ _ _ => rfl) (fun p e (h : key11 p e < 2) => by omega)
  case refine_2 => exact fun x0 x1 p e hp he => p11_384 c f6 f8 f9 (runB0.sl.v398 (v2Of c)) (g := 0) (h := 1) (r := 0) (by decide) (by decide) (bias0_0 c) (o6 := ![0, 128]) rfl (o8_1_0 c) (o9_1_0 c) _ _ _ p e x0 x1 hp he (rg_0 hp x0.isLt)
  exact ok_runB0_sl_H11_1 c f6 f8 f9

theorem ok_runB0_sl_H11_4 : Ok11 (runB0.sl.H11_4 (F := Ideal) c c (v2Of c) f6 f8 f9) (fun p e => key11 p e < 4) (m11 c f6 f8 f9) := by
  unfold runB0.sl.H11_4
  refine st11_384 (C := fun p e => key11 p e < 3) (M := m11 c f6 f8 f9) ?_ 3 0 384 (by decide) (by decide) _ _ hk11_3 ?_ (fun _ _ _ => rfl) (fun p e (h : key11 p e < 4) => by omega)
  case refine_2 => exact fun x0 x1 p e hp he => p11_384 c f6 f8 f9 (runB0.sl.v398 (v2Of c)) (g := 0) (h := 3) (r := 0) (by decide) (by decide) (bias0_0 c) (o6 := ![0, 384]) rfl (o8_3_0 c) (o9_3_0 c) _ _ _ p e x0 x1 hp he (rg_0 hp x0.isLt)
  refine st11_384 (C := fun p e => key11 p e < 2) (M := m11 c f6 f8 f9) ?_ 2 0 256 (by decide) (by decide) _ _ hk11_2 ?_ (fun _ _ _ => rfl) (fun p e (h : key11 p e < 3) => by omega)
  case refine_2 => exact fun x0 x1 p e hp he => p11_384 c f6 f8 f9 (runB0.sl.v398 (v2Of c)) (g := 0) (h := 2) (r := 0) (by decide) (by decide) (bias0_0 c) (o6 := ![0, 256]) rfl (o8_2_0 c) (o9_2_0 c) _ _ _ p e x0 x1 hp he (rg_0 hp x0.isLt)
  exact ok_runB0_sl_H11_2 c f6 f8 f9

theorem ok_runB0_sl_H11_5 : Ok11 (runB0.sl.H11_5 (F := Ideal) c c (v2Of c) f6 f8 f9) (fun p e => key11 p e < 5) (m11 c f6 f8 f9) := by
  unfold runB0.sl.H11_5
  refine st11_384 (C := fun p e => key11 p e < 4) (M := m11 c f6 f8 f9) ?_ 4 0 512 (by decide) (by decide) _ _ hk11_4 ?_ (fun _ _ _ => rfl) (fun p e (h : key11 p e < 5) => by omega)
  case refine_2 => exact fun x0 x1 p e hp he => p11_384 c f6 f8 f9 (runB0.sl.v398 (v2Of c)) (g := 0) (h := 4) (r := 0) (by decide) (by decide) (bias0_0 c) (o6 := ![0, 512]) rfl (o8_4_0 c) (o9_4_0 c) _ _ _ p e x0 x1 hp he (rg_0 hp x0.isLt)
  exact ok_runB0_sl_H11_4 c f6 f8 f9

theorem ok_runB0_sl_H11_7 : Ok11 (runB0.sl.H11_7 (F := Ideal) c c (v2Of c) f6 f8 f9) (fun p e => key11 p e < 7) (m11 c f6 f8 f9) := by
  unfold runB0.sl.H11_7
  refine st11_384 (C := fun p e => key11 p e < 6) (M := m11 c f6 f8 f9) ?_ 6 0 768 (by decide) (by decide) _ _ hk11_6 ?_ (fun _ _ _ => rfl) (fun p e (h : key11 p e < 7) => by omega)
  case refine_2 => exact fun x0 x1 p e hp he => p11_384 c f6 f8 f9 (runB0.sl.v398 (v2Of c)) (g := 0) (h := 6) (r := 0) (by decide) (by decide) (bias0_0 c) (o6 := ![0, 768]) rfl (o8_6_0 c) (o9_6_0 c) _ _ _ p e x0 x1 hp he (rg_0 hp x0.isLt)
  refine st11_384 (C := fun p e => key11 p e < 5) (M := m11 c f6 f8 f9) ?_ 5 0 640 (by decide) (by decide) _ _ hk11_5 ?_ (fun _ _ _ => rfl) (fun p e (h : key11 p e < 6) => by omega)
  case refine_2 => exact fun x0 x1 p e hp he => p11_384 c f6 f8 f9 (runB0.sl.v398 (v2Of c)) (g := 0) (h := 5) (r := 0) (by decide) (by decide) (bias0_0 c) (o6 := ![0, 640]) rfl (o8_5_0 c) (o9_5_0 c) _ _ _ p e x0 x1 hp he (rg_0 hp x0.isLt)
  exact ok_runB0_sl_H11_5 c f6 f8 f9

theorem ok_runB0_sl_H11_8 : Ok11 (runB0.sl.H11_8 (F := Ideal) c c (v2Of c) f6 f8 f9) (fun p e => key11 p e < 8) (m11 c f6 f8 f9) := by
  unfold runB0.sl.H11_8
  refine st11_384 (C := fun p e => key11 p e < 7) (M := m11 c f6 f8 f9) ?_ 7 0 896 (by decide) (by decide) _ _ hk11_7 ?_ (fun _ _ _ => rfl) (fun p e (h : key11 p e < 8) => by omega)
  case refine_2 => exact fun x0 x1 p e hp he => p11_384 c f6 f8 f9 (runB0.sl.v398 (v2Of c)) (g := 0) (h := 7) (r := 0) (by decide) (by decide) (bias0_0 c) (o6 := ![0, 896]) rfl (o8_7_0 c) (o9_7_0 c) _ _ _ p e x0 x1 hp he (rg_0 hp x0.isLt)
  exact ok_runB0_sl_H11_7 c f6 f8 f9

theorem ok_runB0_sl_H11_10 : Ok11 (runB0.sl.H11_10 (F := Ideal) c c (v2Of c) f6 f8 f9) (fun p e => key11 p e < 10) (m11 c f6 f8 f9) := by
  unfold runB0.sl.H11_10
  refine st11_320 (C := fun p e => key11 p e < 9) (M := m11 c f6 f8 f9) ?_ 9 384 128 (by decide) (by decide) _ _ hk11_9 ?_ (fun _ _ _ => rfl) (fun p e (h : key11 p e < 10) => by omega)
  case refine_2 => exact fun x0 x1 p e hp he => p11_320 c f6 f8 f9 (runB0.sl.r_3 (F := Ideal) (v2Of c)) (g := 384) (h := 1) (r := 1) (by decide) (by decide) (bias1_0 c) (o6 := ![384, 128]) rfl (o8_1_1 c) (o9_1_1 c) _ _ _ p e x0 x1 hp he (rg_1 hp x0.isLt)
  refine st11_320 (C := fun p e => key11 p e < 8) (M := m11 c f6 f8 f9) ?_ 8 384 0 (by decide) (by decide) _ _ hk11_8 ?_ (fun _ _ _ => rfl) (fun p e (h : key11 p e < 9) => by omega)
  case refine_2 => exact fun x0 x1 p e hp he => p11_320 c f6 f8 f9 (runB0.sl.r_3 (F := Ideal) (v2Of c)) (g := 384) (h := 0) (r := 1) (by decide) (by decide) (bias1_0 c) (o6 := ![384, 0]) rfl (o8_0_1 c) (o9_0_1 c) _ _ _ p e x0 x1 hp he (rg_1 hp x0.isLt)
  exact ok_runB0_sl_H11_8 c f6 f8 f9

theorem ok_runB0_sl_H11_11 : Ok11 (runB0.sl.H11_11 (F := Ideal) c c (v2Of c) f6 f8 f9) (fun p e => key11 p e < 11) (m11 c f6 f8 f9) := by
  unfold runB0.sl.H11_11
  refine st11_320 (C := fun p e => key11 p e < 10) (M := m11 c f6 f8 f9) ?_ 10 384 256 (by decide) (by decide) _ _ hk11_10 ?_ (fun _ _ _ => rfl) (fun p e (h : key11 p e < 11) => by omega)
  case refine_2 => exact fun x0 x1 p e hp he => p11_320 c f6 f8 f9 (runB0.sl.r_3 (F := Ideal) (v2Of c)) (g := 384) (h := 2) (r := 1) (by decide) (by decide) (bias1_0 c) (o6 := ![384, 256]) rfl (o8_2_1 c) (o9_2_1 c) _ _ _ p e x0 x1 hp he (rg_1 hp x0.isLt)
  exact ok_runB0_sl_H11_10 c f6 f8 f9

theorem ok_runB0_sl_H11_13 : Ok11 (runB0.sl.H11_13 (F := Ideal) c c (v2Of c) f6 f8 f9) (fun p e => key11 p e < 13) (m11 c f6 f8 f9) := by
  unfold runB0.sl.H11_13
  refine st11_320 (C := fun p e => key11 p e < 12) (M := m11 c f6 f8 f9) ?_ 12 384 512 (by decide) (by decide) _ _ hk11_12 ?_ (fun _ _ _ => rfl) (fun p e (h : key11 p e < 13) => by omega)
  case refine_2 => exact fun x0 x1 p e hp he => p11_320 c f6 f8 f9 (runB0.sl.r_3 (F := Ideal) (v2Of c)) (g := 384) (h := 4) (r := 1) (by decide) (by decide) (bias1_0 c) (o6 := ![384, 512]) rfl (o8_4_1 c) (o9_4_1 c) _ _ _ p e x0 x1 hp he (rg_1 hp x0.isLt)
  refine st11_320 (C := fun p e => key11 p e < 11) (M := m11 c f6 f8 f9) ?_ 11 384 384 (by decide) (by decide) _ _ hk11_11 ?_ (fun _ _ _ => rfl) (fun p e (h : key11 p e < 12) => by omega)
  case refine_2 => exact fun x0 x1 p e hp he => p11_320 c f6 f8 f9 (runB0.sl.r_3 (F := Ideal) (v2Of c)) (g := 384) (h := 3) (r := 1) (by decide) (by decide) (bias1_0 c) (o6 := ![384, 384]) rfl (o8_3_1 c) (o9_3_1 c) _ _ _ p e x0 x1 hp he (rg_1 hp x0.isLt)
  exact ok_runB0_sl_H11_11 c f6 f8 f9

theorem ok_runB0_sl_H11_14 : Ok11 (runB0.sl.H11_14 (F := Ideal) c c (v2Of c) f6 f8 f9) (fun p e => key11 p e < 14) (m11 c f6 f8 f9) := by
  unfold runB0.sl.H11_14
  refine st11_320 (C := fun p e => key11 p e < 13) (M := m11 c f6 f8 f9) ?_ 13 384 640 (by decide) (by decide) _ _ hk11_13 ?_ (fun _ _ _ => rfl) (fun p e (h : key11 p e < 14) => by omega)
  case refine_2 => exact fun x0 x1 p e hp he => p11_320 c f6 f8 f9 (runB0.sl.r_3 (F := Ideal) (v2Of c)) (g := 384) (h := 5) (r := 1) (by decide) (by decide) (bias1_0 c) (o6 := ![384, 640]) rfl (o8_5_1 c) (o9_5_1 c) _ _ _ p e x0 x1 hp he (rg_1 hp x0.isLt)
  exact ok_runB0_sl_H11_13 c f6 f8 f9

theorem ok_runB0_sl_H11_16 : Ok11 (runB0.sl.H11_16 (F := Ideal) c c (v2Of c) f6 f8 f9) (fun p e => key11 p e < 16) (m11 c f6 f8 f9) := by
  unfold runB0.sl.H11_16
  refine st11_320 (C := fun p e => key11 p e < 15) (M := m11 c f6 f8 f9) ?_ 15 384 896 (by decide) (by decide) _ _ hk11_15 ?_ (fun _ _ _ => rfl) (fun p e (h : key11 p e < 16) => by omega)
  case refine_2 => exact fun x0 x1 p e hp he => p11_320 c f6 f8 f9 (runB0.sl.r_3 (F := Ideal) (v2Of c)) (g := 384) (h := 7) (r := 1) (by decide) (by decide) (bias1_0 c) (o6 := ![384, 896]) rfl (o8_7_1 c) (o9_7_1 c) _ _ _ p e x0 x1 hp he (rg_1 hp x0.isLt)
  refine st11_320 (C := fun p e => key11 p e < 14) (M := m11 c f6 f8 f9) ?_ 14 384 768 (by decide) (by decide) _ _ hk11_14 ?_ (fun _ _ _ => rfl) (fun p e (h : key11 p e < 15) => by omega)
  case refine_2 => exact fun x0 x1 p e hp he => p11_320 c f6 f8 f9 (runB0.sl.r_3 (F := Ideal) (v2Of c)) (g := 384) (h := 6) (r := 1) (by decide) (by decide) (bias1_0 c) (o6 := ![384, 768]) rfl (o8_6_1 c) (o9_6_1 c) _ _ _ p e x0 x1 hp he (rg_1 hp x0.isLt)
  exact ok_runB0_sl_H11_14 c f6 f8 f9

theorem ok_runB0_sl_H11_17 : Ok11 (runB0.sl.H11_17 (F := Ideal) c c (v2Of c) f6 f8 f9) (fun p e => key11 p e < 17) (m11 c f6 f8 f9) := by
  unfold runB0.sl.H11_17
  refine st11_320 (C := fun p e => key11 p e < 16) (M := m11 c f6 f8 f9) ?_ 16 704 0 (by decide) (by decide) _ _ hk11_16 ?_ (fun _ _ _ => rfl) (fun p e (h : key11 p e < 17) => by omega)
  case refine_2 => exact fun x0 x1 p e hp he => p11_320 c f6 f8 f9 (runB0.sl.r_7 (F := Ideal) (v2Of c)) (g := 704) (h := 0) (r := 2) (by decide) (by decide) (bias2_0 c) (o6 := ![704, 0]) rfl (o8_0_2 c) (o9_0_2 c) _ _ _ p e x0 x1 hp he (rg_2 hp x0.isLt)
  exact ok_runB0_sl_H11_16 c f6 f8 f9

theorem ok_runB0_sl_H11_19 : Ok11 (runB0.sl.H11_19 (F := Ideal) c c (v2Of c) f6 f8 f9) (fun p e => key11 p e < 19) (m11 c f6 f8 f9) := by
  unfold runB0.sl.H11_19
  refine st11_320 (C := fun p e => key11 p e < 18) (M := m11 c f6 f8 f9) ?_ 18 704 256 (by decide) (by decide) _ _ hk11_18 ?_ (fun _ _ _ => rfl) (fun p e (h : key11 p e < 19) => by omega)
  case refine_2 => exact fun x0 x1 p e hp he => p11_320 c f6 f8 f9 (runB0.sl.r_7 (F := Ideal) (v2Of c)) (g := 704) (h := 2) (r := 2) (by decide) (by decide) (bias2_0 c) (o6 := ![704, 256]) rfl (o8_2_2 c) (o9_2_2 c) _ _ _ p e x0 x1 hp he (rg_2 hp x0.isLt)
  refine st11_320 (C := fun p e => key11 p e < 17) (M := m11 c f6 f8 f9) ?_ 17 704 128 (by decide) (by decide) _ _ hk11_17 ?_ (fun _ _ _ => rfl) (fun p e (h : key11 p e < 18) => by omega)
  case refine_2 => exact fun x0 x1 p e hp he => p11_320 c f6 f8 f9 (runB0.sl.r_7 (F := Ideal) (v2Of c)) (g := 704) (h := 1) (r := 2) (by decide) (by decide) (bias2_0 c) (o6 := ![704, 128]) rfl (o8_1_2 c) (o9_1_2 c) _ _ _ p e x0 x1 hp he (rg_2 hp x0.isLt)
  exact ok_runB0_sl_H11_17 c f6 f8 f9

theorem ok_runB0_sl_H11_20 : Ok11 (runB0.sl.H11_20 (F := Ideal) c c (v2Of c) f6 f8 f9) (fun p e => key11 p e < 20) (m11 c f6 f8 f9) := by
  unfold runB0.sl.H11_20
  refine st11_320 (C := fun p e => key11 p e < 19) (M := m11 c f6 f8 f9) ?_ 19 704 384 (by decide) (by decide) _ _ hk11_19 ?_ (fun _ _ _ => rfl) (fun p e (h : key11 p e < 20) => by omega)
  case refine_2 => exact fun x0 x1 p e hp he => p11_320 c f6 f8 f9 (runB0.sl.r_7 (F := Ideal) (v2Of c)) (g := 704) (h := 3) (r := 2) (by decide) (by decide) (bias2_0 c) (o6 := ![704, 384]) rfl (o8_3_2 c) (o9_3_2 c) _ _ _ p e x0 x1 hp he (rg_2 hp x0.isLt)
  exact ok_runB0_sl_H11_19 c f6 f8 f9

theorem ok_runB0_sl_H11_22 : Ok11 (runB0.sl.H11_22 (F := Ideal) c c (v2Of c) f6 f8 f9) (fun p e => key11 p e < 22) (m11 c f6 f8 f9) := by
  unfold runB0.sl.H11_22
  refine st11_320 (C := fun p e => key11 p e < 21) (M := m11 c f6 f8 f9) ?_ 21 704 640 (by decide) (by decide) _ _ hk11_21 ?_ (fun _ _ _ => rfl) (fun p e (h : key11 p e < 22) => by omega)
  case refine_2 => exact fun x0 x1 p e hp he => p11_320 c f6 f8 f9 (runB0.sl.r_7 (F := Ideal) (v2Of c)) (g := 704) (h := 5) (r := 2) (by decide) (by decide) (bias2_0 c) (o6 := ![704, 640]) rfl (o8_5_2 c) (o9_5_2 c) _ _ _ p e x0 x1 hp he (rg_2 hp x0.isLt)
  refine st11_320 (C := fun p e => key11 p e < 20) (M := m11 c f6 f8 f9) ?_ 20 704 512 (by decide) (by decide) _ _ hk11_20 ?_ (fun _ _ _ => rfl) (fun p e (h : key11 p e < 21) => by omega)
  case refine_2 => exact fun x0 x1 p e hp he => p11_320 c f6 f8 f9 (runB0.sl.r_7 (F := Ideal) (v2Of c)) (g := 704) (h := 4) (r := 2) (by decide) (by decide) (bias2_0 c) (o6 := ![704, 512]) rfl (o8_4_2 c) (o9_4_2 c) _ _ _ p e x0 x1 hp he (rg_2 hp x0.isLt)
  exact ok_runB0_sl_H11_20 c f6 f8 f9

theorem ok_runB0_sl_H11_23 : Ok11 (runB0.sl.H11_23 (F := Ideal) c c (v2Of c) f6 f8 f9) (fun p e => key11 p e < 23) (m11 c f6 f8 f9) := by
  unfold runB0.sl.H11_23
  refine st11_320 (C := fun p e => key11 p e < 22) (M := m11 c f6 f8 f9) ?_ 22 704 768 (by decide) (by decide) _ _ hk11_22 ?_ (fun _ _ _ => rfl) (fun p e (h : key11 p e < 23) => by omega)
  case refine_2 => exact fun x0 x1 p e hp he => p11_320 c f6 f8 f9 (runB0.sl.r_7 (F := Ideal) (v2Of c)) (g := 704) (h := 6) (r := 2) (by decide) (by decide) (bias2_0 c) (o6 := ![704, 768]) rfl (o8_6_2 c) (o9_6_2 c) _ _ _ p e x0 x1 hp he (rg_2 hp x0.isLt)
  exact ok_runB0_sl_H11_22 c f6 f8 f9

theorem ok_runB0_sl_H11_24 : Ok11 (runB0.sl.H11_24 (F := Ideal) c c (v2Of c) f6 f8 f9) (fun p e => key11 p e < 24) (m11 c f6 f8 f9) := by
  unfold runB0.sl.H11_24
  refine st11_320 (C := fun p e => key11 p e < 23) (M := m11 c f6 f8 f9) ?_ 23 704 896 (by decide) (by decide) _ _ hk11_23 ?_ (fun _ _ _ => rfl) (fun p e (h : key11 p e < 24) => by omega)
  case refine_2 => exact fun x0 x1 p e hp he => p11_320 c f6 f8 f9 (runB0.sl.r_7 (F := Ideal) (v2Of c)) (g := 704) (h := 7) (r := 2) (by decide) (by decide) (bias2_0 c) (o6 := ![704, 896]) rfl (o8_7_2 c) (o9_7_2 c) _ _ _ p e x0 x1 hp he (rg_2 hp x0.isLt)
  exact ok_runB0_sl_H11_23 c f6 f8 f9

theorem ok_runB0_sl_H11_25 : Ok11 (runB0.sl.H11_25 (F := Ideal) c c (v2Of c) f6 f8 f9) (fun _ _ => True) (mx11 c f6 f8 f9 9) := by
  unfold runB0.sl.H11_25
  exact st11_320 (C := fun _ _ => True) (M := mx11 c f6 f8 f9 8) (mx11_start c f6 f8 f9 (ok_runB0_sl_H11_24 c f6 f8 f9)) 8 384 0 (by decide) (by decide) _ _ hk11_8 (fun x0 x1 p e hp he => (xp11 c f6 f8 f9 (runB0.sl.r_8 (F := Ideal)) (g := 384) (h := 0) (r := 1) (by decide) (by decide) (by decide) rfl bx_1 (o6 := ![384, 0]) rfl _ _ (m11 c f6 f8 f9 p e) p e x0 x1 hp he (rg_1 hp x0.isLt) (rc11 c f6 f8 f9 (mx11_start c f6 f8 f9 (ok_runB0_sl_H11_24 c f6 f8 f9)) 384 0 _ x0 x1 p e hp he ((hk11_8 p e).2 (by omega)))).trans (mx11_at c f6 f8 f9 (by decide) p e ((hk11_8 p e).2 (by omega)))) (fun p e h => mx11_off c f6 f8 f9 p e h) (fun _ _ _ => Or.inr trivial)

theorem ok_runB0_sl_H11_26 : Ok11 (runB0.sl.H11_26 (F := Ideal) c c (v2Of c) f6 f8 f9) (fun _ _ => True) (mx11 c f6 f8 f9 10) := by
  unfold runB0.sl.H11_26
  exact st11_320 (C := fun _ _ => True) (M := mx11 c f6 f8 f9 9) (ok_runB0_sl_H11_25 c f6 f8 f9) 9 384 128 (by decide) (by decide) _ _ hk11_9 (fun x0 x1 p e hp he => (xp11 c f6 f8 f9 (runB0.sl.r_8 (F := Ideal)) (g := 384) (h := 1) (r := 1) (by decide) (by decide) (by decide) rfl bx_1 (o6 := ![384, 128]) rfl _ _ (m11 c f6 f8 f9 p e) p e x0 x1 hp he (rg_1 hp x0.isLt) (rc11 c f6 f8 f9 (ok_runB0_sl_H11_25 c f6 f8 f9) 384 128 _ x0 x1 p e hp he ((hk11_9 p e).2 (by omega)))).trans (mx11_at c f6 f8 f9 (by decide) p e ((hk11_9 p e).2 (by omega)))) (fun p e h => mx11_off c f6 f8 f9 p e h) (fun _ _ _ => Or.inr trivial)

theorem ok_runB0_sl_H11_27 : Ok11 (runB0.sl.H11_27 (F := Ideal) c c (v2Of c) f6 f8 f9) (fun _ _ => True) (mx11 c f6 f8 f9 11) := by
  unfold runB0.sl.H11_27
  exact st11_320 (C := fun _ _ => True) (M := mx11 c f6 f8 f9 10) (ok_runB0_sl_H11_26 c f6 f8 f9) 10 384 256 (by decide) (by decide) _ _ hk11_10 (fun x0 x1 p e hp he => (xp11 c f6 f8 f9 (runB0.sl.r_8 (F := Ideal)) (g := 384) (h := 2) (r := 1) (by decide) (by decide) (by decide) rfl bx_1 (o6 := ![384, 256]) rfl _ _ (m11 c f6 f8 f9 p e) p e x0 x1 hp he (rg_1 hp x0.isLt) (rc11 c f6 f8 f9 (ok_runB0_sl_H11_26 c f6 f8 f9) 384 256 _ x0 x1 p e hp he ((hk11_10 p e).2 (by omega)))).trans (mx11_at c f6 f8 f9 (by decide) p e ((hk11_10 p e).2 (by omega)))) (fun p e h => mx11_off c f6 f8 f9 p e h) (fun _ _ _ => Or.inr trivial)

theorem ok_runB0_sl_H11_28 : Ok11 (runB0.sl.H11_28 (F := Ideal) c c (v2Of c) f6 f8 f9) (fun _ _ => True) (mx11 c f6 f8 f9 12) := by
  unfold runB0.sl.H11_28
  exact st11_320 (C := fun _ _ => True) (M := mx11 c f6 f8 f9 11) (ok_runB0_sl_H11_27 c f6 f8 f9) 11 384 384 (by decide) (by decide) _ _ hk11_11 (fun x0 x1 p e hp he => (xp11 c f6 f8 f9 (runB0.sl.r_8 (F := Ideal)) (g := 384) (h := 3) (r := 1) (by decide) (by decide) (by decide) rfl bx_1 (o6 := ![384, 384]) rfl _ _ (m11 c f6 f8 f9 p e) p e x0 x1 hp he (rg_1 hp x0.isLt) (rc11 c f6 f8 f9 (ok_runB0_sl_H11_27 c f6 f8 f9) 384 384 _ x0 x1 p e hp he ((hk11_11 p e).2 (by omega)))).trans (mx11_at c f6 f8 f9 (by decide) p e ((hk11_11 p e).2 (by omega)))) (fun p e h => mx11_off c f6 f8 f9 p e h) (fun _ _ _ => Or.inr trivial)

theorem ok_runB0_sl_H11_29 : Ok11 (runB0.sl.H11_29 (F := Ideal) c c (v2Of c) f6 f8 f9) (fun _ _ => True) (mx11 c f6 f8 f9 13) := by
  unfold runB0.sl.H11_29
  exact st11_320 (C := fun _ _ => True) (M := mx11 c f6 f8 f9 12) (ok_runB0_sl_H11_28 c f6 f8 f9) 12 384 512 (by decide) (by decide) _ _ hk11_12 (fun x0 x1 p e hp he => (xp11 c f6 f8 f9 (runB0.sl.r_8 (F := Ideal)) (g := 384) (h := 4) (r := 1) (by decide) (by decide) (by decide) rfl bx_1 (o6 := ![384, 512]) rfl _ _ (m11 c f6 f8 f9 p e) p e x0 x1 hp he (rg_1 hp x0.isLt) (rc11 c f6 f8 f9 (ok_runB0_sl_H11_28 c f6 f8 f9) 384 512 _ x0 x1 p e hp he ((hk11_12 p e).2 (by omega)))).trans (mx11_at c f6 f8 f9 (by decide) p e ((hk11_12 p e).2 (by omega)))) (fun p e h => mx11_off c f6 f8 f9 p e h) (fun _ _ _ => Or.inr trivial)

theorem ok_runB0_sl_H11_30 : Ok11 (runB0.sl.H11_30 (F := Ideal) c c (v2Of c) f6 f8 f9) (fun _ _ => True) (mx11 c f6 f8 f9 14) := by
  unfold runB0.sl.H11_30
  exact st11_320 (C := fun _ _ => True) (M := mx11 c f6 f8 f9 13) (ok_runB0_sl_H11_29 c f6 f8 f9) 13 384 640 (by decide) (by decide) _ _ hk11_13 (fun x0 x1 p e hp he => (xp11 c f6 f8 f9 (runB0.sl.r_8 (F := Ideal)) (g := 384) (h := 5) (r := 1) (by decide) (by decide) (by decide) rfl bx_1 (o6 := ![384, 640]) rfl _ _ (m11 c f6 f8 f9 p e) p e x0 x1 hp he (rg_1 hp x0.isLt) (rc11 c f6 f8 f9 (ok_runB0_sl_H11_29 c f6 f8 f9) 384 640 _ x0 x1 p e hp he ((hk11_13 p e).2 (by omega)))).trans (mx11_at c f6 f8 f9 (by decide) p e ((hk11_13 p e).2 (by omega)))) (fun p e h => mx11_off c f6 f8 f9 p e h) (fun _ _ _ => Or.inr trivial)

theorem ok_runB0_sl_H11_31 : Ok11 (runB0.sl.H11_31 (F := Ideal) c c (v2Of c) f6 f8 f9) (fun _ _ => True) (mx11 c f6 f8 f9 15) := by
  unfold runB0.sl.H11_31
  exact st11_320 (C := fun _ _ => True) (M := mx11 c f6 f8 f9 14) (ok_runB0_sl_H11_30 c f6 f8 f9) 14 384 768 (by decide) (by decide) _ _ hk11_14 (fun x0 x1 p e hp he => (xp11 c f6 f8 f9 (runB0.sl.r_8 (F := Ideal)) (g := 384) (h := 6) (r := 1) (by decide) (by decide) (by decide) rfl bx_1 (o6 := ![384, 768]) rfl _ _ (m11 c f6 f8 f9 p e) p e x0 x1 hp he (rg_1 hp x0.isLt) (rc11 c f6 f8 f9 (ok_runB0_sl_H11_30 c f6 f8 f9) 384 768 _ x0 x1 p e hp he ((hk11_14 p e).2 (by omega)))).trans (mx11_at c f6 f8 f9 (by decide) p e ((hk11_14 p e).2 (by omega)))) (fun p e h => mx11_off c f6 f8 f9 p e h) (fun _ _ _ => Or.inr trivial)

theorem ok_runB0_sl_H11_32 : Ok11 (runB0.sl.H11_32 (F := Ideal) c c (v2Of c) f6 f8 f9) (fun _ _ => True) (mx11 c f6 f8 f9 16) := by
  unfold runB0.sl.H11_32
  exact st11_320 (C := fun _ _ => True) (M := mx11 c f6 f8 f9 15) (ok_runB0_sl_H11_31 c f6 f8 f9) 15 384 896 (by decide) (by decide) _ _ hk11_15 (fun x0 x1 p e hp he => (xp11 c f6 f8 f9 (runB0.sl.r_8 (F := Ideal)) (g := 384) (h := 7) (r := 1) (by decide) (by decide) (by decide) rfl bx_1 (o6 := ![384, 896]) rfl _ _ (m11 c f6 f8 f9 p e) p e x0 x1 hp he (rg_1 hp x0.isLt) (rc11 c f6 f8 f9 (ok_runB0_sl_H11_31 c f6 f8 f9) 384 896 _ x0 x1 p e hp he ((hk11_15 p e).2 (by omega)))).trans (mx11_at c f6 f8 f9 (by decide) p e ((hk11_15 p e).2 (by omega)))) (fun p e h => mx11_off c f6 f8 f9 p e h) (fun _ _ _ => Or.inr trivial)

theorem ok_runB0_sl_H11_33 : Ok11 (runB0.sl.H11_33 (F := Ideal) c c (v2Of c) f6 f8 f9) (fun _ _ => True) (mx11 c f6 f8 f9 17) := by
  unfold runB0.sl.H11_33
  exact st11_320 (C := fun _ _ => True) (M := mx11 c f6 f8 f9 16) (ok_runB0_sl_H11_32 c f6 f8 f9) 16 704 0 (by decide) (by decide) _ _ hk11_16 (fun x0 x1 p e hp he => (xp11 c f6 f8 f9 (runB0.sl.r_16 (F := Ideal)) (g := 704) (h := 0) (r := 2) (by decide) (by decide) (by decide) rfl bx_2 (o6 := ![704, 0]) rfl _ _ (m11 c f6 f8 f9 p e) p e x0 x1 hp he (rg_2 hp x0.isLt) (rc11 c f6 f8 f9 (ok_runB0_sl_H11_32 c f6 f8 f9) 704 0 _ x0 x1 p e hp he ((hk11_16 p e).2 (by omega)))).trans (mx11_at c f6 f8 f9 (by decide) p e ((hk11_16 p e).2 (by omega)))) (fun p e h => mx11_off c f6 f8 f9 p e h) (fun _ _ _ => Or.inr trivial)

theorem ok_runB0_sl_H11_34 : Ok11 (runB0.sl.H11_34 (F := Ideal) c c (v2Of c) f6 f8 f9) (fun _ _ => True) (mx11 c f6 f8 f9 18) := by
  unfold runB0.sl.H11_34
  exact st11_320 (C := fun _ _ => True) (M := mx11 c f6 f8 f9 17) (ok_runB0_sl_H11_33 c f6 f8 f9) 17 704 128 (by decide) (by decide) _ _ hk11_17 (fun x0 x1 p e hp he => (xp11 c f6 f8 f9 (runB0.sl.r_16 (F := Ideal)) (g := 704) (h := 1) (r := 2) (by decide) (by decide) (by decide) rfl bx_2 (o6 := ![704, 128]) rfl _ _ (m11 c f6 f8 f9 p e) p e x0 x1 hp he (rg_2 hp x0.isLt) (rc11 c f6 f8 f9 (ok_runB0_sl_H11_33 c f6 f8 f9) 704 128 _ x0 x1 p e hp he ((hk11_17 p e).2 (by omega)))).trans (mx11_at c f6 f8 f9 (by decide) p e ((hk11_17 p e).2 (by omega)))) (fun p e h => mx11_off c f6 f8 f9 p e h) (fun _ _ _ => Or.inr trivial)

theorem ok_runB0_sl_H11_35 : Ok11 (runB0.sl.H11_35 (F := Ideal) c c (v2Of c) f6 f8 f9) (fun _ _ => True) (mx11 c f6 f8 f9 19) := by
  unfold runB0.sl.H11_35
  exact st11_320 (C := fun _ _ => True) (M := mx11 c f6 f8 f9 18) (ok_runB0_sl_H11_34 c f6 f8 f9) 18 704 256 (by decide) (by decide) _ _ hk11_18 (fun x0 x1 p e hp he => (xp11 c f6 f8 f9 (runB0.sl.r_16 (F := Ideal)) (g := 704) (h := 2) (r := 2) (by decide) (by decide) (by decide) rfl bx_2 (o6 := ![704, 256]) rfl _ _ (m11 c f6 f8 f9 p e) p e x0 x1 hp he (rg_2 hp x0.isLt) (rc11 c f6 f8 f9 (ok_runB0_sl_H11_34 c f6 f8 f9) 704 256 _ x0 x1 p e hp he ((hk11_18 p e).2 (by omega)))).trans (mx11_at c f6 f8 f9 (by decide) p e ((hk11_18 p e).2 (by omega)))) (fun p e h => mx11_off c f6 f8 f9 p e h) (fun _ _ _ => Or.inr trivial)

theorem ok_runB0_sl_H11_36 : Ok11 (runB0.sl.H11_36 (F := Ideal) c c (v2Of c) f6 f8 f9) (fun _ _ => True) (mx11 c f6 f8 f9 20) := by
  unfold runB0.sl.H11_36
  exact st11_320 (C := fun _ _ => True) (M := mx11 c f6 f8 f9 19) (ok_runB0_sl_H11_35 c f6 f8 f9) 19 704 384 (by decide) (by decide) _ _ hk11_19 (fun x0 x1 p e hp he => (xp11 c f6 f8 f9 (runB0.sl.r_16 (F := Ideal)) (g := 704) (h := 3) (r := 2) (by decide) (by decide) (by decide) rfl bx_2 (o6 := ![704, 384]) rfl _ _ (m11 c f6 f8 f9 p e) p e x0 x1 hp he (rg_2 hp x0.isLt) (rc11 c f6 f8 f9 (ok_runB0_sl_H11_35 c f6 f8 f9) 704 384 _ x0 x1 p e hp he ((hk11_19 p e).2 (by omega)))).trans (mx11_at c f6 f8 f9 (by decide) p e ((hk11_19 p e).2 (by omega)))) (fun p e h => mx11_off c f6 f8 f9 p e h) (fun _ _ _ => Or.inr trivial)

theorem ok_runB0_sl_H11_37 : Ok11 (runB0.sl.H11_37 (F := Ideal) c c (v2Of c) f6 f8 f9) (fun _ _ => True) (mx11 c f6 f8 f9 21) := by
  unfold runB0.sl.H11_37
  exact st11_320 (C := fun _ _ => True) (M := mx11 c f6 f8 f9 20) (ok_runB0_sl_H11_36 c f6 f8 f9) 20 704 512 (by decide) (by decide) _ _ hk11_20 (fun x0 x1 p e hp he => (xp11 c f6 f8 f9 (runB0.sl.r_16 (F := Ideal)) (g := 704) (h := 4) (r := 2) (by decide) (by decide) (by decide) rfl bx_2 (o6 := ![704, 512]) rfl _ _ (m11 c f6 f8 f9 p e) p e x0 x1 hp he (rg_2 hp x0.isLt) (rc11 c f6 f8 f9 (ok_runB0_sl_H11_36 c f6 f8 f9) 704 512 _ x0 x1 p e hp he ((hk11_20 p e).2 (by omega)))).trans (mx11_at c f6 f8 f9 (by decide) p e ((hk11_20 p e).2 (by omega)))) (fun p e h => mx11_off c f6 f8 f9 p e h) (fun _ _ _ => Or.inr trivial)

theorem ok_runB0_sl_H11_38 : Ok11 (runB0.sl.H11_38 (F := Ideal) c c (v2Of c) f6 f8 f9) (fun _ _ => True) (mx11 c f6 f8 f9 22) := by
  unfold runB0.sl.H11_38
  exact st11_320 (C := fun _ _ => True) (M := mx11 c f6 f8 f9 21) (ok_runB0_sl_H11_37 c f6 f8 f9) 21 704 640 (by decide) (by decide) _ _ hk11_21 (fun x0 x1 p e hp he => (xp11 c f6 f8 f9 (runB0.sl.r_16 (F := Ideal)) (g := 704) (h := 5) (r := 2) (by decide) (by decide) (by decide) rfl bx_2 (o6 := ![704, 640]) rfl _ _ (m11 c f6 f8 f9 p e) p e x0 x1 hp he (rg_2 hp x0.isLt) (rc11 c f6 f8 f9 (ok_runB0_sl_H11_37 c f6 f8 f9) 704 640 _ x0 x1 p e hp he ((hk11_21 p e).2 (by omega)))).trans (mx11_at c f6 f8 f9 (by decide) p e ((hk11_21 p e).2 (by omega)))) (fun p e h => mx11_off c f6 f8 f9 p e h) (fun _ _ _ => Or.inr trivial)

theorem ok_runB0_sl_H11_39 : Ok11 (runB0.sl.H11_39 (F := Ideal) c c (v2Of c) f6 f8 f9) (fun _ _ => True) (mx11 c f6 f8 f9 23) := by
  unfold runB0.sl.H11_39
  exact st11_320 (C := fun _ _ => True) (M := mx11 c f6 f8 f9 22) (ok_runB0_sl_H11_38 c f6 f8 f9) 22 704 768 (by decide) (by decide) _ _ hk11_22 (fun x0 x1 p e hp he => (xp11 c f6 f8 f9 (runB0.sl.r_16 (F := Ideal)) (g := 704) (h := 6) (r := 2) (by decide) (by decide) (by decide) rfl bx_2 (o6 := ![704, 768]) rfl _ _ (m11 c f6 f8 f9 p e) p e x0 x1 hp he (rg_2 hp x0.isLt) (rc11 c f6 f8 f9 (ok_runB0_sl_H11_38 c f6 f8 f9) 704 768 _ x0 x1 p e hp he ((hk11_22 p e).2 (by omega)))).trans (mx11_at c f6 f8 f9 (by decide) p e ((hk11_22 p e).2 (by omega)))) (fun p e h => mx11_off c f6 f8 f9 p e h) (fun _ _ _ => Or.inr trivial)

theorem ok_runB0_sl_H11_40 : Ok11 (runB0.sl.H11_40 (F := Ideal) c c (v2Of c) f6 f8 f9) (fun _ _ => True) (mx11 c f6 f8 f9 24) := by
  unfold runB0.sl.H11_40
  exact st11_320 (C := fun _ _ => True) (M := mx11 c f6 f8 f9 23) (ok_runB0_sl_H11_39 c f6 f8 f9) 23 704 896 (by decide) (by decide) _ _ hk11_23 (fun x0 x1 p e hp he => (xp11 c f6 f8 f9 (runB0.sl.r_16 (F := Ideal)) (g := 704) (h := 7) (r := 2) (by decide) (by decide) (by decide) rfl bx_2 (o6 := ![704, 896]) rfl _ _ (m11 c f6 f8 f9 p e) p e x0 x1 hp he (rg_2 hp x0.isLt) (rc11 c f6 f8 f9 (ok_runB0_sl_H11_39 c f6 f8 f9) 704 896 _ x0 x1 p e hp he ((hk11_23 p e).2 (by omega)))).trans (mx11_at c f6 f8 f9 (by decide) p e ((hk11_23 p e).2 (by omega)))) (fun p e h => mx11_off c f6 f8 f9 p e h) (fun _ _ _ => Or.inr trivial)

end V

end Cert.KP

end
-- ==== Proof.ValB7.lean ====
module

public import proofs.«01_k».proof.Proof.ValB3
public import proofs.«01_k».proof.Proof.Norm
public import Idealize.ShloMosaic.Lib.Pointwise
public import Idealize.ShloMosaic.Lib.Pipeline.ValueKit.Tiles

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V
open Idealize.ShloMosaic.View
set_option maxRecDepth 10000
variable (c : Dev nD) (f6 : Bf Ideal c A6) (f8 : Bf Ideal c A8) (f9 : Bf Ideal c A9)

theorem ok_runB0_sl_H12_1 : Ok12 (runB0.sl.H12_1 (F := Ideal) c c (v2Of c) f6 f8) (fun p e => key12 p e < 1) (m12 c f6 f8) := by
  unfold runB0.sl.H12_1
  refine st12_384 (C := fun p e => key12 p e < 0) (M := m12 c f6 f8) ?_ 0 0 0 (by decide) (by decide) _ _ hk12_0 ?_ (fun _ _ _ => rfl) (fun p e (h : key12 p e < 1) => by omega)
  case refine_2 => exact fun x0 x1 p e hp he => p12_384 c f6 f8 (runB0.sl.v398 (v2Of c)) (g := 0) (h := 0) (r := 0) (by decide) (by decide) (bias0_0 c) (o6 := ![0, 0]) rfl (o8_0_0 c) _ _ p e x0 x1 hp he (rg_0 hp x0.isLt)
  exact fun p e h => absurd h (Nat.not_lt_zero _)

theorem ok_runB0_sl_H12_3 : Ok12 (runB0.sl.H12_3 (F := Ideal) c c (v2Of c) f6 f8) (fun p e => key12 p e < 3) (m12 c f6 f8) := by
  unfold runB0.sl.H12_3
  refine st12_384 (C := fun p e => key12 p e < 2) (M := m12 c f6 f8) ?_ 2 0 16 (by decide) (by decide) _ _ hk12_2 ?_ (fun _ _ _ => rfl) (fun p e (h : key12 p e < 3) => by omega)
  case refine_2 => exact fun x0 x1 p e hp he => p12_384 c f6 f8 (runB0.sl.v398 (v2Of c)) (g := 0) (h := 2) (r := 0) (by decide) (by decide) (bias0_0 c) (o6 := ![0, 256]) rfl (o8_2_0 c) _ _ p e x0 x1 hp he (rg_0 hp x0.isLt)
  refine st12_384 (C := fun p e => key12 p e < 1) (M := m12 c f6 f8) ?_ 1 0 8 (by decide) (by decide) _ _ hk12_1 ?_ (fun _ _ _ => rfl) (fun p e (h : key12 p e < 2) => by omega)
  case refine_2 => exact fun x0 x1 p e hp he => p12_384 c f6 f8 (runB0.sl.v398 (v2Of c)) (g := 0) (h := 1) (r := 0) (by decide) (by decide) (bias0_0 c) (o6 := ![0, 128]) rfl (o8_1_0 c) _ _ p e x0 x1 hp he (rg_0 hp x0.isLt)
  exact ok_runB0_sl_H12_1 c f6 f8

theorem ok_runB0_sl_H12_4 : Ok12 (runB0.sl.H12_4 (F := Ideal) c c (v2Of c) f6 f8) (fun p e => key12 p e < 4) (m12 c f6 f8) := by
  unfold runB0.sl.H12_4
  refine st12_384 (C := fun p e => key12 p e < 3) (M := m12 c f6 f8) ?_ 3 0 24 (by decide) (by decide) _ _ hk12_3 ?_ (fun _ _ _ => rfl) (fun p e (h : key12 p e < 4) => by omega)
  case refine_2 => exact fun x0 x1 p e hp he => p12_384 c f6 f8 (runB0.sl.v398 (v2Of c)) (g := 0) (h := 3) (r := 0) (by decide) (by decide) (bias0_0 c) (o6 := ![0, 384]) rfl (o8_3_0 c) _ _ p e x0 x1 hp he (rg_0 hp x0.isLt)
  exact ok_runB0_sl_H12_3 c f6 f8

theorem ok_runB0_sl_H12_6 : Ok12 (runB0.sl.H12_6 (F := Ideal) c c (v2Of c) f6 f8) (fun p e => key12 p e < 6) (m12 c f6 f8) := by
  unfold runB0.sl.H12_6
  refine st12_384 (C := fun p e => key12 p e < 5) (M := m12 c f6 f8) ?_ 5 0 40 (by decide) (by decide) _ _ hk12_5 ?_ (fun _ _ _ => rfl) (fun p e (h : key12 p e < 6) => by omega)
  case refine_2 => exact fun x0 x1 p e hp he => p12_384 c f6 f8 (runB0.sl.v398 (v2Of c)) (g := 0) (h := 5) (r := 0) (by decide) (by decide) (bias0_0 c) (o6 := ![0, 640]) rfl (o8_5_0 c) _ _ p e x0 x1 hp he (rg_0 hp x0.isLt)
  refine st12_384 (C := fun p e => key12 p e < 4) (M := m12 c f6 f8) ?_ 4 0 32 (by decide) (by decide) _ _ hk12_4 ?_ (fun _ _ _ => rfl) (fun p e (h : key12 p e < 5) => by omega)
  case refine_2 => exact fun x0 x1 p e hp he => p12_384 c f6 f8 (runB0.sl.v398 (v2Of c)) (g := 0) (h := 4) (r := 0) (by decide) (by decide) (bias0_0 c) (o6 := ![0, 512]) rfl (o8_4_0 c) _ _ p e x0 x1 hp he (rg_0 hp x0.isLt)
  exact ok_runB0_sl_H12_4 c f6 f8

theorem ok_runB0_sl_H12_7 : Ok12 (runB0.sl.H12_7 (F := Ideal) c c (v2Of c) f6 f8) (fun p e => key12 p e < 7) (m12 c f6 f8) := by
  unfold runB0.sl.H12_7
  refine st12_384 (C := fun p e => key12 p e < 6) (M := m12 c f6 f8) ?_ 6 0 48 (by decide) (by decide) _ _ hk12_6 ?_ (fun _ _ _ => rfl) (fun p e (h : key12 p e < 7) => by omega)
  case refine_2 => exact fun x0 x1 p e hp he => p12_384 c f6 f8 (runB0.sl.v398 (v2Of c)) (g := 0) (h := 6) (r := 0) (by decide) (by decide) (bias0_0 c) (o6 := ![0, 768]) rfl (o8_6_0 c) _ _ p e x0 x1 hp he (rg_0 hp x0.isLt)
  exact ok_runB0_sl_H12_6 c f6 f8

theorem ok_runB0_sl_H12_8 : Ok12 (runB0.sl.H12_8 (F := Ideal) c c (v2Of c) f6 f8) (fun p e => key12 p e < 8) (m12 c f6 f8) := by
  unfold runB0.sl.H12_8
  refine st12_384 (C := fun p e => key12 p e < 7) (M := m12 c f6 f8) ?_ 7 0 56 (by decide) (by decide) _ _ hk12_7 ?_ (fun _ _ _ => rfl) (fun p e (h : key12 p e < 8) => by omega)
  case refine_2 => exact fun x0 x1 p e hp he => p12_384 c f6 f8 (runB0.sl.v398 (v2Of c)) (g := 0) (h := 7) (r := 0) (by decide) (by decide) (bias0_0 c) (o6 := ![0, 896]) rfl (o8_7_0 c) _ _ p e x0 x1 hp he (rg_0 hp x0.isLt)
  exact ok_runB0_sl_H12_7 c f6 f8

theorem ok_runB0_sl_H12_9 : Ok12 (runB0.sl.H12_9 (F := Ideal) c c (v2Of c) f6 f8) (fun p e => key12 p e < 9) (m12 c f6 f8) := by
  unfold runB0.sl.H12_9
  refine st12_320 (C := fun p e => key12 p e < 8) (M := m12 c f6 f8) ?_ 8 384 0 (by decide) (by decide) _ _ hk12_8 ?_ (fun _ _ _ => rfl) (fun p e (h : key12 p e < 9) => by omega)
  case refine_2 => exact fun x0 x1 p e hp he => p12_320 c f6 f8 (runB0.sl.r_3 (F := Ideal) (v2Of c)) (g := 384) (h := 0) (r := 1) (by decide) (by decide) (bias1_0 c) (o6 := ![384, 0]) rfl (o8_0_1 c) _ _ p e x0 x1 hp he (rg_1 hp x0.isLt)
  exact ok_runB0_sl_H12_8 c f6 f8

theorem ok_runB0_sl_H12_10 : Ok12 (runB0.sl.H12_10 (F := Ideal) c c (v2Of c) f6 f8) (fun p e => key12 p e < 10) (m12 c f6 f8) := by
  unfold runB0.sl.H12_10
  refine st12_320 (C := fun p e => key12 p e < 9) (M := m12 c f6 f8) ?_ 9 384 8 (by decide) (by decide) _ _ hk12_9 ?_ (fun _ _ _ => rfl) (fun p e (h : key12 p e < 10) => by omega)
  case refine_2 => exact fun x0 x1 p e hp he => p12_320 c f6 f8 (runB0.sl.r_3 (F := Ideal) (v2Of c)) (g := 384) (h := 1) (r := 1) (by decide) (by decide) (bias1_0 c) (o6 := ![384, 128]) rfl (o8_1_1 c) _ _ p e x0 x1 hp he (rg_1 hp x0.isLt)
  exact ok_runB0_sl_H12_9 c f6 f8

theorem ok_runB0_sl_H12_12 : Ok12 (runB0.sl.H12_12 (F := Ideal) c c (v2Of c) f6 f8) (fun p e => key12 p e < 12) (m12 c f6 f8) := by
  unfold runB0.sl.H12_12
  refine st12_320 (C := fun p e => key12 p e < 11) (M := m12 c f6 f8) ?_ 11 384 24 (by decide) (by decide) _ _ hk12_11 ?_ (fun _ _ _ => rfl) (fun p e (h : key12 p e < 12) => by omega)
  case refine_2 => exact fun x0 x1 p e hp he => p12_320 c f6 f8 (runB0.sl.r_3 (F := Ideal) (v2Of c)) (g := 384) (h := 3) (r := 1) (by decide) (by decide) (bias1_0 c) (o6 := ![384, 384]) rfl (o8_3_1 c) _ _ p e x0 x1 hp he (rg_1 hp x0.isLt)
  refine st12_320 (C := fun p e => key12 p e < 10) (M := m12 c f6 f8) ?_ 10 384 16 (by decide) (by decide) _ _ hk12_10 ?_ (fun _ _ _ => rfl) (fun p e (h : key12 p e < 11) => by omega)
  case refine_2 => exact fun x0 x1 p e hp he => p12_320 c f6 f8 (runB0.sl.r_3 (F := Ideal) (v2Of c)) (g := 384) (h := 2) (r := 1) (by decide) (by decide) (bias1_0 c) (o6 := ![384, 256]) rfl (o8_2_1 c) _ _ p e x0 x1 hp he (rg_1 hp x0.isLt)
  exact ok_runB0_sl_H12_10 c f6 f8

theorem ok_runB0_sl_H12_13 : Ok12 (runB0.sl.H12_13 (F := Ideal) c c (v2Of c) f6 f8) (fun p e => key12 p e < 13) (m12 c f6 f8) := by
  unfold runB0.sl.H12_13
  refine st12_320 (C := fun p e => key12 p e < 12) (M := m12 c f6 f8) ?_ 12 384 32 (by decide) (by decide) _ _ hk12_12 ?_ (fun _ _ _ => rfl) (fun p e (h : key12 p e < 13) => by omega)
  case refine_2 => exact fun x0 x1 p e hp he => p12_320 c f6 f8 (runB0.sl.r_3 (F := Ideal) (v2Of c)) (g := 384) (h := 4) (r := 1) (by decide) (by decide) (bias1_0 c) (o6 := ![384, 512]) rfl (o8_4_1 c) _ _ p e x0 x1 hp he (rg_1 hp x0.isLt)
  exact ok_runB0_sl_H12_12 c f6 f8

theorem ok_runB0_sl_H12_15 : Ok12 (runB0.sl.H12_15 (F := Ideal) c c (v2Of c) f6 f8) (fun p e => key12 p e < 15) (m12 c f6 f8) := by
  unfold runB0.sl.H12_15
  refine st12_320 (C := fun p e => key12 p e < 14) (M := m12 c f6 f8) ?_ 14 384 48 (by decide) (by decide) _ _ hk12_14 ?_ (fun _ _ _ => rfl) (fun p e (h : key12 p e < 15) => by omega)
  case refine_2 => exact fun x0 x1 p e hp he => p12_320 c f6 f8 (runB0.sl.r_3 (F := Ideal) (v2Of c)) (g := 384) (h := 6) (r := 1) (by decide) (by decide) (bias1_0 c) (o6 := ![384, 768]) rfl (o8_6_1 c) _ _ p e x0 x1 hp he (rg_1 hp x0.isLt)
  refine st12_320 (C := fun p e => key12 p e < 13) (M := m12 c f6 f8) ?_ 13 384 40 (by decide) (by decide) _ _ hk12_13 ?_ (fun _ _ _ => rfl) (fun p e (h : key12 p e < 14) => by omega)
  case refine_2 => exact fun x0 x1 p e hp he => p12_320 c f6 f8 (runB0.sl.r_3 (F := Ideal) (v2Of c)) (g := 384) (h := 5) (r := 1) (by decide) (by decide) (bias1_0 c) (o6 := ![384, 640]) rfl (o8_5_1 c) _ _ p e x0 x1 hp he (rg_1 hp x0.isLt)
  exact ok_runB0_sl_H12_13 c f6 f8

theorem ok_runB0_sl_H12_16 : Ok12 (runB0.sl.H12_16 (F := Ideal) c c (v2Of c) f6 f8) (fun p e => key12 p e < 16) (m12 c f6 f8) := by
  unfold runB0.sl.H12_16
  refine st12_320 (C := fun p e => key12 p e < 15) (M := m12 c f6 f8) ?_ 15 384 56 (by decide) (by decide) _ _ hk12_15 ?_ (fun _ _ _ => rfl) (fun p e (h : key12 p e < 16) => by omega)
  case refine_2 => exact fun x0 x1 p e hp he => p12_320 c f6 f8 (runB0.sl.r_3 (F := Ideal) (v2Of c)) (g := 384) (h := 7) (r := 1) (by decide) (by decide) (bias1_0 c) (o6 := ![384, 896]) rfl (o8_7_1 c) _ _ p e x0 x1 hp he (rg_1 hp x0.isLt)
  exact ok_runB0_sl_H12_15 c f6 f8

theorem ok_runB0_sl_H12_17 : Ok12 (runB0.sl.H12_17 (F := Ideal) c c (v2Of c) f6 f8) (fun p e => key12 p e < 17) (m12 c f6 f8) := by
  unfold runB0.sl.H12_17
  refine st12_320 (C := fun p e => key12 p e < 16) (M := m12 c f6 f8) ?_ 16 704 0 (by decide) (by decide) _ _ hk12_16 ?_ (fun _ _ _ => rfl) (fun p e (h : key12 p e < 17) => by omega)
  case refine_2 => exact fun x0 x1 p e hp he => p12_320 c f6 f8 (runB0.sl.r_7 (F := Ideal) (v2Of c)) (g := 704) (h := 0) (r := 2) (by decide) (by decide) (bias2_0 c) (o6 := ![704, 0]) rfl (o8_0_2 c) _ _ p e x0 x1 hp he (rg_2 hp x0.isLt)
  exact ok_runB0_sl_H12_16 c f6 f8

theorem ok_runB0_sl_H12_19 : Ok12 (runB0.sl.H12_19 (F := Ideal) c c (v2Of c) f6 f8) (fun p e => key12 p e < 19) (m12 c f6 f8) := by
  unfold runB0.sl.H12_19
  refine st12_320 (C := fun p e => key12 p e < 18) (M := m12 c f6 f8) ?_ 18 704 16 (by decide) (by decide) _ _ hk12_18 ?_ (fun _ _ _ => rfl) (fun p e (h : key12 p e < 19) => by omega)
  case refine_2 => exact fun x0 x1 p e hp he => p12_320 c f6 f8 (runB0.sl.r_7 (F := Ideal) (v2Of c)) (g := 704) (h := 2) (r := 2) (by decide) (by decide) (bias2_0 c) (o6 := ![704, 256]) rfl (o8_2_2 c) _ _ p e x0 x1 hp he (rg_2 hp x0.isLt)
  refine st12_320 (C := fun p e => key12 p e < 17) (M := m12 c f6 f8) ?_ 17 704 8 (by decide) (by decide) _ _ hk12_17 ?_ (fun _ _ _ => rfl) (fun p e (h : key12 p e < 18) => by omega)
  case refine_2 => exact fun x0 x1 p e hp he => p12_320 c f6 f8 (runB0.sl.r_7 (F := Ideal) (v2Of c)) (g := 704) (h := 1) (r := 2) (by decide) (by decide) (bias2_0 c) (o6 := ![704, 128]) rfl (o8_1_2 c) _ _ p e x0 x1 hp he (rg_2 hp x0.isLt)
  exact ok_runB0_sl_H12_17 c f6 f8

theorem ok_runB0_sl_H12_20 : Ok12 (runB0.sl.H12_20 (F := Ideal) c c (v2Of c) f6 f8) (fun p e => key12 p e < 20) (m12 c f6 f8) := by
  unfold runB0.sl.H12_20
  refine st12_320 (C := fun p e => key12 p e < 19) (M := m12 c f6 f8) ?_ 19 704 24 (by decide) (by decide) _ _ hk12_19 ?_ (fun _ _ _ => rfl) (fun p e (h : key12 p e < 20) => by omega)
  case refine_2 => exact fun x0 x1 p e hp he => p12_320 c f6 f8 (runB0.sl.r_7 (F := Ideal) (v2Of c)) (g := 704) (h := 3) (r := 2) (by decide) (by decide) (bias2_0 c) (o6 := ![704, 384]) rfl (o8_3_2 c) _ _ p e x0 x1 hp he (rg_2 hp x0.isLt)
  exact ok_runB0_sl_H12_19 c f6 f8

theorem ok_runB0_sl_H12_22 : Ok12 (runB0.sl.H12_22 (F := Ideal) c c (v2Of c) f6 f8) (fun p e => key12 p e < 22) (m12 c f6 f8) := by
  unfold runB0.sl.H12_22
  refine st12_320 (C := fun p e => key12 p e < 21) (M := m12 c f6 f8) ?_ 21 704 40 (by decide) (by decide) _ _ hk12_21 ?_ (fun _ _ _ => rfl) (fun p e (h : key12 p e < 22) => by omega)
  case refine_2 => exact fun x0 x1 p e hp he => p12_320 c f6 f8 (runB0.sl.r_7 (F := Ideal) (v2Of c)) (g := 704) (h := 5) (r := 2) (by decide) (by decide) (bias2_0 c) (o6 := ![704, 640]) rfl (o8_5_2 c) _ _ p e x0 x1 hp he (rg_2 hp x0.isLt)
  refine st12_320 (C := fun p e => key12 p e < 20) (M := m12 c f6 f8) ?_ 20 704 32 (by decide) (by decide) _ _ hk12_20 ?_ (fun _ _ _ => rfl) (fun p e (h : key12 p e < 21) => by omega)
  case refine_2 => exact fun x0 x1 p e hp he => p12_320 c f6 f8 (runB0.sl.r_7 (F := Ideal) (v2Of c)) (g := 704) (h := 4) (r := 2) (by decide) (by decide) (bias2_0 c) (o6 := ![704, 512]) rfl (o8_4_2 c) _ _ p e x0 x1 hp he (rg_2 hp x0.isLt)
  exact ok_runB0_sl_H12_20 c f6 f8

theorem ok_runB0_sl_H12_23 : Ok12 (runB0.sl.H12_23 (F := Ideal) c c (v2Of c) f6 f8) (fun p e => key12 p e < 23) (m12 c f6 f8) := by
  unfold runB0.sl.H12_23
  refine st12_320 (C := fun p e => key12 p e < 22) (M := m12 c f6 f8) ?_ 22 704 48 (by decide) (by decide) _ _ hk12_22 ?_ (fun _ _ _ => rfl) (fun p e (h : key12 p e < 23) => by omega)
  case refine_2 => exact fun x0 x1 p e hp he => p12_320 c f6 f8 (runB0.sl.r_7 (F := Ideal) (v2Of c)) (g := 704) (h := 6) (r := 2) (by decide) (by decide) (bias2_0 c) (o6 := ![704, 768]) rfl (o8_6_2 c) _ _ p e x0 x1 hp he (rg_2 hp x0.isLt)
  exact ok_runB0_sl_H12_22 c f6 f8

theorem ok_runB0_sl_H12_24 : Ok12 (runB0.sl.H12_24 (F := Ideal) c c (v2Of c) f6 f8) (fun p e => key12 p e < 24) (m12 c f6 f8) := by
  unfold runB0.sl.H12_24
  refine st12_320 (C := fun p e => key12 p e < 23) (M := m12 c f6 f8) ?_ 23 704 56 (by decide) (by decide) _ _ hk12_23 ?_ (fun _ _ _ => rfl) (fun p e (h : key12 p e < 24) => by omega)
  case refine_2 => exact fun x0 x1 p e hp he => p12_320 c f6 f8 (runB0.sl.r_7 (F := Ideal) (v2Of c)) (g := 704) (h := 7) (r := 2) (by decide) (by decide) (bias2_0 c) (o6 := ![704, 896]) rfl (o8_7_2 c) _ _ p e x0 x1 hp he (rg_2 hp x0.isLt)
  exact ok_runB0_sl_H12_23 c f6 f8

theorem ok_runB0_sl_H12_25 : Ok12 (runB0.sl.H12_25 (F := Ideal) c c (v2Of c) f6 f8) (fun _ _ => True) (mx12 c f6 f8 9) := by
  unfold runB0.sl.H12_25
  exact st12_320 (C := fun _ _ => True) (M := mx12 c f6 f8 8) (mx12_start c f6 f8 (ok_runB0_sl_H12_24 c f6 f8)) 8 384 0 (by decide) (by decide) _ _ hk12_8 (fun x0 x1 p e hp he => (xp12 c f6 f8 (runB0.sl.r_8 (F := Ideal)) (g := 384) (h := 0) (r := 1) (by decide) (by decide) (by decide) rfl bx_1 (o6 := ![384, 0]) rfl _ _ (m12 c f6 f8 p e) p e x0 x1 hp he (rg_1 hp x0.isLt) (rc12 c f6 f8 (mx12_start c f6 f8 (ok_runB0_sl_H12_24 c f6 f8)) 384 0 _ x0 x1 p e hp he ((hk12_8 p e).2 (by omega)))).trans (mx12_at c f6 f8 (by decide) p e ((hk12_8 p e).2 (by omega)))) (fun p e h => mx12_off c f6 f8 p e h) (fun _ _ _ => Or.inr trivial)

theorem ok_runB0_sl_H12_26 : Ok12 (runB0.sl.H12_26 (F := Ideal) c c (v2Of c) f6 f8) (fun _ _ => True) (mx12 c f6 f8 10) := by
  unfold runB0.sl.H12_26
  exact st12_320 (C := fun _ _ => True) (M := mx12 c f6 f8 9) (ok_runB0_sl_H12_25 c f6 f8) 9 384 8 (by decide) (by decide) _ _ hk12_9 (fun x0 x1 p e hp he => (xp12 c f6 f8 (runB0.sl.r_8 (F := Ideal)) (g := 384) (h := 1) (r := 1) (by decide) (by decide) (by decide) rfl bx_1 (o6 := ![384, 128]) rfl _ _ (m12 c f6 f8 p e) p e x0 x1 hp he (rg_1 hp x0.isLt) (rc12 c f6 f8 (ok_runB0_sl_H12_25 c f6 f8) 384 8 _ x0 x1 p e hp he ((hk12_9 p e).2 (by omega)))).trans (mx12_at c f6 f8 (by decide) p e ((hk12_9 p e).2 (by omega)))) (fun p e h => mx12_off c f6 f8 p e h) (fun _ _ _ => Or.inr trivial)

theorem ok_runB0_sl_H12_27 : Ok12 (runB0.sl.H12_27 (F := Ideal) c c (v2Of c) f6 f8) (fun _ _ => True) (mx12 c f6 f8 11) := by
  unfold runB0.sl.H12_27
  exact st12_320 (C := fun _ _ => True) (M := mx12 c f6 f8 10) (ok_runB0_sl_H12_26 c f6 f8) 10 384 16 (by decide) (by decide) _ _ hk12_10 (fun x0 x1 p e hp he => (xp12 c f6 f8 (runB0.sl.r_8 (F := Ideal)) (g := 384) (h := 2) (r := 1) (by decide) (by decide) (by decide) rfl bx_1 (o6 := ![384, 256]) rfl _ _ (m12 c f6 f8 p e) p e x0 x1 hp he (rg_1 hp x0.isLt) (rc12 c f6 f8 (ok_runB0_sl_H12_26 c f6 f8) 384 16 _ x0 x1 p e hp he ((hk12_10 p e).2 (by omega)))).trans (mx12_at c f6 f8 (by decide) p e ((hk12_10 p e).2 (by omega)))) (fun p e h => mx12_off c f6 f8 p e h) (fun _ _ _ => Or.inr trivial)

theorem ok_runB0_sl_H12_28 : Ok12 (runB0.sl.H12_28 (F := Ideal) c c (v2Of c) f6 f8) (fun _ _ => True) (mx12 c f6 f8 12) := by
  unfold runB0.sl.H12_28
  exact st12_320 (C := fun _ _ => True) (M := mx12 c f6 f8 11) (ok_runB0_sl_H12_27 c f6 f8) 11 384 24 (by decide) (by decide) _ _ hk12_11 (fun x0 x1 p e hp he => (xp12 c f6 f8 (runB0.sl.r_8 (F := Ideal)) (g := 384) (h := 3) (r := 1) (by decide) (by decide) (by decide) rfl bx_1 (o6 := ![384, 384]) rfl _ _ (m12 c f6 f8 p e) p e x0 x1 hp he (rg_1 hp x0.isLt) (rc12 c f6 f8 (ok_runB0_sl_H12_27 c f6 f8) 384 24 _ x0 x1 p e hp he ((hk12_11 p e).2 (by omega)))).trans (mx12_at c f6 f8 (by decide) p e ((hk12_11 p e).2 (by omega)))) (fun p e h => mx12_off c f6 f8 p e h) (fun _ _ _ => Or.inr trivial)

theorem ok_runB0_sl_H12_29 : Ok12 (runB0.sl.H12_29 (F := Ideal) c c (v2Of c) f6 f8) (fun _ _ => True) (mx12 c f6 f8 13) := by
  unfold runB0.sl.H12_29
  exact st12_320 (C := fun _ _ => True) (M := mx12 c f6 f8 12) (ok_runB0_sl_H12_28 c f6 f8) 12 384 32 (by decide) (by decide) _ _ hk12_12 (fun x0 x1 p e hp he => (xp12 c f6 f8 (runB0.sl.r_8 (F := Ideal)) (g := 384) (h := 4) (r := 1) (by decide) (by decide) (by decide) rfl bx_1 (o6 := ![384, 512]) rfl _ _ (m12 c f6 f8 p e) p e x0 x1 hp he (rg_1 hp x0.isLt) (rc12 c f6 f8 (ok_runB0_sl_H12_28 c f6 f8) 384 32 _ x0 x1 p e hp he ((hk12_12 p e).2 (by omega)))).trans (mx12_at c f6 f8 (by decide) p e ((hk12_12 p e).2 (by omega)))) (fun p e h => mx12_off c f6 f8 p e h) (fun _ _ _ => Or.inr trivial)

theorem ok_runB0_sl_H12_30 : Ok12 (runB0.sl.H12_30 (F := Ideal) c c (v2Of c) f6 f8) (fun _ _ => True) (mx12 c f6 f8 14) := by
  unfold runB0.sl.H12_30
  exact st12_320 (C := fun _ _ => True) (M := mx12 c f6 f8 13) (ok_runB0_sl_H12_29 c f6 f8) 13 384 40 (by decide) (by decide) _ _ hk12_13 (fun x0 x1 p e hp he => (xp12 c f6 f8 (runB0.sl.r_8 (F := Ideal)) (g := 384) (h := 5) (r := 1) (by decide) (by decide) (by decide) rfl bx_1 (o6 := ![384, 640]) rfl _ _ (m12 c f6 f8 p e) p e x0 x1 hp he (rg_1 hp x0.isLt) (rc12 c f6 f8 (ok_runB0_sl_H12_29 c f6 f8) 384 40 _ x0 x1 p e hp he ((hk12_13 p e).2 (by omega)))).trans (mx12_at c f6 f8 (by decide) p e ((hk12_13 p e).2 (by omega)))) (fun p e h => mx12_off c f6 f8 p e h) (fun _ _ _ => Or.inr trivial)

theorem ok_runB0_sl_H12_31 : Ok12 (runB0.sl.H12_31 (F := Ideal) c c (v2Of c) f6 f8) (fun _ _ => True) (mx12 c f6 f8 15) := by
  unfold runB0.sl.H12_31
  exact st12_320 (C := fun _ _ => True) (M := mx12 c f6 f8 14) (ok_runB0_sl_H12_30 c f6 f8) 14 384 48 (by decide) (by decide) _ _ hk12_14 (fun x0 x1 p e hp he => (xp12 c f6 f8 (runB0.sl.r_8 (F := Ideal)) (g := 384) (h := 6) (r := 1) (by decide) (by decide) (by decide) rfl bx_1 (o6 := ![384, 768]) rfl _ _ (m12 c f6 f8 p e) p e x0 x1 hp he (rg_1 hp x0.isLt) (rc12 c f6 f8 (ok_runB0_sl_H12_30 c f6 f8) 384 48 _ x0 x1 p e hp he ((hk12_14 p e).2 (by omega)))).trans (mx12_at c f6 f8 (by decide) p e ((hk12_14 p e).2 (by omega)))) (fun p e h => mx12_off c f6 f8 p e h) (fun _ _ _ => Or.inr trivial)

theorem ok_runB0_sl_H12_32 : Ok12 (runB0.sl.H12_32 (F := Ideal) c c (v2Of c) f6 f8) (fun _ _ => True) (mx12 c f6 f8 16) := by
  unfold runB0.sl.H12_32
  exact st12_320 (C := fun _ _ => True) (M := mx12 c f6 f8 15) (ok_runB0_sl_H12_31 c f6 f8) 15 384 56 (by decide) (by decide) _ _ hk12_15 (fun x0 x1 p e hp he => (xp12 c f6 f8 (runB0.sl.r_8 (F := Ideal)) (g := 384) (h := 7) (r := 1) (by decide) (by decide) (by decide) rfl bx_1 (o6 := ![384, 896]) rfl _ _ (m12 c f6 f8 p e) p e x0 x1 hp he (rg_1 hp x0.isLt) (rc12 c f6 f8 (ok_runB0_sl_H12_31 c f6 f8) 384 56 _ x0 x1 p e hp he ((hk12_15 p e).2 (by omega)))).trans (mx12_at c f6 f8 (by decide) p e ((hk12_15 p e).2 (by omega)))) (fun p e h => mx12_off c f6 f8 p e h) (fun _ _ _ => Or.inr trivial)

theorem ok_runB0_sl_H12_33 : Ok12 (runB0.sl.H12_33 (F := Ideal) c c (v2Of c) f6 f8) (fun _ _ => True) (mx12 c f6 f8 17) := by
  unfold runB0.sl.H12_33
  exact st12_320 (C := fun _ _ => True) (M := mx12 c f6 f8 16) (ok_runB0_sl_H12_32 c f6 f8) 16 704 0 (by decide) (by decide) _ _ hk12_16 (fun x0 x1 p e hp he => (xp12 c f6 f8 (runB0.sl.r_16 (F := Ideal)) (g := 704) (h := 0) (r := 2) (by decide) (by decide) (by decide) rfl bx_2 (o6 := ![704, 0]) rfl _ _ (m12 c f6 f8 p e) p e x0 x1 hp he (rg_2 hp x0.isLt) (rc12 c f6 f8 (ok_runB0_sl_H12_32 c f6 f8) 704 0 _ x0 x1 p e hp he ((hk12_16 p e).2 (by omega)))).trans (mx12_at c f6 f8 (by decide) p e ((hk12_16 p e).2 (by omega)))) (fun p e h => mx12_off c f6 f8 p e h) (fun _ _ _ => Or.inr trivial)

theorem ok_runB0_sl_H12_34 : Ok12 (runB0.sl.H12_34 (F := Ideal) c c (v2Of c) f6 f8) (fun _ _ => True) (mx12 c f6 f8 18) := by
  unfold runB0.sl.H12_34
  exact st12_320 (C := fun _ _ => True) (M := mx12 c f6 f8 17) (ok_runB0_sl_H12_33 c f6 f8) 17 704 8 (by decide) (by decide) _ _ hk12_17 (fun x0 x1 p e hp he => (xp12 c f6 f8 (runB0.sl.r_16 (F := Ideal)) (g := 704) (h := 1) (r := 2) (by decide) (by decide) (by decide) rfl bx_2 (o6 := ![704, 128]) rfl _ _ (m12 c f6 f8 p e) p e x0 x1 hp he (rg_2 hp x0.isLt) (rc12 c f6 f8 (ok_runB0_sl_H12_33 c f6 f8) 704 8 _ x0 x1 p e hp he ((hk12_17 p e).2 (by omega)))).trans (mx12_at c f6 f8 (by decide) p e ((hk12_17 p e).2 (by omega)))) (fun p e h => mx12_off c f6 f8 p e h) (fun _ _ _ => Or.inr trivial)

theorem ok_runB0_sl_H12_35 : Ok12 (runB0.sl.H12_35 (F := Ideal) c c (v2Of c) f6 f8) (fun _ _ => True) (mx12 c f6 f8 19) := by
  unfold runB0.sl.H12_35
  exact st12_320 (C := fun _ _ => True) (M := mx12 c f6 f8 18) (ok_runB0_sl_H12_34 c f6 f8) 18 704 16 (by decide) (by decide) _ _ hk12_18 (fun x0 x1 p e hp he => (xp12 c f6 f8 (runB0.sl.r_16 (F := Ideal)) (g := 704) (h := 2) (r := 2) (by decide) (by decide) (by decide) rfl bx_2 (o6 := ![704, 256]) rfl _ _ (m12 c f6 f8 p e) p e x0 x1 hp he (rg_2 hp x0.isLt) (rc12 c f6 f8 (ok_runB0_sl_H12_34 c f6 f8) 704 16 _ x0 x1 p e hp he ((hk12_18 p e).2 (by omega)))).trans (mx12_at c f6 f8 (by decide) p e ((hk12_18 p e).2 (by omega)))) (fun p e h => mx12_off c f6 f8 p e h) (fun _ _ _ => Or.inr trivial)

theorem ok_runB0_sl_H12_36 : Ok12 (runB0.sl.H12_36 (F := Ideal) c c (v2Of c) f6 f8) (fun _ _ => True) (mx12 c f6 f8 20) := by
  unfold runB0.sl.H12_36
  exact st12_320 (C := fun _ _ => True) (M := mx12 c f6 f8 19) (ok_runB0_sl_H12_35 c f6 f8) 19 704 24 (by decide) (by decide) _ _ hk12_19 (fun x0 x1 p e hp he => (xp12 c f6 f8 (runB0.sl.r_16 (F := Ideal)) (g := 704) (h := 3) (r := 2) (by decide) (by decide) (by decide) rfl bx_2 (o6 := ![704, 384]) rfl _ _ (m12 c f6 f8 p e) p e x0 x1 hp he (rg_2 hp x0.isLt) (rc12 c f6 f8 (ok_runB0_sl_H12_35 c f6 f8) 704 24 _ x0 x1 p e hp he ((hk12_19 p e).2 (by omega)))).trans (mx12_at c f6 f8 (by decide) p e ((hk12_19 p e).2 (by omega)))) (fun p e h => mx12_off c f6 f8 p e h) (fun _ _ _ => Or.inr trivial)

theorem ok_runB0_sl_H12_37 : Ok12 (runB0.sl.H12_37 (F := Ideal) c c (v2Of c) f6 f8) (fun _ _ => True) (mx12 c f6 f8 21) := by
  unfold runB0.sl.H12_37
  exact st12_320 (C := fun _ _ => True) (M := mx12 c f6 f8 20) (ok_runB0_sl_H12_36 c f6 f8) 20 704 32 (by decide) (by decide) _ _ hk12_20 (fun x0 x1 p e hp he => (xp12 c f6 f8 (runB0.sl.r_16 (F := Ideal)) (g := 704) (h := 4) (r := 2) (by decide) (by decide) (by decide) rfl bx_2 (o6 := ![704, 512]) rfl _ _ (m12 c f6 f8 p e) p e x0 x1 hp he (rg_2 hp x0.isLt) (rc12 c f6 f8 (ok_runB0_sl_H12_36 c f6 f8) 704 32 _ x0 x1 p e hp he ((hk12_20 p e).2 (by omega)))).trans (mx12_at c f6 f8 (by decide) p e ((hk12_20 p e).2 (by omega)))) (fun p e h => mx12_off c f6 f8 p e h) (fun _ _ _ => Or.inr trivial)

theorem ok_runB0_sl_H12_38 : Ok12 (runB0.sl.H12_38 (F := Ideal) c c (v2Of c) f6 f8) (fun _ _ => True) (mx12 c f6 f8 22) := by
  unfold runB0.sl.H12_38
  exact st12_320 (C := fun _ _ => True) (M := mx12 c f6 f8 21) (ok_runB0_sl_H12_37 c f6 f8) 21 704 40 (by decide) (by decide) _ _ hk12_21 (fun x0 x1 p e hp he => (xp12 c f6 f8 (runB0.sl.r_16 (F := Ideal)) (g := 704) (h := 5) (r := 2) (by decide) (by decide) (by decide) rfl bx_2 (o6 := ![704, 640]) rfl _ _ (m12 c f6 f8 p e) p e x0 x1 hp he (rg_2 hp x0.isLt) (rc12 c f6 f8 (ok_runB0_sl_H12_37 c f6 f8) 704 40 _ x0 x1 p e hp he ((hk12_21 p e).2 (by omega)))).trans (mx12_at c f6 f8 (by decide) p e ((hk12_21 p e).2 (by omega)))) (fun p e h => mx12_off c f6 f8 p e h) (fun _ _ _ => Or.inr trivial)

theorem ok_runB0_sl_H12_39 : Ok12 (runB0.sl.H12_39 (F := Ideal) c c (v2Of c) f6 f8) (fun _ _ => True) (mx12 c f6 f8 23) := by
  unfold runB0.sl.H12_39
  exact st12_320 (C := fun _ _ => True) (M := mx12 c f6 f8 22) (ok_runB0_sl_H12_38 c f6 f8) 22 704 48 (by decide) (by decide) _ _ hk12_22 (fun x0 x1 p e hp he => (xp12 c f6 f8 (runB0.sl.r_16 (F := Ideal)) (g := 704) (h := 6) (r := 2) (by decide) (by decide) (by decide) rfl bx_2 (o6 := ![704, 768]) rfl _ _ (m12 c f6 f8 p e) p e x0 x1 hp he (rg_2 hp x0.isLt) (rc12 c f6 f8 (ok_runB0_sl_H12_38 c f6 f8) 704 48 _ x0 x1 p e hp he ((hk12_22 p e).2 (by omega)))).trans (mx12_at c f6 f8 (by decide) p e ((hk12_22 p e).2 (by omega)))) (fun p e h => mx12_off c f6 f8 p e h) (fun _ _ _ => Or.inr trivial)

theorem ok_runB0_sl_H12_40 : Ok12 (runB0.sl.H12_40 (F := Ideal) c c (v2Of c) f6 f8) (fun _ _ => True) (mx12 c f6 f8 24) := by
  unfold runB0.sl.H12_40
  exact st12_320 (C := fun _ _ => True) (M := mx12 c f6 f8 23) (ok_runB0_sl_H12_39 c f6 f8) 23 704 56 (by decide) (by decide) _ _ hk12_23 (fun x0 x1 p e hp he => (xp12 c f6 f8 (runB0.sl.r_16 (F := Ideal)) (g := 704) (h := 7) (r := 2) (by decide) (by decide) (by decide) rfl bx_2 (o6 := ![704, 896]) rfl _ _ (m12 c f6 f8 p e) p e x0 x1 hp he (rg_2 hp x0.isLt) (rc12 c f6 f8 (ok_runB0_sl_H12_39 c f6 f8) 704 56 _ x0 x1 p e hp he ((hk12_23 p e).2 (by omega)))).trans (mx12_at c f6 f8 (by decide) p e ((hk12_23 p e).2 (by omega)))) (fun p e h => mx12_off c f6 f8 p e h) (fun _ _ _ => Or.inr trivial)

end V

end Cert.KP

end
-- ==== Proof.ValC2.lean ====
module

public import proofs.«01_k».proof.Proof.Body3
public import proofs.«01_k».proof.Proof.ValC1
public import proofs.«01_k».proof.Proof.ValOut
public import proofs.«01_k».proof.Proof.ValB4
public import proofs.«01_k».proof.Proof.ValB5
public import proofs.«01_k».proof.Proof.ValB6
public import proofs.«01_k».proof.Proof.ValB7

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ

section V

theorem fst_iff (c : Dev nD) : isFst c ↔ c.val = 0 := by
  revert c; decide +kernel

variable (I : In Ideal)

/-- The scaled queries a device holds. -/
def Qd (c : Dev nD) (i e : Fin 1024) : EReal := qv (I.i0 c) (I.i1 c) i e
/-- The keys a device holds. -/
def Kd (c : Dev nD) (j : Fin 1024) (h : Fin 8) (d : Fin 128) : EReal := (I.i2 c : S1x1024x8x128.Idx → EReal) (ix4 0 j h d)
/-- The values a device holds. -/
def Vd (c : Dev nD) (j : Fin 1024) (h : Fin 8) (d : Fin 128) : EReal := (I.i3 c : S1x1024x8x128.Idx → EReal) (ix4 0 j h d)

/-- A device's part of the context of a row. -/
def CV (c : Dev nD) (i : Fin 1024) (e : Fin 1024) : EReal :=
  ∑ J : Fin 1024, if msk (i.val / 64) (16 * c.val + J.val / 64) then
    Ideal.exp (sc (Qd I c) (Kd I c) i ⟨e.val / 128, by omega⟩ J) * Vd I c J ⟨e.val / 128, by omega⟩ ⟨e.val % 128, Nat.mod_lt _ (by decide)⟩ else 0
/-- A device's part of the sum of a row's weights. -/
def CL (c : Dev nD) (i : Fin 1024) (h : Fin 8) : EReal :=
  ∑ J : Fin 1024, if msk (i.val / 64) (16 * c.val + J.val / 64) then Ideal.exp (sc (Qd I c) (Kd I c) i h J) else 0

theorem wA_q (c : Dev nD) (p e : Fin 1024) : ((wA I c).1 : S1024x1024.Idx → EReal) (ix2 p e) = Qd I c ⟨ungp p.val, ungp_lt p.isLt⟩ e := by
  unfold wA; exact wA6 c _ _ _ _ _ p e
theorem wA_k (c : Dev nD) (h : Fin 8) (d : Fin 128) (col : Fin 1152) :
    ((wA I c).2.1 : S8x128x1152.Idx → EReal) (ix3 h d col) = segv (fun j => Kd I c j h d) col := by
  unfold wA; exact wA8 c _ _ _ _ _ h d col
theorem wA_v (c : Dev nD) (row : Fin 1152) (h : Fin 8) (d : Fin 128) :
    ((wA I c).2.2.1 : S1152x8x128.Idx → EReal) (ix3 row h d) = segv (fun j => Vd I c j h d) row := by
  unfold wA; exact wA9 c _ _ _ _ _ row h d
theorem wA_o (c : Dev nD) (e n : Fin 1024) :
    ((wA I c).2.2.2 : S1024x1024.Idx → EReal) (ix2 e n) = (I.i4 c : S1024x1024.Idx → EReal) (ix2 e n) := by
  unfold wA; exact wA10 c _ _ _ _ _ e n

theorem canon11 (c : Dev nD) (L : List (View.Piece (Elt Ideal) S1024x1024 .bf16)) (y : S1024x1024.Idx) (h : ∃ p ∈ L, y ∈ p.1.set) :
    (A11.view.writes (Elt Ideal) A11.view.junk L : Bf Ideal c A11) y = View.canon L y :=
  View.read_writes_apply_eq_canon A11.view A11.view.junk y L h
theorem canon12 (c : Dev nD) (L : List (View.Piece (Elt Ideal) S1024x64 .f32)) (y : S1024x64.Idx) (h : ∃ p ∈ L, y ∈ p.1.set) :
    (A12.view.writes (Elt Ideal) A12.view.junk L : Bf Ideal c A12) y = View.canon L y :=
  View.read_writes_apply_eq_canon A12.view A12.view.junk y L h

section
variable (c : Dev nD) (f6 : Bf Ideal c A6) (f8 : Bf Ideal c A8) (f9 : Bf Ideal c A9)
theorem r1_11 (hc) : (runB1 (F := Ideal) c c (v2Of c) hc f6 f8 f9).1.1 = A11.view.writes (Elt Ideal) A11.view.junk (runB1.sl.H11_24 c c (v2Of c) f6 f8 f9) := by
  unfold runB1; dsimp only
theorem r1_12 (hc) : (runB1 (F := Ideal) c c (v2Of c) hc f6 f8 f9).1.2 = A12.view.writes (Elt Ideal) A12.view.junk (runB1.sl.H12_24 c c (v2Of c) f6 f8) := by
  unfold runB1; dsimp only
theorem r0_11 (hc) : (runB0 (F := Ideal) c c (v2Of c) hc f6 f8 f9).1.1 = A11.view.writes (Elt Ideal) A11.view.junk (runB0.sl.H11_40 c c (v2Of c) f6 f8 f9) := by
  unfold runB0; dsimp only
theorem r0_12 (hc) : (runB0 (F := Ideal) c c (v2Of c) hc f6 f8 f9).1.2 = A12.view.writes (Elt Ideal) A12.view.junk (runB0.sl.H12_40 c c (v2Of c) f6 f8) := by
  unfold runB0; dsimp only
end

theorem key11_24 (p e : Fin 1024) : key11 p e < 24 := by unfold key11; have := rgp_lt p.val; omega
theorem key12_24 (p : Fin 1024) (e : Fin 64) : key12 p e < 24 := by unfold key12; have := rgp_lt p.val; omega
theorem key11_8 (p e : Fin 1024) : 8 ≤ key11 p e ↔ 384 ≤ p.val := by unfold key11 rgp; split_ifs <;> omega
theorem key12_8 (p : Fin 1024) (e : Fin 64) : 8 ≤ key12 p e ↔ 384 ≤ p.val := by unfold key12 rgp; split_ifs <;> omega

theorem w11_val (c : Dev nD) (p e : Fin 1024) : ((wB I c).1 : S1024x1024.Idx → EReal) (ix2 p e) = CV I c ⟨ungp p.val, ungp_lt p.isLt⟩ e := by
  unfold wB
  split
  · case _ h =>
    have h0 := (fst_iff c).1 h
    rw [r0_11]
    obtain ⟨h1, h2⟩ := ok_runB0_sl_H11_40 c (wA I c).1 (wA I c).2.1 (wA I c).2.2.1 p e trivial
    refine (canon11 c _ _ h1).trans (h2.trans ?_)
    unfold CV
    rw [← mask_first c h0 p.val p.isLt]
    unfold mx11
    have hm := m11_val _ _ _ (Qd I c) (Kd I c) (Vd I c) (wA_q I c) (wA_k I c) (wA_v I c) c p e
    by_cases hp : 384 ≤ p.val
    · rw [if_pos ⟨(key11_8 p e).2 hp, key11_24 p e⟩, if_pos hp, hm, x11_val _ _ _ (Qd I c) (Kd I c) (Vd I c) (wA_q I c) (wA_k I c) (wA_v I c) p e hp]
    · rw [if_neg (fun h => hp ((key11_8 p e).1 h.1)), if_neg hp, hm]
  · case _ h =>
    have h0 : c.val ≠ 0 := fun h' => h ((fst_iff c).2 h')
    rw [r1_11]
    obtain ⟨h1, h2⟩ := ok_runB1_sl_H11_24 c (wA I c).1 (wA I c).2.1 (wA I c).2.2.1 p e (key11_24 p e)
    refine (canon11 c _ _ h1).trans (h2.trans ?_)
    rw [m11_val _ _ _ (Qd I c) (Kd I c) (Vd I c) (wA_q I c) (wA_k I c) (wA_v I c) c p e]
    unfold CV
    exact Finset.sum_congr rfl fun J _ => if_congr (mask_rest c h0 p.val J.val p.isLt J.isLt) rfl rfl

theorem w12_val (c : Dev nD) (p : Fin 1024) (e : Fin 64) :
    ((wB I c).2 : S1024x64.Idx → EReal) (ix2 p e) = CL I c ⟨ungp p.val, ungp_lt p.isLt⟩ ⟨e.val / 8, by omega⟩ := by
  unfold wB
  split
  · case _ h =>
    have h0 := (fst_iff c).1 h
    rw [r0_12]
    obtain ⟨h1, h2⟩ := ok_runB0_sl_H12_40 c (wA I c).1 (wA I c).2.1 p e trivial
    refine (canon12 c _ _ h1).trans (h2.trans ?_)
    unfold CL
    rw [← mask_first c h0 p.val p.isLt]
    unfold mx12
    have hm := m12_val _ _ (Qd I c) (Kd I c) (wA_q I c) (wA_k I c) c p e
    by_cases hp : 384 ≤ p.val
    · rw [if_pos ⟨(key12_8 p e).2 hp, key12_24 p e⟩, if_pos hp, hm, x12_val _ _ (Qd I c) (Kd I c) (wA_q I c) (wA_k I c) p e hp]
    · rw [if_neg (fun h => hp ((key12_8 p e).1 h.1)), if_neg hp, hm]
  · case _ h =>
    have h0 : c.val ≠ 0 := fun h' => h ((fst_iff c).2 h')
    rw [r1_12]
    obtain ⟨h1, h2⟩ := ok_runB1_sl_H12_24 c (wA I c).1 (wA I c).2.1 p e (key12_24 p e)
    refine (canon12 c _ _ h1).trans (h2.trans ?_)
    rw [m12_val _ _ (Qd I c) (Kd I c) (wA_q I c) (wA_k I c) c p e]
    unfold CL
    exact Finset.sum_congr rfl fun J _ => if_congr (mask_rest c h0 p.val J.val p.isLt J.isLt) rfl rfl

/-! ## All devices -/

theorem ungp_gpos (qb x : Nat) (hq : qb < 16) (hx : x < 64) : ungp (gpos qb + x) = 64 * qb + x := by
  unfold gpos ungp; split_ifs <;> omega

theorem ungp_qrow (c : Dev nD) (o : Fin 4) (r : Fin 256) : ungp (qrow c o r).val = 256 * (pr c o.val).val + r.val := by
  have h : (pr c o.val).val < 4 := (pr c o.val).isLt
  unfold qrow
  dsimp only
  rw [ungp_gpos _ _ (by omega) (by omega)]
  omega

theorem pr_all (c : Dev nD) : pr c 0 = c ∧ pr (pr c 1) 3 = c ∧ pr (pr c 2) 2 = c ∧ pr (pr c 3) 1 = c := by
  revert c; decide +kernel

theorem sum_dev (g : Dev nD → EReal) (c : Dev nD) : g c + g (pr c 1) + g (pr c 2) + g (pr c 3) = ∑ d : Fin 4, g d := by
  rw [Fin.sum_univ_four]
  obtain rfl | rfl | rfl | rfl : c = (0 : Fin 4) ∨ c = (1 : Fin 4) ∨ c = (2 : Fin 4) ∨ c = (3 : Fin 4) := by revert c; decide
  · rfl
  · change g (1 : Fin 4) + g (2 : Fin 4) + g (3 : Fin 4) + g (0 : Fin 4) = _
    ac_rfl
  · change g (2 : Fin 4) + g (3 : Fin 4) + g (0 : Fin 4) + g (1 : Fin 4) = _
    ac_rfl
  · change g (3 : Fin 4) + g (0 : Fin 4) + g (1 : Fin 4) + g (2 : Fin 4) = _
    ac_rfl

/-- A row of the normalised contexts of the device that owns it. -/
theorem att_val (c : Dev nD) (r : Fin 256) (e : Fin 1024) (i : Fin 1024) (hi : i.val = 256 * c.val + r.val) :
    att (cn I) c (ix2 r e) = Ideal.div (∑ d : Fin 4, CV I d i e) (∑ d : Fin 4, CL I d i ⟨e.val / 128, by omega⟩) := by
  rw [att_apply, ← sum_dev (fun d => CV I d i e) c, ← sum_dev (fun d => CL I d i ⟨e.val / 128, by omega⟩) c]
  obtain ⟨b0, b1, b2, b3⟩ := pr_all c
  have hrow (d : Dev nD) (o : Fin 4) (h : pr d o.val = c) : (⟨ungp (qrow d o r).val, ungp_lt (qrow d o r).isLt⟩ : Fin 1024) = i :=
    Fin.ext (by dsimp only; rw [ungp_qrow, h, hi])
  have a (d : Dev nD) (o : Fin 4) (h : pr d o.val = c) : (cn I).w11 d (ix2 (qrow d o r) e) = CV I d i e :=
    (w11_val I d (qrow d o r) e).trans (by rw [hrow d o h])
  have b (d : Dev nD) (o : Fin 4) (h : pr d o.val = c) : (cn I).w12 d (ix2 (qrow d o r) (lcol e)) = CL I d i ⟨e.val / 128, by omega⟩ :=
    (w12_val I d (qrow d o r) (lcol e)).trans (by
      rw [hrow d o h]
      refine congrArg (CL I d i) (Fin.ext ?_)
      unfold lcol; dsimp only; omega)
  rw [a c 0 b0, a (pr c 1) 3 b1, a (pr c 2) 2 b2, a (pr c 3) 1 b3, b c 0 b0, b (pr c 1) 3 b1, b (pr c 2) 2 b2, b (pr c 3) 1 b3]

theorem out_val (c : Dev nD) (i n : Fin 1024) :
    outAt I c (ix3 0 i n) = ∑ e : Fin 1024, Ideal.div (∑ d : Fin 4, CV I d i e) (∑ d : Fin 4, CL I d i ⟨e.val / 128, by omega⟩)
      * (I.i4 ⟨i.val / 256, by change _ < 4; omega⟩ : S1024x1024.Idx → EReal) (ix2 e n) := by
  unfold outAt
  rw [pay328_apply, o17_apply]
  refine Finset.sum_congr rfl fun e _ => ?_
  refine congrArg₂ (· * ·) (att_val I _ _ e i (by dsimp only; omega)) ?_
  exact wA_o I _ e n
end V

end Cert.KP

end
-- ==== Proof.ValR1.lean ====
module

public import proofs.«01_k».proof.Proof.ValC1
public import proofs.«01_k».proof.Proof.Gen.ReferenceIdeal.Run
public import Idealize.ShloMosaic.Lib.Pointwise
public import Idealize.ShloMosaic.Lib.Routing.OpsOrder

@[expose] public section

noncomputable section

namespace Cert.KP

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

section V

/-- The block of a row of queries, as a word. -/
def rqb : IVec S1024 32 := select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
/-- The block of a key, as a word. -/
def rkb : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The sum of the two block words. -/
def rsm : IVec S1024x4096 32 := addi (broadcastInDim S1024x4096 ![0, 1] bcast_S1024x1_S1024x4096_0_1 (broadcastInDim S1024x1 ![0] bcast_S1024_S1024x1_0 rqb)) (broadcastInDim S1024x4096 ![0, 1] bcast_S1x4096_S1024x4096_0_1 (broadcastInDim S1x4096 ![1] bcast_S4096_S1x4096_1 rkb))
/-- The mask. -/
def rmask : IVec S1024x4096 1 := ori (ori (cmpi .eq (broadcastInDim S1024x4096 ![0, 1] bcast_S1024x1_S1024x4096_0_1 (broadcastInDim S1024x1 ![0] bcast_S1024_S1024x1_0 rqb)) (broadcastInDim S1024x4096 ![0, 1] bcast_S1x4096_S1024x4096_0_1 (broadcastInDim S1x4096 ![1] bcast_S4096_S1x4096_1 rkb))) (broadcastInDim S1024x4096 ![0, 1] bcast_S1x4096_S1024x4096_0_1 (cmpi .eq (broadcastInDim S1x4096 ![1] bcast_S4096_S1x4096_1 rkb) (broadcastInDim S1x4096 ![] bcast_S_S1x4096 (constantI S_ 32 0#32))))) (cmpi .eq (select (andi (cmpi .ne (cmpi .slt (Host.remsi rsm (broadcastInDim S1024x4096 ![] bcast_S_S1024x4096 (select (cmpi .eq (id (constantI S_ 32 3#32)) (constantI S_ 32 0#32)) (constantI S_ 32 1#32) (id (constantI S_ 32 3#32))))) (broadcastInDim S1024x4096 ![] bcast_S_S1024x4096 (constantI S_ 32 0#32))) (broadcastInDim S1024x4096 ![] bcast_S_S1024x4096 (cmpi .slt (select (cmpi .eq (id (constantI S_ 32 3#32)) (constantI S_ 32 0#32)) (constantI S_ 32 1#32) (id (constantI S_ 32 3#32))) (constantI S_ 32 0#32)))) (cmpi .ne (Host.remsi rsm (broadcastInDim S1024x4096 ![] bcast_S_S1024x4096 (select (cmpi .eq (id (constantI S_ 32 3#32)) (constantI S_ 32 0#32)) (constantI S_ 32 1#32) (id (constantI S_ 32 3#32))))) (broadcastInDim S1024x4096 ![] bcast_S_S1024x4096 (constantI S_ 32 0#32)))) (addi (Host.remsi rsm (broadcastInDim S1024x4096 ![] bcast_S_S1024x4096 (select (cmpi .eq (id (constantI S_ 32 3#32)) (constantI S_ 32 0#32)) (constantI S_ 32 1#32) (id (constantI S_ 32 3#32))))) (broadcastInDim S1024x4096 ![] bcast_S_S1024x4096 (select (cmpi .eq (id (constantI S_ 32 3#32)) (constantI S_ 32 0#32)) (constantI S_ 32 1#32) (id (constantI S_ 32 3#32))))) (Host.remsi rsm (broadcastInDim S1024x4096 ![] bcast_S_S1024x4096 (select (cmpi .eq (id (constantI S_ 32 3#32)) (constantI S_ 32 0#32)) (constantI S_ 32 1#32) (id (constantI S_ 32 3#32)))))) (broadcastInDim S1024x4096 ![] bcast_S_S1024x4096 (constantI S_ 32 0#32)))
/-- Rows with a key to look at. -/
def rrow : IVec S1024 1 := Host.reduce IntOp.ori rmask (constantI S_ 1 0#1) reducesTo_S1024x4096_S1024_d1 h_S_
/-- The queries. -/
def rq (A0 : FVec Ideal S1x1024x1024 .f32) (A1 : FVec Ideal S1024x1024 .f32) : FVec Ideal S1x1024x1024 .f32 := Host.dotGeneral dot_S1x1024x1024_S1024x1024_S1x1024x1024_2_0_01_1_n_n none A0 A1
/-- The scores. -/
def rscr (A0 : FVec Ideal S1x1024x1024 .f32) (A1 : FVec Ideal S1024x1024 .f32) (A2 : FVec Ideal S1x4096x8x128 .f32) : FVec Ideal S1x8x1024x4096 .f32 := mulf (Host.dotGeneral dot_S1x1024x8x128_S1x4096x8x128_S1x8x1024x4096_3_3_1_1_02_02 none (shapeCast _ (rq A0 A1) shapeCasts_S1x1024x1024_S1x1024x8x128) A2) (broadcastInDim S1x8x1024x4096 ![] bcast_S_S1x8x1024x4096 (constant S_ .f32 0x3DB504F3#32))
/-- The scores under the mask. -/
def rsel (A0 : FVec Ideal S1x1024x1024 .f32) (A1 : FVec Ideal S1024x1024 .f32) (A2 : FVec Ideal S1x4096x8x128 .f32) : FVec Ideal S1x8x1024x4096 .f32 := select (broadcastInDim S1x8x1024x4096 ![0, 1, 2, 3] bcast_S1x1x1024x4096_S1x8x1024x4096_0_1_2_3 (broadcastInDim S1x1x1024x4096 ![2, 3] bcast_S1024x4096_S1x1x1024x4096_2_3 rmask)) (rscr A0 A1 A2) (broadcastInDim S1x8x1024x4096 ![] bcast_S_S1x8x1024x4096 (id (constant S_ .f32 0xFF800000#32)))
/-- The largest score of each row. -/
def rmax (A0 : FVec Ideal S1x1024x1024 .f32) (A1 : FVec Ideal S1024x1024 .f32) (A2 : FVec Ideal S1x4096x8x128 .f32) : FVec Ideal S1x8x1024 .f32 := Host.reduce FloatOps.maximumf (rsel A0 A1 A2) (constant S_ .f32 0xFF800000#32) reducesTo_S1x8x1024x4096_S1x8x1024_d3 h_S_
/-- The weights before division. -/
def rw0 (A0 : FVec Ideal S1x1024x1024 .f32) (A1 : FVec Ideal S1024x1024 .f32) (A2 : FVec Ideal S1x4096x8x128 .f32) : FVec Ideal S1x8x1024x4096 .f32 := Host.exp (subf (rsel A0 A1 A2) (broadcastInDim S1x8x1024x4096 ![0, 1, 2, 3] bcast_S1x8x1024x1_S1x8x1024x4096_0_1_2_3 (broadcastInDim S1x8x1024x1 ![0, 1, 2] bcast_S1x8x1024_S1x8x1024x1_0_1_2 (rmax A0 A1 A2))))
/-- The sum of each row's weights. -/
def rden (A0 : FVec Ideal S1x1024x1024 .f32) (A1 : FVec Ideal S1024x1024 .f32) (A2 : FVec Ideal S1x4096x8x128 .f32) : FVec Ideal S1x8x1024 .f32 := Host.reduceAdd (rw0 A0 A1 A2) (constant S_ .f32 0x00000000#32) reducesTo_S1x8x1024x4096_S1x8x1024_d3 h_S_
/-- The weights. -/
def rwt (A0 : FVec Ideal S1x1024x1024 .f32) (A1 : FVec Ideal S1024x1024 .f32) (A2 : FVec Ideal S1x4096x8x128 .f32) : FVec Ideal S1x8x1024x4096 .f32 := select (broadcastInDim S1x8x1024x4096 ![0, 1, 2, 3] bcast_S1x1x1024x1_S1x8x1024x4096_0_1_2_3 (broadcastInDim S1x1x1024x1 ![2] bcast_S1024_S1x1x1024x1_2 rrow)) (Host.divf (rw0 A0 A1 A2) (broadcastInDim S1x8x1024x4096 ![0, 1, 2, 3] bcast_S1x8x1024x1_S1x8x1024x4096_0_1_2_3 (select (broadcastInDim S1x8x1024x1 ![0, 1, 2, 3] bcast_S1x1x1024x1_S1x8x1024x1_0_1_2_3 (broadcastInDim S1x1x1024x1 ![2] bcast_S1024_S1x1x1024x1_2 rrow)) (broadcastInDim S1x8x1024x1 ![0, 1, 2] bcast_S1x8x1024_S1x8x1024x1_0_1_2 (rden A0 A1 A2)) (broadcastInDim S1x8x1024x1 ![] bcast_S_S1x8x1024x1 (id (constant S_ .f32 0x3F800000#32)))))) (broadcastInDim S1x8x1024x4096 ![] bcast_S_S1x8x1024x4096 (id (constant S_ .f32 0x00000000#32)))
/-- The averaged values. -/
def rctx (A0 : FVec Ideal S1x1024x1024 .f32) (A1 : FVec Ideal S1024x1024 .f32) (A2 : FVec Ideal S1x4096x8x128 .f32) (A3 : FVec Ideal S1x4096x8x128 .f32) : FVec Ideal S1x8x128x1024 .f32 := Host.dotGeneral dot_S1x4096x8x128_S1x8x1024x4096_S1x8x128x1024_1_3_3_2_02_01 none A3 (rwt A0 A1 A2)
/-- The reference's result. -/
def rout (A0 : FVec Ideal S1x1024x1024 .f32) (A1 : FVec Ideal S1024x1024 .f32) (A2 : FVec Ideal S1x4096x8x128 .f32) (A3 : FVec Ideal S1x4096x8x128 .f32) (A4 : FVec Ideal S1024x1024 .f32) : FVec Ideal S1x1024x1024 .f32 := Host.dotGeneral dot_S1x1024x1024_S1024x1024_S1x1024x1024_2_0_01_1_n_n none (shapeCast _ (transpose S1x1024x8x128 [0, 3, 1, 2] (rctx A0 A1 A2 A3) transposes_S1x8x128x1024_S1x1024x8x128_0_3_1_2) shapeCasts_S1x1024x8x128_S1x1024x1024) A4

open Cert.ReferenceIdeal.Value in
theorem res_eq (m : (ℓ : Loc nD τ sig) → Buf (Elt Ideal) ℓ) (c : Dev nD) :
    res_main_v44 m c = rout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v44 rout rctx rwt rden rw0 rmax rsel rscr rq rrow rmask rsm rqb rkb
  rfl

end V

end Cert.KP

end
-- ==== Proof.ValR2.lean ====
module

public import proofs.«01_k».proof.Proof.ValR1
public import Idealize.ShloMosaic.Lib.Pointwise
public import Idealize.ShloMosaic.Lib.Routing.OpsOrder

@[expose] public section

noncomputable section

namespace Cert.KP

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

section V

theorem fdq (j : Fin 1024) :
    Scalar.select
      (IntOp.andi
        (IntOp.cmpi CmpIPredicate.ne
          (if BitVec.ofNat 32 j.val = 0 then 0 else if (BitVec.ofNat 32 j.val).msb = true then -1 else 1)
          (if 64#32 = 0 then 0 else if (64#32).msb = true then -1 else 1 : BitVec 32))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (j.val / 64) := by
  revert j; decide +kernel
theorem fdk (j : Fin 4096) :
    Scalar.select
      (IntOp.andi
        (IntOp.cmpi CmpIPredicate.ne
          (if BitVec.ofNat 32 j.val = 0 then 0 else if (BitVec.ofNat 32 j.val).msb = true then -1 else 1)
          (if 64#32 = 0 then 0 else if (64#32).msb = true then -1 else 1 : BitVec 32))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (j.val / 64) := by
  revert j; decide +kernel

theorem rqb_at (i : Fin 1024) : rqb (ix1 i) = BitVec.ofNat 32 (i.val / 64) := by
  pointwise [rqb]
  exact fdq i
theorem rkb_at (i : Fin 4096) : rkb (ix1 i) = BitVec.ofNat 32 (i.val / 64) := by
  pointwise [rkb]
  exact fdk i

/-- The word of the mask at a pair of blocks. -/
def mw (a b : BitVec 32) : BitVec 1 :=
  IntOp.ori
      (IntOp.ori (IntOp.cmpi CmpIPredicate.eq a b) (IntOp.cmpi CmpIPredicate.eq b 0#32))
      (IntOp.cmpi CmpIPredicate.eq
        (Scalar.select
          (IntOp.andi
            (IntOp.cmpi CmpIPredicate.ne
              (IntOp.cmpi CmpIPredicate.slt
                (IntOp.remsi ArithUnit.host (IntOp.addi a b)
                  (Scalar.select (IntOp.cmpi CmpIPredicate.eq 3#32 0#32) (1#32) 3#32)) 0#32)
              (IntOp.cmpi CmpIPredicate.slt
                (Scalar.select (IntOp.cmpi CmpIPredicate.eq 3#32 0#32) (1#32) 3#32) 0#32))
            (IntOp.cmpi CmpIPredicate.ne
              (IntOp.remsi ArithUnit.host (IntOp.addi a b)
                (Scalar.select (IntOp.cmpi CmpIPredicate.eq 3#32 0#32) (1#32) 3#32)) 0#32))
          (IntOp.addi
            (IntOp.remsi ArithUnit.host (IntOp.addi a b)
              (Scalar.select (IntOp.cmpi CmpIPredicate.eq 3#32 0#32) (1#32) 3#32))
            (Scalar.select (IntOp.cmpi CmpIPredicate.eq 3#32 0#32) (1#32) 3#32))
          (IntOp.remsi ArithUnit.host (IntOp.addi a b)
            (Scalar.select (IntOp.cmpi CmpIPredicate.eq 3#32 0#32) (1#32) 3#32)))
        0#32)

theorem mw_fin : ∀ (a : Fin 16) (b : Fin 64), mw (BitVec.ofNat 32 a.val) (BitVec.ofNat 32 b.val) = if msk a.val b.val then 1#1 else 0#1 := by
  decide +kernel

theorem rmask_at (i : Fin 1024) (j : Fin 4096) : rmask (ix2 i j) = if msk (i.val / 64) (j.val / 64) then 1#1 else 0#1 := by
  have h : rmask (ix2 i j) = mw (rqb (ix1 i)) (rkb (ix1 j)) := by
    pointwise [rmask, rsm]
    rfl
  rw [h, rqb_at, rkb_at]
  exact mw_fin ⟨i.val / 64, by omega⟩ ⟨j.val / 64, by omega⟩

theorem rrow_at (i : Fin 1024) : rrow (ix1 i) = 1#1 := by
  unfold rrow
  rw [Host.reduce_eq_fold]
  refine (Routing.fold_ori _ _).2 ⟨ix2 i 0, ?_, ?_⟩
  · refine Finset.mem_filter.2 ⟨Finset.mem_univ _, ?_⟩
    funext k
    fin_cases k
    rfl
  · rw [rmask_at, if_pos]
    exact Or.inr (Or.inl rfl)

end V

end Cert.KP

end
-- ==== Proof.ValR3.lean ====
module

public import proofs.«01_k».proof.Proof.ValR2
public import Idealize.ShloMosaic.Lib.Pointwise
public import Idealize.ShloMosaic.Lib.Routing.OpsOrder

@[expose] public section

noncomputable section

namespace Cert.KP

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

section V

/-- The score of a query row and a key, head by head. -/
def rs (A0 : FVec Ideal S1x1024x1024 .f32) (A1 : FVec Ideal S1024x1024 .f32) (A2 : FVec Ideal S1x4096x8x128 .f32) (h : Fin 8) (i : Fin 1024) (j : Fin 4096) : EReal :=
  (∑ x : Fin 128, (∑ y : Fin 1024, A0 (ix3 0 i y) * A1 (ix2 y ⟨h.val * 128 + x.val, by omega⟩)) * A2 (ix4 0 j h x)) * Ideal.ofBits FTy.f32 0x3DB504F3#32

variable (A0 : FVec Ideal S1x1024x1024 .f32) (A1 : FVec Ideal S1024x1024 .f32) (A2 A3 : FVec Ideal S1x4096x8x128 .f32) (A4 : FVec Ideal S1024x1024 .f32)

theorem rscr_at (h : Fin 8) (i : Fin 1024) (j : Fin 4096) : rscr A0 A1 A2 (ix4 0 h i j) = rs A0 A1 A2 h i j := by
  pointwise [rscr, rq]
  rfl
theorem ninf : Ideal.ofBits .f32 0xFF800000#32 = ⊥ := by
  simp [Ideal.ofBits, Ideal.ieee]
theorem rsel_at (h : Fin 8) (i : Fin 1024) (j : Fin 4096) : rsel A0 A1 A2 (ix4 0 h i j) = if msk (i.val / 64) (j.val / 64) then rs A0 A1 A2 h i j else ⊥ := by
  have e : rsel A0 A1 A2 (ix4 0 h i j) = Scalar.select (rmask (ix2 i j)) (rscr A0 A1 A2 (ix4 0 h i j)) (Ideal.ofBits .f32 0xFF800000#32) := by
    pointwise [rsel]
    rfl
  rw [e, rmask_at, rscr_at, ninf]
  by_cases hm : msk (i.val / 64) (j.val / 64)
  · rw [if_pos hm, if_pos hm]; rfl
  · rw [if_neg hm, if_neg hm]; rfl
theorem bx1_at (R : IVec S1024 1) (h : Fin 8) (i : Fin 1024) (j : Fin 4096) :
    broadcastInDim S1x8x1024x4096 ![0, 1, 2, 3] bcast_S1x1x1024x1_S1x8x1024x4096_0_1_2_3 (broadcastInDim S1x1x1024x1 ![2] bcast_S1024_S1x1x1024x1_2 R) (ix4 0 h i j) = R (ix1 i) := by
  pointwise
theorem bx2_at (X : FVec Ideal S1x8x1024x1 .f32) (h : Fin 8) (i : Fin 1024) (j : Fin 4096) :
    broadcastInDim S1x8x1024x4096 ![0, 1, 2, 3] bcast_S1x8x1024x1_S1x8x1024x4096_0_1_2_3 X (ix4 0 h i j) = X (ix4 0 h i 0) := by
  pointwise
theorem bx3_at (R : IVec S1024 1) (L : FVec Ideal S1x8x1024 .f32) (O : FVec Ideal S1x8x1024x1 .f32) (hR : ∀ i, R (ix1 i) = 1#1) (h : Fin 8) (i : Fin 1024) :
    select (broadcastInDim S1x8x1024x1 ![0, 1, 2, 3] bcast_S1x1x1024x1_S1x8x1024x1_0_1_2_3 (broadcastInDim S1x1x1024x1 ![2] bcast_S1024_S1x1x1024x1_2 R)) (broadcastInDim S1x8x1024x1 ![0, 1, 2] bcast_S1x8x1024_S1x8x1024x1_0_1_2 L) O (ix4 0 h i 0) = L (ix3 0 h i) := by
  pointwise
  rw [hR]; rfl
theorem bx4_at (R : IVec S1024 1) (W : FVec Ideal S1x8x1024x4096 .f32) (X : FVec Ideal S1x8x1024x1 .f32) (Z : FVec Ideal S1x8x1024x4096 .f32) (hR : ∀ i, R (ix1 i) = 1#1) (h : Fin 8) (i : Fin 1024) (j : Fin 4096) :
    select (broadcastInDim S1x8x1024x4096 ![0, 1, 2, 3] bcast_S1x1x1024x1_S1x8x1024x4096_0_1_2_3 (broadcastInDim S1x1x1024x1 ![2] bcast_S1024_S1x1x1024x1_2 R)) (Host.divf W (broadcastInDim S1x8x1024x4096 ![0, 1, 2, 3] bcast_S1x8x1024x1_S1x8x1024x4096_0_1_2_3 X)) Z (ix4 0 h i j)
      = Ideal.div (W (ix4 0 h i j)) (X (ix4 0 h i 0)) := by
  pointwise
  rw [hR]; rfl
theorem rwt_at (h : Fin 8) (i : Fin 1024) (j : Fin 4096) : rwt A0 A1 A2 (ix4 0 h i j) = Ideal.div (rw0 A0 A1 A2 (ix4 0 h i j)) (rden A0 A1 A2 (ix3 0 h i)) := by
  unfold rwt
  rw [bx4_at _ _ _ _ rrow_at, bx3_at _ _ _ rrow_at]
theorem rexp_at (X : FVec Ideal S1x8x1024x4096 .f32) (M : FVec Ideal S1x8x1024 .f32) (h : Fin 8) (i : Fin 1024) (j : Fin 4096) :
    (broadcastInDim S1x8x1024x4096 ![0, 1, 2, 3] bcast_S1x8x1024x1_S1x8x1024x4096_0_1_2_3 (broadcastInDim S1x8x1024x1 ![0, 1, 2] bcast_S1x8x1024_S1x8x1024x1_0_1_2 M)) (ix4 0 h i j)
      = M (ix3 0 h i) := by
  pointwise
theorem rw0_at (h : Fin 8) (i : Fin 1024) (j : Fin 4096) : rw0 A0 A1 A2 (ix4 0 h i j) = Ideal.exp (rsel A0 A1 A2 (ix4 0 h i j) - rmax A0 A1 A2 (ix3 0 h i)) := by
  rw [← rexp_at (rsel A0 A1 A2) (rmax A0 A1 A2) h i j]
  rfl
theorem rden_at (h : Fin 8) (i : Fin 1024) : rden A0 A1 A2 (ix3 0 h i) = ∑ x : Fin 4096, rw0 A0 A1 A2 (ix4 0 h i x) := by
  pointwise [rden]
theorem rout_at (e i : Fin 1024) : rout A0 A1 A2 A3 A4 (ix3 0 i e) = ∑ x : Fin 1024, rctx A0 A1 A2 A3 (ix4 0 ⟨x.val / 128, by omega⟩ ⟨x.val % 128, by omega⟩ i) * A4 (ix2 x e) := by
  pointwise [rout]
theorem rctx_at (h : Fin 8) (d : Fin 128) (i : Fin 1024) : rctx A0 A1 A2 A3 (ix4 0 h d i) = ∑ x : Fin 4096, A3 (ix4 0 x h d) * rwt A0 A1 A2 (ix4 0 h i x) := by
  pointwise [rctx]

theorem rmax_fold (h : Fin 8) (i : Fin 1024) : ∃ s : Finset S1x8x1024x4096.Idx, ix4 0 h i 0 ∈ s ∧ rmax A0 A1 A2 (ix3 0 h i) = s.fold (max (α := EReal)) (⊥ : EReal) (rsel A0 A1 A2) := by
  refine ⟨Finset.univ.filter fun x => reducesTo_S1x8x1024x4096_S1x8x1024_d3.drop x = ix3 0 h i, ?_, ?_⟩
  · refine Finset.mem_filter.2 ⟨Finset.mem_univ _, ?_⟩
    funext k
    fin_cases k <;> rfl
  · have hh := Host.reduce_eq_fold (max (α := EReal)) (rsel A0 A1 A2) (constant (F := Ideal) S_ .f32 0xFF800000#32) reducesTo_S1x8x1024x4096_S1x8x1024_d3 h_S_ (ix3 0 h i)
    rw [show (constant (F := Ideal) S_ .f32 0xFF800000#32) (Shape.Idx.first h_S_) = (⊥ : EReal) from ninf] at hh
    exact hh

/-- The largest score is a real number when the scores are. -/
theorem rmax_at (hf : ∀ h i j, ∃ r : ℝ, rs A0 A1 A2 h i j = r) (h : Fin 8) (i : Fin 1024) : ∃ r : ℝ, rmax A0 A1 A2 (ix3 0 h i) = r := by
  have hlt : ∀ x, rsel A0 A1 A2 x < ⊤ := by
    intro x
    obtain ⟨a, h, i, j, rfl⟩ : ∃ a h i j, x = ix4 a h i j := ⟨_, _, _, _, eq_ix4 x⟩
    obtain rfl : a = 0 := Subsingleton.elim _ _
    rw [rsel_at]
    obtain ⟨r, hr⟩ := hf h i j
    split_ifs
    · rw [hr]; exact EReal.coe_lt_top r
    · exact bot_lt_top
  obtain ⟨s, hs, e⟩ : ∃ s : Finset S1x8x1024x4096.Idx, ix4 0 h i 0 ∈ s ∧ rmax A0 A1 A2 (ix3 0 h i) = s.fold (max (α := EReal)) (⊥ : EReal) (rsel A0 A1 A2) :=
    rmax_fold A0 A1 A2 h i
  have h1 : rmax A0 A1 A2 (ix3 0 h i) < ⊤ := by
    rw [e, Finset.fold_max_lt]
    exact ⟨bot_lt_top, fun x _ => hlt x⟩
  have h2 : rs A0 A1 A2 h i 0 ≤ rmax A0 A1 A2 (ix3 0 h i) := by
    rw [e, Finset.le_fold_max]
    refine Or.inr ⟨_, hs, ?_⟩
    rw [rsel_at, if_pos]
    exact Or.inr (Or.inl rfl)
  obtain ⟨r, hr⟩ := hf h i 0
  rw [hr] at h2
  exact ⟨(rmax A0 A1 A2 (ix3 0 h i)).toReal, (EReal.coe_toReal h1.ne (fun hb => by rw [hb] at h2; exact absurd h2 (not_le_of_gt (EReal.bot_lt_coe r)))).symm⟩

end V

end Cert.KP

end
-- ==== Proof.ValX1.lean ====
module

public import proofs.«01_k».proof.Proof.ValC2
public import proofs.«01_k».proof.Proof.ValR3

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ
section V

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]
theorem sum_mul_real {ι : Type} (s : Finset ι) (f : ι → EReal) (r : ℝ) (hr : 0 ≤ r) : (∑ x ∈ s, f x) * (r : EReal) = ∑ x ∈ s, f x * (r : EReal) := by
  classical
  induction s using Finset.induction_on with
  | empty => simp
  | insert a s ha ih =>
    rw [Finset.sum_insert ha, Finset.sum_insert ha, ← ih, EReal.right_distrib_of_nonneg_of_ne_top (by exact_mod_cast hr) (EReal.coe_ne_top r)]

/-- A sum over four blocks of 1024 entries each. -/
theorem sum_blocks (f : Fin 4096 → EReal) : ∑ d : Fin 4, ∑ J : Fin 1024, f ⟨1024 * d.val + J.val, by omega⟩ = ∑ j : Fin 4096, f j := by
  have e : (finProdFinEquiv : Fin 4 × Fin 1024 ≃ Fin 4096) = finProdFinEquiv := rfl
  rw [← (finProdFinEquiv : Fin 4 × Fin 1024 ≃ Fin 4096).sum_comp f, Fintype.sum_prod_type]
  refine Finset.sum_congr rfl fun d _ => Finset.sum_congr rfl fun J _ => ?_
  refine congrArg f (Fin.ext ?_)
  change 1024 * d.val + J.val = J.val + 1024 * d.val
  omega

theorem scale_real : ∃ s : ℝ, Ideal.ofBits .f32 0x3DB504F3#32 = (s : EReal) := by
  simp only [Ideal.ofBits, Ideal.ieee]
  simp
  exact ⟨_, rfl⟩

/-- One row: weights times values over their sum, divided after the sum or before it. -/
theorem row_eq (P : Fin 4096 → Prop) [DecidablePred P] (S : Fin 4096 → ℝ) (M : ℝ) (V : Fin 4096 → EReal) (hP : ∃ j, P j) :
    Ideal.div (∑ j, if P j then Ideal.exp (S j : EReal) * V j else 0) (∑ j, if P j then Ideal.exp (S j : EReal) else 0)
      = ∑ j, V j * Ideal.div (Ideal.exp ((if P j then (S j : EReal) else ⊥) - (M : EReal)))
          (∑ k, Ideal.exp ((if P k then (S k : EReal) else ⊥) - (M : EReal))) := by
  have hL : 0 < ∑ j, (if P j then Real.exp (S j) else 0) := by
    obtain ⟨j, hj⟩ := hP
    refine Finset.sum_pos' (fun k _ => ?_) ⟨j, Finset.mem_univ _, ?_⟩
    · split_ifs
      · exact (Real.exp_pos _).le
      · exact le_refl _
    · rw [if_pos hj]; exact Real.exp_pos _
  set E : Fin 4096 → ℝ := fun j => if P j then Real.exp (S j) else 0 with hE
  have hE0 : ∀ j, 0 ≤ E j := by
    intro j; rw [hE]; dsimp only
    split_ifs
    · exact (Real.exp_pos _).le
    · exact le_refl _
  have h1 : ∀ j, (if P j then Ideal.exp (S j : EReal) * V j else 0) = (E j : EReal) * V j := by
    intro j; rw [hE]; dsimp only
    split_ifs
    · rw [Ideal.exp_coe]
    · rw [EReal.coe_zero, zero_mul]
  have h2 : ∀ j, (if P j then Ideal.exp (S j : EReal) else 0) = (E j : EReal) := by
    intro j; rw [hE]; dsimp only
    split_ifs
    · rw [Ideal.exp_coe]
    · rw [EReal.coe_zero]
  have h3 : ∀ j, Ideal.exp ((if P j then (S j : EReal) else ⊥) - (M : EReal)) = ((E j * Real.exp (-M) : ℝ) : EReal) := by
    intro j; rw [hE]; dsimp only
    split_ifs
    · rw [← EReal.coe_sub, Ideal.exp_coe, sub_eq_add_neg, Real.exp_add]
    · rw [EReal.bot_sub, Ideal.exp_bot, zero_mul, EReal.coe_zero]
  simp only [h1, h2, h3]
  rw [coe_sum, coe_sum, ← Finset.sum_mul, Ideal.div_coe hL.ne']
  have hM := Real.exp_pos (-M)
  rw [sum_mul_real _ _ _ (by positivity)]
  refine Finset.sum_congr rfl fun j _ => ?_
  rw [Ideal.div_coe (mul_pos hL hM).ne', ← EReal.coe_mul]
  rw [mul_comm (E j : EReal) (V j), mul_assoc, ← EReal.coe_mul]
  congr 2
  field_simp

end V

end Cert.KP

end
-- ==== Proof.ValX2.lean ====
module

public import proofs.«01_k».proof.Proof.ValX1

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ
section V

variable (I : In Ideal) (A0 : FVec Ideal Cert.ReferenceIdeal.S1x1024x1024 .f32) (A1 : FVec Ideal Cert.ReferenceIdeal.S1024x1024 .f32)
  (A2 A3 : FVec Ideal Cert.ReferenceIdeal.S1x4096x8x128 .f32) (A4 : FVec Ideal Cert.ReferenceIdeal.S1024x1024 .f32)

/-- The devices' arrays are the reference's, the keys and values cut in four. -/
structure Rel : Prop where
  r0 : ∀ c, I.i0 c = A0
  r1 : ∀ c, I.i1 c = A1
  r2 : ∀ (c : Dev nD) (J : Fin 1024) (h : Fin 8) (d : Fin 128), (I.i2 c : S1x1024x8x128.Idx → EReal) (ix4 0 J h d) = A2 (ix4 0 ⟨1024 * c.val + J.val, by have : c.val < 4 := c.isLt; omega⟩ h d)
  r3 : ∀ (c : Dev nD) (J : Fin 1024) (h : Fin 8) (d : Fin 128), (I.i3 c : S1x1024x8x128.Idx → EReal) (ix4 0 J h d) = A3 (ix4 0 ⟨1024 * c.val + J.val, by have : c.val < 4 := c.isLt; omega⟩ h d)
  r4 : ∀ c, I.i4 c = A4

/-- Every entry the scores are made of is a real number. -/
structure Fini : Prop where
  f0 : ∀ j, ∃ r : ℝ, A0 j = (r : EReal)
  f1 : ∀ j, ∃ r : ℝ, A1 j = (r : EReal)
  f2 : ∀ j, ∃ r : ℝ, A2 j = (r : EReal)

variable {I A0 A1 A2 A3 A4}

/-- The scores are real numbers, and the scale may be taken before or after. -/
theorem rs_real (F : Fini A0 A1 A2) : ∃ S : Fin 8 → Fin 1024 → Fin 4096 → ℝ, ∀ h i j, rs A0 A1 A2 h i j = (S h i j : EReal)
    ∧ (∑ x : Fin 128, ((∑ y : Fin 1024, A0 (ix3 0 i y) * A1 (ix2 y ⟨128 * h.val + x.val, by omega⟩)) * Ideal.ofBits .f32 0x3DB504F3#32) * A2 (ix4 0 j h x)) = (S h i j : EReal) := by
  obtain ⟨s, hs⟩ := scale_real
  choose a0 h0 using F.f0
  choose a1 h1 using F.f1
  choose a2 h2 using F.f2
  refine ⟨fun h i j => (∑ x : Fin 128, (∑ y : Fin 1024, a0 (ix3 0 i y) * a1 (ix2 y ⟨h.val * 128 + x.val, by omega⟩)) * a2 (ix4 0 j h x)) * s, fun h i j => ⟨?_, ?_⟩⟩
  · unfold rs
    simp only [h0, h1, h2, hs, ← EReal.coe_mul, coe_sum]
  · simp only [h0, h1, h2, hs, ← EReal.coe_mul, coe_sum]
    rw [Finset.sum_mul]
    refine congrArg _ (Finset.sum_congr rfl fun x _ => ?_)
    have e : (⟨128 * h.val + x.val, by omega⟩ : Fin 1024) = ⟨h.val * 128 + x.val, by omega⟩ := Fin.ext (by change 128 * h.val + x.val = h.val * 128 + x.val; omega)
    rw [e]; ring

theorem sc_rs (R : Rel I A0 A1 A2 A3 A4) (S : Fin 8 → Fin 1024 → Fin 4096 → ℝ)
    (hS : ∀ h i j, (∑ x : Fin 128, ((∑ y : Fin 1024, A0 (ix3 0 i y) * A1 (ix2 y ⟨128 * h.val + x.val, by omega⟩)) * Ideal.ofBits .f32 0x3DB504F3#32) * A2 (ix4 0 j h x)) = (S h i j : EReal))
    (c : Dev nD) (i : Fin 1024) (h : Fin 8) (J : Fin 1024) :
    sc (Qd I c) (Kd I c) i h J = (S h i ⟨1024 * c.val + J.val, by have : c.val < 4 := c.isLt; omega⟩ : EReal) := by
  rw [← hS]
  unfold sc Qd Kd qv
  simp only [R.r0, R.r1, R.r2]

/-- The kernel's result is the reference's. -/
theorem out_eq (R : Rel I A0 A1 A2 A3 A4) (F : Fini A0 A1 A2) (c : Dev nD) (i n : Fin 1024) :
    outAt I c (ix3 0 i n) = rout A0 A1 A2 A3 A4 (ix3 0 i n) := by
  obtain ⟨S, hS⟩ := rs_real F
  have hS1 := fun h i j => (hS h i j).1
  have hS2 := sc_rs R S (fun h i j => (hS h i j).2)
  rw [out_val, rout_at]
  refine Finset.sum_congr rfl fun e _ => ?_
  rw [R.r4]
  refine congrArg (· * A4 (ix2 e n)) ?_
  rw [rctx_at]
  simp only [rwt_at, rden_at, rw0_at, rsel_at]
  obtain ⟨M, hM⟩ := rmax_at A0 A1 A2 (fun h i j => ⟨S h i j, hS1 h i j⟩) ⟨e.val / 128, by omega⟩ i
  simp only [hM, hS1]
  rw [← row_eq (fun j => msk (i.val / 64) (j.val / 64)) (S ⟨e.val / 128, by omega⟩ i) M (fun j => A3 (ix4 0 j ⟨e.val / 128, by omega⟩ ⟨e.val % 128, by omega⟩)) ⟨0, Or.inr (Or.inl rfl)⟩]
  have hd : ∀ (d : Fin 4) (J : Fin 1024), 16 * d.val + J.val / 64 = (1024 * d.val + J.val) / 64 := by intro d J; omega
  refine congrArg₂ Ideal.div ?_ ?_
  · rw [← sum_blocks]
    refine Finset.sum_congr rfl fun d _ => ?_
    unfold CV
    refine Finset.sum_congr rfl fun J _ => ?_
    rw [hS2, hd d J]
    unfold Vd
    rw [R.r3]
  · rw [← sum_blocks]
    refine Finset.sum_congr rfl fun d _ => ?_
    unfold CL
    refine Finset.sum_congr rfl fun J _ => ?_
    rw [hS2, hd d J]

end V

end Cert.KP

end
-- ==== Proof.ValX3.lean ====
module

public import proofs.«01_k».proof.Proof.ValX2
public import proofs.«01_k».proof.Proof.Frames
public import proofs.«01_k».proof.Defs
public import Idealize.ShloMosaic.Lib.Pipeline.ValueKit.Geometry

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ
section V

variable (m : (ℓ : Loc nD τ sig) → Buf (Elt Ideal) ℓ)

theorem iblk0 (c : Dev nD) : iblk m c 0 t0_0 = m ((c.tc : Thread nD τ).loc main_arg0) := by
  have hz : (fun a => (win0_0.index t0_0) a * main_arg0.ty.shape.size a) = fun _ => 0 := funext fun a => by fin_cases a <;> rfl
  exact Memref.read_access_unit_zero (Elt Ideal) main_arg0 hz (fun a => by fin_cases a <;> decide) _
theorem iblk1 (c : Dev nD) : iblk m c 1 t0_0 = m ((c.tc : Thread nD τ).loc main_arg1) := by
  have hz : (fun a => (win0_1.index t0_0) a * main_arg1.ty.shape.size a) = fun _ => 0 := funext fun a => by fin_cases a <;> rfl
  exact Memref.read_access_unit_zero (Elt Ideal) main_arg1 hz (fun a => by fin_cases a <;> decide) _
theorem iblk2 (c : Dev nD) : iblk m c 2 t0_0 = m ((c.tc : Thread nD τ).loc main_arg2) := by
  have hz : (fun a => (win0_2.index t0_0) a * main_arg2.ty.shape.size a) = fun _ => 0 := funext fun a => by fin_cases a <;> rfl
  exact Memref.read_access_unit_zero (Elt Ideal) main_arg2 hz (fun a => by fin_cases a <;> decide) _
theorem iblk3 (c : Dev nD) : iblk m c 3 t0_0 = m ((c.tc : Thread nD τ).loc main_arg3) := by
  have hz : (fun a => (win0_3.index t0_0) a * main_arg3.ty.shape.size a) = fun _ => 0 := funext fun a => by fin_cases a <;> rfl
  exact Memref.read_access_unit_zero (Elt Ideal) main_arg3 hz (fun a => by fin_cases a <;> decide) _
theorem iblk4 (c : Dev nD) : iblk m c 4 t0_0 = m ((c.tc : Thread nD τ).loc main_arg4) := by
  have hz : (fun a => (win0_4.index t0_0) a * main_arg4.ty.shape.size a) = fun _ => 0 := funext fun a => by fin_cases a <;> rfl
  exact Memref.read_access_unit_zero (Elt Ideal) main_arg4 hz (fun a => by fin_cases a <;> decide) _

theorem final5 (c : Dev nD) : finalA m c 5 = outAt (Im m) c := by
  have hz : (fun a => (win0_5.index t0_0) a * main_v1.ty.shape.size a) = fun _ => 0 := funext fun a => by fin_cases a <;> rfl
  unfold finalA
  rw [show cfg0.N = ((0 : Fin 1) : Fin cfg0.N).val + 1 from rfl, (dats m 0 c).arrAt_succ (5 : Fin 6) (0 : Fin 1)]
  rw [if_pos (by decide)]
  exact Memref.write_access_unit_zero_univ (Elt Ideal) main_v1 hz (fun a => by fin_cases a <;> decide) _ _

theorem top32 : Ideal.ofBits .f32 0x7F800000#32 = ⊤ := by
  simp [Ideal.ofBits, Ideal.ieee]

/-- A number whose absolute value is below infinity is real. -/
theorem real_of (x : EReal) (h : BitVec.ofBool (decide ((FloatOps.absf (F := Ideal) (φ := .f32) x : EReal) < Ideal.ofBits .f32 0x7F800000#32)) = 1#1) : ∃ r : ℝ, x = (r : EReal) := by
  rw [top32] at h
  have h : (FloatOps.absf (F := Ideal) (φ := .f32) x : EReal) < ⊤ := by
    by_contra hn
    rw [decide_eq_false hn] at h
    exact absurd h (by decide)
  have h : max x (-x) < ⊤ := h
  refine ⟨x.toReal, (EReal.coe_toReal (fun e => ?_) (fun e => ?_)).symm⟩
  · rw [e] at h; simp at h
  · rw [e] at h; simp at h

instance preFacts : Cert.Pre_finite_scores_KernelIdeal.Facts := ⟨by decide, by decide, by decide⟩
instance preFactsR : Cert.Pre_finite_scores_ReferenceIdeal.Facts := by
  constructor
  all_goals decide

/-- What the precondition says, entry by entry. -/
theorem pre_real (A0 A1 A2 A3 A4) (h : Cert.Pre_finite_scores_KernelIdeal.fn (F := Ideal) A0 A1 A2 A3 A4 = fun _ => 1#1) (a b : Fin 1024) :
    (∃ r : ℝ, (A0 (ix3 0 a b) : EReal) = r) ∧ (∃ r : ℝ, (A1 (ix2 a b) : EReal) = r)
      ∧ ∃ r : ℝ, (A2 (ix4 0 a ⟨b.val / 128, by omega⟩ ⟨b.val % 128, by omega⟩) : EReal) = r := by
  have h := congrFun h (ix3 0 a b)
  unfold Cert.Pre_finite_scores_KernelIdeal.fn at h
  revert h
  pointwise
  intro h
  have key : ∀ x y z : BitVec 1, IntOp.andi (IntOp.andi x y) z = 1#1 → x = 1#1 ∧ y = 1#1 ∧ z = 1#1 := by decide
  obtain ⟨h0, h1, h2⟩ := key _ _ _ h
  exact ⟨real_of _ h0, real_of _ h1, real_of _ h2⟩

end V

end Cert.KP

end
-- ==== Proof.ValX4.lean ====
module

public import proofs.«01_k».proof.Proof.ValX3
public import Idealize.ShloMosaic.Lib.Layout

@[expose] public section

noncomputable section

namespace Cert.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {α : Type}

local notation "𝕄" => MT nD τ sig Unit (Elt F) ℕ UU ℕ
section V

/-- A device's block of an array cut along its rows. -/
theorem block_at (c : Fin 4) (A : (⟨4, ![1, 4096, 8, 128]⟩ : Shape).Idx → EReal) (J : Fin 1024) (h : Fin 8) (d : Fin 128) :
    (Layout.block ⟨4, ![1, 1024, 8, 128]⟩ ⟨4, ![1, 4096, 8, 128]⟩ 1 4 c A) (ix4 0 J h d) = A (ix4 0 ⟨1024 * c.val + J.val, by omega⟩ h d) := by
  rw [Layout.block_apply]
  refine congrArg A (funext fun b => Fin.ext ?_)
  fin_cases b
  · rfl
  · change c.val * 1024 + J.val = 1024 * c.val + J.val
    omega
  · rfl
  · rfl

/-- The kernel computes the reference's function. -/
theorem alg : Cert.algebraic_KernelIdeal_ReferenceIdeal_pre_finite_scores_KernelIdeal := by
  intro m g m' g' hpre hag
  have R : Rel (Im m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    refine ⟨fun c => (iblk0 m c).trans (hag c).1, fun c => (iblk1 m c).trans (hag c).2.1, fun c J h d => ?_, fun c J h d => ?_, fun c => (iblk4 m c).trans (hag c).2.2.2.2⟩
    · refine (congrFun ((iblk2 m c).trans (hag c).2.2.1) _).trans ?_
      exact block_at c _ J h d
    · refine (congrFun ((iblk3 m c).trans (hag c).2.2.2.1) _).trans ?_
      exact block_at c _ J h d
  have F : Fini (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := by
    refine ⟨fun j => ?_, fun j => ?_, fun j => ?_⟩
    · obtain ⟨z, a, b, rfl⟩ : ∃ z a b, j = ix3 z a b := ⟨_, _, _, eq_ix3 j⟩
      obtain rfl : z = 0 := Subsingleton.elim _ _
      have h := (pre_real _ _ _ _ _ (hpre 0) a b).1
      rw [(hag 0).1] at h
      exact h
    · obtain ⟨a, b, rfl⟩ : ∃ a b, j = ix2 a b := ⟨_, _, eq_ix2 j⟩
      have h := (pre_real _ _ _ _ _ (hpre 0) a b).2.1
      rw [(hag 0).2.1] at h
      exact h
    · obtain ⟨z, a, b, d, rfl⟩ : ∃ z a b d, j = ix4 z a b d := ⟨_, _, _, _, eq_ix4 j⟩
      obtain rfl : z = 0 := Subsingleton.elim _ _
      have ha : a.val < 4096 := a.isLt
      have hb : b.val < 8 := b.isLt
      have hd : d.val < 128 := d.isLt
      have h := (pre_real _ _ _ _ _ (hpre ⟨a.val / 1024, by change _ < 4; omega⟩) ⟨a.val % 1024, Nat.mod_lt _ (by decide)⟩ ⟨128 * b.val + d.val, by omega⟩).2.2
      rw [(hag _).2.2.1] at h
      obtain ⟨r, h⟩ := h
      refine ⟨r, Eq.trans ?_ h⟩
      refine Eq.trans ?_ (block_at _ _ _ _ _).symm
      congr 1
      refine congr (congr (congrArg (ix4 0) ?_) ?_) ?_ <;> refine Fin.ext ?_ <;> dsimp only <;> omega
  refine ⟨Cert.ReferenceIdeal.Value.res_main_v44 m' 0, ?_, ?_⟩
  · refine (θ_run Cert.KernelIdeal.defs _ _).mono (fun r h c => ⟨?_, args_of h.1 c⟩) (run_main m g)
    refine (h.1 c 5).trans ((final5 m c).trans ?_)
    rw [res_eq]
    funext j
    obtain ⟨z, a, b, rfl⟩ : ∃ z a b, j = ix3 z a b := ⟨_, _, _, eq_ix3 j⟩
    obtain rfl : z = 0 := Subsingleton.elim _ _
    exact out_eq R F c a b
  · exact (θ_run Cert.ReferenceIdeal.defs _ _).mono (fun _ h => h 0) (Cert.ReferenceIdeal.Value.run (F := Ideal) m' g')

end V

end Cert.KP

end
-- ==== Proof.lean ====
/- The proof of the claims. -/
module

public import proofs.«01_k».proof.Defs
public import proofs.«01_k».proof.Proof.Frames
public import proofs.«01_k».proof.Proof.ValX4
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Cert.KP

theorem claim : Cert.Claim := ⟨Cert.Kernel.Gen.facts, Cert.KernelIdeal.Gen.facts, Cert.ReferenceIdeal.Gen.facts, preFacts, preFactsR,
  frame_kernel, frame_ideal, fun m ρ _ => frame_ideal m ρ trivial, frame_ref, fun m ρ _ => frame_ref m ρ trivial, pres, alg⟩

end Cert.Proof

end
